-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelRope (m : (ℓ : Loc Cert.KernelRope.nD Cert.KernelRope.τ Cert.KernelRope.sig) → Buf (Elt Bits) ℓ) : Prop :=
  True

def Pre_KernelRopeIdeal (m : (ℓ : Loc Cert.KernelRopeIdeal.nD Cert.KernelRopeIdeal.τ Cert.KernelRopeIdeal.sig) → Buf (Elt Ideal) ℓ) : Prop :=
  True

def Pre_ReferenceRopeIdeal (m : (ℓ : Loc Cert.ReferenceRopeIdeal.nD Cert.ReferenceRopeIdeal.τ Cert.ReferenceRopeIdeal.sig) → Buf (Elt Ideal) ℓ) : Prop :=
  True

def Pre_KernelSsd (m : (ℓ : Loc Cert.KernelSsd.nD Cert.KernelSsd.τ Cert.KernelSsd.sig) → Buf (Elt Bits) ℓ) : Prop :=
  True

def Pre_KernelSsdIdeal (m : (ℓ : Loc Cert.KernelSsdIdeal.nD Cert.KernelSsdIdeal.τ Cert.KernelSsdIdeal.sig) → Buf (Elt Ideal) ℓ) : Prop :=
  True

def Pre_ReferenceSsdIdeal (m : (ℓ : Loc Cert.ReferenceSsdIdeal.nD Cert.ReferenceSsdIdeal.τ Cert.ReferenceSsdIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelMlp (m : (ℓ : Loc Cert.KernelMlp.nD Cert.KernelMlp.τ Cert.KernelMlp.sig) → Buf (Elt Bits) ℓ) : Prop :=
  True

def Pre_KernelMlpIdeal (m : (ℓ : Loc Cert.KernelMlpIdeal.nD Cert.KernelMlpIdeal.τ Cert.KernelMlpIdeal.sig) → Buf (Elt Ideal) ℓ) : Prop :=
  True

def Pre_ReferenceMlpIdeal (m : (ℓ : Loc Cert.ReferenceMlpIdeal.nD Cert.ReferenceMlpIdeal.τ Cert.ReferenceMlpIdeal.sig) → Buf (Elt Ideal) ℓ) : Prop :=
  True

def Pre_KernelLast (m : (ℓ : Loc Cert.KernelLast.nD Cert.KernelLast.τ Cert.KernelLast.sig) → Buf (Elt Bits) ℓ) : Prop :=
  True

def Pre_KernelLastIdeal (m : (ℓ : Loc Cert.KernelLastIdeal.nD Cert.KernelLastIdeal.τ Cert.KernelLastIdeal.sig) → Buf (Elt Ideal) ℓ) : Prop :=
  True

def Pre_ReferenceLastIdeal (m : (ℓ : Loc Cert.ReferenceLastIdeal.nD Cert.ReferenceLastIdeal.τ Cert.ReferenceLastIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelRope [hKernelRope : Cert.KernelRope.Facts] : Prop :=
  ∀ (m : (ℓ : Loc Cert.KernelRope.nD Cert.KernelRope.τ Cert.KernelRope.sig) → Buf (Elt Bits) ℓ) (g : Dev Cert.KernelRope.nD → PrngReg), Pre_KernelRope m →
    θ_run (Cert.KernelRope.defs (F := Bits)) (onTc (τ := Cert.KernelRope.τ) (Cert.KernelRope.main (F := Bits))) ⟨m, fun _ => 0, g⟩ (fun r => (∀ c : Dev Cert.KernelRope.nD,
      r.2.mem ((c.tc : Thread Cert.KernelRope.nD Cert.KernelRope.τ).loc Cert.KernelRope.main_arg0) = m ((c.tc : Thread Cert.KernelRope.nD Cert.KernelRope.τ).loc Cert.KernelRope.main_arg0))
      ∧ r.2.sem = fun _ => 0)

def quiescent_KernelRopeIdeal [hKernelRopeIdeal : Cert.KernelRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg), Pre_KernelRopeIdeal m →
    θ_run (Cert.KernelRopeIdeal.defs (F := Ideal)) (onTc (τ := Cert.KernelRopeIdeal.τ) (Cert.KernelRopeIdeal.main (F := Ideal))) ⟨m, fun _ => 0, g⟩ (fun r => (∀ c : Dev Cert.KernelRopeIdeal.nD,
      r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0))
      ∧ r.2.sem = fun _ => 0)

def quiescent_ReferenceRopeIdeal [hReferenceRopeIdeal : Cert.ReferenceRopeIdeal.Facts] : Prop :=
  ∀ (m : (ℓ : Loc Cert.ReferenceRopeIdeal.nD Cert.ReferenceRopeIdeal.τ Cert.ReferenceRopeIdeal.sig) → Buf (Elt Ideal) ℓ) (g : Dev Cert.ReferenceRopeIdeal.nD → PrngReg), Pre_ReferenceRopeIdeal m →
    θ_run (Cert.ReferenceRopeIdeal.defs (F := Ideal)) (onTc (τ := Cert.ReferenceRopeIdeal.τ) (Cert.ReferenceRopeIdeal.main (F := Ideal))) ⟨m, fun _ => 0, g⟩ (fun r => (∀ c : Dev Cert.ReferenceRopeIdeal.nD,
      r.2.mem ((c.tc : Thread Cert.ReferenceRopeIdeal.nD Cert.ReferenceRopeIdeal.τ).loc Cert.ReferenceRopeIdeal.main_arg0) = m ((c.tc : Thread Cert.ReferenceRopeIdeal.nD Cert.ReferenceRopeIdeal.τ).loc Cert.ReferenceRopeIdeal.main_arg0))
      ∧ r.2.sem = fun _ => 0)

def quiescent_KernelSsd [hKernelSsd : Cert.KernelSsd.Facts] : Prop :=
  ∀ (m : (ℓ : Loc Cert.KernelSsd.nD Cert.KernelSsd.τ Cert.KernelSsd.sig) → Buf (Elt Bits) ℓ) (g : Dev Cert.KernelSsd.nD → PrngReg), Pre_KernelSsd m →
    θ_run (Cert.KernelSsd.defs (F := Bits)) (onTc (τ := Cert.KernelSsd.τ) (Cert.KernelSsd.main (F := Bits))) ⟨m, fun _ => 0, g⟩ (fun r => (∀ c : Dev Cert.KernelSsd.nD,
      r.2.mem ((c.tc : Thread Cert.KernelSsd.nD Cert.KernelSsd.τ).loc Cert.KernelSsd.main_arg0) = m ((c.tc : Thread Cert.KernelSsd.nD Cert.KernelSsd.τ).loc Cert.KernelSsd.main_arg0)
      ∧ r.2.mem ((c.tc : Thread Cert.KernelSsd.nD Cert.KernelSsd.τ).loc Cert.KernelSsd.main_arg1) = m ((c.tc : Thread Cert.KernelSsd.nD Cert.KernelSsd.τ).loc Cert.KernelSsd.main_arg1)
      ∧ r.2.mem ((c.tc : Thread Cert.KernelSsd.nD Cert.KernelSsd.τ).loc Cert.KernelSsd.main_arg2) = m ((c.tc : Thread Cert.KernelSsd.nD Cert.KernelSsd.τ).loc Cert.KernelSsd.main_arg2)
      ∧ r.2.mem ((c.tc : Thread Cert.KernelSsd.nD Cert.KernelSsd.τ).loc Cert.KernelSsd.main_arg3) = m ((c.tc : Thread Cert.KernelSsd.nD Cert.KernelSsd.τ).loc Cert.KernelSsd.main_arg3)
      ∧ r.2.mem ((c.tc : Thread Cert.KernelSsd.nD Cert.KernelSsd.τ).loc Cert.KernelSsd.main_arg4) = m ((c.tc : Thread Cert.KernelSsd.nD Cert.KernelSsd.τ).loc Cert.KernelSsd.main_arg4)
      ∧ r.2.mem ((c.tc : Thread Cert.KernelSsd.nD Cert.KernelSsd.τ).loc Cert.KernelSsd.main_arg5) = m ((c.tc : Thread Cert.KernelSsd.nD Cert.KernelSsd.τ).loc Cert.KernelSsd.main_arg5)
      ∧ r.2.mem ((c.tc : Thread Cert.KernelSsd.nD Cert.KernelSsd.τ).loc Cert.KernelSsd.main_arg6) = m ((c.tc : Thread Cert.KernelSsd.nD Cert.KernelSsd.τ).loc Cert.KernelSsd.main_arg6))
      ∧ r.2.sem = fun _ => 0)

def quiescent_KernelSsdIdeal [hKernelSsdIdeal : Cert.KernelSsdIdeal.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg), Pre_KernelSsdIdeal m →
    θ_run (Cert.KernelSsdIdeal.defs (F := Ideal)) (onTc (τ := Cert.KernelSsdIdeal.τ) (Cert.KernelSsdIdeal.main (F := Ideal))) ⟨m, fun _ => 0, g⟩ (fun r => (∀ c : Dev Cert.KernelSsdIdeal.nD,
      r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
      ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1)
      ∧ r.2.mem ((c.tc : Thread Cert.KernelSsdIdeal.nD Cert.KernelSsdIdeal.τ).loc Cert.KernelSsdIdeal.main_arg2) = m ((c.tc : Thread Cert.KernelSsdIdeal.nD Cert.KernelSsdIdeal.τ).loc Cert.KernelSsdIdeal.main_arg2)
      ∧ r.2.mem ((c.tc : Thread Cert.KernelSsdIdeal.nD Cert.KernelSsdIdeal.τ).loc Cert.KernelSsdIdeal.main_arg3) = m ((c.tc : Thread Cert.KernelSsdIdeal.nD Cert.KernelSsdIdeal.τ).loc Cert.KernelSsdIdeal.main_arg3)
      ∧ r.2.mem ((c.tc : Thread Cert.KernelSsdIdeal.nD Cert.KernelSsdIdeal.τ).loc Cert.KernelSsdIdeal.main_arg4) = m ((c.tc : Thread Cert.KernelSsdIdeal.nD Cert.KernelSsdIdeal.τ).loc Cert.KernelSsdIdeal.main_arg4)
      ∧ r.2.mem ((c.tc : Thread Cert.KernelSsdIdeal.nD Cert.KernelSsdIdeal.τ).loc Cert.KernelSsdIdeal.main_arg5) = m ((c.tc : Thread Cert.KernelSsdIdeal.nD Cert.KernelSsdIdeal.τ).loc Cert.KernelSsdIdeal.main_arg5)
      ∧ r.2.mem ((c.tc : Thread Cert.KernelSsdIdeal.nD Cert.KernelSsdIdeal.τ).loc Cert.KernelSsdIdeal.main_arg6) = m ((c.tc : Thread Cert.KernelSsdIdeal.nD Cert.KernelSsdIdeal.τ).loc Cert.KernelSsdIdeal.main_arg6))
      ∧ r.2.sem = fun _ => 0)

def quiescent_ReferenceSsdIdeal [hReferenceSsdIdeal : Cert.ReferenceSsdIdeal.Facts] : Prop :=
  ∀ (m : (ℓ : Loc Cert.ReferenceSsdIdeal.nD Cert.ReferenceSsdIdeal.τ Cert.ReferenceSsdIdeal.sig) → Buf (Elt Ideal) ℓ) (g : Dev Cert.ReferenceSsdIdeal.nD → PrngReg), Pre_ReferenceSsdIdeal m →
    θ_run (Cert.ReferenceSsdIdeal.defs (F := Ideal)) (onTc (τ := Cert.ReferenceSsdIdeal.τ) (Cert.ReferenceSsdIdeal.main (F := Ideal))) ⟨m, fun _ => 0, g⟩ (fun r => (∀ c : Dev Cert.ReferenceSsdIdeal.nD,
      r.2.mem ((c.tc : Thread Cert.ReferenceSsdIdeal.nD Cert.ReferenceSsdIdeal.τ).loc Cert.ReferenceSsdIdeal.main_arg0) = m ((c.tc : Thread Cert.ReferenceSsdIdeal.nD Cert.ReferenceSsdIdeal.τ).loc Cert.ReferenceSsdIdeal.main_arg0)
      ∧ r.2.mem ((c.tc : Thread Cert.ReferenceSsdIdeal.nD Cert.ReferenceSsdIdeal.τ).loc Cert.ReferenceSsdIdeal.main_arg1) = m ((c.tc : Thread Cert.ReferenceSsdIdeal.nD Cert.ReferenceSsdIdeal.τ).loc Cert.ReferenceSsdIdeal.main_arg1)
      ∧ r.2.mem ((c.tc : Thread Cert.ReferenceSsdIdeal.nD Cert.ReferenceSsdIdeal.τ).loc Cert.ReferenceSsdIdeal.main_arg2) = m ((c.tc : Thread Cert.ReferenceSsdIdeal.nD Cert.ReferenceSsdIdeal.τ).loc Cert.ReferenceSsdIdeal.main_arg2)
      ∧ r.2.mem ((c.tc : Thread Cert.ReferenceSsdIdeal.nD Cert.ReferenceSsdIdeal.τ).loc Cert.ReferenceSsdIdeal.main_arg3) = m ((c.tc : Thread Cert.ReferenceSsdIdeal.nD Cert.ReferenceSsdIdeal.τ).loc Cert.ReferenceSsdIdeal.main_arg3)
      ∧ r.2.mem ((c.tc : Thread Cert.ReferenceSsdIdeal.nD Cert.ReferenceSsdIdeal.τ).loc Cert.ReferenceSsdIdeal.main_arg4) = m ((c.tc : Thread Cert.ReferenceSsdIdeal.nD Cert.ReferenceSsdIdeal.τ).loc Cert.ReferenceSsdIdeal.main_arg4)
      ∧ r.2.mem ((c.tc : Thread Cert.ReferenceSsdIdeal.nD Cert.ReferenceSsdIdeal.τ).loc Cert.ReferenceSsdIdeal.main_arg5) = m ((c.tc : Thread Cert.ReferenceSsdIdeal.nD Cert.ReferenceSsdIdeal.τ).loc Cert.ReferenceSsdIdeal.main_arg5)
      ∧ r.2.mem ((c.tc : Thread Cert.ReferenceSsdIdeal.nD Cert.ReferenceSsdIdeal.τ).loc Cert.ReferenceSsdIdeal.main_arg6) = m ((c.tc : Thread Cert.ReferenceSsdIdeal.nD Cert.ReferenceSsdIdeal.τ).loc Cert.ReferenceSsdIdeal.main_arg6))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelMlp [hKernelMlp : Cert.KernelMlp.Facts] : Prop :=
  ∀ (m : (ℓ : Loc Cert.KernelMlp.nD Cert.KernelMlp.τ Cert.KernelMlp.sig) → Buf (Elt Bits) ℓ) (g : Dev Cert.KernelMlp.nD → PrngReg), Pre_KernelMlp m →
    θ_run (Cert.KernelMlp.defs (F := Bits)) (onTc (τ := Cert.KernelMlp.τ) (Cert.KernelMlp.main (F := Bits))) ⟨m, fun _ => 0, g⟩ (fun r => (∀ c : Dev Cert.KernelMlp.nD,
      r.2.mem ((c.tc : Thread Cert.KernelMlp.nD Cert.KernelMlp.τ).loc Cert.KernelMlp.main_arg0) = m ((c.tc : Thread Cert.KernelMlp.nD Cert.KernelMlp.τ).loc Cert.KernelMlp.main_arg0)
      ∧ r.2.mem ((c.tc : Thread Cert.KernelMlp.nD Cert.KernelMlp.τ).loc Cert.KernelMlp.main_arg1) = m ((c.tc : Thread Cert.KernelMlp.nD Cert.KernelMlp.τ).loc Cert.KernelMlp.main_arg1)
      ∧ r.2.mem ((c.tc : Thread Cert.KernelMlp.nD Cert.KernelMlp.τ).loc Cert.KernelMlp.main_arg2) = m ((c.tc : Thread Cert.KernelMlp.nD Cert.KernelMlp.τ).loc Cert.KernelMlp.main_arg2)
      ∧ r.2.mem ((c.tc : Thread Cert.KernelMlp.nD Cert.KernelMlp.τ).loc Cert.KernelMlp.main_arg3) = m ((c.tc : Thread Cert.KernelMlp.nD Cert.KernelMlp.τ).loc Cert.KernelMlp.main_arg3)
      ∧ r.2.mem ((c.tc : Thread Cert.KernelMlp.nD Cert.KernelMlp.τ).loc Cert.KernelMlp.main_arg4) = m ((c.tc : Thread Cert.KernelMlp.nD Cert.KernelMlp.τ).loc Cert.KernelMlp.main_arg4))
      ∧ r.2.sem = fun _ => 0)

def quiescent_KernelMlpIdeal [hKernelMlpIdeal : Cert.KernelMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
      ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
      ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4))
      ∧ r.2.sem = fun _ => 0)

def quiescent_ReferenceMlpIdeal [hReferenceMlpIdeal : Cert.ReferenceMlpIdeal.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2)
      ∧ r.2.mem ((c.tc : Thread Cert.ReferenceMlpIdeal.nD Cert.ReferenceMlpIdeal.τ).loc Cert.ReferenceMlpIdeal.main_arg3) = m ((c.tc : Thread Cert.ReferenceMlpIdeal.nD Cert.ReferenceMlpIdeal.τ).loc Cert.ReferenceMlpIdeal.main_arg3)
      ∧ r.2.mem ((c.tc : Thread Cert.ReferenceMlpIdeal.nD Cert.ReferenceMlpIdeal.τ).loc Cert.ReferenceMlpIdeal.main_arg4) = m ((c.tc : Thread Cert.ReferenceMlpIdeal.nD Cert.ReferenceMlpIdeal.τ).loc Cert.ReferenceMlpIdeal.main_arg4))
      ∧ r.2.sem = fun _ => 0)

def quiescent_KernelLast [hKernelLast : Cert.KernelLast.Facts] : Prop :=
  ∀ (m : (ℓ : Loc Cert.KernelLast.nD Cert.KernelLast.τ Cert.KernelLast.sig) → Buf (Elt Bits) ℓ) (g : Dev Cert.KernelLast.nD → PrngReg), Pre_KernelLast m →
    θ_run (Cert.KernelLast.defs (F := Bits)) (onTc (τ := Cert.KernelLast.τ) (Cert.KernelLast.main (F := Bits))) ⟨m, fun _ => 0, g⟩ (fun r => (∀ c : Dev Cert.KernelLast.nD,
      r.2.mem ((c.tc : Thread Cert.KernelLast.nD Cert.KernelLast.τ).loc Cert.KernelLast.main_arg0) = m ((c.tc : Thread Cert.KernelLast.nD Cert.KernelLast.τ).loc Cert.KernelLast.main_arg0)
      ∧ r.2.mem ((c.tc : Thread Cert.KernelLast.nD Cert.KernelLast.τ).loc Cert.KernelLast.main_arg1) = m ((c.tc : Thread Cert.KernelLast.nD Cert.KernelLast.τ).loc Cert.KernelLast.main_arg1)
      ∧ r.2.mem ((c.tc : Thread Cert.KernelLast.nD Cert.KernelLast.τ).loc Cert.KernelLast.main_arg2) = m ((c.tc : Thread Cert.KernelLast.nD Cert.KernelLast.τ).loc Cert.KernelLast.main_arg2)
      ∧ r.2.mem ((c.tc : Thread Cert.KernelLast.nD Cert.KernelLast.τ).loc Cert.KernelLast.main_arg3) = m ((c.tc : Thread Cert.KernelLast.nD Cert.KernelLast.τ).loc Cert.KernelLast.main_arg3)
      ∧ r.2.mem ((c.tc : Thread Cert.KernelLast.nD Cert.KernelLast.τ).loc Cert.KernelLast.main_arg4) = m ((c.tc : Thread Cert.KernelLast.nD Cert.KernelLast.τ).loc Cert.KernelLast.main_arg4))
      ∧ r.2.sem = fun _ => 0)

def quiescent_KernelLastIdeal [hKernelLastIdeal : Cert.KernelLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg), Pre_KernelLastIdeal m →
    θ_run (Cert.KernelLastIdeal.defs (F := Ideal)) (onTc (τ := Cert.KernelLastIdeal.τ) (Cert.KernelLastIdeal.main (F := Ideal))) ⟨m, fun _ => 0, g⟩ (fun r => (∀ c : Dev Cert.KernelLastIdeal.nD,
      r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
      ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
      ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2)
      ∧ r.2.mem ((c.tc : Thread Cert.KernelLastIdeal.nD Cert.KernelLastIdeal.τ).loc Cert.KernelLastIdeal.main_arg3) = m ((c.tc : Thread Cert.KernelLastIdeal.nD Cert.KernelLastIdeal.τ).loc Cert.KernelLastIdeal.main_arg3)
      ∧ r.2.mem ((c.tc : Thread Cert.KernelLastIdeal.nD Cert.KernelLastIdeal.τ).loc Cert.KernelLastIdeal.main_arg4) = m ((c.tc : Thread Cert.KernelLastIdeal.nD Cert.KernelLastIdeal.τ).loc Cert.KernelLastIdeal.main_arg4))
      ∧ r.2.sem = fun _ => 0)

def quiescent_ReferenceLastIdeal [hReferenceLastIdeal : Cert.ReferenceLastIdeal.Facts] : Prop :=
  ∀ (m : (ℓ : Loc Cert.ReferenceLastIdeal.nD Cert.ReferenceLastIdeal.τ Cert.ReferenceLastIdeal.sig) → Buf (Elt Ideal) ℓ) (g : Dev Cert.ReferenceLastIdeal.nD → PrngReg), Pre_ReferenceLastIdeal m →
    θ_run (Cert.ReferenceLastIdeal.defs (F := Ideal)) (onTc (τ := Cert.ReferenceLastIdeal.τ) (Cert.ReferenceLastIdeal.main (F := Ideal))) ⟨m, fun _ => 0, g⟩ (fun r => (∀ c : Dev Cert.ReferenceLastIdeal.nD,
      r.2.mem ((c.tc : Thread Cert.ReferenceLastIdeal.nD Cert.ReferenceLastIdeal.τ).loc Cert.ReferenceLastIdeal.main_arg0) = m ((c.tc : Thread Cert.ReferenceLastIdeal.nD Cert.ReferenceLastIdeal.τ).loc Cert.ReferenceLastIdeal.main_arg0)
      ∧ r.2.mem ((c.tc : Thread Cert.ReferenceLastIdeal.nD Cert.ReferenceLastIdeal.τ).loc Cert.ReferenceLastIdeal.main_arg1) = m ((c.tc : Thread Cert.ReferenceLastIdeal.nD Cert.ReferenceLastIdeal.τ).loc Cert.ReferenceLastIdeal.main_arg1)
      ∧ r.2.mem ((c.tc : Thread Cert.ReferenceLastIdeal.nD Cert.ReferenceLastIdeal.τ).loc Cert.ReferenceLastIdeal.main_arg2) = m ((c.tc : Thread Cert.ReferenceLastIdeal.nD Cert.ReferenceLastIdeal.τ).loc Cert.ReferenceLastIdeal.main_arg2)
      ∧ r.2.mem ((c.tc : Thread Cert.ReferenceLastIdeal.nD Cert.ReferenceLastIdeal.τ).loc Cert.ReferenceLastIdeal.main_arg3) = m ((c.tc : Thread Cert.ReferenceLastIdeal.nD Cert.ReferenceLastIdeal.τ).loc Cert.ReferenceLastIdeal.main_arg3)
      ∧ r.2.mem ((c.tc : Thread Cert.ReferenceLastIdeal.nD Cert.ReferenceLastIdeal.τ).loc Cert.ReferenceLastIdeal.main_arg4) = m ((c.tc : Thread Cert.ReferenceLastIdeal.nD Cert.ReferenceLastIdeal.τ).loc Cert.ReferenceLastIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelRope_KernelRopeIdeal : Prop :=
  True

def algebraic_KernelRopeIdeal_ReferenceRopeIdeal [hKernelRopeIdeal : Cert.KernelRopeIdeal.Facts] [hReferenceRopeIdeal : Cert.ReferenceRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg)
    (m' : (ℓ : Loc Cert.ReferenceRopeIdeal.nD Cert.ReferenceRopeIdeal.τ Cert.ReferenceRopeIdeal.sig) → Buf (Elt Ideal) ℓ) (g' : Dev Cert.ReferenceRopeIdeal.nD → PrngReg), Pre_KernelRopeIdeal m →
    (∀ c : Dev Cert.KernelRopeIdeal.nD,
      m' ((c.tc : Thread Cert.ReferenceRopeIdeal.nD Cert.ReferenceRopeIdeal.τ).loc Cert.ReferenceRopeIdeal.main_arg0) = m ((c.tc : Thread Cert.KernelRopeIdeal.nD Cert.KernelRopeIdeal.τ).loc Cert.KernelRopeIdeal.main_arg0)) →
    ∃ (v0 : (c : Dev Cert.KernelRopeIdeal.nD) → Buf (Elt Ideal) ((c.tc : Thread Cert.KernelRopeIdeal.nD Cert.KernelRopeIdeal.τ).loc Cert.KernelRopeIdeal.main_v9_0)) (v1 : (c : Dev Cert.KernelRopeIdeal.nD) → Buf (Elt Ideal) ((c.tc : Thread Cert.KernelRopeIdeal.nD Cert.KernelRopeIdeal.τ).loc Cert.KernelRopeIdeal.main_v9_1)),
      θ_run (Cert.KernelRopeIdeal.defs (F := Ideal)) (onTc (τ := Cert.KernelRopeIdeal.τ) (Cert.KernelRopeIdeal.main (F := Ideal))) ⟨m, fun _ => 0, g⟩ (fun r => ∀ c : Dev Cert.KernelRopeIdeal.nD,
          r.2.mem ((c.tc : Thread Cert.KernelRopeIdeal.nD Cert.KernelRopeIdeal.τ).loc Cert.KernelRopeIdeal.main_v9_0) = v0 c
          ∧ r.2.mem ((c.tc : Thread Cert.KernelRopeIdeal.nD Cert.KernelRopeIdeal.τ).loc Cert.KernelRopeIdeal.main_v9_1) = v1 c
          ∧ r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0))
      ∧ θ_run (Cert.ReferenceRopeIdeal.defs (F := Ideal)) (onTc (τ := Cert.ReferenceRopeIdeal.τ) (Cert.ReferenceRopeIdeal.main (F := Ideal))) ⟨m', fun _ => 0, g'⟩ (fun r => ∀ c : Dev Cert.ReferenceRopeIdeal.nD,
          r.2.mem ((c.tc : Thread Cert.ReferenceRopeIdeal.nD Cert.ReferenceRopeIdeal.τ).loc Cert.ReferenceRopeIdeal.main_v16) = v0 c
          ∧ r.2.mem ((c.tc : Thread Cert.ReferenceRopeIdeal.nD Cert.ReferenceRopeIdeal.τ).loc Cert.ReferenceRopeIdeal.main_v18) = v1 c
          ∧ r.2.mem ((c.tc : Thread Cert.ReferenceRopeIdeal.nD Cert.ReferenceRopeIdeal.τ).loc Cert.ReferenceRopeIdeal.main_arg0) = m' ((c.tc : Thread Cert.ReferenceRopeIdeal.nD Cert.ReferenceRopeIdeal.τ).loc Cert.ReferenceRopeIdeal.main_arg0))

def preserves_KernelSsd_KernelSsdIdeal : Prop :=
  True

def algebraic_KernelSsdIdeal_ReferenceSsdIdeal [hKernelSsdIdeal : Cert.KernelSsdIdeal.Facts] [hReferenceSsdIdeal : Cert.ReferenceSsdIdeal.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg)
    (m' : (ℓ : Loc Cert.ReferenceSsdIdeal.nD Cert.ReferenceSsdIdeal.τ Cert.ReferenceSsdIdeal.sig) → Buf (Elt Ideal) ℓ) (g' : Dev Cert.ReferenceSsdIdeal.nD → PrngReg), Pre_KernelSsdIdeal m →
    (∀ c : Dev Cert.KernelSsdIdeal.nD,
      m' ((c.tc : Thread Cert.ReferenceSsdIdeal.nD Cert.ReferenceSsdIdeal.τ).loc Cert.ReferenceSsdIdeal.main_arg0) = m ((c.tc : Thread Cert.KernelSsdIdeal.nD Cert.KernelSsdIdeal.τ).loc Cert.KernelSsdIdeal.main_arg0)
      ∧ m' ((c.tc : Thread Cert.ReferenceSsdIdeal.nD Cert.ReferenceSsdIdeal.τ).loc Cert.ReferenceSsdIdeal.main_arg1) = m ((c.tc : Thread Cert.KernelSsdIdeal.nD Cert.KernelSsdIdeal.τ).loc Cert.KernelSsdIdeal.main_arg1)
      ∧ m' ((c.tc : Thread Cert.ReferenceSsdIdeal.nD Cert.ReferenceSsdIdeal.τ).loc Cert.ReferenceSsdIdeal.main_arg2) = m ((c.tc : Thread Cert.KernelSsdIdeal.nD Cert.KernelSsdIdeal.τ).loc Cert.KernelSsdIdeal.main_arg2)
      ∧ m' ((c.tc : Thread Cert.ReferenceSsdIdeal.nD Cert.ReferenceSsdIdeal.τ).loc Cert.ReferenceSsdIdeal.main_arg3) = m ((c.tc : Thread Cert.KernelSsdIdeal.nD Cert.KernelSsdIdeal.τ).loc Cert.KernelSsdIdeal.main_arg3)
      ∧ m' ((c.tc : Thread Cert.ReferenceSsdIdeal.nD Cert.ReferenceSsdIdeal.τ).loc Cert.ReferenceSsdIdeal.main_arg4) = m ((c.tc : Thread Cert.KernelSsdIdeal.nD Cert.KernelSsdIdeal.τ).loc Cert.KernelSsdIdeal.main_arg4)
      ∧ m' ((c.tc : Thread Cert.ReferenceSsdIdeal.nD Cert.ReferenceSsdIdeal.τ).loc Cert.ReferenceSsdIdeal.main_arg5) = m ((c.tc : Thread Cert.KernelSsdIdeal.nD Cert.KernelSsdIdeal.τ).loc Cert.KernelSsdIdeal.main_arg5)
      ∧ m' ((c.tc : Thread Cert.ReferenceSsdIdeal.nD Cert.ReferenceSsdIdeal.τ).loc Cert.ReferenceSsdIdeal.main_arg6) = m ((c.tc : Thread Cert.KernelSsdIdeal.nD Cert.KernelSsdIdeal.τ).loc Cert.KernelSsdIdeal.main_arg6)) →
    ∃ (v0 : (c : Dev Cert.KernelSsdIdeal.nD) → Buf (Elt Ideal) ((c.tc : Thread Cert.KernelSsdIdeal.nD Cert.KernelSsdIdeal.τ).loc Cert.KernelSsdIdeal.main_v24)),
      θ_run (Cert.KernelSsdIdeal.defs (F := Ideal)) (onTc (τ := Cert.KernelSsdIdeal.τ) (Cert.KernelSsdIdeal.main (F := Ideal))) ⟨m, fun _ => 0, g⟩ (fun r => ∀ c : Dev Cert.KernelSsdIdeal.nD,
          r.2.mem ((c.tc : Thread Cert.KernelSsdIdeal.nD Cert.KernelSsdIdeal.τ).loc Cert.KernelSsdIdeal.main_v24) = v0 c
          ∧ r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
          ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1)
          ∧ r.2.mem ((c.tc : Thread Cert.KernelSsdIdeal.nD Cert.KernelSsdIdeal.τ).loc Cert.KernelSsdIdeal.main_arg2) = m ((c.tc : Thread Cert.KernelSsdIdeal.nD Cert.KernelSsdIdeal.τ).loc Cert.KernelSsdIdeal.main_arg2)
          ∧ r.2.mem ((c.tc : Thread Cert.KernelSsdIdeal.nD Cert.KernelSsdIdeal.τ).loc Cert.KernelSsdIdeal.main_arg3) = m ((c.tc : Thread Cert.KernelSsdIdeal.nD Cert.KernelSsdIdeal.τ).loc Cert.KernelSsdIdeal.main_arg3)
          ∧ r.2.mem ((c.tc : Thread Cert.KernelSsdIdeal.nD Cert.KernelSsdIdeal.τ).loc Cert.KernelSsdIdeal.main_arg4) = m ((c.tc : Thread Cert.KernelSsdIdeal.nD Cert.KernelSsdIdeal.τ).loc Cert.KernelSsdIdeal.main_arg4)
          ∧ r.2.mem ((c.tc : Thread Cert.KernelSsdIdeal.nD Cert.KernelSsdIdeal.τ).loc Cert.KernelSsdIdeal.main_arg5) = m ((c.tc : Thread Cert.KernelSsdIdeal.nD Cert.KernelSsdIdeal.τ).loc Cert.KernelSsdIdeal.main_arg5)
          ∧ r.2.mem ((c.tc : Thread Cert.KernelSsdIdeal.nD Cert.KernelSsdIdeal.τ).loc Cert.KernelSsdIdeal.main_arg6) = m ((c.tc : Thread Cert.KernelSsdIdeal.nD Cert.KernelSsdIdeal.τ).loc Cert.KernelSsdIdeal.main_arg6))
      ∧ θ_run (Cert.ReferenceSsdIdeal.defs (F := Ideal)) (onTc (τ := Cert.ReferenceSsdIdeal.τ) (Cert.ReferenceSsdIdeal.main (F := Ideal))) ⟨m', fun _ => 0, g'⟩ (fun r => ∀ c : Dev Cert.ReferenceSsdIdeal.nD,
          r.2.mem ((c.tc : Thread Cert.ReferenceSsdIdeal.nD Cert.ReferenceSsdIdeal.τ).loc Cert.ReferenceSsdIdeal.main_v128) = v0 c
          ∧ r.2.mem ((c.tc : Thread Cert.ReferenceSsdIdeal.nD Cert.ReferenceSsdIdeal.τ).loc Cert.ReferenceSsdIdeal.main_arg0) = m' ((c.tc : Thread Cert.ReferenceSsdIdeal.nD Cert.ReferenceSsdIdeal.τ).loc Cert.ReferenceSsdIdeal.main_arg0)
          ∧ r.2.mem ((c.tc : Thread Cert.ReferenceSsdIdeal.nD Cert.ReferenceSsdIdeal.τ).loc Cert.ReferenceSsdIdeal.main_arg1) = m' ((c.tc : Thread Cert.ReferenceSsdIdeal.nD Cert.ReferenceSsdIdeal.τ).loc Cert.ReferenceSsdIdeal.main_arg1)
          ∧ r.2.mem ((c.tc : Thread Cert.ReferenceSsdIdeal.nD Cert.ReferenceSsdIdeal.τ).loc Cert.ReferenceSsdIdeal.main_arg2) = m' ((c.tc : Thread Cert.ReferenceSsdIdeal.nD Cert.ReferenceSsdIdeal.τ).loc Cert.ReferenceSsdIdeal.main_arg2)
          ∧ r.2.mem ((c.tc : Thread Cert.ReferenceSsdIdeal.nD Cert.ReferenceSsdIdeal.τ).loc Cert.ReferenceSsdIdeal.main_arg3) = m' ((c.tc : Thread Cert.ReferenceSsdIdeal.nD Cert.ReferenceSsdIdeal.τ).loc Cert.ReferenceSsdIdeal.main_arg3)
          ∧ r.2.mem ((c.tc : Thread Cert.ReferenceSsdIdeal.nD Cert.ReferenceSsdIdeal.τ).loc Cert.ReferenceSsdIdeal.main_arg4) = m' ((c.tc : Thread Cert.ReferenceSsdIdeal.nD Cert.ReferenceSsdIdeal.τ).loc Cert.ReferenceSsdIdeal.main_arg4)
          ∧ r.2.mem ((c.tc : Thread Cert.ReferenceSsdIdeal.nD Cert.ReferenceSsdIdeal.τ).loc Cert.ReferenceSsdIdeal.main_arg5) = m' ((c.tc : Thread Cert.ReferenceSsdIdeal.nD Cert.ReferenceSsdIdeal.τ).loc Cert.ReferenceSsdIdeal.main_arg5)
          ∧ r.2.mem ((c.tc : Thread Cert.ReferenceSsdIdeal.nD Cert.ReferenceSsdIdeal.τ).loc Cert.ReferenceSsdIdeal.main_arg6) = m' ((c.tc : Thread Cert.ReferenceSsdIdeal.nD Cert.ReferenceSsdIdeal.τ).loc Cert.ReferenceSsdIdeal.main_arg6))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v2) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v13) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v2) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelMlp_KernelMlpIdeal : Prop :=
  True

def algebraic_KernelMlpIdeal_ReferenceMlpIdeal [hKernelMlpIdeal : Cert.KernelMlpIdeal.Facts] [hReferenceMlpIdeal : Cert.ReferenceMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg)
    (m' : (ℓ : Loc Cert.ReferenceMlpIdeal.nD Cert.ReferenceMlpIdeal.τ Cert.ReferenceMlpIdeal.sig) → Buf (Elt Ideal) ℓ) (g' : Dev Cert.ReferenceMlpIdeal.nD → PrngReg), Pre_KernelMlpIdeal m →
    (∀ c : Dev Cert.KernelMlpIdeal.nD,
      m' ((c.tc : Thread Cert.ReferenceMlpIdeal.nD Cert.ReferenceMlpIdeal.τ).loc Cert.ReferenceMlpIdeal.main_arg0) = m ((c.tc : Thread Cert.KernelMlpIdeal.nD Cert.KernelMlpIdeal.τ).loc Cert.KernelMlpIdeal.main_arg0)
      ∧ m' ((c.tc : Thread Cert.ReferenceMlpIdeal.nD Cert.ReferenceMlpIdeal.τ).loc Cert.ReferenceMlpIdeal.main_arg1) = m ((c.tc : Thread Cert.KernelMlpIdeal.nD Cert.KernelMlpIdeal.τ).loc Cert.KernelMlpIdeal.main_arg1)
      ∧ m' ((c.tc : Thread Cert.ReferenceMlpIdeal.nD Cert.ReferenceMlpIdeal.τ).loc Cert.ReferenceMlpIdeal.main_arg2) = m ((c.tc : Thread Cert.KernelMlpIdeal.nD Cert.KernelMlpIdeal.τ).loc Cert.KernelMlpIdeal.main_arg2)
      ∧ m' ((c.tc : Thread Cert.ReferenceMlpIdeal.nD Cert.ReferenceMlpIdeal.τ).loc Cert.ReferenceMlpIdeal.main_arg3) = m ((c.tc : Thread Cert.KernelMlpIdeal.nD Cert.KernelMlpIdeal.τ).loc Cert.KernelMlpIdeal.main_arg3)
      ∧ m' ((c.tc : Thread Cert.ReferenceMlpIdeal.nD Cert.ReferenceMlpIdeal.τ).loc Cert.ReferenceMlpIdeal.main_arg4) = m ((c.tc : Thread Cert.KernelMlpIdeal.nD Cert.KernelMlpIdeal.τ).loc Cert.KernelMlpIdeal.main_arg4)) →
    ∃ (v0 : (c : Dev Cert.KernelMlpIdeal.nD) → Buf (Elt Ideal) ((c.tc : Thread Cert.KernelMlpIdeal.nD Cert.KernelMlpIdeal.τ).loc Cert.KernelMlpIdeal.main_v4)),
      θ_run (Cert.KernelMlpIdeal.defs (F := Ideal)) (onTc (τ := Cert.KernelMlpIdeal.τ) (Cert.KernelMlpIdeal.main (F := Ideal))) ⟨m, fun _ => 0, g⟩ (fun r => ∀ c : Dev Cert.KernelMlpIdeal.nD,
          r.2.mem ((c.tc : Thread Cert.KernelMlpIdeal.nD Cert.KernelMlpIdeal.τ).loc Cert.KernelMlpIdeal.main_v4) = v0 c
          ∧ r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
          ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
          ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
          ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
          ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4))
      ∧ θ_run (Cert.ReferenceMlpIdeal.defs (F := Ideal)) (onTc (τ := Cert.ReferenceMlpIdeal.τ) (Cert.ReferenceMlpIdeal.main (F := Ideal))) ⟨m', fun _ => 0, g'⟩ (fun r => ∀ c : Dev Cert.ReferenceMlpIdeal.nD,
          r.2.mem ((c.tc : Thread Cert.ReferenceMlpIdeal.nD Cert.ReferenceMlpIdeal.τ).loc Cert.ReferenceMlpIdeal.main_v17) = v0 c
          ∧ r.2.mem ((c.tc : Thread Cert.ReferenceMlpIdeal.nD Cert.ReferenceMlpIdeal.τ).loc Cert.ReferenceMlpIdeal.main_arg0) = m' ((c.tc : Thread Cert.ReferenceMlpIdeal.nD Cert.ReferenceMlpIdeal.τ).loc Cert.ReferenceMlpIdeal.main_arg0)
          ∧ r.2.mem ((c.tc : Thread Cert.ReferenceMlpIdeal.nD Cert.ReferenceMlpIdeal.τ).loc Cert.ReferenceMlpIdeal.main_arg1) = m' ((c.tc : Thread Cert.ReferenceMlpIdeal.nD Cert.ReferenceMlpIdeal.τ).loc Cert.ReferenceMlpIdeal.main_arg1)
          ∧ r.2.mem ((c.tc : Thread Cert.ReferenceMlpIdeal.nD Cert.ReferenceMlpIdeal.τ).loc Cert.ReferenceMlpIdeal.main_arg2) = m' ((c.tc : Thread Cert.ReferenceMlpIdeal.nD Cert.ReferenceMlpIdeal.τ).loc Cert.ReferenceMlpIdeal.main_arg2)
          ∧ r.2.mem ((c.tc : Thread Cert.ReferenceMlpIdeal.nD Cert.ReferenceMlpIdeal.τ).loc Cert.ReferenceMlpIdeal.main_arg3) = m' ((c.tc : Thread Cert.ReferenceMlpIdeal.nD Cert.ReferenceMlpIdeal.τ).loc Cert.ReferenceMlpIdeal.main_arg3)
          ∧ r.2.mem ((c.tc : Thread Cert.ReferenceMlpIdeal.nD Cert.ReferenceMlpIdeal.τ).loc Cert.ReferenceMlpIdeal.main_arg4) = m' ((c.tc : Thread Cert.ReferenceMlpIdeal.nD Cert.ReferenceMlpIdeal.τ).loc Cert.ReferenceMlpIdeal.main_arg4))

def preserves_KernelLast_KernelLastIdeal : Prop :=
  True

def algebraic_KernelLastIdeal_ReferenceLastIdeal [hKernelLastIdeal : Cert.KernelLastIdeal.Facts] [hReferenceLastIdeal : Cert.ReferenceLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg)
    (m' : (ℓ : Loc Cert.ReferenceLastIdeal.nD Cert.ReferenceLastIdeal.τ Cert.ReferenceLastIdeal.sig) → Buf (Elt Ideal) ℓ) (g' : Dev Cert.ReferenceLastIdeal.nD → PrngReg), Pre_KernelLastIdeal m →
    (∀ c : Dev Cert.KernelLastIdeal.nD,
      m' ((c.tc : Thread Cert.ReferenceLastIdeal.nD Cert.ReferenceLastIdeal.τ).loc Cert.ReferenceLastIdeal.main_arg0) = m ((c.tc : Thread Cert.KernelLastIdeal.nD Cert.KernelLastIdeal.τ).loc Cert.KernelLastIdeal.main_arg0)
      ∧ m' ((c.tc : Thread Cert.ReferenceLastIdeal.nD Cert.ReferenceLastIdeal.τ).loc Cert.ReferenceLastIdeal.main_arg1) = m ((c.tc : Thread Cert.KernelLastIdeal.nD Cert.KernelLastIdeal.τ).loc Cert.KernelLastIdeal.main_arg1)
      ∧ m' ((c.tc : Thread Cert.ReferenceLastIdeal.nD Cert.ReferenceLastIdeal.τ).loc Cert.ReferenceLastIdeal.main_arg2) = m ((c.tc : Thread Cert.KernelLastIdeal.nD Cert.KernelLastIdeal.τ).loc Cert.KernelLastIdeal.main_arg2)
      ∧ m' ((c.tc : Thread Cert.ReferenceLastIdeal.nD Cert.ReferenceLastIdeal.τ).loc Cert.ReferenceLastIdeal.main_arg3) = m ((c.tc : Thread Cert.KernelLastIdeal.nD Cert.KernelLastIdeal.τ).loc Cert.KernelLastIdeal.main_arg3)
      ∧ m' ((c.tc : Thread Cert.ReferenceLastIdeal.nD Cert.ReferenceLastIdeal.τ).loc Cert.ReferenceLastIdeal.main_arg4) = m ((c.tc : Thread Cert.KernelLastIdeal.nD Cert.KernelLastIdeal.τ).loc Cert.KernelLastIdeal.main_arg4)) →
    ∃ (v0 : (c : Dev Cert.KernelLastIdeal.nD) → Buf (Elt Ideal) ((c.tc : Thread Cert.KernelLastIdeal.nD Cert.KernelLastIdeal.τ).loc Cert.KernelLastIdeal.main_v4)),
      θ_run (Cert.KernelLastIdeal.defs (F := Ideal)) (onTc (τ := Cert.KernelLastIdeal.τ) (Cert.KernelLastIdeal.main (F := Ideal))) ⟨m, fun _ => 0, g⟩ (fun r => ∀ c : Dev Cert.KernelLastIdeal.nD,
          r.2.mem ((c.tc : Thread Cert.KernelLastIdeal.nD Cert.KernelLastIdeal.τ).loc Cert.KernelLastIdeal.main_v4) = v0 c
          ∧ r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
          ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
          ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2)
          ∧ r.2.mem ((c.tc : Thread Cert.KernelLastIdeal.nD Cert.KernelLastIdeal.τ).loc Cert.KernelLastIdeal.main_arg3) = m ((c.tc : Thread Cert.KernelLastIdeal.nD Cert.KernelLastIdeal.τ).loc Cert.KernelLastIdeal.main_arg3)
          ∧ r.2.mem ((c.tc : Thread Cert.KernelLastIdeal.nD Cert.KernelLastIdeal.τ).loc Cert.KernelLastIdeal.main_arg4) = m ((c.tc : Thread Cert.KernelLastIdeal.nD Cert.KernelLastIdeal.τ).loc Cert.KernelLastIdeal.main_arg4))
      ∧ θ_run (Cert.ReferenceLastIdeal.defs (F := Ideal)) (onTc (τ := Cert.ReferenceLastIdeal.τ) (Cert.ReferenceLastIdeal.main (F := Ideal))) ⟨m', fun _ => 0, g'⟩ (fun r => ∀ c : Dev Cert.ReferenceLastIdeal.nD,
          r.2.mem ((c.tc : Thread Cert.ReferenceLastIdeal.nD Cert.ReferenceLastIdeal.τ).loc Cert.ReferenceLastIdeal.main_v30) = v0 c
          ∧ r.2.mem ((c.tc : Thread Cert.ReferenceLastIdeal.nD Cert.ReferenceLastIdeal.τ).loc Cert.ReferenceLastIdeal.main_arg0) = m' ((c.tc : Thread Cert.ReferenceLastIdeal.nD Cert.ReferenceLastIdeal.τ).loc Cert.ReferenceLastIdeal.main_arg0)
          ∧ r.2.mem ((c.tc : Thread Cert.ReferenceLastIdeal.nD Cert.ReferenceLastIdeal.τ).loc Cert.ReferenceLastIdeal.main_arg1) = m' ((c.tc : Thread Cert.ReferenceLastIdeal.nD Cert.ReferenceLastIdeal.τ).loc Cert.ReferenceLastIdeal.main_arg1)
          ∧ r.2.mem ((c.tc : Thread Cert.ReferenceLastIdeal.nD Cert.ReferenceLastIdeal.τ).loc Cert.ReferenceLastIdeal.main_arg2) = m' ((c.tc : Thread Cert.ReferenceLastIdeal.nD Cert.ReferenceLastIdeal.τ).loc Cert.ReferenceLastIdeal.main_arg2)
          ∧ r.2.mem ((c.tc : Thread Cert.ReferenceLastIdeal.nD Cert.ReferenceLastIdeal.τ).loc Cert.ReferenceLastIdeal.main_arg3) = m' ((c.tc : Thread Cert.ReferenceLastIdeal.nD Cert.ReferenceLastIdeal.τ).loc Cert.ReferenceLastIdeal.main_arg3)
          ∧ r.2.mem ((c.tc : Thread Cert.ReferenceLastIdeal.nD Cert.ReferenceLastIdeal.τ).loc Cert.ReferenceLastIdeal.main_arg4) = m' ((c.tc : Thread Cert.ReferenceLastIdeal.nD Cert.ReferenceLastIdeal.τ).loc Cert.ReferenceLastIdeal.main_arg4))

def Claim : Prop :=
  ∃ (hKernel : Cert.Kernel.Facts) (hKernelIdeal : Cert.KernelIdeal.Facts) (hReferenceIdeal : Cert.ReferenceIdeal.Facts) (hKernelRope : Cert.KernelRope.Facts) (hKernelRopeIdeal : Cert.KernelRopeIdeal.Facts) (hReferenceRopeIdeal : Cert.ReferenceRopeIdeal.Facts) (hKernelSsd : Cert.KernelSsd.Facts) (hKernelSsdIdeal : Cert.KernelSsdIdeal.Facts) (hReferenceSsdIdeal : Cert.ReferenceSsdIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelMlp : Cert.KernelMlp.Facts) (hKernelMlpIdeal : Cert.KernelMlpIdeal.Facts) (hReferenceMlpIdeal : Cert.ReferenceMlpIdeal.Facts) (hKernelLast : Cert.KernelLast.Facts) (hKernelLastIdeal : Cert.KernelLastIdeal.Facts) (hReferenceLastIdeal : Cert.ReferenceLastIdeal.Facts),
    quiescent_Kernel (hKernel := hKernel)
    ∧ quiescent_KernelIdeal (hKernelIdeal := hKernelIdeal)
    ∧ quiescent_ReferenceIdeal (hReferenceIdeal := hReferenceIdeal)
    ∧ quiescent_KernelRope (hKernelRope := hKernelRope)
    ∧ quiescent_KernelRopeIdeal (hKernelRopeIdeal := hKernelRopeIdeal)
    ∧ quiescent_ReferenceRopeIdeal (hReferenceRopeIdeal := hReferenceRopeIdeal)
    ∧ quiescent_KernelSsd (hKernelSsd := hKernelSsd)
    ∧ quiescent_KernelSsdIdeal (hKernelSsdIdeal := hKernelSsdIdeal)
    ∧ quiescent_ReferenceSsdIdeal (hReferenceSsdIdeal := hReferenceSsdIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelMlp (hKernelMlp := hKernelMlp)
    ∧ quiescent_KernelMlpIdeal (hKernelMlpIdeal := hKernelMlpIdeal)
    ∧ quiescent_ReferenceMlpIdeal (hReferenceMlpIdeal := hReferenceMlpIdeal)
    ∧ quiescent_KernelLast (hKernelLast := hKernelLast)
    ∧ quiescent_KernelLastIdeal (hKernelLastIdeal := hKernelLastIdeal)
    ∧ quiescent_ReferenceLastIdeal (hReferenceLastIdeal := hReferenceLastIdeal)
    ∧ preserves_Kernel_KernelIdeal
    ∧ algebraic_KernelIdeal_ReferenceIdeal (hKernelIdeal := hKernelIdeal) (hReferenceIdeal := hReferenceIdeal)
    ∧ preserves_KernelRope_KernelRopeIdeal
    ∧ algebraic_KernelRopeIdeal_ReferenceRopeIdeal (hKernelRopeIdeal := hKernelRopeIdeal) (hReferenceRopeIdeal := hReferenceRopeIdeal)
    ∧ preserves_KernelSsd_KernelSsdIdeal
    ∧ algebraic_KernelSsdIdeal_ReferenceSsdIdeal (hKernelSsdIdeal := hKernelSsdIdeal) (hReferenceSsdIdeal := hReferenceSsdIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelMlp_KernelMlpIdeal
    ∧ algebraic_KernelMlpIdeal_ReferenceMlpIdeal (hKernelMlpIdeal := hKernelMlpIdeal) (hReferenceMlpIdeal := hReferenceMlpIdeal)
    ∧ preserves_KernelLast_KernelLastIdeal
    ∧ algebraic_KernelLastIdeal_ReferenceLastIdeal (hKernelLastIdeal := hKernelLastIdeal) (hReferenceLastIdeal := hReferenceLastIdeal)
-- ==== Kernel.lean ====
abbrev S16384x5760 : Shape := ⟨2, ![16384, 5760]⟩
abbrev S16384x128 : Shape := ⟨2, ![16384, 128]⟩
abbrev S512 : Shape := ⟨1, ![512]⟩
abbrev S1x512 : Shape := ⟨2, ![1, 512]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x1x128x128 : Shape := ⟨4, ![4, 1, 128, 128]⟩
abbrev S4x3x128x128 : Shape := ⟨4, ![4, 3, 128, 128]⟩
abbrev S16384x512 : Shape := ⟨2, ![16384, 512]⟩
abbrev S512x512 : Shape := ⟨2, ![512, 512]⟩
abbrev S512x128 : Shape := ⟨2, ![512, 128]⟩
abbrev S1x1x128x128 : Shape := ⟨4, ![1, 1, 128, 128]⟩

abbrev nBuf : Space → Nat
  | .hbm => 77
  | .vmem => 18
  | .smem => 0
  | _ => 0

abbrev bufTy : (tb : Table) → Fin (tcTables nBuf tb) → BufTy
  | .hbm, ⟨0, _⟩ => ⟨S16384x5760, .f32⟩
  | .hbm, ⟨1, _⟩ => ⟨S16384x128, .f32⟩
  | .hbm, ⟨2, _⟩ => ⟨S16384x128, .f32⟩
  | .hbm, ⟨3, _⟩ => ⟨S512, .f32⟩
  | .hbm, ⟨4, _⟩ => ⟨S1x512, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S128, .f32⟩
  | .hbm, ⟨16, _⟩ => ⟨S128x1, .f32⟩
  | .hbm, ⟨17, _⟩ => ⟨S1x128, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S_, .f32⟩
  | .hbm, ⟨22, _⟩ => ⟨S128x128, .f32⟩
  | .hbm, ⟨23, _⟩ => ⟨S128x128, .i1⟩
  | .hbm, ⟨24, _⟩ => ⟨S4x1x1, .f32⟩
  | .hbm, ⟨25, _⟩ => ⟨S_, .f32⟩
  | .hbm, ⟨26, _⟩ => ⟨S_, .f32⟩
  | .hbm, ⟨27, _⟩ => ⟨S128x128, .f32⟩
  | .hbm, ⟨28, _⟩ => ⟨S128x128, .f32⟩
  | .hbm, ⟨29, _⟩ => ⟨S1x128x128, .f32⟩
  | .hbm, ⟨30, _⟩ => ⟨S4x128x128, .f32⟩
  | .hbm, ⟨31, _⟩ => ⟨S4x128x128, .f32⟩
  | .hbm, ⟨32, _⟩ => ⟨S4x128x128, .f32⟩
  | .hbm, ⟨33, _⟩ => ⟨S4x128x128, .f32⟩
  | .hbm, ⟨34, _⟩ => ⟨S_, .f32⟩
  | .hbm, ⟨35, _⟩ => ⟨S_, .f32⟩
  | .hbm, ⟨36, _⟩ => ⟨S4x128x128, .i1⟩
  | .hbm, ⟨37, _⟩ => ⟨S4x128x128, .f32⟩
  | .hbm, ⟨38, _⟩ => ⟨S4x128x128, .f32⟩
  | .hbm, ⟨39, _⟩ => ⟨S4x1, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S4x128, .f32⟩
  | .hbm, ⟨45, _⟩ => ⟨S4x128, .f32⟩
  | .hbm, ⟨46, _⟩ => ⟨S4x128, .f32⟩
  | .hbm, ⟨47, _⟩ => ⟨S4x128, .f32⟩
  | .hbm, ⟨48, _⟩ => ⟨S4x1, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S4x128, .f32⟩
  | .hbm, ⟨54, _⟩ => ⟨S4x128, .f32⟩
  | .hbm, ⟨55, _⟩ => ⟨S4x128, .f32⟩
  | .hbm, ⟨56, _⟩ => ⟨S4x128, .f32⟩
  | .hbm, ⟨57, _⟩ => ⟨S_, .f32⟩
  | .hbm, ⟨58, _⟩ => ⟨S4, .f32⟩
  | .hbm, ⟨59, _⟩ => ⟨S4, .f32⟩
  | .hbm, ⟨60, _⟩ => ⟨S4, .f32⟩
  | .hbm, ⟨61, _⟩ => ⟨S_, .f32⟩
  | .hbm, ⟨62, _⟩ => ⟨S4x128x128, .f32⟩
  | .hbm, ⟨63, _⟩ => ⟨S4x128x1, .f32⟩
  | .hbm, ⟨64, _⟩ => ⟨S4x128x128, .f32⟩
  | .hbm, ⟨65, _⟩ => ⟨S4x128x128, .f32⟩
  | .hbm, ⟨66, _⟩ => ⟨S4x128x1, .f32⟩
  | .hbm, ⟨67, _⟩ => ⟨S4x128x128, .f32⟩
  | .hbm, ⟨68, _⟩ => ⟨S4x128x128, .f32⟩
  | .hbm, ⟨69, _⟩ => ⟨S4x1x1, .f32⟩
  | .hbm, ⟨70, _⟩ => ⟨S4x128x128, .f32⟩
  | .hbm, ⟨71, _⟩ => ⟨S4x128x128, .f32⟩
  | .hbm, ⟨72, _⟩ => ⟨S4x1x128x128, .f32⟩
  | .hbm, ⟨73, _⟩ => ⟨S4x1x128x128, .f32⟩
  | .hbm, ⟨74, _⟩ => ⟨S4x1x128x128, .f32⟩
  | .hbm, ⟨75, _⟩ => ⟨S4x3x128x128, .f32⟩
  | .hbm, ⟨76, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S4x128x128, .f32⟩
  | .local _ .vmem, ⟨13, _⟩ => ⟨S4x3x128x128, .f32⟩
  | .local _ .vmem, ⟨14, _⟩ => ⟨S1x512, .f32⟩
  | .local _ .vmem, ⟨15, _⟩ => ⟨S512x512, .f32⟩
  | .local _ .vmem, ⟨16, _⟩ => ⟨S512x512, .f32⟩
  | .local _ .vmem, ⟨17, _⟩ => ⟨S4x128x128, .f32⟩
  | _, _ => ⟨S16384x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x3x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S16384x5760 : Shape := ⟨2, ![16384, 5760]⟩
abbrev S16384x128 : Shape := ⟨2, ![16384, 128]⟩
abbrev S512 : Shape := ⟨1, ![512]⟩
abbrev S16384x512 : Shape := ⟨2, ![16384, 512]⟩
abbrev S4x4096x128 : Shape := ⟨3, ![4, 4096, 128]⟩
abbrev S4x4096x4x128 : Shape := ⟨4, ![4, 4096, 4, 128]⟩
abbrev S4x4096x4x64 : Shape := ⟨4, ![4, 4096, 4, 64]⟩
abbrev S4x4096x64 : Shape := ⟨3, ![4, 4096, 64]⟩
abbrev S4x4096x1x64 : Shape := ⟨4, ![4, 4096, 1, 64]⟩
abbrev S_ : Shape := ⟨0, ![]⟩
abbrev S4x32x128x4x128 : Shape := ⟨5, ![4, 32, 128, 4, 128]⟩
abbrev S4x4x32x128x128 : Shape := ⟨5, ![4, 4, 32, 128, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4x1x128x128 : Shape := ⟨5, ![1, 4, 1, 128, 128]⟩
abbrev S4x1 : Shape := ⟨2, ![4, 1]⟩
abbrev S4x128 : Shape := ⟨2, ![4, 128]⟩
abbrev S1x4x1x128x1 : Shape := ⟨5, ![1, 4, 1, 128, 1]⟩
abbrev S32x4x4x128x128 : Shape := ⟨5, ![32, 4, 4, 128, 128]⟩
abbrev S1x4x1x1 : Shape := ⟨4, ![1, 4, 1, 1]⟩
abbrev S1x4x4x128x128 : Shape := ⟨5, ![1, 4, 4, 128, 128]⟩
abbrev S4x4x128x128 : Shape := ⟨4, ![4, 4, 128, 128]⟩
abbrev S4x4096x4 : Shape := ⟨3, ![4, 4096, 4]⟩
abbrev S4x4096x4x1 : Shape := ⟨4, ![4, 4096, 4, 1]⟩
abbrev S1x1x4x128 : Shape := ⟨4, ![1, 1, 4, 128]⟩
abbrev S4x4096x512 : Shape := ⟨3, ![4, 4096, 512]⟩

abbrev nBuf : Space → Nat
  | .hbm => 198
  | .vmem => 0
  | .smem => 0
  | _ => 0

abbrev hbmTy0_0 (i : Nat) : BufTy := match i % 128 with
  | 0 => ⟨S16384x5760, .f32⟩
  | 1 => ⟨S16384x128, .f32⟩
  | 2 => ⟨S16384x128, .f32⟩
  | 3 => ⟨S512, .f32⟩
  | 4 => ⟨S16384x512, .f32⟩
  | 5 => ⟨S16384x512, .f32⟩
  | 6 => ⟨S16384x512, .f32⟩
  | 7 => ⟨S16384x512, .f32⟩
  | 8 => ⟨S4x4096x128, .f32⟩
  | 9 => ⟨S4x4096x128, .f32⟩
  | 10 => ⟨S4x4096x4x128, .f32⟩
  | 11 => ⟨S4x4096x4x64, .f32⟩
  | 12 => ⟨S4x4096x4x64, .f32⟩
  | 13 => ⟨S4x4096x64, .f32⟩
  | 14 => ⟨S4x4096x1x64, .f32⟩
  | 15 => ⟨S4x4096x4x64, .f32⟩
  | 16 => ⟨S4x4096x4x64, .f32⟩
  | 17 => ⟨S4x4096x64, .f32⟩
  | 18 => ⟨S4x4096x1x64, .f32⟩
  | 19 => ⟨S4x4096x4x64, .f32⟩
  | 20 => ⟨S4x4096x4x64, .f32⟩
  | 21 => ⟨S4x4096x4x64, .f32⟩
  | 22 => ⟨S4x4096x64, .f32⟩
  | 23 => ⟨S4x4096x1x64, .f32⟩
  | 24 => ⟨S4x4096x4x64, .f32⟩
  | 25 => ⟨S4x4096x4x64, .f32⟩
  | 26 => ⟨S4x4096x64, .f32⟩
  | 27 => ⟨S4x4096x1x64, .f32⟩
  | 28 => ⟨S4x4096x4x64, .f32⟩
  | 29 => ⟨S4x4096x4x64, .f32⟩
  | 30 => ⟨S4x4096x4x64, .f32⟩
  | 31 => ⟨S4x4096x4x128, .f32⟩
  | 32 => ⟨S_, .f32⟩
  | 33 => ⟨S4x4096x4x128, .f32⟩
  | 34 => ⟨S4x4096x4x128, .f32⟩
  | 35 => ⟨S4x4096x4x128, .f32⟩
  | 36 => ⟨S4x4096x4x64, .f32⟩
  | 37 => ⟨S4x4096x4x64, .f32⟩
  | 38 => ⟨S4x4096x64, .f32⟩
  | 39 => ⟨S4x4096x1x64, .f32⟩
  | 40 => ⟨S4x4096x4x64, .f32⟩
  | 41 => ⟨S4x4096x4x64, .f32⟩
  | 42 => ⟨S4x4096x64, .f32⟩
  | 43 => ⟨S4x4096x1x64, .f32⟩
  | 44 => ⟨S4x4096x4x64, .f32⟩
  | 45 => ⟨S4x4096x4x64, .f32⟩
  | 46 => ⟨S4x4096x4x64, .f32⟩
  | 47 => ⟨S4x4096x64, .f32⟩
  | 48 => ⟨S4x4096x1x64, .f32⟩
  | 49 => ⟨S4x4096x4x64, .f32⟩
  | 50 => ⟨S4x4096x4x64, .f32⟩
  | 51 => ⟨S4x4096x64, .f32⟩
  | 52 => ⟨S4x4096x1x64, .f32⟩
  | 53 => ⟨S4x4096x4x64, .f32⟩
  | 54 => ⟨S4x4096x4x64, .f32⟩
  | 55 => ⟨S4x4096x4x64, .f32⟩
  | 56 => ⟨S4x4096x4x128, .f32⟩
  | 57 => ⟨S4x4096x4x128, .f32⟩
  | 58 => ⟨S4x32x128x4x128, .f32⟩
  | 59 => ⟨S4x4x32x128x128, .f32⟩
  | 60 => ⟨S4x32x128x4x128, .f32⟩
  | 61 => ⟨S4x4x32x128x128, .f32⟩
  | 62 => ⟨S4x32x128x4x128, .f32⟩
  | 63 => ⟨S4x4x32x128x128, .f32⟩
  | 64 => ⟨S4, .f32⟩
  | 65 => ⟨S_, .f32⟩
  | 66 => ⟨S4, .f32⟩
  | 67 => ⟨S4, .f32⟩
  | 68 => ⟨S_, .f32⟩
  | 69 => ⟨S4, .f32⟩
  | 70 => ⟨S4, .f32⟩
  | 71 => ⟨S4, .f32⟩
  | 72 => ⟨S4, .f32⟩
  | 73 => ⟨S4, .f32⟩
  | 74 => ⟨S128, .f32⟩
  | 75 => ⟨S128x1, .f32⟩
  | 76 => ⟨S1x128, .f32⟩
  | 77 => ⟨S128x128, .f32⟩
  | 78 => ⟨S128x128, .f32⟩
  | 79 => ⟨S128x128, .f32⟩
  | 80 => ⟨S_, .f32⟩
  | 81 => ⟨S128x128, .f32⟩
  | 82 => ⟨S128x128, .i1⟩
  | 83 => ⟨S4x1x1, .f32⟩
  | 84 => ⟨S_, .f32⟩
  | 85 => ⟨S_, .f32⟩
  | 86 => ⟨S128x128, .f32⟩
  | 87 => ⟨S128x128, .f32⟩
  | 88 => ⟨S1x128x128, .f32⟩
  | 89 => ⟨S4x128x128, .f32⟩
  | 90 => ⟨S4x128x128, .f32⟩
  | 91 => ⟨S4x128x128, .f32⟩
  | 92 => ⟨S4x128x128, .f32⟩
  | 93 => ⟨S_, .f32⟩
  | 94 => ⟨S_, .f32⟩
  | 95 => ⟨S4x128x128, .i1⟩
  | 96 => ⟨S4x128x128, .f32⟩
  | 97 => ⟨S4x128x128, .f32⟩
  | 98 => ⟨S4x4x32x128x128, .f32⟩
  | 99 => ⟨S1x4x1x128x128, .f32⟩
  | 100 => ⟨S4x4x32x128x128, .f32⟩
  | 101 => ⟨S4x4x32x128x128, .f32⟩
  | 102 => ⟨S4x4x32x128x128, .f32⟩
  | 103 => ⟨S4x1, .f32⟩
  | 104 => ⟨S_, .f32⟩
  | 105 => ⟨S128, .f32⟩
  | 106 => ⟨S128, .f32⟩
  | 107 => ⟨S1x128, .f32⟩
  | 108 => ⟨S4x128, .f32⟩
  | 109 => ⟨S4x128, .f32⟩
  | 110 => ⟨S4x128, .f32⟩
  | 111 => ⟨S4x128, .f32⟩
  | 112 => ⟨S1x4x1x128x1, .f32⟩
  | 113 => ⟨S4x4x32x128x128, .f32⟩
  | 114 => ⟨S4x4x32x128x128, .f32⟩
  | 115 => ⟨S32x4x4x128x128, .f32⟩
  | 116 => ⟨S_, .f32⟩
  | 117 => ⟨S4, .f32⟩
  | 118 => ⟨S4, .f32⟩
  | 119 => ⟨S4, .f32⟩
  | 120 => ⟨S1x4x1x1, .f32⟩
  | 121 => ⟨S1x4x4x128x128, .f32⟩
  | 122 => ⟨S4x4x128x128, .f32⟩
  | 123 => ⟨S_, .f32⟩
  | 124 => ⟨S4x4x128x128, .f32⟩
  | 125 => ⟨S_, .f32⟩
  | 126 => ⟨S32x4x4x128x128, .f32⟩
  | 127 => ⟨S_, .i32⟩
  | _ => ⟨S16384x5760, .f32⟩

abbrev hbmTy0_1 (i : Nat) : BufTy := match i % 128 with
  | 0 => ⟨S32x4x4x128x128, .f32⟩
  | 1 => ⟨S1x4x1x1, .f32⟩
  | 2 => ⟨S_, .i32⟩
  | 3 => ⟨S4x4x128x128, .f32⟩
  | 4 => ⟨S32x4x4x128x128, .f32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S1x4x4x128x128, .f32⟩
  | 12 => ⟨S4x4x128x128, .f32⟩
  | 13 => ⟨S4x4x128x128, .f32⟩
  | 14 => ⟨S4x4x128x128, .f32⟩
  | 15 => ⟨S4x4x128x128, .f32⟩
  | 16 => ⟨S1x4x4x128x128, .f32⟩
  | 17 => ⟨S_, .i32⟩
  | 18 => ⟨S_, .i32⟩
  | 19 => ⟨S_, .i32⟩
  | 20 => ⟨S_, .i32⟩
  | 21 => ⟨S32x4x4x128x128, .f32⟩
  | 22 => ⟨S_, .i32⟩
  | 23 => ⟨S_, .i32⟩
  | 24 => ⟨S4x1, .f32⟩
  | 25 => ⟨S_, .f32⟩
  | 26 => ⟨S128, .f32⟩
  | 27 => ⟨S128, .f32⟩
  | 28 => ⟨S1x128, .f32⟩
  | 29 => ⟨S4x128, .f32⟩
  | 30 => ⟨S4x128, .f32⟩
  | 31 => ⟨S4x128, .f32⟩
  | 32 => ⟨S4x128, .f32⟩
  | 33 => ⟨S4x4x32x128x128, .f32⟩
  | 34 => ⟨S1x4x1x128x1, .f32⟩
  | 35 => ⟨S4x4x32x128x128, .f32⟩
  | 36 => ⟨S4x4x32x128x128, .f32⟩
  | 37 => ⟨S4x4x32x128x128, .f32⟩
  | 38 => ⟨S4x32x128x4x128, .f32⟩
  | 39 => ⟨S4x4096x4x128, .f32⟩
  | 40 => ⟨S4x4096x4x128, .f32⟩
  | 41 => ⟨S_, .f32⟩
  | 42 => ⟨S4x4096x4, .f32⟩
  | 43 => ⟨S4x4096x4x1, .f32⟩
  | 44 => ⟨S_, .f32⟩
  | 45 => ⟨S4x4096x4x1, .f32⟩
  | 46 => ⟨S4x4096x4x1, .f32⟩
  | 47 => ⟨S_, .f32⟩
  | 48 => ⟨S4x4096x4x1, .f32⟩
  | 49 => ⟨S4x4096x4x1, .f32⟩
  | 50 => ⟨S4x4096x4x1, .f32⟩
  | 51 => ⟨S4x4096x4x128, .f32⟩
  | 52 => ⟨S4x4096x4x128, .f32⟩
  | 53 => ⟨S4x128, .f32⟩
  | 54 => ⟨S1x1x4x128, .f32⟩
  | 55 => ⟨S4x4096x4x128, .f32⟩
  | 56 => ⟨S4x4096x4x128, .f32⟩
  | 57 => ⟨S4x4096x512, .f32⟩
  | 58 => ⟨S4x4096x512, .f32⟩
  | 59 => ⟨S4x4096x512, .f32⟩
  | 60 => ⟨S4x4096x512, .f32⟩
  | 61 => ⟨S_, .f32⟩
  | 62 => ⟨S4x4096x512, .f32⟩
  | 63 => ⟨S4x4096x512, .f32⟩
  | 64 => ⟨S_, .f32⟩
  | 65 => ⟨S4x4096x512, .f32⟩
  | 66 => ⟨S4x4096x512, .f32⟩
  | 67 => ⟨S4x4096x512, .f32⟩
  | 68 => ⟨S4x4096x512, .f32⟩
  | 69 => ⟨S16384x512, .f32⟩
  | _ => ⟨S16384x5760, .f32⟩

abbrev hbmTy (i : Nat) : BufTy := match i / 128 with
  | 0 => hbmTy0_0 i
  | 1 => hbmTy0_1 i
  | _ => ⟨S16384x5760, .f32⟩

abbrev bufTy : (tb : Table) → Fin (tcTables nBuf tb) → BufTy
  | .hbm, ⟨i, _⟩ => hbmTy i
  | _, _ => ⟨S16384x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_cst_0 : Ref sig .tc := ⟨.hbm, 65, rfl⟩
abbrev main_v60 : Ref sig .tc := ⟨.hbm, 66, rfl⟩
abbrev main_v61 : Ref sig .tc := ⟨.hbm, 67, rfl⟩
abbrev main_cst_1 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_cst_2 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_cst_3 : Ref sig .tc := ⟨.hbm, 84, rfl⟩
abbrev main_call0_v0 : Ref sig .tc := ⟨.hbm, 85, rfl⟩
abbrev main_call0_v1 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_cst_4 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_cst_5 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_cst_6 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_cst_7 : Ref sig .tc := ⟨.hbm, 123, rfl⟩
abbrev main_v106 : Ref sig .tc := ⟨.hbm, 124, rfl⟩
abbrev main_cst_8 : Ref sig .tc := ⟨.hbm, 125, rfl⟩
abbrev main_v107 : Ref sig .tc := ⟨.hbm, 126, rfl⟩
abbrev main_c : Ref sig .tc := ⟨.hbm, 127, rfl⟩
abbrev main_v108_0 : Ref sig .tc := ⟨.hbm, 128, rfl⟩
abbrev main_v108_1 : Ref sig .tc := ⟨.hbm, 129, rfl⟩
abbrev main_v108_2 : Ref sig .tc := ⟨.hbm, 130, rfl⟩
abbrev main_v108_3 : Ref sig .tc := ⟨.hbm, 131, rfl⟩
abbrev main_v108_4 : Ref sig .tc := ⟨.hbm, 132, rfl⟩
abbrev main_while0c_c_17 : Ref sig .tc := ⟨.hbm, 133, rfl⟩
abbrev main_while0c_v143 : Ref sig .tc := ⟨.hbm, 134, rfl⟩
abbrev main_while0b_call2_c : Ref sig .tc := ⟨.hbm, 135, rfl⟩
abbrev main_while0b_call2_c_0 : Ref sig .tc := ⟨.hbm, 136, rfl⟩
abbrev main_while0b_call2_c_1 : Ref sig .tc := ⟨.hbm, 137, rfl⟩
abbrev main_while0b_call2_c_2 : Ref sig .tc := ⟨.hbm, 138, rfl⟩
abbrev main_while0b_call2_v0 : Ref sig .tc := ⟨.hbm, 139, rfl⟩
abbrev main_while0b_v143 : Ref sig .tc := ⟨.hbm, 140, rfl⟩
abbrev main_while0b_v144 : Ref sig .tc := ⟨.hbm, 141, rfl⟩
abbrev main_while0b_v145 : Ref sig .tc := ⟨.hbm, 142, rfl⟩
abbrev main_while0b_v146 : Ref sig .tc := ⟨.hbm, 143, rfl⟩
abbrev main_while0b_call3_v0 : Ref sig .tc := ⟨.hbm, 144, rfl⟩
abbrev main_while0b_call3_c : Ref sig .tc := ⟨.hbm, 145, rfl⟩
abbrev main_while0b_call3_c_0 : Ref sig .tc := ⟨.hbm, 146, rfl⟩
abbrev main_while0b_call3_c_1 : Ref sig .tc := ⟨.hbm, 147, rfl⟩
abbrev main_while0b_call3_c_2 : Ref sig .tc := ⟨.hbm, 148, rfl⟩
abbrev main_while0b_v147 : Ref sig .tc := ⟨.hbm, 149, rfl⟩
abbrev main_while0b_c_17 : Ref sig .tc := ⟨.hbm, 150, rfl⟩
abbrev main_while0b_v148 : Ref sig .tc := ⟨.hbm, 151, rfl⟩
abbrev main_v109 : Ref sig .tc := ⟨.hbm, 152, rfl⟩
abbrev main_cst_9 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_10 : Ref sig .tc := ⟨.hbm, 169, rfl⟩
abbrev main_v125 : Ref sig .tc := ⟨.hbm, 170, rfl⟩
abbrev main_v126 : Ref sig .tc := ⟨.hbm, 171, rfl⟩
abbrev main_cst_11 : Ref sig .tc := ⟨.hbm, 172, rfl⟩
abbrev main_v127 : Ref sig .tc := ⟨.hbm, 173, rfl⟩
abbrev main_v128 : Ref sig .tc := ⟨.hbm, 174, rfl⟩
abbrev main_cst_12 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_call4_v0 : Ref sig .tc := ⟨.hbm, 187, rfl⟩
abbrev main_call4_v1 : Ref sig .tc := ⟨.hbm, 188, rfl⟩
abbrev main_call4_cst : Ref sig .tc := ⟨.hbm, 189, rfl⟩
abbrev main_call4_v2 : Ref sig .tc := ⟨.hbm, 190, rfl⟩
abbrev main_call4_v3 : Ref sig .tc := ⟨.hbm, 191, rfl⟩
abbrev main_call4_cst_0 : Ref sig .tc := ⟨.hbm, 192, rfl⟩
abbrev main_call4_v4 : Ref sig .tc := ⟨.hbm, 193, rfl⟩
abbrev main_call4_v5 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩

abbrev nD : Nat := 1
abbrev τ : Topo := Topo.v7x

variable {F : FTy → Type} [FloatOps F]

abbrev main_while0_count : Scf.Loop 32 := ⟨0#32, 32#32, 1#32⟩
-- ==== KernelRope.lean ====
abbrev S4x4096 : Shape := ⟨2, ![4, 4096]⟩
abbrev S64 : Shape := ⟨1, ![64]⟩
abbrev S_ : Shape := ⟨0, ![]⟩
abbrev S128 : Shape := ⟨1, ![128]⟩
abbrev S1x128 : Shape := ⟨2, ![1, 128]⟩
abbrev S16384x1 : Shape := ⟨2, ![16384, 1]⟩
abbrev S16384x128 : Shape := ⟨2, ![16384, 128]⟩
abbrev S1024x1 : Shape := ⟨2, ![1024, 1]⟩
abbrev S1024x128 : Shape := ⟨2, ![1024, 128]⟩

abbrev nBuf : Space → Nat
  | .hbm => 14
  | .vmem => 7
  | .smem => 0
  | _ => 0

abbrev bufTy : (tb : Table) → Fin (tcTables nBuf tb) → BufTy
  | .hbm, ⟨0, _⟩ => ⟨S4x4096, .i32⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S1x128, .f32⟩
  | .hbm, ⟨11, _⟩ => ⟨S16384x1, .i32⟩
  | .hbm, ⟨12, _⟩ => ⟨S16384x128, .f32⟩
  | .hbm, ⟨13, _⟩ => ⟨S16384x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceRopeIdeal.lean ====
abbrev S4x4096 : Shape := ⟨2, ![4, 4096]⟩
abbrev S64 : Shape := ⟨1, ![64]⟩
abbrev S_ : Shape := ⟨0, ![]⟩
abbrev S4x4096x1 : Shape := ⟨3, ![4, 4096, 1]⟩
abbrev S1x1x64 : Shape := ⟨3, ![1, 1, 64]⟩
abbrev S4x4096x64 : Shape := ⟨3, ![4, 4096, 64]⟩
abbrev S16384x64 : Shape := ⟨2, ![16384, 64]⟩
abbrev S16384x128 : Shape := ⟨2, ![16384, 128]⟩

abbrev nBuf : Space → Nat
  | .hbm => 22
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S4x4096, .f32⟩
  | .hbm, ⟨10, _⟩ => ⟨S4x4096x1, .f32⟩
  | .hbm, ⟨11, _⟩ => ⟨S1x1x64, .f32⟩
  | .hbm, ⟨12, _⟩ => ⟨S4x4096x64, .f32⟩
  | .hbm, ⟨13, _⟩ => ⟨S4x4096x64, .f32⟩
  | .hbm, ⟨14, _⟩ => ⟨S4x4096x64, .f32⟩
  | .hbm, ⟨15, _⟩ => ⟨S4x4096x64, .f32⟩
  | .hbm, ⟨16, _⟩ => ⟨S16384x64, .f32⟩
  | .hbm, ⟨17, _⟩ => ⟨S4x4096x64, .f32⟩
  | .hbm, ⟨18, _⟩ => ⟨S16384x64, .f32⟩
  | .hbm, ⟨19, _⟩ => ⟨S16384x128, .f32⟩
  | .hbm, ⟨20, _⟩ => ⟨S16384x64, .f32⟩
  | .hbm, ⟨21, _⟩ => ⟨S16384x128, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== KernelSsd.lean ====
abbrev S16384x5760 : Shape := ⟨2, ![16384, 5760]⟩
abbrev S4x1024 : Shape := ⟨2, ![4, 1024]⟩
abbrev S1024 : Shape := ⟨1, ![1024]⟩
abbrev S8 : Shape := ⟨1, ![8]⟩
abbrev S512 : Shape := ⟨1, ![512]⟩
abbrev S1x512 : Shape := ⟨2, ![1, 512]⟩
abbrev S1x8 : Shape := ⟨2, ![1, 8]⟩
abbrev S3x8 : Shape := ⟨2, ![3, 8]⟩
abbrev S_ : Shape := ⟨0, ![]⟩
abbrev S8x128 : Shape := ⟨2, ![8, 128]⟩
abbrev S1 : Shape := ⟨1, ![1]⟩
abbrev S2 : Shape := ⟨1, ![2]⟩
abbrev S128x8 : Shape := ⟨2, ![128, 8]⟩
abbrev S128x8x64 : Shape := ⟨3, ![128, 8, 64]⟩
abbrev S128x512 : Shape := ⟨2, ![128, 512]⟩
abbrev S4x512 : Shape := ⟨2, ![4, 512]⟩
abbrev S16384x512 : Shape := ⟨2, ![16384, 512]⟩
abbrev S512x512 : Shape := ⟨2, ![512, 512]⟩
abbrev S512x128 : Shape := ⟨2, ![512, 128]⟩
abbrev S520x512 : Shape := ⟨2, ![520, 512]⟩
abbrev S2x128x256 : Shape := ⟨3, ![2, 128, 256]⟩
abbrev S8x512 : Shape := ⟨2, ![8, 512]⟩
abbrev S1x128 : Shape := ⟨2, ![1, 128]⟩
abbrev S128x128 : Shape := ⟨2, ![128, 128]⟩
abbrev S1x128x256 : Shape := ⟨3, ![1, 128, 256]⟩
abbrev S128x256 : Shape := ⟨2, ![128, 256]⟩
abbrev S1x256 : Shape := ⟨2, ![1, 256]⟩
abbrev S128x1 : Shape := ⟨2, ![128, 1]⟩
abbrev S256x128 : Shape := ⟨2, ![256, 128]⟩
abbrev S128 : Shape := ⟨1, ![128]⟩

abbrev nBuf : Space → Nat
  | .hbm => 36
  | .vmem => 20
  | .smem => 0
  | _ => 0

abbrev bufTy : (tb : Table) → Fin (tcTables nBuf tb) → BufTy
  | .hbm, ⟨0, _⟩ => ⟨S16384x5760, .f32⟩
  | .hbm, ⟨1, _⟩ => ⟨S4x1024, .f32⟩
  | .hbm, ⟨2, _⟩ => ⟨S1024, .f32⟩
  | .hbm, ⟨3, _⟩ => ⟨S8, .f32⟩
  | .hbm, ⟨4, _⟩ => ⟨S8, .f32⟩
  | .hbm, ⟨5, _⟩ => ⟨S8, .f32⟩
  | .hbm, ⟨6, _⟩ => ⟨S512, .f32⟩
  | .hbm, ⟨7, _⟩ => ⟨S1x512, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S3x8, .f32⟩
  | .hbm, ⟨12, _⟩ => ⟨S_, .f32⟩
  | .hbm, ⟨13, _⟩ => ⟨S8x128, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S8x128, .f32⟩
  | .hbm, ⟨20, _⟩ => ⟨S128x8, .i32⟩
  | .hbm, ⟨21, _⟩ => ⟨S128x8, .i32⟩
  | .hbm, ⟨22, _⟩ => ⟨S_, .i32⟩
  | .hbm, ⟨23, _⟩ => ⟨S128x8, .i32⟩
  | .hbm, ⟨24, _⟩ => ⟨S128x8, .i32⟩
  | .hbm, ⟨25, _⟩ => ⟨S128x8, .i1⟩
  | .hbm, ⟨26, _⟩ => ⟨S128x8, .f32⟩
  | .hbm, ⟨27, _⟩ => ⟨S128x8x64, .f32⟩
  | .hbm, ⟨28, _⟩ => ⟨S128x512, .f32⟩
  | .hbm, ⟨29, _⟩ => ⟨S4x512, .f32⟩
  | .hbm, ⟨30, _⟩ => ⟨S4x512, .f32⟩
  | .hbm, ⟨31, _⟩ => ⟨S512, .f32⟩
  | .hbm, ⟨32, _⟩ => ⟨S1x512, .f32⟩
  | .hbm, ⟨33, _⟩ => ⟨S512, .f32⟩
  | .hbm, ⟨34, _⟩ => ⟨S1x512, .f32⟩
  | .hbm, ⟨35, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S4x512, .f32⟩
  | .local _ .vmem, ⟨9, _⟩ => ⟨S4x512, .f32⟩
  | .local _ .vmem, ⟨10, _⟩ => ⟨S1x512, .f32⟩
  | .local _ .vmem, ⟨11, _⟩ => ⟨S1x512, .f32⟩
  | .local _ .vmem, ⟨12, _⟩ => ⟨S8x128, .f32⟩
  | .local _ .vmem, ⟨13, _⟩ => ⟨S128x512, .f32⟩
  | .local _ .vmem, ⟨14, _⟩ => ⟨S1x512, .f32⟩
  | .local _ .vmem, ⟨15, _⟩ => ⟨S512x512, .f32⟩
  | .local _ .vmem, ⟨16, _⟩ => ⟨S512x512, .f32⟩
  | .local _ .vmem, ⟨17, _⟩ => ⟨S520x512, .f32⟩
  | .local _ .vmem, ⟨18, _⟩ => ⟨S520x512, .f32⟩
  | .local _ .vmem, ⟨19, _⟩ => ⟨S2x128x256, .f32⟩
  | _, _ => ⟨S16384x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c5_i32 : BitVec 32 := 5#32
  let c0_i32 : BitVec 32 := 0#32
  ![v1.toNat, c5_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c6_i32 : BitVec 32 := 6#32
  let c0_i32 : BitVec 32 := 0#32
  ![v1.toNat, c6_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c44_i32 : BitVec 32 := 44#32
  let c0_i32 : BitVec 32 := 0#32
  ![v1.toNat, c44_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceSsdIdeal.lean ====
abbrev S16384x5760 : Shape := ⟨2, ![16384, 5760]⟩
abbrev S4x1024 : Shape := ⟨2, ![4, 1024]⟩
abbrev S1024 : Shape := ⟨1, ![1024]⟩
abbrev S8 : Shape := ⟨1, ![8]⟩
abbrev S512 : Shape := ⟨1, ![512]⟩
abbrev S16384x512 : Shape := ⟨2, ![16384, 512]⟩
abbrev S4x4096x512 : Shape := ⟨3, ![4, 4096, 512]⟩
abbrev S16384x1024 : Shape := ⟨2, ![16384, 1024]⟩
abbrev S4x4096x1024 : Shape := ⟨3, ![4, 4096, 1024]⟩
abbrev S16384x8 : Shape := ⟨2, ![16384, 8]⟩
abbrev S4x4096x8 : Shape := ⟨3, ![4, 4096, 8]⟩
abbrev S_ : Shape := ⟨0, ![]⟩
abbrev S4x4099x1024 : Shape := ⟨3, ![4, 4099, 1024]⟩
abbrev S1x1024 : Shape := ⟨2, ![1, 1024]⟩
abbrev S1x1x1024 : Shape := ⟨3, ![1, 1, 1024]⟩
abbrev S4x4096x256 : Shape := ⟨3, ![4, 4096, 256]⟩
abbrev S4x32x128x2x4x64 : Shape := ⟨6, ![4, 32, 128, 2, 4, 64]⟩
abbrev S4x32x128x2x128 : Shape := ⟨5, ![4, 32, 128, 2, 128]⟩
abbrev S1x1x8 : Shape := ⟨3, ![1, 1, 8]⟩
abbrev S4x32x128x2x4 : Shape := ⟨5, ![4, 32, 128, 2, 4]⟩
abbrev S2x4 : Shape := ⟨2, ![2, 4]⟩
abbrev S1x1x1x2x4 : Shape := ⟨5, ![1, 1, 1, 2, 4]⟩
abbrev S128x128 : Shape := ⟨2, ![128, 128]⟩
abbrev S1x1x128x128x1x1 : Shape := ⟨6, ![1, 1, 128, 128, 1, 1]⟩
abbrev S4x32x128x1x2x4 : Shape := ⟨6, ![4, 32, 128, 1, 2, 4]⟩
abbrev S4x32x1x128x2x4 : Shape := ⟨6, ![4, 32, 1, 128, 2, 4]⟩
abbrev S4x32x128x128x2x4 : Shape := ⟨6, ![4, 32, 128, 128, 2, 4]⟩
abbrev S4x32x128x2x4x1 : Shape := ⟨6, ![4, 32, 128, 2, 4, 1]⟩
abbrev S4x32x2x128x128 : Shape := ⟨5, ![4, 32, 2, 128, 128]⟩
abbrev S4x32x128x128x2 : Shape := ⟨5, ![4, 32, 128, 128, 2]⟩
abbrev S4x32x128x128x2x1 : Shape := ⟨6, ![4, 32, 128, 128, 2, 1]⟩
abbrev S4x32x2x4x64x128 : Shape := ⟨6, ![4, 32, 2, 4, 64, 128]⟩
abbrev S4x32x1x2x4 : Shape := ⟨5, ![4, 32, 1, 2, 4]⟩
abbrev S32x4x2x4x64x128 : Shape := ⟨6, ![32, 4, 2, 4, 64, 128]⟩
abbrev S4x32x2x4 : Shape := ⟨4, ![4, 32, 2, 4]⟩
abbrev S32x4x2x4 : Shape := ⟨4, ![32, 4, 2, 4]⟩
abbrev S32x4x2x4x1x1 : Shape := ⟨6, ![32, 4, 2, 4, 1, 1]⟩
abbrev S1x4x2x4x64x128 : Shape := ⟨6, ![1, 4, 2, 4, 64, 128]⟩
abbrev S4x2x4x64x128 : Shape := ⟨5, ![4, 2, 4, 64, 128]⟩
abbrev S1x4x2x4x1x1 : Shape := ⟨6, ![1, 4, 2, 4, 1, 1]⟩
abbrev S4x2x4x1x1 : Shape := ⟨5, ![4, 2, 4, 1, 1]⟩
abbrev S2x4x1 : Shape := ⟨3, ![2, 4, 1]⟩
abbrev S1x1x1x2x4x1 : Shape := ⟨6, ![1, 1, 1, 2, 4, 1]⟩
abbrev S4x4096x2x256 : Shape := ⟨4, ![4, 4096, 2, 256]⟩
abbrev S4x4096x2 : Shape := ⟨3, ![4, 4096, 2]⟩
abbrev S4x4096x2x1 : Shape := ⟨4, ![4, 4096, 2, 1]⟩
abbrev S1x1x512 : Shape := ⟨3, ![1, 1, 512]⟩

abbrev nBuf : Space → Nat
  | .hbm => 225
  | .vmem => 0
  | .smem => 0
  | _ => 0

abbrev hbmTy0_0 (i : Nat) : BufTy := match i % 128 with
  | 0 => ⟨S16384x5760, .f32⟩
  | 1 => ⟨S4x1024, .f32⟩
  | 2 => ⟨S1024, .f32⟩
  | 3 => ⟨S8, .f32⟩
  | 4 => ⟨S8, .f32⟩
  | 5 => ⟨S8, .f32⟩
  | 6 => ⟨S512, .f32⟩
  | 7 => ⟨S16384x512, .f32⟩
  | 8 => ⟨S4x4096x512, .f32⟩
  | 9 => ⟨S16384x1024, .f32⟩
  | 10 => ⟨S4x4096x1024, .f32⟩
  | 11 => ⟨S16384x8, .f32⟩
  | 12 => ⟨S4x4096x8, .f32⟩
  | 13 => ⟨S_, .i32⟩
  | 14 => ⟨S_, .f32⟩
  | 15 => ⟨S4x4099x1024, .f32⟩
  | 16 => ⟨S1x1024, .f32⟩
  | 17 => ⟨S1024, .f32⟩
  | 18 => ⟨S4x4096x1024, .f32⟩
  | 19 => ⟨S1x1x1024, .f32⟩
  | 20 => ⟨S4x4096x1024, .f32⟩
  | 21 => ⟨S4x4096x1024, .f32⟩
  | 22 => ⟨S_, .f32⟩
  | 23 => ⟨S4x4096x1024, .f32⟩
  | 24 => ⟨S4x4096x1024, .f32⟩
  | 25 => ⟨S1x1024, .f32⟩
  | 26 => ⟨S1024, .f32⟩
  | 27 => ⟨S4x4096x1024, .f32⟩
  | 28 => ⟨S1x1x1024, .f32⟩
  | 29 => ⟨S4x4096x1024, .f32⟩
  | 30 => ⟨S4x4096x1024, .f32⟩
  | 31 => ⟨S4x4096x1024, .f32⟩
  | 32 => ⟨S1x1024, .f32⟩
  | 33 => ⟨S1024, .f32⟩
  | 34 => ⟨S4x4096x1024, .f32⟩
  | 35 => ⟨S1x1x1024, .f32⟩
  | 36 => ⟨S4x4096x1024, .f32⟩
  | 37 => ⟨S4x4096x1024, .f32⟩
  | 38 => ⟨S4x4096x1024, .f32⟩
  | 39 => ⟨S1x1024, .f32⟩
  | 40 => ⟨S1024, .f32⟩
  | 41 => ⟨S4x4096x1024, .f32⟩
  | 42 => ⟨S1x1x1024, .f32⟩
  | 43 => ⟨S4x4096x1024, .f32⟩
  | 44 => ⟨S4x4096x1024, .f32⟩
  | 45 => ⟨S4x4096x1024, .f32⟩
  | 46 => ⟨S1x1x1024, .f32⟩
  | 47 => ⟨S4x4096x1024, .f32⟩
  | 48 => ⟨S4x4096x1024, .f32⟩
  | 49 => ⟨S4x4096x1024, .f32⟩
  | 50 => ⟨S4x4096x1024, .f32⟩
  | 51 => ⟨S_, .f32⟩
  | 52 => ⟨S4x4096x1024, .f32⟩
  | 53 => ⟨S4x4096x1024, .f32⟩
  | 54 => ⟨S_, .f32⟩
  | 55 => ⟨S4x4096x1024, .f32⟩
  | 56 => ⟨S4x4096x1024, .f32⟩
  | 57 => ⟨S4x4096x1024, .f32⟩
  | 58 => ⟨S4x4096x512, .f32⟩
  | 59 => ⟨S4x4096x256, .f32⟩
  | 60 => ⟨S4x4096x256, .f32⟩
  | 61 => ⟨S4x32x128x2x4x64, .f32⟩
  | 62 => ⟨S4x32x128x2x128, .f32⟩
  | 63 => ⟨S4x32x128x2x128, .f32⟩
  | 64 => ⟨S1x1x8, .f32⟩
  | 65 => ⟨S4x4096x8, .f32⟩
  | 66 => ⟨S4x4096x8, .f32⟩
  | 67 => ⟨S_, .f32⟩
  | 68 => ⟨S4x4096x8, .f32⟩
  | 69 => ⟨S4x4096x8, .f32⟩
  | 70 => ⟨S4x4096x8, .f32⟩
  | 71 => ⟨S4x4096x8, .f32⟩
  | 72 => ⟨S4x4096x8, .i1⟩
  | 73 => ⟨S4x4096x8, .f32⟩
  | 74 => ⟨S4x4096x8, .f32⟩
  | 75 => ⟨S4x4096x8, .f32⟩
  | 76 => ⟨S4x4096x8, .f32⟩
  | 77 => ⟨S4x4096x8, .f32⟩
  | 78 => ⟨S4x4096x8, .f32⟩
  | 79 => ⟨S4x4096x8, .f32⟩
  | 80 => ⟨S4x4096x8, .f32⟩
  | 81 => ⟨S4x32x128x2x4, .f32⟩
  | 82 => ⟨S8, .f32⟩
  | 83 => ⟨S2x4, .f32⟩
  | 84 => ⟨S2x4, .f32⟩
  | 85 => ⟨S1x1x1x2x4, .f32⟩
  | 86 => ⟨S4x32x128x2x4, .f32⟩
  | 87 => ⟨S4x32x128x2x4, .f32⟩
  | 88 => ⟨S_, .f32⟩
  | 89 => ⟨S_, .f32⟩
  | 90 => ⟨S4x32x128x2x4, .f32⟩
  | 91 => ⟨S_, .i1⟩
  | 92 => ⟨S128x128, .i1⟩
  | 93 => ⟨S128x128, .i32⟩
  | 94 => ⟨S_, .i32⟩
  | 95 => ⟨S128x128, .i32⟩
  | 96 => ⟨S128x128, .i32⟩
  | 97 => ⟨S128x128, .i32⟩
  | 98 => ⟨S128x128, .i1⟩
  | 99 => ⟨S_, .i1⟩
  | 100 => ⟨S128x128, .i1⟩
  | 101 => ⟨S128x128, .i1⟩
  | 102 => ⟨S1x1x128x128x1x1, .i1⟩
  | 103 => ⟨S4x32x128x1x2x4, .f32⟩
  | 104 => ⟨S4x32x1x128x2x4, .f32⟩
  | 105 => ⟨S4x32x128x128x2x4, .f32⟩
  | 106 => ⟨S4x32x128x128x2x4, .f32⟩
  | 107 => ⟨S4x32x128x128x2x4, .f32⟩
  | 108 => ⟨S_, .f32⟩
  | 109 => ⟨S_, .f32⟩
  | 110 => ⟨S4x32x128x128x2x4, .i1⟩
  | 111 => ⟨S4x32x128x128x2x4, .f32⟩
  | 112 => ⟨S4x32x128x128x2x4, .f32⟩
  | 113 => ⟨S4x32x128x128x2x4, .f32⟩
  | 114 => ⟨S_, .f32⟩
  | 115 => ⟨S_, .f32⟩
  | 116 => ⟨S4x32x128x128x2x4, .i1⟩
  | 117 => ⟨S4x32x128x128x2x4, .f32⟩
  | 118 => ⟨S4x32x128x128x2x4, .f32⟩
  | 119 => ⟨S4x32x128x2x4x1, .f32⟩
  | 120 => ⟨S4x32x128x2x4x64, .f32⟩
  | 121 => ⟨S4x32x128x2x4x64, .f32⟩
  | 122 => ⟨S4x32x2x128x128, .f32⟩
  | 123 => ⟨S4x32x128x128x2, .f32⟩
  | 124 => ⟨S4x32x128x128x2x1, .f32⟩
  | 125 => ⟨S4x32x128x128x2x4, .f32⟩
  | 126 => ⟨S4x32x128x128x2x4, .f32⟩
  | 127 => ⟨S4x32x2x4x64x128, .f32⟩
  | _ => ⟨S16384x5760, .f32⟩

abbrev hbmTy0_1 (i : Nat) : BufTy := match i % 128 with
  | 0 => ⟨S4x32x128x2x4x64, .f32⟩
  | 1 => ⟨S4x32x1x2x4, .f32⟩
  | 2 => ⟨S4x32x128x2x4, .f32⟩
  | 3 => ⟨S4x32x128x2x4, .f32⟩
  | 4 => ⟨S4x32x128x2x4, .f32⟩
  | 5 => ⟨S4x32x128x2x4x1, .f32⟩
  | 6 => ⟨S4x32x128x2x4x64, .f32⟩
  | 7 => ⟨S4x32x128x2x4x64, .f32⟩
  | 8 => ⟨S32x4x2x4x64x128, .f32⟩
  | 9 => ⟨S4x32x1x2x4, .f32⟩
  | 10 => ⟨S4x32x2x4, .f32⟩
  | 11 => ⟨S4x32x2x4, .f32⟩
  | 12 => ⟨S32x4x2x4, .f32⟩
  | 13 => ⟨S32x4x2x4x1x1, .f32⟩
  | 14 => ⟨S1x4x2x4x64x128, .f32⟩
  | 15 => ⟨S4x2x4x64x128, .f32⟩
  | 16 => ⟨S_, .f32⟩
  | 17 => ⟨S4x2x4x64x128, .f32⟩
  | 18 => ⟨S_, .f32⟩
  | 19 => ⟨S32x4x2x4x64x128, .f32⟩
  | 20 => ⟨S_, .i32⟩
  | 21 => ⟨S32x4x2x4x1x1, .f32⟩
  | 22 => ⟨S32x4x2x4x64x128, .f32⟩
  | 23 => ⟨S_, .i32⟩
  | 24 => ⟨S4x2x4x64x128, .f32⟩
  | 25 => ⟨S32x4x2x4x64x128, .f32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S1x4x2x4x1x1, .f32⟩
  | 34 => ⟨S4x2x4x1x1, .f32⟩
  | 35 => ⟨S_, .i32⟩
  | 36 => ⟨S_, .i32⟩
  | 37 => ⟨S_, .i32⟩
  | 38 => ⟨S_, .i32⟩
  | 39 => ⟨S_, .i32⟩
  | 40 => ⟨S1x4x2x4x64x128, .f32⟩
  | 41 => ⟨S4x2x4x64x128, .f32⟩
  | 42 => ⟨S4x2x4x64x128, .f32⟩
  | 43 => ⟨S4x2x4x64x128, .f32⟩
  | 44 => ⟨S4x2x4x64x128, .f32⟩
  | 45 => ⟨S1x4x2x4x64x128, .f32⟩
  | 46 => ⟨S_, .i32⟩
  | 47 => ⟨S_, .i32⟩
  | 48 => ⟨S_, .i32⟩
  | 49 => ⟨S_, .i32⟩
  | 50 => ⟨S_, .i32⟩
  | 51 => ⟨S32x4x2x4x64x128, .f32⟩
  | 52 => ⟨S_, .i32⟩
  | 53 => ⟨S_, .i32⟩
  | 54 => ⟨S4x32x2x4x64x128, .f32⟩
  | 55 => ⟨S4x32x128x2x4x64, .f32⟩
  | 56 => ⟨S4x32x128x2x4, .f32⟩
  | 57 => ⟨S4x32x128x2x4x1, .f32⟩
  | 58 => ⟨S4x32x128x2x4x64, .f32⟩
  | 59 => ⟨S4x32x128x2x4x64, .f32⟩
  | 60 => ⟨S4x32x128x2x4x64, .f32⟩
  | 61 => ⟨S2x4, .f32⟩
  | 62 => ⟨S2x4x1, .f32⟩
  | 63 => ⟨S1x1x1x2x4x1, .f32⟩
  | 64 => ⟨S4x32x128x2x4x64, .f32⟩
  | 65 => ⟨S4x32x128x2x4x64, .f32⟩
  | 66 => ⟨S4x32x128x2x4x64, .f32⟩
  | 67 => ⟨S4x4096x2x256, .f32⟩
  | 68 => ⟨S4x4096x512, .f32⟩
  | 69 => ⟨S4x4096x512, .f32⟩
  | 70 => ⟨S_, .f32⟩
  | 71 => ⟨S4x4096x512, .f32⟩
  | 72 => ⟨S4x4096x512, .f32⟩
  | 73 => ⟨S_, .f32⟩
  | 74 => ⟨S4x4096x512, .f32⟩
  | 75 => ⟨S4x4096x512, .f32⟩
  | 76 => ⟨S4x4096x512, .f32⟩
  | 77 => ⟨S4x4096x2x256, .f32⟩
  | 78 => ⟨S4x4096x2x256, .f32⟩
  | 79 => ⟨S4x4096x2x256, .f32⟩
  | 80 => ⟨S_, .f32⟩
  | 81 => ⟨S4x4096x2, .f32⟩
  | 82 => ⟨S4x4096x2x1, .f32⟩
  | 83 => ⟨S_, .f32⟩
  | 84 => ⟨S4x4096x2x1, .f32⟩
  | 85 => ⟨S4x4096x2x1, .f32⟩
  | 86 => ⟨S_, .f32⟩
  | 87 => ⟨S4x4096x2x1, .f32⟩
  | 88 => ⟨S4x4096x2x1, .f32⟩
  | 89 => ⟨S4x4096x2x1, .f32⟩
  | 90 => ⟨S4x4096x2x256, .f32⟩
  | 91 => ⟨S4x4096x2x256, .f32⟩
  | 92 => ⟨S4x4096x512, .f32⟩
  | 93 => ⟨S1x1x512, .f32⟩
  | 94 => ⟨S4x4096x512, .f32⟩
  | 95 => ⟨S4x4096x512, .f32⟩
  | 96 => ⟨S16384x512, .f32⟩
  | _ => ⟨S16384x5760, .f32⟩

abbrev hbmTy (i : Nat) : BufTy := match i / 128 with
  | 0 => hbmTy0_0 i
  | 1 => hbmTy0_1 i
  | _ => ⟨S16384x5760, .f32⟩

abbrev bufTy : (tb : Table) → Fin (tcTables nBuf tb) → BufTy
  | .hbm, ⟨i, _⟩ => hbmTy i
  | _, _ => ⟨S16384x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call2_cst : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_call3_call0_cst : Ref sig .tc := ⟨.hbm, 88, rfl⟩
abbrev main_call3_call0_v0 : Ref sig .tc := ⟨.hbm, 89, rfl⟩
abbrev main_v57 : Ref sig .tc := ⟨.hbm, 90, rfl⟩
abbrev main_c_0 : Ref sig .tc := ⟨.hbm, 91, rfl⟩
abbrev main_v58 : Ref sig .tc := ⟨.hbm, 92, rfl⟩
abbrev main_call4_v0 : Ref sig .tc := ⟨.hbm, 93, rfl⟩
abbrev main_call4_c : Ref sig .tc := ⟨.hbm, 94, rfl⟩
abbrev main_call4_v1 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_call4_c_0 : Ref sig .tc := ⟨.hbm, 99, rfl⟩
abbrev main_call4_v5 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_1 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_v66 : Ref sig .tc := ⟨.hbm, 112, rfl⟩
abbrev main_v67 : Ref sig .tc := ⟨.hbm, 113, rfl⟩
abbrev main_cst_2 : Ref sig .tc := ⟨.hbm, 114, rfl⟩
abbrev main_call6_v0 : Ref sig .tc := ⟨.hbm, 115, rfl⟩
abbrev main_call6_v1 : Ref sig .tc := ⟨.hbm, 116, rfl⟩
abbrev main_call6_v2 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_3 : Ref sig .tc := ⟨.hbm, 144, rfl⟩
abbrev main_v94 : Ref sig .tc := ⟨.hbm, 145, rfl⟩
abbrev main_cst_4 : Ref sig .tc := ⟨.hbm, 146, rfl⟩
abbrev main_v95 : Ref sig .tc := ⟨.hbm, 147, rfl⟩
abbrev main_c_5 : Ref sig .tc := ⟨.hbm, 148, rfl⟩
abbrev main_v96_0 : Ref sig .tc := ⟨.hbm, 149, rfl⟩
abbrev main_v96_1 : Ref sig .tc := ⟨.hbm, 150, rfl⟩
abbrev main_v96_2 : Ref sig .tc := ⟨.hbm, 151, rfl⟩
abbrev main_v96_3 : Ref sig .tc := ⟨.hbm, 152, rfl⟩
abbrev main_v96_4 : Ref sig .tc := ⟨.hbm, 153, rfl⟩
abbrev main_while0c_c_13 : Ref sig .tc := ⟨.hbm, 154, rfl⟩
abbrev main_while0c_v129 : Ref sig .tc := ⟨.hbm, 155, rfl⟩
abbrev main_while0b_call7_c : Ref sig .tc := ⟨.hbm, 156, rfl⟩
abbrev main_while0b_call7_c_0 : Ref sig .tc := ⟨.hbm, 157, rfl⟩
abbrev main_while0b_call7_c_1 : Ref sig .tc := ⟨.hbm, 158, rfl⟩
abbrev main_while0b_call7_c_2 : Ref sig .tc := ⟨.hbm, 159, rfl⟩
abbrev main_while0b_call7_c_3 : Ref sig .tc := ⟨.hbm, 160, rfl⟩
abbrev main_while0b_call7_v0 : Ref sig .tc := ⟨.hbm, 161, rfl⟩
abbrev main_while0b_v129 : Ref sig .tc := ⟨.hbm, 162, rfl⟩
abbrev main_while0b_call8_c : Ref sig .tc := ⟨.hbm, 163, rfl⟩
abbrev main_while0b_call8_c_0 : Ref sig .tc := ⟨.hbm, 164, rfl⟩
abbrev main_while0b_call8_c_1 : Ref sig .tc := ⟨.hbm, 165, rfl⟩
abbrev main_while0b_call8_c_2 : Ref sig .tc := ⟨.hbm, 166, rfl⟩
abbrev main_while0b_call8_c_3 : Ref sig .tc := ⟨.hbm, 167, rfl⟩
abbrev main_while0b_call8_v0 : Ref sig .tc := ⟨.hbm, 168, rfl⟩
abbrev main_while0b_v130 : Ref sig .tc := ⟨.hbm, 169, rfl⟩
abbrev main_while0b_v131 : Ref sig .tc := ⟨.hbm, 170, rfl⟩
abbrev main_while0b_v132 : Ref sig .tc := ⟨.hbm, 171, rfl⟩
abbrev main_while0b_v133 : Ref sig .tc := ⟨.hbm, 172, rfl⟩
abbrev main_while0b_call9_v0 : Ref sig .tc := ⟨.hbm, 173, rfl⟩
abbrev main_while0b_call9_c : Ref sig .tc := ⟨.hbm, 174, rfl⟩
abbrev main_while0b_call9_c_0 : Ref sig .tc := ⟨.hbm, 175, rfl⟩
abbrev main_while0b_call9_c_1 : Ref sig .tc := ⟨.hbm, 176, rfl⟩
abbrev main_while0b_call9_c_2 : Ref sig .tc := ⟨.hbm, 177, rfl⟩
abbrev main_while0b_call9_c_3 : Ref sig .tc := ⟨.hbm, 178, rfl⟩
abbrev main_while0b_v134 : Ref sig .tc := ⟨.hbm, 179, rfl⟩
abbrev main_while0b_c_13 : Ref sig .tc := ⟨.hbm, 180, rfl⟩
abbrev main_while0b_v135 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_call10_v0 : Ref sig .tc := ⟨.hbm, 196, rfl⟩
abbrev main_call10_v1 : Ref sig .tc := ⟨.hbm, 197, rfl⟩
abbrev main_call10_cst : Ref sig .tc := ⟨.hbm, 198, rfl⟩
abbrev main_call10_v2 : Ref sig .tc := ⟨.hbm, 199, rfl⟩
abbrev main_call10_v3 : Ref sig .tc := ⟨.hbm, 200, rfl⟩
abbrev main_call10_cst_0 : Ref sig .tc := ⟨.hbm, 201, rfl⟩
abbrev main_call10_v4 : Ref sig .tc := ⟨.hbm, 202, rfl⟩
abbrev main_call10_v5 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_cst_6 : Ref sig .tc := ⟨.hbm, 208, rfl⟩
abbrev main_v115 : Ref sig .tc := ⟨.hbm, 209, rfl⟩
abbrev main_v116 : Ref sig .tc := ⟨.hbm, 210, rfl⟩
abbrev main_cst_7 : Ref sig .tc := ⟨.hbm, 211, rfl⟩
abbrev main_v117 : Ref sig .tc := ⟨.hbm, 212, rfl⟩
abbrev main_v118 : Ref sig .tc := ⟨.hbm, 213, rfl⟩
abbrev main_cst_8 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩

abbrev nD : Nat := 1
abbrev τ : Topo := Topo.v7x

variable {F : FTy → Type} [FloatOps F]

abbrev main_while0_count : Scf.Loop 32 := ⟨0#32, 32#32, 1#32⟩
-- ==== KernelIn.lean ====
abbrev S16384x1024 : Shape := ⟨2, ![16384, 1024]⟩
abbrev S1024 : Shape := ⟨1, ![1024]⟩
abbrev S1024x5760 : Shape := ⟨2, ![1024, 5760]⟩
abbrev S1x1024 : Shape := ⟨2, ![1, 1024]⟩
abbrev S16384x5760 : Shape := ⟨2, ![16384, 5760]⟩
abbrev S1024x1024 : Shape := ⟨2, ![1024, 1024]⟩
abbrev S1024x1152 : Shape := ⟨2, ![1024, 1152]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5760, .f32⟩
  | .hbm, ⟨3, _⟩ => ⟨S1x1024, .f32⟩
  | .hbm, ⟨4, _⟩ => ⟨S1024x5760, .bf16⟩
  | .hbm, ⟨5, _⟩ => ⟨S16384x5760, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1152, .bf16⟩
  | .local _ .vmem, ⟨4, _⟩ => ⟨S1024x1152, .bf16⟩
  | .local _ .vmem, ⟨5, _⟩ => ⟨S1024x1152, .f32⟩
  | .local _ .vmem, ⟨6, _⟩ => ⟨S1024x1152, .f32⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceInIdeal.lean ====
abbrev S16384x1024 : Shape := ⟨2, ![16384, 1024]⟩
abbrev S1024 : Shape := ⟨1, ![1024]⟩
abbrev S1024x5760 : Shape := ⟨2, ![1024, 5760]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5760 : Shape := ⟨2, ![16384, 5760]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5760, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x5760, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KernelOut.lean ====
abbrev S16384x1024 : Shape := ⟨2, ![16384, 1024]⟩
abbrev S16384x512 : Shape := ⟨2, ![16384, 512]⟩
abbrev S1536x1024 : Shape := ⟨2, ![1536, 1024]⟩
abbrev S512x1024 : Shape := ⟨2, ![512, 1024]⟩
abbrev S512x512 : Shape := ⟨2, ![512, 512]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S1536x1024, .f32⟩
  | .hbm, ⟨5, _⟩ => ⟨S1536x1024, .bf16⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1536x1024, .bf16⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceOutIdeal.lean ====
abbrev S16384x1024 : Shape := ⟨2, ![16384, 1024]⟩
abbrev S16384x512 : Shape := ⟨2, ![16384, 512]⟩
abbrev S1536x1024 : Shape := ⟨2, ![1536, 1024]⟩
abbrev S16384x1536 : Shape := ⟨2, ![16384, 1536]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S1536x1024, .f32⟩
  | .hbm, ⟨5, _⟩ => ⟨S16384x1536, .f32⟩
  | .hbm, ⟨6, _⟩ => ⟨S16384x1024, .f32⟩
  | .hbm, ⟨7, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== KernelMlp.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceMlpIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x1024, .f32⟩
  | .hbm, ⟨27, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== KernelLast.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceLastIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Proof.RetRun.lean ====
/-
  The run of the retention's reference: what its loop over the chunks leaves alone, and that the whole run leaves the
  arguments as they were.
-/
module

public import proofs.«01_k».proof.Defs
public import proofs.«01_k».proof.Proof.Gen.ReferenceIdeal.Run
public import Idealize.ShloMosaic.Lib.Quiescent
public import Idealize.ShloMosaic.Lib.StableHlo.RunHlo

@[expose] public section

set_option maxRecDepth 8192

noncomputable section

namespace Cert.ReferenceIdeal.RetRun

open Cert.ReferenceIdeal Cert.ReferenceIdeal.Gen Cert.ReferenceIdeal.Value
open Idealize.ShloMosaic Idealize.ShloMosaic.TcCoe Idealize.ShloMosaic.Tactic
open Idealize.SL.Sem Idealize.ShloMosaic.StableHlo

variable {F : FTy → Type} [FloatOps F]

/-- The buffers one trip of the loop over the chunks writes. -/
abbrev tripW : List (Ref sig .tc) := condOps_W ++ while0Ops0_W ++ while0Ops0_1_W ++ while0Ops0_2_W ++ while0Ops0_3_W

/-- A buffer the loop does not write keeps its contents through one trip. -/
theorem trip_keep (X : Valuation τ sig (Elt F)) (r : Ref sig .tc) (h : r ∉ tripW) :
    afterL bodyI (after condOps X) (Proc.devRef .tc r) = X (Proc.devRef .tc r) := by
  simp only [tripW, List.mem_append, not_or] at h
  obtain ⟨⟨⟨⟨h0, h1⟩, h2⟩, h3⟩, h4⟩ := h
  simp only [afterL_cons, afterL_nil]
  rw [after_of_writes_sub while0Ops0_3 _ while0Ops0_3_writes h4, after_of_writes_sub while0Ops0_2 _ while0Ops0_2_writes h3,
    after_of_writes_sub while0Ops0_1 _ while0Ops0_1_writes h2, after_of_writes_sub while0Ops0 _ while0Ops0_writes h1,
    after_of_writes_sub condOps _ condOps_writes h0]

variable (m : (ℓ : Loc nD τ sig) → Buf (Elt F) ℓ)

/-- A buffer the loop does not write holds, before every trip, what it held at the loop's entry. -/
theorem atK_keep (c : Dev nD) (r : Ref sig .tc) (h : r ∉ tripW) :
    ∀ k, atK m k c (Proc.devRef .tc r) = entryContents preI m c (Proc.devRef .tc r)
  | 0 => rfl
  | k + 1 => (trip_keep (atK m k c) r h).trans (atK_keep c r h k)

/-- The buffers written after the loop. -/
abbrev postW0 : List (Ref sig .tc) := [main_v109, main_cst_9, main_v110, main_v111, main_v112, main_v113, main_v114, main_v115, main_v116, main_v117, main_v118, main_v119, main_v120, main_v121, main_v122, main_v123, main_v124, main_cst_10, main_v125, main_v126, main_cst_11, main_v127, main_v128, main_cst_12, main_v129, main_v130, main_v131, main_v132, main_v133, main_v134, main_v135, main_v136, main_v137, main_v138, main_v139]
abbrev postW1 : List (Ref sig .tc) := [main_call4_v0, main_call4_v1, main_call4_cst, main_call4_v2, main_call4_v3, main_call4_cst_0, main_call4_v4, main_call4_v5, main_v140]
abbrev postW2 : List (Ref sig .tc) := [main_v141, main_v142]

theorem post0_writes : (hostOps0_5 : List (HloOp τ sig (Elt F))).Forall fun op => op.writes ⊆ (postW0.map (Proc.devRef (τ := τ) .tc)).toFinset :=
  forall_writes_sub_of_map rfl
theorem post1_writes : (hostOps0_6 : List (HloOp τ sig (Elt F))).Forall fun op => op.writes ⊆ (postW1.map (Proc.devRef (τ := τ) .tc)).toFinset :=
  forall_writes_sub_of_map rfl
theorem post2_writes : (hostOps0_7 : List (HloOp τ sig (Elt F))).Forall fun op => op.writes ⊆ (postW2.map (Proc.devRef (τ := τ) .tc)).toFinset :=
  forall_writes_sub_of_map rfl

/-- The buffers the whole program writes. -/
abbrev allW : List (Ref sig .tc) :=
  hostOps0_W ++ (hostOps0_1_W ++ (hostOps0_2_W ++ (hostOps0_3_W ++ (hostOps0_4_W ++ (postW0 ++ (postW1 ++ postW2))))))

/-- A buffer that nothing in the program writes ends as it was at the start. -/
theorem final_keep (c : Dev nD) (r : Ref sig .tc) (h : r ∉ allW) (ht : r ∉ tripW) :
    finalContents condOps preI bodyI postI 32 m c (Proc.devRef .tc r) = m ((c : Thread nD τ).loc r) := by
  simp only [allW, List.mem_append, not_or] at h
  obtain ⟨h0, h1, h2, h3, h4, h5, h6, h7⟩ := h
  have hc : r ∉ condOps_W := fun h' => ht (by simp only [tripW, List.mem_append]; exact Or.inl (Or.inl (Or.inl (Or.inl h'))))
  show after hostOps0_7 (after hostOps0_6 (after hostOps0_5 (after condOps (atK m 32 c)))) (Proc.devRef .tc r) = _
  rw [after_of_writes_sub hostOps0_7 _ post2_writes h7, after_of_writes_sub hostOps0_6 _ post1_writes h6,
    after_of_writes_sub hostOps0_5 _ post0_writes h5, after_of_writes_sub condOps _ condOps_writes hc, atK_keep m c r ht]
  simp only [entryContents, afterL_cons, afterL_nil]
  rw [after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- The reference for the retention runs to its end from any launch and leaves its arguments as they were. -/
theorem frame : Cert.quiescent_ReferenceIdeal (hReferenceIdeal := Cert.ReferenceIdeal.Gen.facts) := fun m g _ =>
  θ_run_mono (run_fold m g) fun r h => ⟨fun c =>
    ⟨(h c main_arg0 rfl).trans (final_keep m c main_arg0 (by decide +kernel) (by decide +kernel)),
     (h c main_arg1 rfl).trans (final_keep m c main_arg1 (by decide +kernel) (by decide +kernel)),
     (h c main_arg2 rfl).trans (final_keep m c main_arg2 (by decide +kernel) (by decide +kernel)),
     (h c main_arg3 rfl).trans (final_keep m c main_arg3 (by decide +kernel) (by decide +kernel))⟩,
    sem_eq_zero_of_no_sems rfl _⟩

end Cert.ReferenceIdeal.RetRun

end
-- ==== Proof.RetSpec.lean ====
/-
  The retention over the chunks of a row sequence, written out on the extended reals: the rotated queries and keys, the
  state that enters each chunk, a chunk's product before the norm, and the normalized and gated result.
-/
module

public import Idealize.ShloMosaic.Lib.Pipeline.ValueKit
public import Idealize.ShloMosaic.Lib.Pointwise

@[expose] public section

noncomputable section

open Idealize.ShloMosaic

namespace Cert.Ret

/-- The array of projected rows: queries, keys, values and gates in its first four groups of 512 columns. -/
abbrev Proj := FVec Ideal (⟨2, ![16384, 5760]⟩ : Shape) .f32
/-- A rotary table. -/
abbrev Tab := FVec Ideal (⟨2, ![16384, 128]⟩ : Shape) .f32

/-- Row `r` of chunk `n` of sequence `b`. -/
abbrev row (b n : ℕ) (r : Fin 128) : Fin 16384 := ⟨(b * 4096 + n * 128 + r.val) % 16384, Nat.mod_lt _ (by decide)⟩

/-- Column `j` of head `h` in column group `g`. -/
abbrev col (g : Fin 4) (h : Fin 4) (j : Fin 128) : Fin 5760 := ⟨g.val * 512 + h.val * 128 + j.val, by omega⟩

/-- The column a rotation pairs with `j`. -/
abbrev mate (j : Fin 128) : Fin 128 := ⟨(j.val + 128 - 64) % 128, Nat.mod_lt _ (by decide)⟩

/-- An entry of head `h` in group `g`, rotated by the row's angle. -/
def rot (P : Proj) (C S : Tab) (g h : Fin 4) (R : Fin 16384) (j : Fin 128) : EReal :=
  P (ix2 R (col g h j)) * C (ix2 R j) + P (ix2 R (col g h (mate j))) * S (ix2 R j)

/-- The state of head `h` of sequence `b` that enters chunk `n`: zero, then decayed and increased chunk by chunk. -/
def state (P : Proj) (C S : Tab) (ze : Fin 4 → Fin 128 → EReal) (cd : Fin 4 → EReal) (b : ℕ) (h : Fin 4) :
    ℕ → Fin 128 → Fin 128 → EReal
  | 0, _, _ => 0
  | n + 1, i, j => cd h * state P C S ze cd b h n i j
      + ∑ r : Fin 128, rot P C S 1 h (row b n r) i * ze h r * P (ix2 (row b n r) (col 2 h j))

/-- A query entry: rotated, and scaled by the inverse root of the head's width. -/
def query (P : Proj) (C S : Tab) (h : Fin 4) (R : Fin 16384) (j : Fin 128) : EReal :=
  rot P C S 0 h R j * Ideal.ofBits .f32 0x3DB504F3#32

/-- A chunk's product before the norm: inside the chunk, and with the state that entered it. -/
def prod (P : Proj) (C S : Tab) (dm : Fin 4 → Fin 128 → Fin 128 → EReal) (ze xi : Fin 4 → Fin 128 → EReal) (cd : Fin 4 → EReal)
    (b : ℕ) (h : Fin 4) (n : ℕ) (r j : Fin 128) : EReal :=
  (∑ s : Fin 128, (∑ d : Fin 128, query P C S h (row b n r) d * rot P C S 1 h (row b n s) d) * dm h r s
      * P (ix2 (row b n s) (col 2 h j)))
    + (∑ d : Fin 128, query P C S h (row b n r) d * state P C S ze cd b h n d j) * xi h r

/-- The result: the product's rows divided by their root mean square, weighted, and gated. -/
def result (P : Proj) (C S : Tab) (w : Fin 4 → Fin 128 → EReal) (dm : Fin 4 → Fin 128 → Fin 128 → EReal)
    (ze xi : Fin 4 → Fin 128 → EReal) (cd : Fin 4 → EReal) (b : ℕ) (h : Fin 4) (n : ℕ) (r j : Fin 128) : EReal :=
  prod P C S dm ze xi cd b h n r j
    * Ideal.rsqrt (Ideal.div (∑ e : Fin 128, prod P C S dm ze xi cd b h n r e * prod P C S dm ze xi cd b h n r e)
        (Ideal.ofBits .f32 0x43000000#32) + Ideal.ofBits .f32 0x358637BD#32)
    * w h j * (P (ix2 (row b n r) (col 3 h j)) * Ideal.logistic (P (ix2 (row b n r) (col 3 h j))))

end Cert.Ret

end
-- ==== Proof.RetTile.lean ====
/-
  One chunk of one head as the retention's kernel computes it on tiles of 128 rows: the state it leaves and the rows it
  stores, read at an index.
-/
module

public import proofs.«01_k».proof.Proof.Gen.KernelIdeal.Skeleton
public import proofs.«01_k».proof.Proof.RetSpec

@[expose] public section

set_option maxRecDepth 16384

noncomputable section

open Idealize.ShloMosaic Idealize.ShloMosaic.TcCoe

namespace Cert.KernelIdeal.RetTile

open Cert.KernelIdeal Cert.KernelIdeal.Gen Cert.Ret

/-- The state a chunk leaves, from the tiles of the tables, keys and values, its decays and the state that entered. -/
def stepV (C S K V : Vec Ideal S128x128 .f32) (z d : Vec Ideal S1x1x128x128 .f32) (st : Vec Ideal S1x128x128 .f32) :
    FVec Ideal S1x128x128 .f32 :=
  k0_pay11 (k0_pay3 C S K) (k0_pay4 z) (k0_pay6 d) (k0_pay8 V) st

/-- The rows a chunk stores. -/
def outV (C S Q K V : Vec Ideal S128x128 .f32) (D : Vec Ideal S1x128x128 .f32) (x : Vec Ideal S1x1x128x128 .f32)
    (st : Vec Ideal S1x128x128 .f32) (w : Vec Ideal S1x128 .f32) (G : Vec Ideal S128x128 .f32) : FVec Ideal S128x128 .f32 :=
  k0_pay12 (k0_pay5 x) (k0_pay7 C S Q) (k0_pay8 V) (k0_pay9 C S Q K) D st w G

variable {P : Proj} {Ct St : Tab} {w : Fin 4 → Fin 128 → EReal} {dm : Fin 4 → Fin 128 → Fin 128 → EReal}
  {ze xi : Fin 4 → Fin 128 → EReal} {cd : Fin 4 → EReal} {b n : ℕ} {h : Fin 4}

/-- On tiles that are a chunk's rows, the state a chunk leaves is the one that enters the next. -/
theorem step_at {C S K V : Vec Ideal S128x128 .f32} {z d : Vec Ideal S1x1x128x128 .f32} {st : Vec Ideal S1x128x128 .f32}
    (hC : ∀ r j, C (ix2 r j) = Ct (ix2 (row b n r) j)) (hS : ∀ r j, S (ix2 r j) = St (ix2 (row b n r) j))
    (hK : ∀ r j, K (ix2 r j) = P (ix2 (row b n r) (col 1 h j))) (hV : ∀ r j, V (ix2 r j) = P (ix2 (row b n r) (col 2 h j)))
    (hz : ∀ r j, z (ix4 0 0 r j) = ze h r) (hd : ∀ r j, d (ix4 0 0 r j) = cd h)
    (hst : ∀ i j, st (ix3 0 i j) = state P Ct St ze cd b h n i j) (i j : Fin 128) :
    stepV C S K V z d st (ix3 0 i j) = state P Ct St ze cd b h (n + 1) i j := by
  unfold state rot
  pointwise [stepV, k0_pay11, k0_pay10, k0_pay3, k0_pay4, k0_pay6, k0_pay8]
  simp only [hC, hS, hK, hV, hz, hd, hst]
  try rfl

/-- The product a chunk's rows have before the norm, on tiles. -/
def prodV (C S Q K V : Vec Ideal S128x128 .f32) (D : Vec Ideal S1x128x128 .f32) (x : Vec Ideal S1x1x128x128 .f32)
    (st : Vec Ideal S1x128x128 .f32) : FVec Ideal S128x128 .f32 := fun y =>
  (∑ s : Fin 128, (∑ d : Fin 128, (Q (ix2 (y 0) d) * C (ix2 (y 0) d) + Q (ix2 (y 0) (mate d)) * S (ix2 (y 0) d)) * Ideal.ofBits .f32 0x3DB504F3#32
      * (K (ix2 s d) * C (ix2 s d) + K (ix2 s (mate d)) * S (ix2 s d))) * D (ix3 0 (y 0) s) * V (ix2 s (y 1)))
    + (∑ d : Fin 128, (Q (ix2 (y 0) d) * C (ix2 (y 0) d) + Q (ix2 (y 0) (mate d)) * S (ix2 (y 0) d)) * Ideal.ofBits .f32 0x3DB504F3#32
      * st (ix3 0 d (y 1))) * x (ix4 0 0 (y 0) (y 1))

/-- The rows a chunk stores, over their product before the norm. -/
theorem outV_eq (C S Q K V : Vec Ideal S128x128 .f32) (D : Vec Ideal S1x128x128 .f32) (x : Vec Ideal S1x1x128x128 .f32)
    (st : Vec Ideal S1x128x128 .f32) (w : Vec Ideal S1x128 .f32) (G : Vec Ideal S128x128 .f32) (r j : Fin 128) :
    outV C S Q K V D x st w G (ix2 r j) = prodV C S Q K V D x st (ix2 r j)
      * Ideal.rsqrt (Ideal.div (∑ e : Fin 128, prodV C S Q K V D x st (ix2 r e) * prodV C S Q K V D x st (ix2 r e))
        (Ideal.ofBits .f32 0x43000000#32) + Ideal.ofBits .f32 0x358637BD#32)
      * w (ix2 0 j) * (G (ix2 r j) * Ideal.logistic (G (ix2 r j))) := by
  unfold prodV
  pointwise [outV, k0_pay12, k0_pay10, k0_pay5, k0_pay7, k0_pay8, k0_pay9, k0_pay3]

/-- On tiles that are a chunk's rows, the product before the norm is the chunk's. -/
theorem prod_at {C S Q K V : Vec Ideal S128x128 .f32} {D : Vec Ideal S1x128x128 .f32} {x : Vec Ideal S1x1x128x128 .f32}
    {st : Vec Ideal S1x128x128 .f32}
    (hC : ∀ r j, C (ix2 r j) = Ct (ix2 (row b n r) j)) (hS : ∀ r j, S (ix2 r j) = St (ix2 (row b n r) j))
    (hQ : ∀ r j, Q (ix2 r j) = P (ix2 (row b n r) (col 0 h j)))
    (hK : ∀ r j, K (ix2 r j) = P (ix2 (row b n r) (col 1 h j))) (hV : ∀ r j, V (ix2 r j) = P (ix2 (row b n r) (col 2 h j)))
    (hD : ∀ r s, D (ix3 0 r s) = dm h r s) (hx : ∀ r j, x (ix4 0 0 r j) = xi h r)
    (hst : ∀ i j, st (ix3 0 i j) = state P Ct St ze cd b h n i j) (r j : Fin 128) :
    prodV C S Q K V D x st (ix2 r j) = prod P Ct St dm ze xi cd b h n r j := by
  unfold prodV prod query rot
  show _ + _ = _
  simp only [ix2_0, ix2_1, hC, hS, hQ, hK, hV, hD, hx, hst]
  try rfl

/-- On tiles that are a chunk's rows, what the chunk stores is the result. -/
theorem out_at {C S Q K V : Vec Ideal S128x128 .f32} {D : Vec Ideal S1x128x128 .f32} {x : Vec Ideal S1x1x128x128 .f32}
    {st : Vec Ideal S1x128x128 .f32} {W : Vec Ideal S1x128 .f32} {G : Vec Ideal S128x128 .f32}
    (hC : ∀ r j, C (ix2 r j) = Ct (ix2 (row b n r) j)) (hS : ∀ r j, S (ix2 r j) = St (ix2 (row b n r) j))
    (hQ : ∀ r j, Q (ix2 r j) = P (ix2 (row b n r) (col 0 h j)))
    (hK : ∀ r j, K (ix2 r j) = P (ix2 (row b n r) (col 1 h j))) (hV : ∀ r j, V (ix2 r j) = P (ix2 (row b n r) (col 2 h j)))
    (hD : ∀ r s, D (ix3 0 r s) = dm h r s) (hx : ∀ r j, x (ix4 0 0 r j) = xi h r)
    (hst : ∀ i j, st (ix3 0 i j) = state P Ct St ze cd b h n i j)
    (hW : ∀ j, W (ix2 0 j) = w h j) (hG : ∀ r j, G (ix2 r j) = P (ix2 (row b n r) (col 3 h j))) (r j : Fin 128) :
    outV C S Q K V D x st W G (ix2 r j) = result P Ct St w dm ze xi cd b h n r j := by
  unfold result
  simp only [outV_eq, prod_at hC hS hQ hK hV hD hx hst, hW, hG]

end Cert.KernelIdeal.RetTile

end
-- ==== Proof.RetFold.lean ====
/-
  The kernel's body is unrolled over four chunks and four heads of a block, and each chunk's terms stand cut at other
  places. Each of them is the one chunk's step, or its stored rows, of `RetTile`.
-/
module

public import proofs.«01_k».proof.Proof.RetTile

@[expose] public section

set_option maxRecDepth 16384

noncomputable section

open Idealize.ShloMosaic Idealize.ShloMosaic.TcCoe

namespace Cert.KernelIdeal.RetTile

open Cert.KernelIdeal Cert.KernelIdeal.Gen

/-- The state of head 0 at chunk 0 of a block. -/
theorem fold_st_0_0 (C : Vec Ideal S128x128 .f32) (S : Vec Ideal S128x128 .f32) (K : Vec Ideal S128x128 .f32) (V : Vec Ideal S128x128 .f32) (z : Vec Ideal S1x1x128x128 .f32) (d : Vec Ideal S1x1x128x128 .f32) (st : Vec Ideal S1x128x128 .f32) :
    k0_pay11 (k0_pay3 C S K) (k0_pay4 z) (k0_pay6 d) (k0_pay8 V) st = stepV C S K V z d st := rfl

/-- The rows of head 0 at chunk 0 of a block. -/
theorem fold_out_0_0 (C : Vec Ideal S128x128 .f32) (S : Vec Ideal S128x128 .f32) (Q : Vec Ideal S128x128 .f32) (K : Vec Ideal S128x128 .f32) (V : Vec Ideal S128x128 .f32) (D : Vec Ideal S1x128x128 .f32) (x : Vec Ideal S1x1x128x128 .f32) (st : Vec Ideal S1x128x128 .f32) (w : Vec Ideal S1x128 .f32) (G : Vec Ideal S128x128 .f32) :
    k0_pay12 (k0_pay5 x) (k0_pay7 C S Q) (k0_pay8 V) (k0_pay9 C S Q K) D st w G = outV C S Q K V D x st w G := rfl

/-- The state of head 1 at chunk 0 of a block. -/
theorem fold_st_0_1 (C : Vec Ideal S128x128 .f32) (S : Vec Ideal S128x128 .f32) (K : Vec Ideal S128x128 .f32) (V : Vec Ideal S128x128 .f32) (z : Vec Ideal S1x1x128x128 .f32) (d : Vec Ideal S1x1x128x128 .f32) (st : Vec Ideal S1x128x128 .f32) :
    k0_pay22 (k0_pay13 C S K) (k0_pay14 z) (k0_pay16 d) (k0_pay18 V) (k0_pay19 st) = stepV C S K V z d st := rfl

/-- The rows of head 1 at chunk 0 of a block. -/
theorem fold_out_0_1 (C : Vec Ideal S128x128 .f32) (S : Vec Ideal S128x128 .f32) (Q : Vec Ideal S128x128 .f32) (K : Vec Ideal S128x128 .f32) (V : Vec Ideal S128x128 .f32) (D : Vec Ideal S1x128x128 .f32) (x : Vec Ideal S1x1x128x128 .f32) (st : Vec Ideal S1x128x128 .f32) (w : Vec Ideal S1x128 .f32) (G : Vec Ideal S128x128 .f32) :
    k0_pay23 (k0_pay15 x) (k0_pay17 C S Q) (k0_pay20 C S Q K V D) (k0_pay21 st) w G = outV C S Q K V D x st w G := rfl

/-- The state of head 2 at chunk 0 of a block. -/
theorem fold_st_0_2 (C : Vec Ideal S128x128 .f32) (S : Vec Ideal S128x128 .f32) (K : Vec Ideal S128x128 .f32) (V : Vec Ideal S128x128 .f32) (z : Vec Ideal S1x1x128x128 .f32) (d : Vec Ideal S1x1x128x128 .f32) (st : Vec Ideal S1x128x128 .f32) :
    k0_pay30 (k0_pay29 C S K V z d st) = stepV C S K V z d st := rfl

/-- The rows of head 2 at chunk 0 of a block. -/
theorem fold_out_0_2 (C : Vec Ideal S128x128 .f32) (S : Vec Ideal S128x128 .f32) (Q : Vec Ideal S128x128 .f32) (K : Vec Ideal S128x128 .f32) (V : Vec Ideal S128x128 .f32) (D : Vec Ideal S1x128x128 .f32) (x : Vec Ideal S1x1x128x128 .f32) (st : Vec Ideal S1x128x128 .f32) (w : Vec Ideal S1x128 .f32) (G : Vec Ideal S128x128 .f32) :
    k0_pay31 (k0_pay28 C S K V (k0_pay24 C S Q) x D st) w G = outV C S Q K V D x st w G := rfl

/-- The state of head 3 at chunk 0 of a block. -/
theorem fold_st_0_3 (C : Vec Ideal S128x128 .f32) (S : Vec Ideal S128x128 .f32) (K : Vec Ideal S128x128 .f32) (V : Vec Ideal S128x128 .f32) (z : Vec Ideal S1x1x128x128 .f32) (d : Vec Ideal S1x1x128x128 .f32) (st : Vec Ideal S1x128x128 .f32) :
    k0_pay38 V (k0_pay33 C S K) (k0_pay34 z) d st = stepV C S K V z d st := rfl

/-- The rows of head 3 at chunk 0 of a block. -/
theorem fold_out_0_3 (C : Vec Ideal S128x128 .f32) (S : Vec Ideal S128x128 .f32) (Q : Vec Ideal S128x128 .f32) (K : Vec Ideal S128x128 .f32) (V : Vec Ideal S128x128 .f32) (D : Vec Ideal S1x128x128 .f32) (x : Vec Ideal S1x1x128x128 .f32) (st : Vec Ideal S1x128x128 .f32) (w : Vec Ideal S1x128 .f32) (G : Vec Ideal S128x128 .f32) :
    k0_pay40 (k0_pay37 V (k0_pay32 C S Q) (k0_pay33 C S K) x D st) (k0_pay39 V (k0_pay32 C S Q) (k0_pay33 C S K) x D st) w G = outV C S Q K V D x st w G := rfl

/-- The state of head 0 at chunk 1 of a block. -/
theorem fold_st_1_0 (C : Vec Ideal S128x128 .f32) (S : Vec Ideal S128x128 .f32) (K : Vec Ideal S128x128 .f32) (V : Vec Ideal S128x128 .f32) (z : Vec Ideal S1x1x128x128 .f32) (d : Vec Ideal S1x1x128x128 .f32) (st : Vec Ideal S1x128x128 .f32) :
    k0_pay47 V (k0_pay42 C S K) (k0_pay43 z) d st = stepV C S K V z d st := rfl

/-- The rows of head 0 at chunk 1 of a block. -/
theorem fold_out_1_0 (C : Vec Ideal S128x128 .f32) (S : Vec Ideal S128x128 .f32) (Q : Vec Ideal S128x128 .f32) (K : Vec Ideal S128x128 .f32) (V : Vec Ideal S128x128 .f32) (D : Vec Ideal S1x128x128 .f32) (x : Vec Ideal S1x1x128x128 .f32) (st : Vec Ideal S1x128x128 .f32) (w : Vec Ideal S1x128 .f32) (G : Vec Ideal S128x128 .f32) :
    k0_pay49 (k0_pay48 V (k0_pay41 C S Q) (k0_pay42 C S K) (k0_pay44 x) D st w) G = outV C S Q K V D x st w G := rfl

/-- The state of head 1 at chunk 1 of a block. -/
theorem fold_st_1_1 (C : Vec Ideal S128x128 .f32) (S : Vec Ideal S128x128 .f32) (K : Vec Ideal S128x128 .f32) (V : Vec Ideal S128x128 .f32) (z : Vec Ideal S1x1x128x128 .f32) (d : Vec Ideal S1x1x128x128 .f32) (st : Vec Ideal S1x128x128 .f32) :
    k0_pay59 (k0_pay50 C S K) (k0_pay51 z) (k0_pay53 d) (k0_pay55 V) st = stepV C S K V z d st := rfl

/-- The rows of head 1 at chunk 1 of a block. -/
theorem fold_out_1_1 (C : Vec Ideal S128x128 .f32) (S : Vec Ideal S128x128 .f32) (Q : Vec Ideal S128x128 .f32) (K : Vec Ideal S128x128 .f32) (V : Vec Ideal S128x128 .f32) (D : Vec Ideal S1x128x128 .f32) (x : Vec Ideal S1x1x128x128 .f32) (st : Vec Ideal S1x128x128 .f32) (w : Vec Ideal S1x128 .f32) (G : Vec Ideal S128x128 .f32) :
    k0_pay60 (k0_pay52 x) (k0_pay54 C S Q) (k0_pay55 V) (k0_pay56 C S Q K) (k0_pay57 D) st w G = outV C S Q K V D x st w G := rfl

/-- The state of head 2 at chunk 1 of a block. -/
theorem fold_st_1_2 (C : Vec Ideal S128x128 .f32) (S : Vec Ideal S128x128 .f32) (K : Vec Ideal S128x128 .f32) (V : Vec Ideal S128x128 .f32) (z : Vec Ideal S1x1x128x128 .f32) (d : Vec Ideal S1x1x128x128 .f32) (st : Vec Ideal S1x128x128 .f32) :
    k0_pay67 (k0_pay61 C S K) (k0_pay62 z) (k0_pay63 d) (k0_pay64 V) (k0_pay65 st) = stepV C S K V z d st := rfl

/-- The rows of head 2 at chunk 1 of a block. -/
theorem fold_out_1_2 (C : Vec Ideal S128x128 .f32) (S : Vec Ideal S128x128 .f32) (Q : Vec Ideal S128x128 .f32) (K : Vec Ideal S128x128 .f32) (V : Vec Ideal S128x128 .f32) (D : Vec Ideal S1x128x128 .f32) (x : Vec Ideal S1x1x128x128 .f32) (st : Vec Ideal S1x128x128 .f32) (w : Vec Ideal S1x128 .f32) (G : Vec Ideal S128x128 .f32) :
    k0_pay68 (k0_pay66 C S Q K V x D st) w G = outV C S Q K V D x st w G := rfl

/-- The state of head 3 at chunk 1 of a block. -/
theorem fold_st_1_3 (C : Vec Ideal S128x128 .f32) (S : Vec Ideal S128x128 .f32) (K : Vec Ideal S128x128 .f32) (V : Vec Ideal S128x128 .f32) (z : Vec Ideal S1x1x128x128 .f32) (d : Vec Ideal S1x1x128x128 .f32) (st : Vec Ideal S1x128x128 .f32) :
    k0_pay75 S K V (k0_pay70 C K) z d st = stepV C S K V z d st := rfl

/-- The rows of head 3 at chunk 1 of a block. -/
theorem fold_out_1_3 (C : Vec Ideal S128x128 .f32) (S : Vec Ideal S128x128 .f32) (Q : Vec Ideal S128x128 .f32) (K : Vec Ideal S128x128 .f32) (V : Vec Ideal S128x128 .f32) (D : Vec Ideal S1x128x128 .f32) (x : Vec Ideal S1x1x128x128 .f32) (st : Vec Ideal S1x128x128 .f32) (w : Vec Ideal S1x128 .f32) (G : Vec Ideal S128x128 .f32) :
    k0_pay77 (k0_pay74 S K V (k0_pay69 C S Q) (k0_pay70 C K) x D st) (k0_pay76 S K V (k0_pay69 C S Q) (k0_pay70 C K) x D st) w G = outV C S Q K V D x st w G := rfl

/-- The state of head 0 at chunk 2 of a block. -/
theorem fold_st_2_0 (C : Vec Ideal S128x128 .f32) (S : Vec Ideal S128x128 .f32) (K : Vec Ideal S128x128 .f32) (V : Vec Ideal S128x128 .f32) (z : Vec Ideal S1x1x128x128 .f32) (d : Vec Ideal S1x1x128x128 .f32) (st : Vec Ideal S1x128x128 .f32) :
    k0_pay83 V (k0_pay79 C S K) z d st = stepV C S K V z d st := rfl

/-- The rows of head 0 at chunk 2 of a block. -/
theorem fold_out_2_0 (C : Vec Ideal S128x128 .f32) (S : Vec Ideal S128x128 .f32) (Q : Vec Ideal S128x128 .f32) (K : Vec Ideal S128x128 .f32) (V : Vec Ideal S128x128 .f32) (D : Vec Ideal S1x128x128 .f32) (x : Vec Ideal S1x1x128x128 .f32) (st : Vec Ideal S1x128x128 .f32) (w : Vec Ideal S1x128 .f32) (G : Vec Ideal S128x128 .f32) :
    k0_pay86 (k0_pay82 V (k0_pay78 C S Q) (k0_pay79 C S K) x D st) (k0_pay84 V (k0_pay78 C S Q) (k0_pay79 C S K) x D st) (k0_pay85 (F := Ideal)) w G = outV C S Q K V D x st w G := rfl

/-- The state of head 1 at chunk 2 of a block. -/
theorem fold_st_2_1 (C : Vec Ideal S128x128 .f32) (S : Vec Ideal S128x128 .f32) (K : Vec Ideal S128x128 .f32) (V : Vec Ideal S128x128 .f32) (z : Vec Ideal S1x1x128x128 .f32) (d : Vec Ideal S1x1x128x128 .f32) (st : Vec Ideal S1x128x128 .f32) :
    k0_pay94 V (k0_pay88 C S K) (k0_pay89 z) (k0_pay91 d) st = stepV C S K V z d st := rfl

/-- The rows of head 1 at chunk 2 of a block. -/
theorem fold_out_2_1 (C : Vec Ideal S128x128 .f32) (S : Vec Ideal S128x128 .f32) (Q : Vec Ideal S128x128 .f32) (K : Vec Ideal S128x128 .f32) (V : Vec Ideal S128x128 .f32) (D : Vec Ideal S1x128x128 .f32) (x : Vec Ideal S1x1x128x128 .f32) (st : Vec Ideal S1x128x128 .f32) (w : Vec Ideal S1x128 .f32) (G : Vec Ideal S128x128 .f32) :
    k0_pay97 (k0_pay95 V (k0_pay87 C S Q) (k0_pay88 C S K) (k0_pay90 x) D st w) G (k0_pay96 G) = outV C S Q K V D x st w G := rfl

/-- The state of head 2 at chunk 2 of a block. -/
theorem fold_st_2_2 (C : Vec Ideal S128x128 .f32) (S : Vec Ideal S128x128 .f32) (K : Vec Ideal S128x128 .f32) (V : Vec Ideal S128x128 .f32) (z : Vec Ideal S1x1x128x128 .f32) (d : Vec Ideal S1x1x128x128 .f32) (st : Vec Ideal S1x128x128 .f32) :
    k0_pay106 (k0_pay98 C S K) (k0_pay99 z) (k0_pay101 d) (k0_pay103 V) st = stepV C S K V z d st := rfl

/-- The rows of head 2 at chunk 2 of a block. -/
theorem fold_out_2_2 (C : Vec Ideal S128x128 .f32) (S : Vec Ideal S128x128 .f32) (Q : Vec Ideal S128x128 .f32) (K : Vec Ideal S128x128 .f32) (V : Vec Ideal S128x128 .f32) (D : Vec Ideal S1x128x128 .f32) (x : Vec Ideal S1x1x128x128 .f32) (st : Vec Ideal S1x128x128 .f32) (w : Vec Ideal S1x128 .f32) (G : Vec Ideal S128x128 .f32) :
    k0_pay107 (k0_pay100 x) (k0_pay102 C S Q) (k0_pay103 V) (k0_pay104 C S Q K D) st w G = outV C S Q K V D x st w G := rfl

/-- The state of head 3 at chunk 2 of a block. -/
theorem fold_st_2_3 (C : Vec Ideal S128x128 .f32) (S : Vec Ideal S128x128 .f32) (K : Vec Ideal S128x128 .f32) (V : Vec Ideal S128x128 .f32) (z : Vec Ideal S1x1x128x128 .f32) (d : Vec Ideal S1x1x128x128 .f32) (st : Vec Ideal S1x128x128 .f32) :
    k0_pay114 (k0_pay109 V) (k0_pay112 d st) (k0_pay113 C S K z) (constant (F := Ideal) S128x128 .f32 0#32) = stepV C S K V z d st := rfl

/-- The rows of head 3 at chunk 2 of a block. -/
theorem fold_out_2_3 (C : Vec Ideal S128x128 .f32) (S : Vec Ideal S128x128 .f32) (Q : Vec Ideal S128x128 .f32) (K : Vec Ideal S128x128 .f32) (V : Vec Ideal S128x128 .f32) (D : Vec Ideal S1x128x128 .f32) (x : Vec Ideal S1x1x128x128 .f32) (st : Vec Ideal S1x128x128 .f32) (w : Vec Ideal S1x128 .f32) (G : Vec Ideal S128x128 .f32) :
    k0_pay115 (k0_pay111 C S Q K V x D st) w G = outV C S Q K V D x st w G := rfl

/-- The state of head 0 at chunk 3 of a block. -/
theorem fold_st_3_0 (C : Vec Ideal S128x128 .f32) (S : Vec Ideal S128x128 .f32) (K : Vec Ideal S128x128 .f32) (V : Vec Ideal S128x128 .f32) (z : Vec Ideal S1x1x128x128 .f32) (d : Vec Ideal S1x1x128x128 .f32) (st : Vec Ideal S1x128x128 .f32) :
    k0_pay122 C S K V z d st = stepV C S K V z d st := rfl

/-- The rows of head 0 at chunk 3 of a block. -/
theorem fold_out_3_0 (C : Vec Ideal S128x128 .f32) (S : Vec Ideal S128x128 .f32) (Q : Vec Ideal S128x128 .f32) (K : Vec Ideal S128x128 .f32) (V : Vec Ideal S128x128 .f32) (D : Vec Ideal S1x128x128 .f32) (x : Vec Ideal S1x1x128x128 .f32) (st : Vec Ideal S1x128x128 .f32) (w : Vec Ideal S1x128 .f32) (G : Vec Ideal S128x128 .f32) :
    k0_pay123 (k0_pay121 C S K V (k0_pay116 C S Q) (k0_pay117 (F := Ideal)) x D st) w G = outV C S Q K V D x st w G := rfl

/-- The state of head 1 at chunk 3 of a block. -/
theorem fold_st_3_1 (C : Vec Ideal S128x128 .f32) (S : Vec Ideal S128x128 .f32) (K : Vec Ideal S128x128 .f32) (V : Vec Ideal S128x128 .f32) (z : Vec Ideal S1x1x128x128 .f32) (d : Vec Ideal S1x1x128x128 .f32) (st : Vec Ideal S1x128x128 .f32) :
    k0_pay129 V (k0_pay125 C S K) (k0_pay126 z) d st = stepV C S K V z d st := rfl

/-- The rows of head 1 at chunk 3 of a block. -/
theorem fold_out_3_1 (C : Vec Ideal S128x128 .f32) (S : Vec Ideal S128x128 .f32) (Q : Vec Ideal S128x128 .f32) (K : Vec Ideal S128x128 .f32) (V : Vec Ideal S128x128 .f32) (D : Vec Ideal S1x128x128 .f32) (x : Vec Ideal S1x1x128x128 .f32) (st : Vec Ideal S1x128x128 .f32) (w : Vec Ideal S1x128 .f32) (G : Vec Ideal S128x128 .f32) :
    k0_pay131 (k0_pay130 V (k0_pay124 C S Q) (k0_pay125 C S K) x D st) w G = outV C S Q K V D x st w G := rfl

/-- The state of head 2 at chunk 3 of a block. -/
theorem fold_st_3_2 (C : Vec Ideal S128x128 .f32) (S : Vec Ideal S128x128 .f32) (K : Vec Ideal S128x128 .f32) (V : Vec Ideal S128x128 .f32) (z : Vec Ideal S1x1x128x128 .f32) (d : Vec Ideal S1x1x128x128 .f32) (st : Vec Ideal S1x128x128 .f32) :
    k0_pay140 (k0_pay132 C S K) (k0_pay133 z) (k0_pay135 d) (k0_pay138 V) st = stepV C S K V z d st := rfl

/-- The rows of head 2 at chunk 3 of a block. -/
theorem fold_out_3_2 (C : Vec Ideal S128x128 .f32) (S : Vec Ideal S128x128 .f32) (Q : Vec Ideal S128x128 .f32) (K : Vec Ideal S128x128 .f32) (V : Vec Ideal S128x128 .f32) (D : Vec Ideal S1x128x128 .f32) (x : Vec Ideal S1x1x128x128 .f32) (st : Vec Ideal S1x128x128 .f32) (w : Vec Ideal S1x128 .f32) (G : Vec Ideal S128x128 .f32) :
    k0_pay141 (k0_pay134 x) (k0_pay136 C S Q) (k0_pay137 C S K) (k0_pay138 V) (constant (F := Ideal) S128x128 .f32 0#32) D st w G = outV C S Q K V D x st w G := rfl

/-- The state of head 3 at chunk 3 of a block. -/
theorem fold_st_3_3 (C : Vec Ideal S128x128 .f32) (S : Vec Ideal S128x128 .f32) (K : Vec Ideal S128x128 .f32) (V : Vec Ideal S128x128 .f32) (z : Vec Ideal S1x1x128x128 .f32) (d : Vec Ideal S1x1x128x128 .f32) (st : Vec Ideal S1x128x128 .f32) :
    k0_pay150 (k0_pay142 C S K) (k0_pay143 z) (k0_pay145 d) (k0_pay147 V) (k0_pay148 st) = stepV C S K V z d st := rfl

/-- The rows of head 3 at chunk 3 of a block. -/
theorem fold_out_3_3 (C : Vec Ideal S128x128 .f32) (S : Vec Ideal S128x128 .f32) (Q : Vec Ideal S128x128 .f32) (K : Vec Ideal S128x128 .f32) (V : Vec Ideal S128x128 .f32) (D : Vec Ideal S1x128x128 .f32) (x : Vec Ideal S1x1x128x128 .f32) (st : Vec Ideal S1x128x128 .f32) (w : Vec Ideal S1x128 .f32) (G : Vec Ideal S128x128 .f32) :
    k0_pay1 (k0_pay151 (k0_pay144 x) (k0_pay146 C S Q) (k0_pay147 V) (k0_pay148 st) (k0_pay149 C S Q K D) (constant (F := Ideal) S128x128 .f32 0#32)) w G = outV C S Q K V D x st w G := rfl

end Cert.KernelIdeal.RetTile

end
-- ==== Proof.RetPoint.lean ====
/-
  The retention's grid point: on blocks that are 512 rows of a sequence, the rows a point stores and the state it leaves
  are the result and the state of the recurrence over the chunks.
-/
module

public import proofs.«01_k».proof.Proof.Gen.KernelIdeal.Frame
public import proofs.«01_k».proof.Proof.RetFold
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.RetPoint

open Cert.KernelIdeal Cert.KernelIdeal.Gen Cert.KernelIdeal.RetTile Cert.Ret

/-- The blocks are rows `512 i …` of sequence `b`, of the projections and the tables, and the constants' arrays. -/
structure Rows (P : Proj) (Ct St : Tab) (w : Fin 4 → Fin 128 → EReal) (dm : Fin 4 → Fin 128 → Fin 128 → EReal)
    (ze xi : Fin 4 → Fin 128 → EReal) (cd : Fin 4 → EReal) (b i : ℕ)
    (x0 x1 x2 x3 : Vec Ideal S512x512 .f32) (x4 x5 : Vec Ideal S512x128 .f32) (x6 : Vec Ideal S4x128x128 .f32)
    (x7 : Vec Ideal S4x3x128x128 .f32) (x8 : Vec Ideal S1x512 .f32) : Prop where
  q : ∀ (a h : Fin 4) (r j : Fin 128) (R k : Fin 512), R.val = a.val * 128 + r.val → k.val = h.val * 128 + j.val →
    x0 (ix2 R k) = P (ix2 (row b (i * 4 + a.val) r) (col 0 h j))
  k : ∀ (a h : Fin 4) (r j : Fin 128) (R k : Fin 512), R.val = a.val * 128 + r.val → k.val = h.val * 128 + j.val →
    x1 (ix2 R k) = P (ix2 (row b (i * 4 + a.val) r) (col 1 h j))
  v : ∀ (a h : Fin 4) (r j : Fin 128) (R k : Fin 512), R.val = a.val * 128 + r.val → k.val = h.val * 128 + j.val →
    x2 (ix2 R k) = P (ix2 (row b (i * 4 + a.val) r) (col 2 h j))
  g : ∀ (a h : Fin 4) (r j : Fin 128) (R k : Fin 512), R.val = a.val * 128 + r.val → k.val = h.val * 128 + j.val →
    x3 (ix2 R k) = P (ix2 (row b (i * 4 + a.val) r) (col 3 h j))
  cs : ∀ (a : Fin 4) (r : Fin 128) (R : Fin 512) (j : Fin 128), R.val = a.val * 128 + r.val →
    x4 (ix2 R j) = Ct (ix2 (row b (i * 4 + a.val) r) j)
  sn : ∀ (a : Fin 4) (r : Fin 128) (R : Fin 512) (j : Fin 128), R.val = a.val * 128 + r.val →
    x5 (ix2 R j) = St (ix2 (row b (i * 4 + a.val) r) j)
  dm : ∀ (h H : Fin 4) (r s : Fin 128), H.val = h.val → x6 (ix3 H r s) = dm h r s
  ze : ∀ (h H : Fin 4) (r j : Fin 128), H.val = h.val → x7 (ix4 H 0 r j) = ze h r
  xi : ∀ (h H : Fin 4) (r j : Fin 128), H.val = h.val → x7 (ix4 H 1 r j) = xi h r
  cd : ∀ (h H : Fin 4) (r j : Fin 128), H.val = h.val → x7 (ix4 H 2 r j) = cd h
  w : ∀ (h : Fin 4) (j : Fin 128) (k : Fin 512), k.val = h.val * 128 + j.val → x8 (ix2 0 k) = w h j

variable {P : Proj} {Ct St : Tab} {w : Fin 4 → Fin 128 → EReal} {dm : Fin 4 → Fin 128 → Fin 128 → EReal}
  {ze xi : Fin 4 → Fin 128 → EReal} {cd : Fin 4 → EReal} {b i : ℕ}
  {x0 x1 x2 x3 : Vec Ideal S512x512 .f32} {x4 x5 : Vec Ideal S512x128 .f32} {x6 : Vec Ideal S4x128x128 .f32}
  {x7 : Vec Ideal S4x3x128x128 .f32} {x8 : Vec Ideal S1x512 .f32}

/-- The state's rectangle of head `h` places its index's second coordinate. -/
theorem emb_1 {o : ℕ} {inb} (x : S1x128x128.Idx) : ((Rect.unit (s := S4x128x128) ![o, 0, 0] ![1, 128, 128] inb).emb x 1).val = (x 1).val := by
  simp
/-- The same rectangle places its index's third coordinate. -/
theorem emb_2 {o : ℕ} {inb} (x : S1x128x128.Idx) : ((Rect.unit (s := S4x128x128) ![o, 0, 0] ![1, 128, 128] inb).emb x 2).val = (x 2).val := by
  simp
/-- Every index of the rectangle of head `h` has first coordinate `h`. -/
theorem emb_0 {o h : ℕ} {inb} (e : o = h) (x : S1x128x128.Idx) : ((Rect.unit (s := S4x128x128) ![o, 0, 0] ![1, 128, 128] inb).emb x 0).val = h := by
  simpa using e

set_option maxHeartbeats 3200000 in
/-- The state left at a later point of a sequence is the recurrence after the block's four chunks. -/
theorem st_B (c : Dev nD) (t : Fin cfg0.N) (h0 : ¬t.val % 8 = 0) (S : Vec Ideal S4x128x128 .f32)
    (B : Rows P Ct St w dm ze xi cd b i x0 x1 x2 x3 x4 x5 x6 x7 x8)
    (E : ∀ (h H : Fin 4) (r j : Fin 128), H.val = h.val → S (ix3 H r j) = state P Ct St ze cd b h (i * 4) r j)
    (G : S4x128x128.Idx → EReal)
    (D : ∀ (h : Fin 4) (r j : Fin 128) (y : S4x128x128.Idx), (y 0).val = h.val → (y 1).val = r.val → (y 2).val = j.val →
      G y = state P Ct St ze cd b h (i * 4 + 4) r j) (y : S4x128x128.Idx) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) x0 x1 x2 x3 x4 x5 x6 x7 x8 S y = G y := by
  frame_open
  simp (disch := decide) only [↓ View.readCov_skip, ↓ View.readCov_cons_toLoadRect, ↓ View.readCov_fill]
  frame_out
  simp only [read_unread_whole]
  simp only [fold_st_0_0, fold_st_0_1, fold_st_0_2, fold_st_0_3, fold_st_1_0, fold_st_1_1, fold_st_1_2, fold_st_1_3, fold_st_2_0, fold_st_2_1, fold_st_2_2, fold_st_2_3, fold_st_3_0, fold_st_3_1, fold_st_3_2, fold_st_3_3]
  refine View.canon_append_of_piecesOf (Val := Elt Ideal) (e := .f32) G _ [_, _, _, _] ⟨?_, ?_, ?_, ?_, trivial⟩ y ?_
  · intro (x : S1x128x128.Idx)
    refine Eq.trans ?_ (D 3 (x 1) (x 2) _ ?_ ?_ ?_).symm
    rotate_left
    · exact emb_0 (inb := inb_S4x128x128_S1x128x128_3_0_0) rfl x
    · exact emb_1 (inb := inb_S4x128x128_S1x128x128_3_0_0) x
    · exact emb_2 (inb := inb_S4x128x128_S1x128x128_3_0_0) x
    obtain ⟨r, j, rfl⟩ : ∃ r j, x = ix3 0 r j := ⟨x 1, x 2, (eq_ix3 x).trans (congrArg (ix3 · _ _) (Subsingleton.elim _ _))⟩
    exact step_at (n := i * 4 + 3) (fun r j => by pointwise []; exact B.cs 3 r _ j (by simp)) (fun r j => by pointwise []; exact B.sn 3 r _ j (by simp))
        (fun r j => by pointwise []; exact B.k 3 3 r j _ _ (by simp) (by simp))
        (fun r j => by pointwise []; exact B.v 3 3 r j _ _ (by simp) (by simp))
        (fun r j => by pointwise []; exact B.ze 3 _ r j (by simp)) (fun r j => by pointwise []; exact B.cd 3 _ r j (by simp))
        (step_at (n := i * 4 + 2) (fun r j => by pointwise []; exact B.cs 2 r _ j (by simp)) (fun r j => by pointwise []; exact B.sn 2 r _ j (by simp))
          (fun r j => by pointwise []; exact B.k 2 3 r j _ _ (by simp) (by simp))
          (fun r j => by pointwise []; exact B.v 2 3 r j _ _ (by simp) (by simp))
          (fun r j => by pointwise []; exact B.ze 3 _ r j (by simp)) (fun r j => by pointwise []; exact B.cd 3 _ r j (by simp))
          (step_at (n := i * 4 + 1) (fun r j => by pointwise []; exact B.cs 1 r _ j (by simp)) (fun r j => by pointwise []; exact B.sn 1 r _ j (by simp))
            (fun r j => by pointwise []; exact B.k 1 3 r j _ _ (by simp) (by simp))
            (fun r j => by pointwise []; exact B.v 1 3 r j _ _ (by simp) (by simp))
            (fun r j => by pointwise []; exact B.ze 3 _ r j (by simp)) (fun r j => by pointwise []; exact B.cd 3 _ r j (by simp))
            (step_at (n := i * 4 + 0) (fun r j => by pointwise []; exact B.cs 0 r _ j (by simp)) (fun r j => by pointwise []; exact B.sn 0 r _ j (by simp))
              (fun r j => by pointwise []; exact B.k 0 3 r j _ _ (by simp) (by simp))
              (fun r j => by pointwise []; exact B.v 0 3 r j _ _ (by simp) (by simp))
              (fun r j => by pointwise []; exact B.ze 3 _ r j (by simp)) (fun r j => by pointwise []; exact B.cd 3 _ r j (by simp))
              (fun r j => by pointwise []; exact E 3 _ r j (by simp))))) r j
  · intro (x : S1x128x128.Idx)
    refine Eq.trans ?_ (D 2 (x 1) (x 2) _ ?_ ?_ ?_).symm
    rotate_left
    · exact emb_0 (inb := inb_S4x128x128_S1x128x128_2_0_0) rfl x
    · exact emb_1 (inb := inb_S4x128x128_S1x128x128_2_0_0) x
    · exact emb_2 (inb := inb_S4x128x128_S1x128x128_2_0_0) x
    obtain ⟨r, j, rfl⟩ : ∃ r j, x = ix3 0 r j := ⟨x 1, x 2, (eq_ix3 x).trans (congrArg (ix3 · _ _) (Subsingleton.elim _ _))⟩
    exact step_at (n := i * 4 + 3) (fun r j => by pointwise []; exact B.cs 3 r _ j (by simp)) (fun r j => by pointwise []; exact B.sn 3 r _ j (by simp))
        (fun r j => by pointwise []; exact B.k 3 2 r j _ _ (by simp) (by simp))
        (fun r j => by pointwise []; exact B.v 3 2 r j _ _ (by simp) (by simp))
        (fun r j => by pointwise []; exact B.ze 2 _ r j (by simp)) (fun r j => by pointwise []; exact B.cd 2 _ r j (by simp))
        (step_at (n := i * 4 + 2) (fun r j => by pointwise []; exact B.cs 2 r _ j (by simp)) (fun r j => by pointwise []; exact B.sn 2 r _ j (by simp))
          (fun r j => by pointwise []; exact B.k 2 2 r j _ _ (by simp) (by simp))
          (fun r j => by pointwise []; exact B.v 2 2 r j _ _ (by simp) (by simp))
          (fun r j => by pointwise []; exact B.ze 2 _ r j (by simp)) (fun r j => by pointwise []; exact B.cd 2 _ r j (by simp))
          (step_at (n := i * 4 + 1) (fun r j => by pointwise []; exact B.cs 1 r _ j (by simp)) (fun r j => by pointwise []; exact B.sn 1 r _ j (by simp))
            (fun r j => by pointwise []; exact B.k 1 2 r j _ _ (by simp) (by simp))
            (fun r j => by pointwise []; exact B.v 1 2 r j _ _ (by simp) (by simp))
            (fun r j => by pointwise []; exact B.ze 2 _ r j (by simp)) (fun r j => by pointwise []; exact B.cd 2 _ r j (by simp))
            (step_at (n := i * 4 + 0) (fun r j => by pointwise []; exact B.cs 0 r _ j (by simp)) (fun r j => by pointwise []; exact B.sn 0 r _ j (by simp))
              (fun r j => by pointwise []; exact B.k 0 2 r j _ _ (by simp) (by simp))
              (fun r j => by pointwise []; exact B.v 0 2 r j _ _ (by simp) (by simp))
              (fun r j => by pointwise []; exact B.ze 2 _ r j (by simp)) (fun r j => by pointwise []; exact B.cd 2 _ r j (by simp))
              (fun r j => by pointwise []; exact E 2 _ r j (by simp))))) r j
  · intro (x : S1x128x128.Idx)
    refine Eq.trans ?_ (D 1 (x 1) (x 2) _ ?_ ?_ ?_).symm
    rotate_left
    · exact emb_0 (inb := inb_S4x128x128_S1x128x128_1_0_0) rfl x
    · exact emb_1 (inb := inb_S4x128x128_S1x128x128_1_0_0) x
    · exact emb_2 (inb := inb_S4x128x128_S1x128x128_1_0_0) x
    obtain ⟨r, j, rfl⟩ : ∃ r j, x = ix3 0 r j := ⟨x 1, x 2, (eq_ix3 x).trans (congrArg (ix3 · _ _) (Subsingleton.elim _ _))⟩
    exact step_at (n := i * 4 + 3) (fun r j => by pointwise []; exact B.cs 3 r _ j (by simp)) (fun r j => by pointwise []; exact B.sn 3 r _ j (by simp))
        (fun r j => by pointwise []; exact B.k 3 1 r j _ _ (by simp) (by simp))
        (fun r j => by pointwise []; exact B.v 3 1 r j _ _ (by simp) (by simp))
        (fun r j => by pointwise []; exact B.ze 1 _ r j (by simp)) (fun r j => by pointwise []; exact B.cd 1 _ r j (by simp))
        (step_at (n := i * 4 + 2) (fun r j => by pointwise []; exact B.cs 2 r _ j (by simp)) (fun r j => by pointwise []; exact B.sn 2 r _ j (by simp))
          (fun r j => by pointwise []; exact B.k 2 1 r j _ _ (by simp) (by simp))
          (fun r j => by pointwise []; exact B.v 2 1 r j _ _ (by simp) (by simp))
          (fun r j => by pointwise []; exact B.ze 1 _ r j (by simp)) (fun r j => by pointwise []; exact B.cd 1 _ r j (by simp))
          (step_at (n := i * 4 + 1) (fun r j => by pointwise []; exact B.cs 1 r _ j (by simp)) (fun r j => by pointwise []; exact B.sn 1 r _ j (by simp))
            (fun r j => by pointwise []; exact B.k 1 1 r j _ _ (by simp) (by simp))
            (fun r j => by pointwise []; exact B.v 1 1 r j _ _ (by simp) (by simp))
            (fun r j => by pointwise []; exact B.ze 1 _ r j (by simp)) (fun r j => by pointwise []; exact B.cd 1 _ r j (by simp))
            (step_at (n := i * 4 + 0) (fun r j => by pointwise []; exact B.cs 0 r _ j (by simp)) (fun r j => by pointwise []; exact B.sn 0 r _ j (by simp))
              (fun r j => by pointwise []; exact B.k 0 1 r j _ _ (by simp) (by simp))
              (fun r j => by pointwise []; exact B.v 0 1 r j _ _ (by simp) (by simp))
              (fun r j => by pointwise []; exact B.ze 1 _ r j (by simp)) (fun r j => by pointwise []; exact B.cd 1 _ r j (by simp))
              (fun r j => by pointwise []; exact E 1 _ r j (by simp))))) r j
  · intro (x : S1x128x128.Idx)
    refine Eq.trans ?_ (D 0 (x 1) (x 2) _ ?_ ?_ ?_).symm
    rotate_left
    · exact emb_0 (inb := inb_S4x128x128_S1x128x128_0_0_0) rfl x
    · exact emb_1 (inb := inb_S4x128x128_S1x128x128_0_0_0) x
    · exact emb_2 (inb := inb_S4x128x128_S1x128x128_0_0_0) x
    obtain ⟨r, j, rfl⟩ : ∃ r j, x = ix3 0 r j := ⟨x 1, x 2, (eq_ix3 x).trans (congrArg (ix3 · _ _) (Subsingleton.elim _ _))⟩
    exact step_at (n := i * 4 + 3) (fun r j => by pointwise []; exact B.cs 3 r _ j (by simp)) (fun r j => by pointwise []; exact B.sn 3 r _ j (by simp))
        (fun r j => by pointwise []; exact B.k 3 0 r j _ _ (by simp) (by simp))
        (fun r j => by pointwise []; exact B.v 3 0 r j _ _ (by simp) (by simp))
        (fun r j => by pointwise []; exact B.ze 0 _ r j (by simp)) (fun r j => by pointwise []; exact B.cd 0 _ r j (by simp))
        (step_at (n := i * 4 + 2) (fun r j => by pointwise []; exact B.cs 2 r _ j (by simp)) (fun r j => by pointwise []; exact B.sn 2 r _ j (by simp))
          (fun r j => by pointwise []; exact B.k 2 0 r j _ _ (by simp) (by simp))
          (fun r j => by pointwise []; exact B.v 2 0 r j _ _ (by simp) (by simp))
          (fun r j => by pointwise []; exact B.ze 0 _ r j (by simp)) (fun r j => by pointwise []; exact B.cd 0 _ r j (by simp))
          (step_at (n := i * 4 + 1) (fun r j => by pointwise []; exact B.cs 1 r _ j (by simp)) (fun r j => by pointwise []; exact B.sn 1 r _ j (by simp))
            (fun r j => by pointwise []; exact B.k 1 0 r j _ _ (by simp) (by simp))
            (fun r j => by pointwise []; exact B.v 1 0 r j _ _ (by simp) (by simp))
            (fun r j => by pointwise []; exact B.ze 0 _ r j (by simp)) (fun r j => by pointwise []; exact B.cd 0 _ r j (by simp))
            (step_at (n := i * 4 + 0) (fun r j => by pointwise []; exact B.cs 0 r _ j (by simp)) (fun r j => by pointwise []; exact B.sn 0 r _ j (by simp))
              (fun r j => by pointwise []; exact B.k 0 0 r j _ _ (by simp) (by simp))
              (fun r j => by pointwise []; exact B.v 0 0 r j _ _ (by simp) (by simp))
              (fun r j => by pointwise []; exact B.ze 0 _ r j (by simp)) (fun r j => by pointwise []; exact B.cd 0 _ r j (by simp))
              (fun r j => by pointwise []; exact E 0 _ r j (by simp))))) r j
  · exact View.cover_of_tiledL (s := S4x128x128) _ S1x128x128.size (by sl_kernel_rfl) y

set_option maxHeartbeats 3200000 in
/-- The state left at the first point of a sequence is the recurrence after the block's four chunks. -/
theorem st_A (c : Dev nD) (t : Fin cfg0.N) (h0 : t.val % 8 = 0)
    (B : Rows P Ct St w dm ze xi cd b i x0 x1 x2 x3 x4 x5 x6 x7 x8)
    (E : ∀ (h H : Fin 4) (r j : Fin 128), H.val = h.val → k0_pay2 (F := Ideal) (ix3 H r j) = state P Ct St ze cd b h (i * 4) r j)
    (G : S4x128x128.Idx → EReal)
    (D : ∀ (h : Fin 4) (r j : Fin 128) (y : S4x128x128.Idx), (y 0).val = h.val → (y 1).val = r.val → (y 2).val = j.val →
      G y = state P Ct St ze cd b h (i * 4 + 4) r j) (y : S4x128x128.Idx) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) x0 x1 x2 x3 x4 x5 x6 x7 x8 y = G y := by
  frame_open
  simp (disch := decide) only [↓ View.readCov_skip, ↓ View.readCov_cons_toLoadRect, ↓ View.readCov_fill]
  frame_out
  generalize k0_pay2 (F := Ideal) = S at E ⊢
  simp only [fold_st_0_0, fold_st_0_1, fold_st_0_2, fold_st_0_3, fold_st_1_0, fold_st_1_1, fold_st_1_2, fold_st_1_3, fold_st_2_0, fold_st_2_1, fold_st_2_2, fold_st_2_3, fold_st_3_0, fold_st_3_1, fold_st_3_2, fold_st_3_3]
  refine View.canon_append_of_piecesOf (Val := Elt Ideal) (e := .f32) G _ [_, _, _, _] ⟨?_, ?_, ?_, ?_, trivial⟩ y ?_
  · intro (x : S1x128x128.Idx)
    refine Eq.trans ?_ (D 3 (x 1) (x 2) _ ?_ ?_ ?_).symm
    rotate_left
    · exact emb_0 (inb := inb_S4x128x128_S1x128x128_3_0_0) rfl x
    · exact emb_1 (inb := inb_S4x128x128_S1x128x128_3_0_0) x
    · exact emb_2 (inb := inb_S4x128x128_S1x128x128_3_0_0) x
    obtain ⟨r, j, rfl⟩ : ∃ r j, x = ix3 0 r j := ⟨x 1, x 2, (eq_ix3 x).trans (congrArg (ix3 · _ _) (Subsingleton.elim _ _))⟩
    exact step_at (n := i * 4 + 3) (fun r j => by pointwise []; exact B.cs 3 r _ j (by simp)) (fun r j => by pointwise []; exact B.sn 3 r _ j (by simp))
        (fun r j => by pointwise []; exact B.k 3 3 r j _ _ (by simp) (by simp))
        (fun r j => by pointwise []; exact B.v 3 3 r j _ _ (by simp) (by simp))
        (fun r j => by pointwise []; exact B.ze 3 _ r j (by simp)) (fun r j => by pointwise []; exact B.cd 3 _ r j (by simp))
        (step_at (n := i * 4 + 2) (fun r j => by pointwise []; exact B.cs 2 r _ j (by simp)) (fun r j => by pointwise []; exact B.sn 2 r _ j (by simp))
          (fun r j => by pointwise []; exact B.k 2 3 r j _ _ (by simp) (by simp))
          (fun r j => by pointwise []; exact B.v 2 3 r j _ _ (by simp) (by simp))
          (fun r j => by pointwise []; exact B.ze 3 _ r j (by simp)) (fun r j => by pointwise []; exact B.cd 3 _ r j (by simp))
          (step_at (n := i * 4 + 1) (fun r j => by pointwise []; exact B.cs 1 r _ j (by simp)) (fun r j => by pointwise []; exact B.sn 1 r _ j (by simp))
            (fun r j => by pointwise []; exact B.k 1 3 r j _ _ (by simp) (by simp))
            (fun r j => by pointwise []; exact B.v 1 3 r j _ _ (by simp) (by simp))
            (fun r j => by pointwise []; exact B.ze 3 _ r j (by simp)) (fun r j => by pointwise []; exact B.cd 3 _ r j (by simp))
            (step_at (n := i * 4 + 0) (fun r j => by pointwise []; exact B.cs 0 r _ j (by simp)) (fun r j => by pointwise []; exact B.sn 0 r _ j (by simp))
              (fun r j => by pointwise []; exact B.k 0 3 r j _ _ (by simp) (by simp))
              (fun r j => by pointwise []; exact B.v 0 3 r j _ _ (by simp) (by simp))
              (fun r j => by pointwise []; exact B.ze 3 _ r j (by simp)) (fun r j => by pointwise []; exact B.cd 3 _ r j (by simp))
              (fun r j => by pointwise []; exact E 3 _ r j (by simp))))) r j
  · intro (x : S1x128x128.Idx)
    refine Eq.trans ?_ (D 2 (x 1) (x 2) _ ?_ ?_ ?_).symm
    rotate_left
    · exact emb_0 (inb := inb_S4x128x128_S1x128x128_2_0_0) rfl x
    · exact emb_1 (inb := inb_S4x128x128_S1x128x128_2_0_0) x
    · exact emb_2 (inb := inb_S4x128x128_S1x128x128_2_0_0) x
    obtain ⟨r, j, rfl⟩ : ∃ r j, x = ix3 0 r j := ⟨x 1, x 2, (eq_ix3 x).trans (congrArg (ix3 · _ _) (Subsingleton.elim _ _))⟩
    exact step_at (n := i * 4 + 3) (fun r j => by pointwise []; exact B.cs 3 r _ j (by simp)) (fun r j => by pointwise []; exact B.sn 3 r _ j (by simp))
        (fun r j => by pointwise []; exact B.k 3 2 r j _ _ (by simp) (by simp))
        (fun r j => by pointwise []; exact B.v 3 2 r j _ _ (by simp) (by simp))
        (fun r j => by pointwise []; exact B.ze 2 _ r j (by simp)) (fun r j => by pointwise []; exact B.cd 2 _ r j (by simp))
        (step_at (n := i * 4 + 2) (fun r j => by pointwise []; exact B.cs 2 r _ j (by simp)) (fun r j => by pointwise []; exact B.sn 2 r _ j (by simp))
          (fun r j => by pointwise []; exact B.k 2 2 r j _ _ (by simp) (by simp))
          (fun r j => by pointwise []; exact B.v 2 2 r j _ _ (by simp) (by simp))
          (fun r j => by pointwise []; exact B.ze 2 _ r j (by simp)) (fun r j => by pointwise []; exact B.cd 2 _ r j (by simp))
          (step_at (n := i * 4 + 1) (fun r j => by pointwise []; exact B.cs 1 r _ j (by simp)) (fun r j => by pointwise []; exact B.sn 1 r _ j (by simp))
            (fun r j => by pointwise []; exact B.k 1 2 r j _ _ (by simp) (by simp))
            (fun r j => by pointwise []; exact B.v 1 2 r j _ _ (by simp) (by simp))
            (fun r j => by pointwise []; exact B.ze 2 _ r j (by simp)) (fun r j => by pointwise []; exact B.cd 2 _ r j (by simp))
            (step_at (n := i * 4 + 0) (fun r j => by pointwise []; exact B.cs 0 r _ j (by simp)) (fun r j => by pointwise []; exact B.sn 0 r _ j (by simp))
              (fun r j => by pointwise []; exact B.k 0 2 r j _ _ (by simp) (by simp))
              (fun r j => by pointwise []; exact B.v 0 2 r j _ _ (by simp) (by simp))
              (fun r j => by pointwise []; exact B.ze 2 _ r j (by simp)) (fun r j => by pointwise []; exact B.cd 2 _ r j (by simp))
              (fun r j => by pointwise []; exact E 2 _ r j (by simp))))) r j
  · intro (x : S1x128x128.Idx)
    refine Eq.trans ?_ (D 1 (x 1) (x 2) _ ?_ ?_ ?_).symm
    rotate_left
    · exact emb_0 (inb := inb_S4x128x128_S1x128x128_1_0_0) rfl x
    · exact emb_1 (inb := inb_S4x128x128_S1x128x128_1_0_0) x
    · exact emb_2 (inb := inb_S4x128x128_S1x128x128_1_0_0) x
    obtain ⟨r, j, rfl⟩ : ∃ r j, x = ix3 0 r j := ⟨x 1, x 2, (eq_ix3 x).trans (congrArg (ix3 · _ _) (Subsingleton.elim _ _))⟩
    exact step_at (n := i * 4 + 3) (fun r j => by pointwise []; exact B.cs 3 r _ j (by simp)) (fun r j => by pointwise []; exact B.sn 3 r _ j (by simp))
        (fun r j => by pointwise []; exact B.k 3 1 r j _ _ (by simp) (by simp))
        (fun r j => by pointwise []; exact B.v 3 1 r j _ _ (by simp) (by simp))
        (fun r j => by pointwise []; exact B.ze 1 _ r j (by simp)) (fun r j => by pointwise []; exact B.cd 1 _ r j (by simp))
        (step_at (n := i * 4 + 2) (fun r j => by pointwise []; exact B.cs 2 r _ j (by simp)) (fun r j => by pointwise []; exact B.sn 2 r _ j (by simp))
          (fun r j => by pointwise []; exact B.k 2 1 r j _ _ (by simp) (by simp))
          (fun r j => by pointwise []; exact B.v 2 1 r j _ _ (by simp) (by simp))
          (fun r j => by pointwise []; exact B.ze 1 _ r j (by simp)) (fun r j => by pointwise []; exact B.cd 1 _ r j (by simp))
          (step_at (n := i * 4 + 1) (fun r j => by pointwise []; exact B.cs 1 r _ j (by simp)) (fun r j => by pointwise []; exact B.sn 1 r _ j (by simp))
            (fun r j => by pointwise []; exact B.k 1 1 r j _ _ (by simp) (by simp))
            (fun r j => by pointwise []; exact B.v 1 1 r j _ _ (by simp) (by simp))
            (fun r j => by pointwise []; exact B.ze 1 _ r j (by simp)) (fun r j => by pointwise []; exact B.cd 1 _ r j (by simp))
            (step_at (n := i * 4 + 0) (fun r j => by pointwise []; exact B.cs 0 r _ j (by simp)) (fun r j => by pointwise []; exact B.sn 0 r _ j (by simp))
              (fun r j => by pointwise []; exact B.k 0 1 r j _ _ (by simp) (by simp))
              (fun r j => by pointwise []; exact B.v 0 1 r j _ _ (by simp) (by simp))
              (fun r j => by pointwise []; exact B.ze 1 _ r j (by simp)) (fun r j => by pointwise []; exact B.cd 1 _ r j (by simp))
              (fun r j => by pointwise []; exact E 1 _ r j (by simp))))) r j
  · intro (x : S1x128x128.Idx)
    refine Eq.trans ?_ (D 0 (x 1) (x 2) _ ?_ ?_ ?_).symm
    rotate_left
    · exact emb_0 (inb := inb_S4x128x128_S1x128x128_0_0_0) rfl x
    · exact emb_1 (inb := inb_S4x128x128_S1x128x128_0_0_0) x
    · exact emb_2 (inb := inb_S4x128x128_S1x128x128_0_0_0) x
    obtain ⟨r, j, rfl⟩ : ∃ r j, x = ix3 0 r j := ⟨x 1, x 2, (eq_ix3 x).trans (congrArg (ix3 · _ _) (Subsingleton.elim _ _))⟩
    exact step_at (n := i * 4 + 3) (fun r j => by pointwise []; exact B.cs 3 r _ j (by simp)) (fun r j => by pointwise []; exact B.sn 3 r _ j (by simp))
        (fun r j => by pointwise []; exact B.k 3 0 r j _ _ (by simp) (by simp))
        (fun r j => by pointwise []; exact B.v 3 0 r j _ _ (by simp) (by simp))
        (fun r j => by pointwise []; exact B.ze 0 _ r j (by simp)) (fun r j => by pointwise []; exact B.cd 0 _ r j (by simp))
        (step_at (n := i * 4 + 2) (fun r j => by pointwise []; exact B.cs 2 r _ j (by simp)) (fun r j => by pointwise []; exact B.sn 2 r _ j (by simp))
          (fun r j => by pointwise []; exact B.k 2 0 r j _ _ (by simp) (by simp))
          (fun r j => by pointwise []; exact B.v 2 0 r j _ _ (by simp) (by simp))
          (fun r j => by pointwise []; exact B.ze 0 _ r j (by simp)) (fun r j => by pointwise []; exact B.cd 0 _ r j (by simp))
          (step_at (n := i * 4 + 1) (fun r j => by pointwise []; exact B.cs 1 r _ j (by simp)) (fun r j => by pointwise []; exact B.sn 1 r _ j (by simp))
            (fun r j => by pointwise []; exact B.k 1 0 r j _ _ (by simp) (by simp))
            (fun r j => by pointwise []; exact B.v 1 0 r j _ _ (by simp) (by simp))
            (fun r j => by pointwise []; exact B.ze 0 _ r j (by simp)) (fun r j => by pointwise []; exact B.cd 0 _ r j (by simp))
            (step_at (n := i * 4 + 0) (fun r j => by pointwise []; exact B.cs 0 r _ j (by simp)) (fun r j => by pointwise []; exact B.sn 0 r _ j (by simp))
              (fun r j => by pointwise []; exact B.k 0 0 r j _ _ (by simp) (by simp))
              (fun r j => by pointwise []; exact B.v 0 0 r j _ _ (by simp) (by simp))
              (fun r j => by pointwise []; exact B.ze 0 _ r j (by simp)) (fun r j => by pointwise []; exact B.cd 0 _ r j (by simp))
              (fun r j => by pointwise []; exact E 0 _ r j (by simp))))) r j
  · exact View.cover_of_tiledL (s := S4x128x128) _ S1x128x128.size (by sl_kernel_rfl) y

set_option maxHeartbeats 3200000 in
/-- The rows stored at a later point of a sequence are the result, at any array of it the rows are. -/
theorem out_B (c : Dev nD) (t : Fin cfg0.N) (h0 : ¬t.val % 8 = 0) (S : Vec Ideal S4x128x128 .f32)
    (B : Rows P Ct St w dm ze xi cd b i x0 x1 x2 x3 x4 x5 x6 x7 x8)
    (E : ∀ (h H : Fin 4) (r j : Fin 128), H.val = h.val → S (ix3 H r j) = state P Ct St ze cd b h (i * 4) r j)
    (G : S512x512.Idx → EReal)
    (D : ∀ (a h : Fin 4) (r j : Fin 128) (y : S512x512.Idx), (y 0).val = a.val * 128 + r.val → (y 1).val = h.val * 128 + j.val →
      G y = result P Ct St w dm ze xi cd b h (i * 4 + a.val) r j) (y : S512x512.Idx) :
    out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) x0 x1 x2 x3 x4 x5 x6 x7 x8 S y = G y := by
  frame_open
  simp (disch := decide) only [↓ View.readCov_skip, ↓ View.readCov_cons_toLoadRect, ↓ View.readCov_fill]
  frame_out
  simp only [read_unread_whole]
  simp only [fold_st_0_0, fold_st_0_1, fold_st_0_2, fold_st_0_3, fold_st_1_0, fold_st_1_1, fold_st_1_2, fold_st_1_3, fold_st_2_0, fold_st_2_1, fold_st_2_2, fold_st_2_3, fold_st_3_0, fold_st_3_1, fold_st_3_2, fold_st_3_3]
  simp only [fold_out_0_0, fold_out_0_1, fold_out_0_2, fold_out_0_3, fold_out_1_0, fold_out_1_1, fold_out_1_2, fold_out_1_3, fold_out_2_0, fold_out_2_1, fold_out_2_2, fold_out_2_3, fold_out_3_0, fold_out_3_1, fold_out_3_2, fold_out_3_3]
  canon_tiles x h
  · refine Eq.trans ?_ (D 3 3 (x 0) (x 1) y (by first | exact h0 | simp; omega) (by first | exact h1 | simp; omega)).symm
    obtain ⟨r, j, rfl⟩ : ∃ r j, x = ix2 r j := ⟨_, _, eq_ix2 x⟩
    exact out_at (n := i * 4 + 3) (fun r j => by pointwise []; exact B.cs 3 r _ j (by simp)) (fun r j => by pointwise []; exact B.sn 3 r _ j (by simp))
      (fun r j => by pointwise []; exact B.q 3 3 r j _ _ (by simp) (by simp))
      (fun r j => by pointwise []; exact B.k 3 3 r j _ _ (by simp) (by simp))
      (fun r j => by pointwise []; exact B.v 3 3 r j _ _ (by simp) (by simp))
      (fun r j => by pointwise []; exact B.dm 3 _ r j (by simp)) (fun r j => by pointwise []; exact B.xi 3 _ r j (by simp))
      (step_at (n := i * 4 + 2) (fun r j => by pointwise []; exact B.cs 2 r _ j (by simp)) (fun r j => by pointwise []; exact B.sn 2 r _ j (by simp))
        (fun r j => by pointwise []; exact B.k 2 3 r j _ _ (by simp) (by simp))
        (fun r j => by pointwise []; exact B.v 2 3 r j _ _ (by simp) (by simp))
        (fun r j => by pointwise []; exact B.ze 3 _ r j (by simp)) (fun r j => by pointwise []; exact B.cd 3 _ r j (by simp))
        (step_at (n := i * 4 + 1) (fun r j => by pointwise []; exact B.cs 1 r _ j (by simp)) (fun r j => by pointwise []; exact B.sn 1 r _ j (by simp))
          (fun r j => by pointwise []; exact B.k 1 3 r j _ _ (by simp) (by simp))
          (fun r j => by pointwise []; exact B.v 1 3 r j _ _ (by simp) (by simp))
          (fun r j => by pointwise []; exact B.ze 3 _ r j (by simp)) (fun r j => by pointwise []; exact B.cd 3 _ r j (by simp))
          (step_at (n := i * 4 + 0) (fun r j => by pointwise []; exact B.cs 0 r _ j (by simp)) (fun r j => by pointwise []; exact B.sn 0 r _ j (by simp))
            (fun r j => by pointwise []; exact B.k 0 3 r j _ _ (by simp) (by simp))
            (fun r j => by pointwise []; exact B.v 0 3 r j _ _ (by simp) (by simp))
            (fun r j => by pointwise []; exact B.ze 3 _ r j (by simp)) (fun r j => by pointwise []; exact B.cd 3 _ r j (by simp))
            (fun r j => by pointwise []; exact E 3 _ r j (by simp)))))
      (fun j => by pointwise []; exact B.w 3 j _ (by simp))
      (fun r j => by pointwise []; exact B.g 3 3 r j _ _ (by simp) (by simp)) r j
  · refine Eq.trans ?_ (D 3 2 (x 0) (x 1) y (by first | exact h0 | simp; omega) (by first | exact h1 | simp; omega)).symm
    obtain ⟨r, j, rfl⟩ : ∃ r j, x = ix2 r j := ⟨_, _, eq_ix2 x⟩
    exact out_at (n := i * 4 + 3) (fun r j => by pointwise []; exact B.cs 3 r _ j (by simp)) (fun r j => by pointwise []; exact B.sn 3 r _ j (by simp))
      (fun r j => by pointwise []; exact B.q 3 2 r j _ _ (by simp) (by simp))
      (fun r j => by pointwise []; exact B.k 3 2 r j _ _ (by simp) (by simp))
      (fun r j => by pointwise []; exact B.v 3 2 r j _ _ (by simp) (by simp))
      (fun r j => by pointwise []; exact B.dm 2 _ r j (by simp)) (fun r j => by pointwise []; exact B.xi 2 _ r j (by simp))
      (step_at (n := i * 4 + 2) (fun r j => by pointwise []; exact B.cs 2 r _ j (by simp)) (fun r j => by pointwise []; exact B.sn 2 r _ j (by simp))
        (fun r j => by pointwise []; exact B.k 2 2 r j _ _ (by simp) (by simp))
        (fun r j => by pointwise []; exact B.v 2 2 r j _ _ (by simp) (by simp))
        (fun r j => by pointwise []; exact B.ze 2 _ r j (by simp)) (fun r j => by pointwise []; exact B.cd 2 _ r j (by simp))
        (step_at (n := i * 4 + 1) (fun r j => by pointwise []; exact B.cs 1 r _ j (by simp)) (fun r j => by pointwise []; exact B.sn 1 r _ j (by simp))
          (fun r j => by pointwise []; exact B.k 1 2 r j _ _ (by simp) (by simp))
          (fun r j => by pointwise []; exact B.v 1 2 r j _ _ (by simp) (by simp))
          (fun r j => by pointwise []; exact B.ze 2 _ r j (by simp)) (fun r j => by pointwise []; exact B.cd 2 _ r j (by simp))
          (step_at (n := i * 4 + 0) (fun r j => by pointwise []; exact B.cs 0 r _ j (by simp)) (fun r j => by pointwise []; exact B.sn 0 r _ j (by simp))
            (fun r j => by pointwise []; exact B.k 0 2 r j _ _ (by simp) (by simp))
            (fun r j => by pointwise []; exact B.v 0 2 r j _ _ (by simp) (by simp))
            (fun r j => by pointwise []; exact B.ze 2 _ r j (by simp)) (fun r j => by pointwise []; exact B.cd 2 _ r j (by simp))
            (fun r j => by pointwise []; exact E 2 _ r j (by simp)))))
      (fun j => by pointwise []; exact B.w 2 j _ (by simp))
      (fun r j => by pointwise []; exact B.g 3 2 r j _ _ (by simp) (by simp)) r j
  · refine Eq.trans ?_ (D 3 1 (x 0) (x 1) y (by first | exact h0 | simp; omega) (by first | exact h1 | simp; omega)).symm
    obtain ⟨r, j, rfl⟩ : ∃ r j, x = ix2 r j := ⟨_, _, eq_ix2 x⟩
    exact out_at (n := i * 4 + 3) (fun r j => by pointwise []; exact B.cs 3 r _ j (by simp)) (fun r j => by pointwise []; exact B.sn 3 r _ j (by simp))
      (fun r j => by pointwise []; exact B.q 3 1 r j _ _ (by simp) (by simp))
      (fun r j => by pointwise []; exact B.k 3 1 r j _ _ (by simp) (by simp))
      (fun r j => by pointwise []; exact B.v 3 1 r j _ _ (by simp) (by simp))
      (fun r j => by pointwise []; exact B.dm 1 _ r j (by simp)) (fun r j => by pointwise []; exact B.xi 1 _ r j (by simp))
      (step_at (n := i * 4 + 2) (fun r j => by pointwise []; exact B.cs 2 r _ j (by simp)) (fun r j => by pointwise []; exact B.sn 2 r _ j (by simp))
        (fun r j => by pointwise []; exact B.k 2 1 r j _ _ (by simp) (by simp))
        (fun r j => by pointwise []; exact B.v 2 1 r j _ _ (by simp) (by simp))
        (fun r j => by pointwise []; exact B.ze 1 _ r j (by simp)) (fun r j => by pointwise []; exact B.cd 1 _ r j (by simp))
        (step_at (n := i * 4 + 1) (fun r j => by pointwise []; exact B.cs 1 r _ j (by simp)) (fun r j => by pointwise []; exact B.sn 1 r _ j (by simp))
          (fun r j => by pointwise []; exact B.k 1 1 r j _ _ (by simp) (by simp))
          (fun r j => by pointwise []; exact B.v 1 1 r j _ _ (by simp) (by simp))
          (fun r j => by pointwise []; exact B.ze 1 _ r j (by simp)) (fun r j => by pointwise []; exact B.cd 1 _ r j (by simp))
          (step_at (n := i * 4 + 0) (fun r j => by pointwise []; exact B.cs 0 r _ j (by simp)) (fun r j => by pointwise []; exact B.sn 0 r _ j (by simp))
            (fun r j => by pointwise []; exact B.k 0 1 r j _ _ (by simp) (by simp))
            (fun r j => by pointwise []; exact B.v 0 1 r j _ _ (by simp) (by simp))
            (fun r j => by pointwise []; exact B.ze 1 _ r j (by simp)) (fun r j => by pointwise []; exact B.cd 1 _ r j (by simp))
            (fun r j => by pointwise []; exact E 1 _ r j (by simp)))))
      (fun j => by pointwise []; exact B.w 1 j _ (by simp))
      (fun r j => by pointwise []; exact B.g 3 1 r j _ _ (by simp) (by simp)) r j
  · refine Eq.trans ?_ (D 3 0 (x 0) (x 1) y (by first | exact h0 | simp; omega) (by first | exact h1 | simp; omega)).symm
    obtain ⟨r, j, rfl⟩ : ∃ r j, x = ix2 r j := ⟨_, _, eq_ix2 x⟩
    exact out_at (n := i * 4 + 3) (fun r j => by pointwise []; exact B.cs 3 r _ j (by simp)) (fun r j => by pointwise []; exact B.sn 3 r _ j (by simp))
      (fun r j => by pointwise []; exact B.q 3 0 r j _ _ (by simp) (by simp))
      (fun r j => by pointwise []; exact B.k 3 0 r j _ _ (by simp) (by simp))
      (fun r j => by pointwise []; exact B.v 3 0 r j _ _ (by simp) (by simp))
      (fun r j => by pointwise []; exact B.dm 0 _ r j (by simp)) (fun r j => by pointwise []; exact B.xi 0 _ r j (by simp))
      (step_at (n := i * 4 + 2) (fun r j => by pointwise []; exact B.cs 2 r _ j (by simp)) (fun r j => by pointwise []; exact B.sn 2 r _ j (by simp))
        (fun r j => by pointwise []; exact B.k 2 0 r j _ _ (by simp) (by simp))
        (fun r j => by pointwise []; exact B.v 2 0 r j _ _ (by simp) (by simp))
        (fun r j => by pointwise []; exact B.ze 0 _ r j (by simp)) (fun r j => by pointwise []; exact B.cd 0 _ r j (by simp))
        (step_at (n := i * 4 + 1) (fun r j => by pointwise []; exact B.cs 1 r _ j (by simp)) (fun r j => by pointwise []; exact B.sn 1 r _ j (by simp))
          (fun r j => by pointwise []; exact B.k 1 0 r j _ _ (by simp) (by simp))
          (fun r j => by pointwise []; exact B.v 1 0 r j _ _ (by simp) (by simp))
          (fun r j => by pointwise []; exact B.ze 0 _ r j (by simp)) (fun r j => by pointwise []; exact B.cd 0 _ r j (by simp))
          (step_at (n := i * 4 + 0) (fun r j => by pointwise []; exact B.cs 0 r _ j (by simp)) (fun r j => by pointwise []; exact B.sn 0 r _ j (by simp))
            (fun r j => by pointwise []; exact B.k 0 0 r j _ _ (by simp) (by simp))
            (fun r j => by pointwise []; exact B.v 0 0 r j _ _ (by simp) (by simp))
            (fun r j => by pointwise []; exact B.ze 0 _ r j (by simp)) (fun r j => by pointwise []; exact B.cd 0 _ r j (by simp))
            (fun r j => by pointwise []; exact E 0 _ r j (by simp)))))
      (fun j => by pointwise []; exact B.w 0 j _ (by simp))
      (fun r j => by pointwise []; exact B.g 3 0 r j _ _ (by simp) (by simp)) r j
  · refine Eq.trans ?_ (D 2 3 (x 0) (x 1) y (by first | exact h0 | simp; omega) (by first | exact h1 | simp; omega)).symm
    obtain ⟨r, j, rfl⟩ : ∃ r j, x = ix2 r j := ⟨_, _, eq_ix2 x⟩
    exact out_at (n := i * 4 + 2) (fun r j => by pointwise []; exact B.cs 2 r _ j (by simp)) (fun r j => by pointwise []; exact B.sn 2 r _ j (by simp))
      (fun r j => by pointwise []; exact B.q 2 3 r j _ _ (by simp) (by simp))
      (fun r j => by pointwise []; exact B.k 2 3 r j _ _ (by simp) (by simp))
      (fun r j => by pointwise []; exact B.v 2 3 r j _ _ (by simp) (by simp))
      (fun r j => by pointwise []; exact B.dm 3 _ r j (by simp)) (fun r j => by pointwise []; exact B.xi 3 _ r j (by simp))
      (step_at (n := i * 4 + 1) (fun r j => by pointwise []; exact B.cs 1 r _ j (by simp)) (fun r j => by pointwise []; exact B.sn 1 r _ j (by simp))
        (fun r j => by pointwise []; exact B.k 1 3 r j _ _ (by simp) (by simp))
        (fun r j => by pointwise []; exact B.v 1 3 r j _ _ (by simp) (by simp))
        (fun r j => by pointwise []; exact B.ze 3 _ r j (by simp)) (fun r j => by pointwise []; exact B.cd 3 _ r j (by simp))
        (step_at (n := i * 4 + 0) (fun r j => by pointwise []; exact B.cs 0 r _ j (by simp)) (fun r j => by pointwise []; exact B.sn 0 r _ j (by simp))
          (fun r j => by pointwise []; exact B.k 0 3 r j _ _ (by simp) (by simp))
          (fun r j => by pointwise []; exact B.v 0 3 r j _ _ (by simp) (by simp))
          (fun r j => by pointwise []; exact B.ze 3 _ r j (by simp)) (fun r j => by pointwise []; exact B.cd 3 _ r j (by simp))
          (fun r j => by pointwise []; exact E 3 _ r j (by simp))))
      (fun j => by pointwise []; exact B.w 3 j _ (by simp))
      (fun r j => by pointwise []; exact B.g 2 3 r j _ _ (by simp) (by simp)) r j
  · refine Eq.trans ?_ (D 2 2 (x 0) (x 1) y (by first | exact h0 | simp; omega) (by first | exact h1 | simp; omega)).symm
    obtain ⟨r, j, rfl⟩ : ∃ r j, x = ix2 r j := ⟨_, _, eq_ix2 x⟩
    exact out_at (n := i * 4 + 2) (fun r j => by pointwise []; exact B.cs 2 r _ j (by simp)) (fun r j => by pointwise []; exact B.sn 2 r _ j (by simp))
      (fun r j => by pointwise []; exact B.q 2 2 r j _ _ (by simp) (by simp))
      (fun r j => by pointwise []; exact B.k 2 2 r j _ _ (by simp) (by simp))
      (fun r j => by pointwise []; exact B.v 2 2 r j _ _ (by simp) (by simp))
      (fun r j => by pointwise []; exact B.dm 2 _ r j (by simp)) (fun r j => by pointwise []; exact B.xi 2 _ r j (by simp))
      (step_at (n := i * 4 + 1) (fun r j => by pointwise []; exact B.cs 1 r _ j (by simp)) (fun r j => by pointwise []; exact B.sn 1 r _ j (by simp))
        (fun r j => by pointwise []; exact B.k 1 2 r j _ _ (by simp) (by simp))
        (fun r j => by pointwise []; exact B.v 1 2 r j _ _ (by simp) (by simp))
        (fun r j => by pointwise []; exact B.ze 2 _ r j (by simp)) (fun r j => by pointwise []; exact B.cd 2 _ r j (by simp))
        (step_at (n := i * 4 + 0) (fun r j => by pointwise []; exact B.cs 0 r _ j (by simp)) (fun r j => by pointwise []; exact B.sn 0 r _ j (by simp))
          (fun r j => by pointwise []; exact B.k 0 2 r j _ _ (by simp) (by simp))
          (fun r j => by pointwise []; exact B.v 0 2 r j _ _ (by simp) (by simp))
          (fun r j => by pointwise []; exact B.ze 2 _ r j (by simp)) (fun r j => by pointwise []; exact B.cd 2 _ r j (by simp))
          (fun r j => by pointwise []; exact E 2 _ r j (by simp))))
      (fun j => by pointwise []; exact B.w 2 j _ (by simp))
      (fun r j => by pointwise []; exact B.g 2 2 r j _ _ (by simp) (by simp)) r j
  · refine Eq.trans ?_ (D 2 1 (x 0) (x 1) y (by first | exact h0 | simp; omega) (by first | exact h1 | simp; omega)).symm
    obtain ⟨r, j, rfl⟩ : ∃ r j, x = ix2 r j := ⟨_, _, eq_ix2 x⟩
    exact out_at (n := i * 4 + 2) (fun r j => by pointwise []; exact B.cs 2 r _ j (by simp)) (fun r j => by pointwise []; exact B.sn 2 r _ j (by simp))
      (fun r j => by pointwise []; exact B.q 2 1 r j _ _ (by simp) (by simp))
      (fun r j => by pointwise []; exact B.k 2 1 r j _ _ (by simp) (by simp))
      (fun r j => by pointwise []; exact B.v 2 1 r j _ _ (by simp) (by simp))
      (fun r j => by pointwise []; exact B.dm 1 _ r j (by simp)) (fun r j => by pointwise []; exact B.xi 1 _ r j (by simp))
      (step_at (n := i * 4 + 1) (fun r j => by pointwise []; exact B.cs 1 r _ j (by simp)) (fun r j => by pointwise []; exact B.sn 1 r _ j (by simp))
        (fun r j => by pointwise []; exact B.k 1 1 r j _ _ (by simp) (by simp))
        (fun r j => by pointwise []; exact B.v 1 1 r j _ _ (by simp) (by simp))
        (fun r j => by pointwise []; exact B.ze 1 _ r j (by simp)) (fun r j => by pointwise []; exact B.cd 1 _ r j (by simp))
        (step_at (n := i * 4 + 0) (fun r j => by pointwise []; exact B.cs 0 r _ j (by simp)) (fun r j => by pointwise []; exact B.sn 0 r _ j (by simp))
          (fun r j => by pointwise []; exact B.k 0 1 r j _ _ (by simp) (by simp))
          (fun r j => by pointwise []; exact B.v 0 1 r j _ _ (by simp) (by simp))
          (fun r j => by pointwise []; exact B.ze 1 _ r j (by simp)) (fun r j => by pointwise []; exact B.cd 1 _ r j (by simp))
          (fun r j => by pointwise []; exact E 1 _ r j (by simp))))
      (fun j => by pointwise []; exact B.w 1 j _ (by simp))
      (fun r j => by pointwise []; exact B.g 2 1 r j _ _ (by simp) (by simp)) r j
  · refine Eq.trans ?_ (D 2 0 (x 0) (x 1) y (by first | exact h0 | simp; omega) (by first | exact h1 | simp; omega)).symm
    obtain ⟨r, j, rfl⟩ : ∃ r j, x = ix2 r j := ⟨_, _, eq_ix2 x⟩
    exact out_at (n := i * 4 + 2) (fun r j => by pointwise []; exact B.cs 2 r _ j (by simp)) (fun r j => by pointwise []; exact B.sn 2 r _ j (by simp))
      (fun r j => by pointwise []; exact B.q 2 0 r j _ _ (by simp) (by simp))
      (fun r j => by pointwise []; exact B.k 2 0 r j _ _ (by simp) (by simp))
      (fun r j => by pointwise []; exact B.v 2 0 r j _ _ (by simp) (by simp))
      (fun r j => by pointwise []; exact B.dm 0 _ r j (by simp)) (fun r j => by pointwise []; exact B.xi 0 _ r j (by simp))
      (step_at (n := i * 4 + 1) (fun r j => by pointwise []; exact B.cs 1 r _ j (by simp)) (fun r j => by pointwise []; exact B.sn 1 r _ j (by simp))
        (fun r j => by pointwise []; exact B.k 1 0 r j _ _ (by simp) (by simp))
        (fun r j => by pointwise []; exact B.v 1 0 r j _ _ (by simp) (by simp))
        (fun r j => by pointwise []; exact B.ze 0 _ r j (by simp)) (fun r j => by pointwise []; exact B.cd 0 _ r j (by simp))
        (step_at (n := i * 4 + 0) (fun r j => by pointwise []; exact B.cs 0 r _ j (by simp)) (fun r j => by pointwise []; exact B.sn 0 r _ j (by simp))
          (fun r j => by pointwise []; exact B.k 0 0 r j _ _ (by simp) (by simp))
          (fun r j => by pointwise []; exact B.v 0 0 r j _ _ (by simp) (by simp))
          (fun r j => by pointwise []; exact B.ze 0 _ r j (by simp)) (fun r j => by pointwise []; exact B.cd 0 _ r j (by simp))
          (fun r j => by pointwise []; exact E 0 _ r j (by simp))))
      (fun j => by pointwise []; exact B.w 0 j _ (by simp))
      (fun r j => by pointwise []; exact B.g 2 0 r j _ _ (by simp) (by simp)) r j
  · refine Eq.trans ?_ (D 1 3 (x 0) (x 1) y (by first | exact h0 | simp; omega) (by first | exact h1 | simp; omega)).symm
    obtain ⟨r, j, rfl⟩ : ∃ r j, x = ix2 r j := ⟨_, _, eq_ix2 x⟩
    exact out_at (n := i * 4 + 1) (fun r j => by pointwise []; exact B.cs 1 r _ j (by simp)) (fun r j => by pointwise []; exact B.sn 1 r _ j (by simp))
      (fun r j => by pointwise []; exact B.q 1 3 r j _ _ (by simp) (by simp))
      (fun r j => by pointwise []; exact B.k 1 3 r j _ _ (by simp) (by simp))
      (fun r j => by pointwise []; exact B.v 1 3 r j _ _ (by simp) (by simp))
      (fun r j => by pointwise []; exact B.dm 3 _ r j (by simp)) (fun r j => by pointwise []; exact B.xi 3 _ r j (by simp))
      (step_at (n := i * 4 + 0) (fun r j => by pointwise []; exact B.cs 0 r _ j (by simp)) (fun r j => by pointwise []; exact B.sn 0 r _ j (by simp))
        (fun r j => by pointwise []; exact B.k 0 3 r j _ _ (by simp) (by simp))
        (fun r j => by pointwise []; exact B.v 0 3 r j _ _ (by simp) (by simp))
        (fun r j => by pointwise []; exact B.ze 3 _ r j (by simp)) (fun r j => by pointwise []; exact B.cd 3 _ r j (by simp))
        (fun r j => by pointwise []; exact E 3 _ r j (by simp)))
      (fun j => by pointwise []; exact B.w 3 j _ (by simp))
      (fun r j => by pointwise []; exact B.g 1 3 r j _ _ (by simp) (by simp)) r j
  · refine Eq.trans ?_ (D 1 2 (x 0) (x 1) y (by first | exact h0 | simp; omega) (by first | exact h1 | simp; omega)).symm
    obtain ⟨r, j, rfl⟩ : ∃ r j, x = ix2 r j := ⟨_, _, eq_ix2 x⟩
    exact out_at (n := i * 4 + 1) (fun r j => by pointwise []; exact B.cs 1 r _ j (by simp)) (fun r j => by pointwise []; exact B.sn 1 r _ j (by simp))
      (fun r j => by pointwise []; exact B.q 1 2 r j _ _ (by simp) (by simp))
      (fun r j => by pointwise []; exact B.k 1 2 r j _ _ (by simp) (by simp))
      (fun r j => by pointwise []; exact B.v 1 2 r j _ _ (by simp) (by simp))
      (fun r j => by pointwise []; exact B.dm 2 _ r j (by simp)) (fun r j => by pointwise []; exact B.xi 2 _ r j (by simp))
      (step_at (n := i * 4 + 0) (fun r j => by pointwise []; exact B.cs 0 r _ j (by simp)) (fun r j => by pointwise []; exact B.sn 0 r _ j (by simp))
        (fun r j => by pointwise []; exact B.k 0 2 r j _ _ (by simp) (by simp))
        (fun r j => by pointwise []; exact B.v 0 2 r j _ _ (by simp) (by simp))
        (fun r j => by pointwise []; exact B.ze 2 _ r j (by simp)) (fun r j => by pointwise []; exact B.cd 2 _ r j (by simp))
        (fun r j => by pointwise []; exact E 2 _ r j (by simp)))
      (fun j => by pointwise []; exact B.w 2 j _ (by simp))
      (fun r j => by pointwise []; exact B.g 1 2 r j _ _ (by simp) (by simp)) r j
  · refine Eq.trans ?_ (D 1 1 (x 0) (x 1) y (by first | exact h0 | simp; omega) (by first | exact h1 | simp; omega)).symm
    obtain ⟨r, j, rfl⟩ : ∃ r j, x = ix2 r j := ⟨_, _, eq_ix2 x⟩
    exact out_at (n := i * 4 + 1) (fun r j => by pointwise []; exact B.cs 1 r _ j (by simp)) (fun r j => by pointwise []; exact B.sn 1 r _ j (by simp))
      (fun r j => by pointwise []; exact B.q 1 1 r j _ _ (by simp) (by simp))
      (fun r j => by pointwise []; exact B.k 1 1 r j _ _ (by simp) (by simp))
      (fun r j => by pointwise []; exact B.v 1 1 r j _ _ (by simp) (by simp))
      (fun r j => by pointwise []; exact B.dm 1 _ r j (by simp)) (fun r j => by pointwise []; exact B.xi 1 _ r j (by simp))
      (step_at (n := i * 4 + 0) (fun r j => by pointwise []; exact B.cs 0 r _ j (by simp)) (fun r j => by pointwise []; exact B.sn 0 r _ j (by simp))
        (fun r j => by pointwise []; exact B.k 0 1 r j _ _ (by simp) (by simp))
        (fun r j => by pointwise []; exact B.v 0 1 r j _ _ (by simp) (by simp))
        (fun r j => by pointwise []; exact B.ze 1 _ r j (by simp)) (fun r j => by pointwise []; exact B.cd 1 _ r j (by simp))
        (fun r j => by pointwise []; exact E 1 _ r j (by simp)))
      (fun j => by pointwise []; exact B.w 1 j _ (by simp))
      (fun r j => by pointwise []; exact B.g 1 1 r j _ _ (by simp) (by simp)) r j
  · refine Eq.trans ?_ (D 1 0 (x 0) (x 1) y (by first | exact h0 | simp; omega) (by first | exact h1 | simp; omega)).symm
    obtain ⟨r, j, rfl⟩ : ∃ r j, x = ix2 r j := ⟨_, _, eq_ix2 x⟩
    exact out_at (n := i * 4 + 1) (fun r j => by pointwise []; exact B.cs 1 r _ j (by simp)) (fun r j => by pointwise []; exact B.sn 1 r _ j (by simp))
      (fun r j => by pointwise []; exact B.q 1 0 r j _ _ (by simp) (by simp))
      (fun r j => by pointwise []; exact B.k 1 0 r j _ _ (by simp) (by simp))
      (fun r j => by pointwise []; exact B.v 1 0 r j _ _ (by simp) (by simp))
      (fun r j => by pointwise []; exact B.dm 0 _ r j (by simp)) (fun r j => by pointwise []; exact B.xi 0 _ r j (by simp))
      (step_at (n := i * 4 + 0) (fun r j => by pointwise []; exact B.cs 0 r _ j (by simp)) (fun r j => by pointwise []; exact B.sn 0 r _ j (by simp))
        (fun r j => by pointwise []; exact B.k 0 0 r j _ _ (by simp) (by simp))
        (fun r j => by pointwise []; exact B.v 0 0 r j _ _ (by simp) (by simp))
        (fun r j => by pointwise []; exact B.ze 0 _ r j (by simp)) (fun r j => by pointwise []; exact B.cd 0 _ r j (by simp))
        (fun r j => by pointwise []; exact E 0 _ r j (by simp)))
      (fun j => by pointwise []; exact B.w 0 j _ (by simp))
      (fun r j => by pointwise []; exact B.g 1 0 r j _ _ (by simp) (by simp)) r j
  · refine Eq.trans ?_ (D 0 3 (x 0) (x 1) y (by first | exact h0 | simp; omega) (by first | exact h1 | simp; omega)).symm
    obtain ⟨r, j, rfl⟩ : ∃ r j, x = ix2 r j := ⟨_, _, eq_ix2 x⟩
    exact out_at (n := i * 4 + 0) (fun r j => by pointwise []; exact B.cs 0 r _ j (by simp)) (fun r j => by pointwise []; exact B.sn 0 r _ j (by simp))
      (fun r j => by pointwise []; exact B.q 0 3 r j _ _ (by simp) (by simp))
      (fun r j => by pointwise []; exact B.k 0 3 r j _ _ (by simp) (by simp))
      (fun r j => by pointwise []; exact B.v 0 3 r j _ _ (by simp) (by simp))
      (fun r j => by pointwise []; exact B.dm 3 _ r j (by simp)) (fun r j => by pointwise []; exact B.xi 3 _ r j (by simp))
      (fun r j => by pointwise []; exact E 3 _ r j (by simp))
      (fun j => by pointwise []; exact B.w 3 j _ (by simp))
      (fun r j => by pointwise []; exact B.g 0 3 r j _ _ (by simp) (by simp)) r j
  · refine Eq.trans ?_ (D 0 2 (x 0) (x 1) y (by first | exact h0 | simp; omega) (by first | exact h1 | simp; omega)).symm
    obtain ⟨r, j, rfl⟩ : ∃ r j, x = ix2 r j := ⟨_, _, eq_ix2 x⟩
    exact out_at (n := i * 4 + 0) (fun r j => by pointwise []; exact B.cs 0 r _ j (by simp)) (fun r j => by pointwise []; exact B.sn 0 r _ j (by simp))
      (fun r j => by pointwise []; exact B.q 0 2 r j _ _ (by simp) (by simp))
      (fun r j => by pointwise []; exact B.k 0 2 r j _ _ (by simp) (by simp))
      (fun r j => by pointwise []; exact B.v 0 2 r j _ _ (by simp) (by simp))
      (fun r j => by pointwise []; exact B.dm 2 _ r j (by simp)) (fun r j => by pointwise []; exact B.xi 2 _ r j (by simp))
      (fun r j => by pointwise []; exact E 2 _ r j (by simp))
      (fun j => by pointwise []; exact B.w 2 j _ (by simp))
      (fun r j => by pointwise []; exact B.g 0 2 r j _ _ (by simp) (by simp)) r j
  · refine Eq.trans ?_ (D 0 1 (x 0) (x 1) y (by first | exact h0 | simp; omega) (by first | exact h1 | simp; omega)).symm
    obtain ⟨r, j, rfl⟩ : ∃ r j, x = ix2 r j := ⟨_, _, eq_ix2 x⟩
    exact out_at (n := i * 4 + 0) (fun r j => by pointwise []; exact B.cs 0 r _ j (by simp)) (fun r j => by pointwise []; exact B.sn 0 r _ j (by simp))
      (fun r j => by pointwise []; exact B.q 0 1 r j _ _ (by simp) (by simp))
      (fun r j => by pointwise []; exact B.k 0 1 r j _ _ (by simp) (by simp))
      (fun r j => by pointwise []; exact B.v 0 1 r j _ _ (by simp) (by simp))
      (fun r j => by pointwise []; exact B.dm 1 _ r j (by simp)) (fun r j => by pointwise []; exact B.xi 1 _ r j (by simp))
      (fun r j => by pointwise []; exact E 1 _ r j (by simp))
      (fun j => by pointwise []; exact B.w 1 j _ (by simp))
      (fun r j => by pointwise []; exact B.g 0 1 r j _ _ (by simp) (by simp)) r j
  · refine Eq.trans ?_ (D 0 0 (x 0) (x 1) y (by first | exact h0 | simp; omega) (by first | exact h1 | simp; omega)).symm
    obtain ⟨r, j, rfl⟩ : ∃ r j, x = ix2 r j := ⟨_, _, eq_ix2 x⟩
    exact out_at (n := i * 4 + 0) (fun r j => by pointwise []; exact B.cs 0 r _ j (by simp)) (fun r j => by pointwise []; exact B.sn 0 r _ j (by simp))
      (fun r j => by pointwise []; exact B.q 0 0 r j _ _ (by simp) (by simp))
      (fun r j => by pointwise []; exact B.k 0 0 r j _ _ (by simp) (by simp))
      (fun r j => by pointwise []; exact B.v 0 0 r j _ _ (by simp) (by simp))
      (fun r j => by pointwise []; exact B.dm 0 _ r j (by simp)) (fun r j => by pointwise []; exact B.xi 0 _ r j (by simp))
      (fun r j => by pointwise []; exact E 0 _ r j (by simp))
      (fun j => by pointwise []; exact B.w 0 j _ (by simp))
      (fun r j => by pointwise []; exact B.g 0 0 r j _ _ (by simp) (by simp)) r j

set_option maxHeartbeats 3200000 in
/-- The rows stored at the first point of a sequence are the result, at any array of it the rows are. -/
theorem out_A (c : Dev nD) (t : Fin cfg0.N) (h0 : t.val % 8 = 0)
    (B : Rows P Ct St w dm ze xi cd b i x0 x1 x2 x3 x4 x5 x6 x7 x8)
    (E : ∀ (h H : Fin 4) (r j : Fin 128), H.val = h.val → k0_pay2 (F := Ideal) (ix3 H r j) = state P Ct St ze cd b h (i * 4) r j)
    (G : S512x512.Idx → EReal)
    (D : ∀ (a h : Fin 4) (r j : Fin 128) (y : S512x512.Idx), (y 0).val = a.val * 128 + r.val → (y 1).val = h.val * 128 + j.val →
      G y = result P Ct St w dm ze xi cd b h (i * 4 + a.val) r j) (y : S512x512.Idx) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) x0 x1 x2 x3 x4 x5 x6 x7 x8 y = G y := by
  frame_open
  simp (disch := decide) only [↓ View.readCov_skip, ↓ View.readCov_cons_toLoadRect, ↓ View.readCov_fill]
  frame_out
  generalize k0_pay2 (F := Ideal) = S at E ⊢
  simp only [fold_st_0_0, fold_st_0_1, fold_st_0_2, fold_st_0_3, fold_st_1_0, fold_st_1_1, fold_st_1_2, fold_st_1_3, fold_st_2_0, fold_st_2_1, fold_st_2_2, fold_st_2_3, fold_st_3_0, fold_st_3_1, fold_st_3_2, fold_st_3_3]
  simp only [fold_out_0_0, fold_out_0_1, fold_out_0_2, fold_out_0_3, fold_out_1_0, fold_out_1_1, fold_out_1_2, fold_out_1_3, fold_out_2_0, fold_out_2_1, fold_out_2_2, fold_out_2_3, fold_out_3_0, fold_out_3_1, fold_out_3_2, fold_out_3_3]
  canon_tiles x h
  · refine Eq.trans ?_ (D 3 3 (x 0) (x 1) y (by first | exact h0 | simp; omega) (by first | exact h1 | simp; omega)).symm
    obtain ⟨r, j, rfl⟩ : ∃ r j, x = ix2 r j := ⟨_, _, eq_ix2 x⟩
    exact out_at (n := i * 4 + 3) (fun r j => by pointwise []; exact B.cs 3 r _ j (by simp)) (fun r j => by pointwise []; exact B.sn 3 r _ j (by simp))
      (fun r j => by pointwise []; exact B.q 3 3 r j _ _ (by simp) (by simp))
      (fun r j => by pointwise []; exact B.k 3 3 r j _ _ (by simp) (by simp))
      (fun r j => by pointwise []; exact B.v 3 3 r j _ _ (by simp) (by simp))
      (fun r j => by pointwise []; exact B.dm 3 _ r j (by simp)) (fun r j => by pointwise []; exact B.xi 3 _ r j (by simp))
      (step_at (n := i * 4 + 2) (fun r j => by pointwise []; exact B.cs 2 r _ j (by simp)) (fun r j => by pointwise []; exact B.sn 2 r _ j (by simp))
        (fun r j => by pointwise []; exact B.k 2 3 r j _ _ (by simp) (by simp))
        (fun r j => by pointwise []; exact B.v 2 3 r j _ _ (by simp) (by simp))
        (fun r j => by pointwise []; exact B.ze 3 _ r j (by simp)) (fun r j => by pointwise []; exact B.cd 3 _ r j (by simp))
        (step_at (n := i * 4 + 1) (fun r j => by pointwise []; exact B.cs 1 r _ j (by simp)) (fun r j => by pointwise []; exact B.sn 1 r _ j (by simp))
          (fun r j => by pointwise []; exact B.k 1 3 r j _ _ (by simp) (by simp))
          (fun r j => by pointwise []; exact B.v 1 3 r j _ _ (by simp) (by simp))
          (fun r j => by pointwise []; exact B.ze 3 _ r j (by simp)) (fun r j => by pointwise []; exact B.cd 3 _ r j (by simp))
          (step_at (n := i * 4 + 0) (fun r j => by pointwise []; exact B.cs 0 r _ j (by simp)) (fun r j => by pointwise []; exact B.sn 0 r _ j (by simp))
            (fun r j => by pointwise []; exact B.k 0 3 r j _ _ (by simp) (by simp))
            (fun r j => by pointwise []; exact B.v 0 3 r j _ _ (by simp) (by simp))
            (fun r j => by pointwise []; exact B.ze 3 _ r j (by simp)) (fun r j => by pointwise []; exact B.cd 3 _ r j (by simp))
            (fun r j => by pointwise []; exact E 3 _ r j (by simp)))))
      (fun j => by pointwise []; exact B.w 3 j _ (by simp))
      (fun r j => by pointwise []; exact B.g 3 3 r j _ _ (by simp) (by simp)) r j
  · refine Eq.trans ?_ (D 3 2 (x 0) (x 1) y (by first | exact h0 | simp; omega) (by first | exact h1 | simp; omega)).symm
    obtain ⟨r, j, rfl⟩ : ∃ r j, x = ix2 r j := ⟨_, _, eq_ix2 x⟩
    exact out_at (n := i * 4 + 3) (fun r j => by pointwise []; exact B.cs 3 r _ j (by simp)) (fun r j => by pointwise []; exact B.sn 3 r _ j (by simp))
      (fun r j => by pointwise []; exact B.q 3 2 r j _ _ (by simp) (by simp))
      (fun r j => by pointwise []; exact B.k 3 2 r j _ _ (by simp) (by simp))
      (fun r j => by pointwise []; exact B.v 3 2 r j _ _ (by simp) (by simp))
      (fun r j => by pointwise []; exact B.dm 2 _ r j (by simp)) (fun r j => by pointwise []; exact B.xi 2 _ r j (by simp))
      (step_at (n := i * 4 + 2) (fun r j => by pointwise []; exact B.cs 2 r _ j (by simp)) (fun r j => by pointwise []; exact B.sn 2 r _ j (by simp))
        (fun r j => by pointwise []; exact B.k 2 2 r j _ _ (by simp) (by simp))
        (fun r j => by pointwise []; exact B.v 2 2 r j _ _ (by simp) (by simp))
        (fun r j => by pointwise []; exact B.ze 2 _ r j (by simp)) (fun r j => by pointwise []; exact B.cd 2 _ r j (by simp))
        (step_at (n := i * 4 + 1) (fun r j => by pointwise []; exact B.cs 1 r _ j (by simp)) (fun r j => by pointwise []; exact B.sn 1 r _ j (by simp))
          (fun r j => by pointwise []; exact B.k 1 2 r j _ _ (by simp) (by simp))
          (fun r j => by pointwise []; exact B.v 1 2 r j _ _ (by simp) (by simp))
          (fun r j => by pointwise []; exact B.ze 2 _ r j (by simp)) (fun r j => by pointwise []; exact B.cd 2 _ r j (by simp))
          (step_at (n := i * 4 + 0) (fun r j => by pointwise []; exact B.cs 0 r _ j (by simp)) (fun r j => by pointwise []; exact B.sn 0 r _ j (by simp))
            (fun r j => by pointwise []; exact B.k 0 2 r j _ _ (by simp) (by simp))
            (fun r j => by pointwise []; exact B.v 0 2 r j _ _ (by simp) (by simp))
            (fun r j => by pointwise []; exact B.ze 2 _ r j (by simp)) (fun r j => by pointwise []; exact B.cd 2 _ r j (by simp))
            (fun r j => by pointwise []; exact E 2 _ r j (by simp)))))
      (fun j => by pointwise []; exact B.w 2 j _ (by simp))
      (fun r j => by pointwise []; exact B.g 3 2 r j _ _ (by simp) (by simp)) r j
  · refine Eq.trans ?_ (D 3 1 (x 0) (x 1) y (by first | exact h0 | simp; omega) (by first | exact h1 | simp; omega)).symm
    obtain ⟨r, j, rfl⟩ : ∃ r j, x = ix2 r j := ⟨_, _, eq_ix2 x⟩
    exact out_at (n := i * 4 + 3) (fun r j => by pointwise []; exact B.cs 3 r _ j (by simp)) (fun r j => by pointwise []; exact B.sn 3 r _ j (by simp))
      (fun r j => by pointwise []; exact B.q 3 1 r j _ _ (by simp) (by simp))
      (fun r j => by pointwise []; exact B.k 3 1 r j _ _ (by simp) (by simp))
      (fun r j => by pointwise []; exact B.v 3 1 r j _ _ (by simp) (by simp))
      (fun r j => by pointwise []; exact B.dm 1 _ r j (by simp)) (fun r j => by pointwise []; exact B.xi 1 _ r j (by simp))
      (step_at (n := i * 4 + 2) (fun r j => by pointwise []; exact B.cs 2 r _ j (by simp)) (fun r j => by pointwise []; exact B.sn 2 r _ j (by simp))
        (fun r j => by pointwise []; exact B.k 2 1 r j _ _ (by simp) (by simp))
        (fun r j => by pointwise []; exact B.v 2 1 r j _ _ (by simp) (by simp))
        (fun r j => by pointwise []; exact B.ze 1 _ r j (by simp)) (fun r j => by pointwise []; exact B.cd 1 _ r j (by simp))
        (step_at (n := i * 4 + 1) (fun r j => by pointwise []; exact B.cs 1 r _ j (by simp)) (fun r j => by pointwise []; exact B.sn 1 r _ j (by simp))
          (fun r j => by pointwise []; exact B.k 1 1 r j _ _ (by simp) (by simp))
          (fun r j => by pointwise []; exact B.v 1 1 r j _ _ (by simp) (by simp))
          (fun r j => by pointwise []; exact B.ze 1 _ r j (by simp)) (fun r j => by pointwise []; exact B.cd 1 _ r j (by simp))
          (step_at (n := i * 4 + 0) (fun r j => by pointwise []; exact B.cs 0 r _ j (by simp)) (fun r j => by pointwise []; exact B.sn 0 r _ j (by simp))
            (fun r j => by pointwise []; exact B.k 0 1 r j _ _ (by simp) (by simp))
            (fun r j => by pointwise []; exact B.v 0 1 r j _ _ (by simp) (by simp))
            (fun r j => by pointwise []; exact B.ze 1 _ r j (by simp)) (fun r j => by pointwise []; exact B.cd 1 _ r j (by simp))
            (fun r j => by pointwise []; exact E 1 _ r j (by simp)))))
      (fun j => by pointwise []; exact B.w 1 j _ (by simp))
      (fun r j => by pointwise []; exact B.g 3 1 r j _ _ (by simp) (by simp)) r j
  · refine Eq.trans ?_ (D 3 0 (x 0) (x 1) y (by first | exact h0 | simp; omega) (by first | exact h1 | simp; omega)).symm
    obtain ⟨r, j, rfl⟩ : ∃ r j, x = ix2 r j := ⟨_, _, eq_ix2 x⟩
    exact out_at (n := i * 4 + 3) (fun r j => by pointwise []; exact B.cs 3 r _ j (by simp)) (fun r j => by pointwise []; exact B.sn 3 r _ j (by simp))
      (fun r j => by pointwise []; exact B.q 3 0 r j _ _ (by simp) (by simp))
      (fun r j => by pointwise []; exact B.k 3 0 r j _ _ (by simp) (by simp))
      (fun r j => by pointwise []; exact B.v 3 0 r j _ _ (by simp) (by simp))
      (fun r j => by pointwise []; exact B.dm 0 _ r j (by simp)) (fun r j => by pointwise []; exact B.xi 0 _ r j (by simp))
      (step_at (n := i * 4 + 2) (fun r j => by pointwise []; exact B.cs 2 r _ j (by simp)) (fun r j => by pointwise []; exact B.sn 2 r _ j (by simp))
        (fun r j => by pointwise []; exact B.k 2 0 r j _ _ (by simp) (by simp))
        (fun r j => by pointwise []; exact B.v 2 0 r j _ _ (by simp) (by simp))
        (fun r j => by pointwise []; exact B.ze 0 _ r j (by simp)) (fun r j => by pointwise []; exact B.cd 0 _ r j (by simp))
        (step_at (n := i * 4 + 1) (fun r j => by pointwise []; exact B.cs 1 r _ j (by simp)) (fun r j => by pointwise []; exact B.sn 1 r _ j (by simp))
          (fun r j => by pointwise []; exact B.k 1 0 r j _ _ (by simp) (by simp))
          (fun r j => by pointwise []; exact B.v 1 0 r j _ _ (by simp) (by simp))
          (fun r j => by pointwise []; exact B.ze 0 _ r j (by simp)) (fun r j => by pointwise []; exact B.cd 0 _ r j (by simp))
          (step_at (n := i * 4 + 0) (fun r j => by pointwise []; exact B.cs 0 r _ j (by simp)) (fun r j => by pointwise []; exact B.sn 0 r _ j (by simp))
            (fun r j => by pointwise []; exact B.k 0 0 r j _ _ (by simp) (by simp))
            (fun r j => by pointwise []; exact B.v 0 0 r j _ _ (by simp) (by simp))
            (fun r j => by pointwise []; exact B.ze 0 _ r j (by simp)) (fun r j => by pointwise []; exact B.cd 0 _ r j (by simp))
            (fun r j => by pointwise []; exact E 0 _ r j (by simp)))))
      (fun j => by pointwise []; exact B.w 0 j _ (by simp))
      (fun r j => by pointwise []; exact B.g 3 0 r j _ _ (by simp) (by simp)) r j
  · refine Eq.trans ?_ (D 2 3 (x 0) (x 1) y (by first | exact h0 | simp; omega) (by first | exact h1 | simp; omega)).symm
    obtain ⟨r, j, rfl⟩ : ∃ r j, x = ix2 r j := ⟨_, _, eq_ix2 x⟩
    exact out_at (n := i * 4 + 2) (fun r j => by pointwise []; exact B.cs 2 r _ j (by simp)) (fun r j => by pointwise []; exact B.sn 2 r _ j (by simp))
      (fun r j => by pointwise []; exact B.q 2 3 r j _ _ (by simp) (by simp))
      (fun r j => by pointwise []; exact B.k 2 3 r j _ _ (by simp) (by simp))
      (fun r j => by pointwise []; exact B.v 2 3 r j _ _ (by simp) (by simp))
      (fun r j => by pointwise []; exact B.dm 3 _ r j (by simp)) (fun r j => by pointwise []; exact B.xi 3 _ r j (by simp))
      (step_at (n := i * 4 + 1) (fun r j => by pointwise []; exact B.cs 1 r _ j (by simp)) (fun r j => by pointwise []; exact B.sn 1 r _ j (by simp))
        (fun r j => by pointwise []; exact B.k 1 3 r j _ _ (by simp) (by simp))
        (fun r j => by pointwise []; exact B.v 1 3 r j _ _ (by simp) (by simp))
        (fun r j => by pointwise []; exact B.ze 3 _ r j (by simp)) (fun r j => by pointwise []; exact B.cd 3 _ r j (by simp))
        (step_at (n := i * 4 + 0) (fun r j => by pointwise []; exact B.cs 0 r _ j (by simp)) (fun r j => by pointwise []; exact B.sn 0 r _ j (by simp))
          (fun r j => by pointwise []; exact B.k 0 3 r j _ _ (by simp) (by simp))
          (fun r j => by pointwise []; exact B.v 0 3 r j _ _ (by simp) (by simp))
          (fun r j => by pointwise []; exact B.ze 3 _ r j (by simp)) (fun r j => by pointwise []; exact B.cd 3 _ r j (by simp))
          (fun r j => by pointwise []; exact E 3 _ r j (by simp))))
      (fun j => by pointwise []; exact B.w 3 j _ (by simp))
      (fun r j => by pointwise []; exact B.g 2 3 r j _ _ (by simp) (by simp)) r j
  · refine Eq.trans ?_ (D 2 2 (x 0) (x 1) y (by first | exact h0 | simp; omega) (by first | exact h1 | simp; omega)).symm
    obtain ⟨r, j, rfl⟩ : ∃ r j, x = ix2 r j := ⟨_, _, eq_ix2 x⟩
    exact out_at (n := i * 4 + 2) (fun r j => by pointwise []; exact B.cs 2 r _ j (by simp)) (fun r j => by pointwise []; exact B.sn 2 r _ j (by simp))
      (fun r j => by pointwise []; exact B.q 2 2 r j _ _ (by simp) (by simp))
      (fun r j => by pointwise []; exact B.k 2 2 r j _ _ (by simp) (by simp))
      (fun r j => by pointwise []; exact B.v 2 2 r j _ _ (by simp) (by simp))
      (fun r j => by pointwise []; exact B.dm 2 _ r j (by simp)) (fun r j => by pointwise []; exact B.xi 2 _ r j (by simp))
      (step_at (n := i * 4 + 1) (fun r j => by pointwise []; exact B.cs 1 r _ j (by simp)) (fun r j => by pointwise []; exact B.sn 1 r _ j (by simp))
        (fun r j => by pointwise []; exact B.k 1 2 r j _ _ (by simp) (by simp))
        (fun r j => by pointwise []; exact B.v 1 2 r j _ _ (by simp) (by simp))
        (fun r j => by pointwise []; exact B.ze 2 _ r j (by simp)) (fun r j => by pointwise []; exact B.cd 2 _ r j (by simp))
        (step_at (n := i * 4 + 0) (fun r j => by pointwise []; exact B.cs 0 r _ j (by simp)) (fun r j => by pointwise []; exact B.sn 0 r _ j (by simp))
          (fun r j => by pointwise []; exact B.k 0 2 r j _ _ (by simp) (by simp))
          (fun r j => by pointwise []; exact B.v 0 2 r j _ _ (by simp) (by simp))
          (fun r j => by pointwise []; exact B.ze 2 _ r j (by simp)) (fun r j => by pointwise []; exact B.cd 2 _ r j (by simp))
          (fun r j => by pointwise []; exact E 2 _ r j (by simp))))
      (fun j => by pointwise []; exact B.w 2 j _ (by simp))
      (fun r j => by pointwise []; exact B.g 2 2 r j _ _ (by simp) (by simp)) r j
  · refine Eq.trans ?_ (D 2 1 (x 0) (x 1) y (by first | exact h0 | simp; omega) (by first | exact h1 | simp; omega)).symm
    obtain ⟨r, j, rfl⟩ : ∃ r j, x = ix2 r j := ⟨_, _, eq_ix2 x⟩
    exact out_at (n := i * 4 + 2) (fun r j => by pointwise []; exact B.cs 2 r _ j (by simp)) (fun r j => by pointwise []; exact B.sn 2 r _ j (by simp))
      (fun r j => by pointwise []; exact B.q 2 1 r j _ _ (by simp) (by simp))
      (fun r j => by pointwise []; exact B.k 2 1 r j _ _ (by simp) (by simp))
      (fun r j => by pointwise []; exact B.v 2 1 r j _ _ (by simp) (by simp))
      (fun r j => by pointwise []; exact B.dm 1 _ r j (by simp)) (fun r j => by pointwise []; exact B.xi 1 _ r j (by simp))
      (step_at (n := i * 4 + 1) (fun r j => by pointwise []; exact B.cs 1 r _ j (by simp)) (fun r j => by pointwise []; exact B.sn 1 r _ j (by simp))
        (fun r j => by pointwise []; exact B.k 1 1 r j _ _ (by simp) (by simp))
        (fun r j => by pointwise []; exact B.v 1 1 r j _ _ (by simp) (by simp))
        (fun r j => by pointwise []; exact B.ze 1 _ r j (by simp)) (fun r j => by pointwise []; exact B.cd 1 _ r j (by simp))
        (step_at (n := i * 4 + 0) (fun r j => by pointwise []; exact B.cs 0 r _ j (by simp)) (fun r j => by pointwise []; exact B.sn 0 r _ j (by simp))
          (fun r j => by pointwise []; exact B.k 0 1 r j _ _ (by simp) (by simp))
          (fun r j => by pointwise []; exact B.v 0 1 r j _ _ (by simp) (by simp))
          (fun r j => by pointwise []; exact B.ze 1 _ r j (by simp)) (fun r j => by pointwise []; exact B.cd 1 _ r j (by simp))
          (fun r j => by pointwise []; exact E 1 _ r j (by simp))))
      (fun j => by pointwise []; exact B.w 1 j _ (by simp))
      (fun r j => by pointwise []; exact B.g 2 1 r j _ _ (by simp) (by simp)) r j
  · refine Eq.trans ?_ (D 2 0 (x 0) (x 1) y (by first | exact h0 | simp; omega) (by first | exact h1 | simp; omega)).symm
    obtain ⟨r, j, rfl⟩ : ∃ r j, x = ix2 r j := ⟨_, _, eq_ix2 x⟩
    exact out_at (n := i * 4 + 2) (fun r j => by pointwise []; exact B.cs 2 r _ j (by simp)) (fun r j => by pointwise []; exact B.sn 2 r _ j (by simp))
      (fun r j => by pointwise []; exact B.q 2 0 r j _ _ (by simp) (by simp))
      (fun r j => by pointwise []; exact B.k 2 0 r j _ _ (by simp) (by simp))
      (fun r j => by pointwise []; exact B.v 2 0 r j _ _ (by simp) (by simp))
      (fun r j => by pointwise []; exact B.dm 0 _ r j (by simp)) (fun r j => by pointwise []; exact B.xi 0 _ r j (by simp))
      (step_at (n := i * 4 + 1) (fun r j => by pointwise []; exact B.cs 1 r _ j (by simp)) (fun r j => by pointwise []; exact B.sn 1 r _ j (by simp))
        (fun r j => by pointwise []; exact B.k 1 0 r j _ _ (by simp) (by simp))
        (fun r j => by pointwise []; exact B.v 1 0 r j _ _ (by simp) (by simp))
        (fun r j => by pointwise []; exact B.ze 0 _ r j (by simp)) (fun r j => by pointwise []; exact B.cd 0 _ r j (by simp))
        (step_at (n := i * 4 + 0) (fun r j => by pointwise []; exact B.cs 0 r _ j (by simp)) (fun r j => by pointwise []; exact B.sn 0 r _ j (by simp))
          (fun r j => by pointwise []; exact B.k 0 0 r j _ _ (by simp) (by simp))
          (fun r j => by pointwise []; exact B.v 0 0 r j _ _ (by simp) (by simp))
          (fun r j => by pointwise []; exact B.ze 0 _ r j (by simp)) (fun r j => by pointwise []; exact B.cd 0 _ r j (by simp))
          (fun r j => by pointwise []; exact E 0 _ r j (by simp))))
      (fun j => by pointwise []; exact B.w 0 j _ (by simp))
      (fun r j => by pointwise []; exact B.g 2 0 r j _ _ (by simp) (by simp)) r j
  · refine Eq.trans ?_ (D 1 3 (x 0) (x 1) y (by first | exact h0 | simp; omega) (by first | exact h1 | simp; omega)).symm
    obtain ⟨r, j, rfl⟩ : ∃ r j, x = ix2 r j := ⟨_, _, eq_ix2 x⟩
    exact out_at (n := i * 4 + 1) (fun r j => by pointwise []; exact B.cs 1 r _ j (by simp)) (fun r j => by pointwise []; exact B.sn 1 r _ j (by simp))
      (fun r j => by pointwise []; exact B.q 1 3 r j _ _ (by simp) (by simp))
      (fun r j => by pointwise []; exact B.k 1 3 r j _ _ (by simp) (by simp))
      (fun r j => by pointwise []; exact B.v 1 3 r j _ _ (by simp) (by simp))
      (fun r j => by pointwise []; exact B.dm 3 _ r j (by simp)) (fun r j => by pointwise []; exact B.xi 3 _ r j (by simp))
      (step_at (n := i * 4 + 0) (fun r j => by pointwise []; exact B.cs 0 r _ j (by simp)) (fun r j => by pointwise []; exact B.sn 0 r _ j (by simp))
        (fun r j => by pointwise []; exact B.k 0 3 r j _ _ (by simp) (by simp))
        (fun r j => by pointwise []; exact B.v 0 3 r j _ _ (by simp) (by simp))
        (fun r j => by pointwise []; exact B.ze 3 _ r j (by simp)) (fun r j => by pointwise []; exact B.cd 3 _ r j (by simp))
        (fun r j => by pointwise []; exact E 3 _ r j (by simp)))
      (fun j => by pointwise []; exact B.w 3 j _ (by simp))
      (fun r j => by pointwise []; exact B.g 1 3 r j _ _ (by simp) (by simp)) r j
  · refine Eq.trans ?_ (D 1 2 (x 0) (x 1) y (by first | exact h0 | simp; omega) (by first | exact h1 | simp; omega)).symm
    obtain ⟨r, j, rfl⟩ : ∃ r j, x = ix2 r j := ⟨_, _, eq_ix2 x⟩
    exact out_at (n := i * 4 + 1) (fun r j => by pointwise []; exact B.cs 1 r _ j (by simp)) (fun r j => by pointwise []; exact B.sn 1 r _ j (by simp))
      (fun r j => by pointwise []; exact B.q 1 2 r j _ _ (by simp) (by simp))
      (fun r j => by pointwise []; exact B.k 1 2 r j _ _ (by simp) (by simp))
      (fun r j => by pointwise []; exact B.v 1 2 r j _ _ (by simp) (by simp))
      (fun r j => by pointwise []; exact B.dm 2 _ r j (by simp)) (fun r j => by pointwise []; exact B.xi 2 _ r j (by simp))
      (step_at (n := i * 4 + 0) (fun r j => by pointwise []; exact B.cs 0 r _ j (by simp)) (fun r j => by pointwise []; exact B.sn 0 r _ j (by simp))
        (fun r j => by pointwise []; exact B.k 0 2 r j _ _ (by simp) (by simp))
        (fun r j => by pointwise []; exact B.v 0 2 r j _ _ (by simp) (by simp))
        (fun r j => by pointwise []; exact B.ze 2 _ r j (by simp)) (fun r j => by pointwise []; exact B.cd 2 _ r j (by simp))
        (fun r j => by pointwise []; exact E 2 _ r j (by simp)))
      (fun j => by pointwise []; exact B.w 2 j _ (by simp))
      (fun r j => by pointwise []; exact B.g 1 2 r j _ _ (by simp) (by simp)) r j
  · refine Eq.trans ?_ (D 1 1 (x 0) (x 1) y (by first | exact h0 | simp; omega) (by first | exact h1 | simp; omega)).symm
    obtain ⟨r, j, rfl⟩ : ∃ r j, x = ix2 r j := ⟨_, _, eq_ix2 x⟩
    exact out_at (n := i * 4 + 1) (fun r j => by pointwise []; exact B.cs 1 r _ j (by simp)) (fun r j => by pointwise []; exact B.sn 1 r _ j (by simp))
      (fun r j => by pointwise []; exact B.q 1 1 r j _ _ (by simp) (by simp))
      (fun r j => by pointwise []; exact B.k 1 1 r j _ _ (by simp) (by simp))
      (fun r j => by pointwise []; exact B.v 1 1 r j _ _ (by simp) (by simp))
      (fun r j => by pointwise []; exact B.dm 1 _ r j (by simp)) (fun r j => by pointwise []; exact B.xi 1 _ r j (by simp))
      (step_at (n := i * 4 + 0) (fun r j => by pointwise []; exact B.cs 0 r _ j (by simp)) (fun r j => by pointwise []; exact B.sn 0 r _ j (by simp))
        (fun r j => by pointwise []; exact B.k 0 1 r j _ _ (by simp) (by simp))
        (fun r j => by pointwise []; exact B.v 0 1 r j _ _ (by simp) (by simp))
        (fun r j => by pointwise []; exact B.ze 1 _ r j (by simp)) (fun r j => by pointwise []; exact B.cd 1 _ r j (by simp))
        (fun r j => by pointwise []; exact E 1 _ r j (by simp)))
      (fun j => by pointwise []; exact B.w 1 j _ (by simp))
      (fun r j => by pointwise []; exact B.g 1 1 r j _ _ (by simp) (by simp)) r j
  · refine Eq.trans ?_ (D 1 0 (x 0) (x 1) y (by first | exact h0 | simp; omega) (by first | exact h1 | simp; omega)).symm
    obtain ⟨r, j, rfl⟩ : ∃ r j, x = ix2 r j := ⟨_, _, eq_ix2 x⟩
    exact out_at (n := i * 4 + 1) (fun r j => by pointwise []; exact B.cs 1 r _ j (by simp)) (fun r j => by pointwise []; exact B.sn 1 r _ j (by simp))
      (fun r j => by pointwise []; exact B.q 1 0 r j _ _ (by simp) (by simp))
      (fun r j => by pointwise []; exact B.k 1 0 r j _ _ (by simp) (by simp))
      (fun r j => by pointwise []; exact B.v 1 0 r j _ _ (by simp) (by simp))
      (fun r j => by pointwise []; exact B.dm 0 _ r j (by simp)) (fun r j => by pointwise []; exact B.xi 0 _ r j (by simp))
      (step_at (n := i * 4 + 0) (fun r j => by pointwise []; exact B.cs 0 r _ j (by simp)) (fun r j => by pointwise []; exact B.sn 0 r _ j (by simp))
        (fun r j => by pointwise []; exact B.k 0 0 r j _ _ (by simp) (by simp))
        (fun r j => by pointwise []; exact B.v 0 0 r j _ _ (by simp) (by simp))
        (fun r j => by pointwise []; exact B.ze 0 _ r j (by simp)) (fun r j => by pointwise []; exact B.cd 0 _ r j (by simp))
        (fun r j => by pointwise []; exact E 0 _ r j (by simp)))
      (fun j => by pointwise []; exact B.w 0 j _ (by simp))
      (fun r j => by pointwise []; exact B.g 1 0 r j _ _ (by simp) (by simp)) r j
  · refine Eq.trans ?_ (D 0 3 (x 0) (x 1) y (by first | exact h0 | simp; omega) (by first | exact h1 | simp; omega)).symm
    obtain ⟨r, j, rfl⟩ : ∃ r j, x = ix2 r j := ⟨_, _, eq_ix2 x⟩
    exact out_at (n := i * 4 + 0) (fun r j => by pointwise []; exact B.cs 0 r _ j (by simp)) (fun r j => by pointwise []; exact B.sn 0 r _ j (by simp))
      (fun r j => by pointwise []; exact B.q 0 3 r j _ _ (by simp) (by simp))
      (fun r j => by pointwise []; exact B.k 0 3 r j _ _ (by simp) (by simp))
      (fun r j => by pointwise []; exact B.v 0 3 r j _ _ (by simp) (by simp))
      (fun r j => by pointwise []; exact B.dm 3 _ r j (by simp)) (fun r j => by pointwise []; exact B.xi 3 _ r j (by simp))
      (fun r j => by pointwise []; exact E 3 _ r j (by simp))
      (fun j => by pointwise []; exact B.w 3 j _ (by simp))
      (fun r j => by pointwise []; exact B.g 0 3 r j _ _ (by simp) (by simp)) r j
  · refine Eq.trans ?_ (D 0 2 (x 0) (x 1) y (by first | exact h0 | simp; omega) (by first | exact h1 | simp; omega)).symm
    obtain ⟨r, j, rfl⟩ : ∃ r j, x = ix2 r j := ⟨_, _, eq_ix2 x⟩
    exact out_at (n := i * 4 + 0) (fun r j => by pointwise []; exact B.cs 0 r _ j (by simp)) (fun r j => by pointwise []; exact B.sn 0 r _ j (by simp))
      (fun r j => by pointwise []; exact B.q 0 2 r j _ _ (by simp) (by simp))
      (fun r j => by pointwise []; exact B.k 0 2 r j _ _ (by simp) (by simp))
      (fun r j => by pointwise []; exact B.v 0 2 r j _ _ (by simp) (by simp))
      (fun r j => by pointwise []; exact B.dm 2 _ r j (by simp)) (fun r j => by pointwise []; exact B.xi 2 _ r j (by simp))
      (fun r j => by pointwise []; exact E 2 _ r j (by simp))
      (fun j => by pointwise []; exact B.w 2 j _ (by simp))
      (fun r j => by pointwise []; exact B.g 0 2 r j _ _ (by simp) (by simp)) r j
  · refine Eq.trans ?_ (D 0 1 (x 0) (x 1) y (by first | exact h0 | simp; omega) (by first | exact h1 | simp; omega)).symm
    obtain ⟨r, j, rfl⟩ : ∃ r j, x = ix2 r j := ⟨_, _, eq_ix2 x⟩
    exact out_at (n := i * 4 + 0) (fun r j => by pointwise []; exact B.cs 0 r _ j (by simp)) (fun r j => by pointwise []; exact B.sn 0 r _ j (by simp))
      (fun r j => by pointwise []; exact B.q 0 1 r j _ _ (by simp) (by simp))
      (fun r j => by pointwise []; exact B.k 0 1 r j _ _ (by simp) (by simp))
      (fun r j => by pointwise []; exact B.v 0 1 r j _ _ (by simp) (by simp))
      (fun r j => by pointwise []; exact B.dm 1 _ r j (by simp)) (fun r j => by pointwise []; exact B.xi 1 _ r j (by simp))
      (fun r j => by pointwise []; exact E 1 _ r j (by simp))
      (fun j => by pointwise []; exact B.w 1 j _ (by simp))
      (fun r j => by pointwise []; exact B.g 0 1 r j _ _ (by simp) (by simp)) r j
  · refine Eq.trans ?_ (D 0 0 (x 0) (x 1) y (by first | exact h0 | simp; omega) (by first | exact h1 | simp; omega)).symm
    obtain ⟨r, j, rfl⟩ : ∃ r j, x = ix2 r j := ⟨_, _, eq_ix2 x⟩
    exact out_at (n := i * 4 + 0) (fun r j => by pointwise []; exact B.cs 0 r _ j (by simp)) (fun r j => by pointwise []; exact B.sn 0 r _ j (by simp))
      (fun r j => by pointwise []; exact B.q 0 0 r j _ _ (by simp) (by simp))
      (fun r j => by pointwise []; exact B.k 0 0 r j _ _ (by simp) (by simp))
      (fun r j => by pointwise []; exact B.v 0 0 r j _ _ (by simp) (by simp))
      (fun r j => by pointwise []; exact B.dm 0 _ r j (by simp)) (fun r j => by pointwise []; exact B.xi 0 _ r j (by simp))
      (fun r j => by pointwise []; exact E 0 _ r j (by simp))
      (fun j => by pointwise []; exact B.w 0 j _ (by simp))
      (fun r j => by pointwise []; exact B.g 0 0 r j _ _ (by simp) (by simp)) r j

end Cert.KernelIdeal.RetPoint

end
-- ==== Proof.RetConst.lean ====
/-
  The retention's decay constants, written out as arrays: the logarithm of each head's decay, the decays inside a chunk,
  to its end and from its start, and over a whole chunk; and the result array they give with the arguments.
-/
module

public import proofs.«01_k».proof.Proof.RetSpec
public import proofs.«01_k».proof.Proof.Gen.ReferenceIdeal

@[expose] public section

set_option maxRecDepth 16384

noncomputable section

open Idealize.ShloMosaic

namespace Cert.Ret

open Cert.ReferenceIdeal Cert.ReferenceIdeal.Gen

/-- The logarithm of each head's decay. -/
def LG : FVec Ideal S4 .f32 :=
  Host.log1p (Host.negf (Host.exp (mulf (broadcastInDim S4 ![] bcast_S_S4 (constant S_ .f32 0x3F317218#32))
    (subf (broadcastInDim S4 ![] bcast_S_S4 (constant S_ .f32 0xC0A00000#32)) (sitofp .f32 (iotaInDim S4 32 0))))))

/-- The position of each row inside its chunk. -/
def POS : FVec Ideal S128 .f32 := sitofp .f32 (iotaInDim S128 32 0)

/-- How far row is ahead of column, inside a chunk. -/
def REL : FVec Ideal S128x128 .f32 :=
  subf (broadcastInDim S128x128 ![0, 1] bcast_S128x1_S128x128_0_1 (broadcastInDim S128x1 ![0] bcast_S128_S128x1_0 POS))
    (broadcastInDim S128x128 ![0, 1] bcast_S1x128_S128x128_0_1 (broadcastInDim S1x128 ![1] bcast_S128_S1x128_1 POS))

/-- Where the row is not behind the column. -/
def CAUSAL := cmpf .oge REL (broadcastInDim S128x128 ![] bcast_S_S128x128 (constant (F := Ideal) S_ .f32 0x00000000#32))

/-- The decays inside a chunk. -/
def DM : FVec Ideal S4x128x128 .f32 :=
  select (broadcastInDim S4x128x128 ![1, 2] bcast_S128x128_S4x128x128_1_2 CAUSAL)
    (Host.exp (mulf (broadcastInDim S4x128x128 ![0, 1, 2] bcast_S4x1x1_S4x128x128_0_1_2 (broadcastInDim S4x1x1 ![0] bcast_S4_S4x1x1_0 LG))
      (broadcastInDim S4x128x128 ![0, 1, 2] bcast_S1x128x128_S4x128x128_0_1_2
        (broadcastInDim S1x128x128 ![1, 2] bcast_S128x128_S1x128x128_1_2
          (select CAUSAL REL (broadcastInDim S128x128 ![] bcast_S_S128x128 (constant S_ .f32 0x00000000#32)))))))
    (broadcastInDim S4x128x128 ![] bcast_S_S4x128x128 (constant S_ .f32 0x00000000#32))

/-- The decays over given distances. -/
def DECAY (D : FVec Ideal S128 .f32) : FVec Ideal S4x128 .f32 :=
  Host.exp (mulf (broadcastInDim S4x128 ![0, 1] bcast_S4x1_S4x128_0_1 (broadcastInDim S4x1 ![0] bcast_S4_S4x1_0 LG))
    (broadcastInDim S4x128 ![0, 1] bcast_S1x128_S4x128_0_1 (broadcastInDim S1x128 ![1] bcast_S128_S1x128_1 D)))

/-- The decays from each row to the end of its chunk. -/
def ZE : FVec Ideal S4x128 .f32 :=
  DECAY (subf (broadcastInDim S128 ![] bcast_S_S128 (constant S_ .f32 0x42FE0000#32)) POS)

/-- The decays from the start of a chunk to each row. -/
def XI : FVec Ideal S4x128 .f32 :=
  DECAY (addf POS (broadcastInDim S128 ![] bcast_S_S128 (constant S_ .f32 0x3F800000#32)))

/-- The decay over a whole chunk. -/
def CD : FVec Ideal S4 .f32 :=
  Host.exp (mulf LG (broadcastInDim S4 ![] bcast_S_S4 (constant S_ .f32 0x43000000#32)))

/-- Column `j` of head `h` among the result's columns. -/
abbrev hcol (h : Fin 4) (j : Fin 128) : Fin 512 := ⟨h.val * 128 + j.val, by omega⟩

/-- The retention's result array, of the projected rows, the rotary tables and the norm's weights. -/
def out (P : Proj) (C S : Tab) (W : FVec Ideal S512 .f32) : FVec Ideal S16384x512 .f32 := fun y =>
  result P C S (fun h j => W (ix1 (hcol h j))) (fun h r s => DM (ix3 h r s)) (fun h r => ZE (ix2 h r)) (fun h r => XI (ix2 h r))
    (fun h => CD (ix1 h)) ((y 0).val / 4096) ⟨(y 1).val / 128, by have := (y 1).isLt; simp at this; omega⟩
    ((y 0).val % 4096 / 128) ⟨(y 0).val % 128, Nat.mod_lt _ (by decide)⟩ ⟨(y 1).val % 128, Nat.mod_lt _ (by decide)⟩

end Cert.Ret

end
-- ==== Proof.RetValue.lean ====
/-
  The retention's result array: at every point of the grid the kernel's blocks are the rows, tables and constants the
  reference uses, so the carried states follow the recurrence over the chunks and the stored rows are its results.
-/
module

public import proofs.«01_k».proof.Proof.Gen.KernelIdeal.Frame
public import proofs.«01_k».proof.Proof.RetPoint
public import proofs.«01_k».proof.Proof.RetConst
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.RetValue

open Cert.KernelIdeal Cert.KernelIdeal.Gen Cert.KernelIdeal.RetPoint Cert.Ret

variable (m : (ℓ : Loc nD τ sig) → Buf (Elt Ideal) ℓ)

/-- The block indices of the windows at a grid point. -/
theorem idx : ∀ t : Fin cfg0.N, win0_0.index t = ![t.val, 0] ∧ win0_1.index t = ![t.val, 1] ∧ win0_2.index t = ![t.val, 2]
    ∧ win0_3.index t = ![t.val, 3] ∧ win0_4.index t = ![t.val, 0] ∧ win0_5.index t = ![t.val, 0] ∧ win0_6.index t = ![0, 0, 0]
    ∧ win0_7.index t = ![0, 0, 0, 0] ∧ win0_8.index t = ![0, 0] ∧ win0_9.index t = ![t.val, 0] :=
  (by decide +kernel : ∀ t : Fin grid0.N, _)

/-- The array of decays inside a chunk, as the kernel's program makes it. -/
theorem dm_eq (c : Dev nD) : V m c main_v24 = DM := by
  entry_read
  rfl

/-- The stacked tables of decays, as the kernel's program makes them. -/
theorem tab_eq (c : Dev nD) : V m c main_v57 = concatenate S4x3x128x128 1
    [⟨S4x1x128x128, broadcastInDim S4x1x128x128 ![0, 2, 3] bcast_S4x128x128_S4x1x128x128_0_2_3 (mulf (F := Ideal)
        (broadcastInDim S4x128x128 ![0, 1, 2] bcast_S4x128x1_S4x128x128_0_1_2 (broadcastInDim S4x128x1 ![0, 1] bcast_S4x128_S4x128x1_0_1 ZE))
        (broadcastInDim S4x128x128 ![] bcast_S_S4x128x128 (constant S_ .f32 0x3F800000#32)))⟩,
     ⟨S4x1x128x128, broadcastInDim S4x1x128x128 ![0, 2, 3] bcast_S4x128x128_S4x1x128x128_0_2_3 (mulf (F := Ideal)
        (broadcastInDim S4x128x128 ![0, 1, 2] bcast_S4x128x1_S4x128x128_0_1_2 (broadcastInDim S4x128x1 ![0, 1] bcast_S4x128_S4x128x1_0_1 XI))
        (broadcastInDim S4x128x128 ![] bcast_S_S4x128x128 (constant S_ .f32 0x3F800000#32)))⟩,
     ⟨S4x1x128x128, broadcastInDim S4x1x128x128 ![0, 2, 3] bcast_S4x128x128_S4x1x128x128_0_2_3 (mulf (F := Ideal)
        (broadcastInDim S4x128x128 ![0, 1, 2] bcast_S4x1x1_S4x128x128_0_1_2 (broadcastInDim S4x1x1 ![0] bcast_S4_S4x1x1_0 CD))
        (broadcastInDim S4x128x128 ![] bcast_S_S4x128x128 (constant S_ .f32 0x3F800000#32)))⟩]
    concatenates_S4x1x128x128_S4x1x128x128_S4x1x128x128_S4x3x128x128_d1 := by
  entry_read
  rfl

/-- The row of the norm's weights, as the kernel's program makes it. -/
theorem w_eq (c : Dev nD) : V m c main_v0 = broadcastInDim S1x512 ![1] bcast_S512_S1x512_1 (m ((c.tc : Thread nD τ).loc main_arg3)) := by
  entry_read
  rfl

/-- The weights' argument is as it was when the kernel starts. -/
theorem arg3_eq (c : Dev nD) : V m c main_arg3 = m ((c.tc : Thread nD τ).loc main_arg3) := rfl

/-- The rows of the query columns at a grid point are the array's. -/
theorem x0_eq (c : Dev nD) (t : Fin cfg0.N) (R k : Fin 512) : X0_0 m c t (ix2 R k) = m ((c.tc : Thread nD τ).loc main_arg0)
    (ix2 (⟨t.val * 512 + R.val, by have := lt_of_lt_of_eq t.isLt N_0; omega⟩ : Fin 16384) (⟨0 * 512 + k.val, by omega⟩ : Fin 5760)) := by
  unfold X0_0 Pipeline.Window.fill
  rw [dif_pos (moved0_0 t (ix2 R k))]
  blk_point [iblk, V, idx t]

/-- The rows of the key columns at a grid point are the array's. -/
theorem x1_eq (c : Dev nD) (t : Fin cfg0.N) (R k : Fin 512) : X0_1 m c t (ix2 R k) = m ((c.tc : Thread nD τ).loc main_arg0)
    (ix2 (⟨t.val * 512 + R.val, by have := lt_of_lt_of_eq t.isLt N_0; omega⟩ : Fin 16384) (⟨1 * 512 + k.val, by omega⟩ : Fin 5760)) := by
  unfold X0_1 Pipeline.Window.fill
  rw [dif_pos (moved0_1 t (ix2 R k))]
  blk_point [iblk, V, idx t]

/-- The rows of the value columns at a grid point are the array's. -/
theorem x2_eq (c : Dev nD) (t : Fin cfg0.N) (R k : Fin 512) : X0_2 m c t (ix2 R k) = m ((c.tc : Thread nD τ).loc main_arg0)
    (ix2 (⟨t.val * 512 + R.val, by have := lt_of_lt_of_eq t.isLt N_0; omega⟩ : Fin 16384) (⟨2 * 512 + k.val, by omega⟩ : Fin 5760)) := by
  unfold X0_2 Pipeline.Window.fill
  rw [dif_pos (moved0_2 t (ix2 R k))]
  blk_point [iblk, V, idx t]

/-- The rows of the gate columns at a grid point are the array's. -/
theorem x3_eq (c : Dev nD) (t : Fin cfg0.N) (R k : Fin 512) : X0_3 m c t (ix2 R k) = m ((c.tc : Thread nD τ).loc main_arg0)
    (ix2 (⟨t.val * 512 + R.val, by have := lt_of_lt_of_eq t.isLt N_0; omega⟩ : Fin 16384) (⟨3 * 512 + k.val, by omega⟩ : Fin 5760)) := by
  unfold X0_3 Pipeline.Window.fill
  rw [dif_pos (moved0_3 t (ix2 R k))]
  blk_point [iblk, V, idx t]

/-- The rows of the cosine table at a grid point are the array's. -/
theorem x4_eq (c : Dev nD) (t : Fin cfg0.N) (R : Fin 512) (j : Fin 128) : iblk m c 4 t (ix2 R j) = m ((c.tc : Thread nD τ).loc main_arg1)
    (ix2 (⟨t.val * 512 + R.val, by have := lt_of_lt_of_eq t.isLt N_0; omega⟩ : Fin 16384) j) := by
  blk_point [iblk, V, idx t]

/-- The rows of the sine table at a grid point are the array's. -/
theorem x5_eq (c : Dev nD) (t : Fin cfg0.N) (R : Fin 512) (j : Fin 128) : iblk m c 5 t (ix2 R j) = m ((c.tc : Thread nD τ).loc main_arg2)
    (ix2 (⟨t.val * 512 + R.val, by have := lt_of_lt_of_eq t.isLt N_0; omega⟩ : Fin 16384) j) := by
  blk_point [iblk, V, idx t]

/-- The decays inside a chunk are whole at every grid point. -/
theorem x6_eq (c : Dev nD) (t : Fin cfg0.N) (h : Fin 4) (r s : Fin 128) : iblk m c 6 t (ix3 h r s) = DM (ix3 h r s) := by
  rw [← dm_eq m c]
  blk_point [iblk, idx t]

/-- Of the stacked tables the first holds the decays to the chunk's end. -/
theorem x7_ze (c : Dev nD) (t : Fin cfg0.N) (h : Fin 4) (r s : Fin 128) : iblk m c 7 t (ix4 h 0 r s) = ZE (ix2 h r) := by
  refine Eq.trans (b := V m c main_v57 (ix4 h 0 r s)) ?_ ?_
  · blk_point [iblk, idx t]
  · rw [tab_eq]
    pointwise []

/-- Of the stacked tables the second holds the decays from the chunk's start. -/
theorem x7_xi (c : Dev nD) (t : Fin cfg0.N) (h : Fin 4) (r s : Fin 128) : iblk m c 7 t (ix4 h 1 r s) = XI (ix2 h r) := by
  refine Eq.trans (b := V m c main_v57 (ix4 h 1 r s)) ?_ ?_
  · blk_point [iblk, idx t]
  · rw [tab_eq]
    pointwise []

/-- Of the stacked tables the third holds the decay over the whole chunk. -/
theorem x7_cd (c : Dev nD) (t : Fin cfg0.N) (h : Fin 4) (r s : Fin 128) : iblk m c 7 t (ix4 h 2 r s) = CD (ix1 h) := by
  refine Eq.trans (b := V m c main_v57 (ix4 h 2 r s)) ?_ ?_
  · blk_point [iblk, idx t]
  · rw [tab_eq]
    pointwise []

/-- The norm's weights are whole at every grid point. -/
theorem x8_eq (c : Dev nD) (t : Fin cfg0.N) (k : Fin 512) : iblk m c 8 t (ix2 0 k) = m ((c.tc : Thread nD τ).loc main_arg3) (ix1 k) := by
  refine Eq.trans (b := V m c main_v0 (ix2 0 k)) ?_ ?_
  · blk_point [iblk, idx t]
  · rw [w_eq]
    pointwise []

/-- An index of the projected rows with the coordinates of a chunk's row and a head's column. -/
theorem at_row {b i a r n : ℕ} {hn} (g h : Fin 4) (j : Fin 128) {k : ℕ} {hk} (R' : Fin 128) (e : n = (b * 8 + i) * 512 + (a * 128 + r)) (hR : R'.val = r)
    (hi : b * 4096 + (i * 4 + a) * 128 + r < 16384) (ek : k = g.val * 512 + (h.val * 128 + j.val)) :
    (ix2 (⟨n, hn⟩ : Fin 16384) (⟨k, hk⟩ : Fin 5760)) = ix2 (row b (i * 4 + a) R') (col g h j) := by
  subst hR
  refine congrArg₂ ix2 (Fin.ext ?_) (Fin.ext ?_)
  · show n = (b * 4096 + (i * 4 + a) * 128 + R'.val) % 16384
    rw [Nat.mod_eq_of_lt hi]; omega
  · show k = g.val * 512 + h.val * 128 + j.val
    omega

/-- At every grid point the kernel's blocks are the rows, tables and constants of four chunks of one sequence. -/
theorem rows (c : Dev nD) (t : Fin cfg0.N) :
    Rows (m ((c.tc : Thread nD τ).loc main_arg0)) (m ((c.tc : Thread nD τ).loc main_arg1)) (m ((c.tc : Thread nD τ).loc main_arg2))
      (fun h j => m ((c.tc : Thread nD τ).loc main_arg3) (ix1 (hcol h j))) (fun h r s => DM (ix3 h r s)) (fun h r => ZE (ix2 h r))
      (fun h r => XI (ix2 h r)) (fun h => CD (ix1 h)) (t.val / 8) (t.val % 8)
      (X0_0 m c t) (X0_1 m c t) (X0_2 m c t) (X0_3 m c t) (iblk m c 4 t) (iblk m c 5 t) (iblk m c 6 t) (iblk m c 7 t) (iblk m c 8 t) := by
  have hN : t.val < 32 := lt_of_lt_of_eq t.isLt N_0
  have q : ∀ (a h : Fin 4) (r j : Fin 128) (R k : Fin 512), R.val = a.val * 128 + r.val → k.val = h.val * 128 + j.val →
      X0_0 m c t (ix2 R k) = m ((c.tc : Thread nD τ).loc main_arg0) (ix2 (row (t.val / 8) (t.val % 8 * 4 + a.val) r) (col 0 h j)) :=
    fun a h r j R k e e' => (x0_eq m c t R k).trans (congrArg _ (at_row 0 h j r (by omega) rfl (by omega) (by simp; omega)))
  have k : ∀ (a h : Fin 4) (r j : Fin 128) (R k : Fin 512), R.val = a.val * 128 + r.val → k.val = h.val * 128 + j.val →
      X0_1 m c t (ix2 R k) = m ((c.tc : Thread nD τ).loc main_arg0) (ix2 (row (t.val / 8) (t.val % 8 * 4 + a.val) r) (col 1 h j)) :=
    fun a h r j R k e e' => (x1_eq m c t R k).trans (congrArg _ (at_row 1 h j r (by omega) rfl (by omega) (by simp; omega)))
  have v : ∀ (a h : Fin 4) (r j : Fin 128) (R k : Fin 512), R.val = a.val * 128 + r.val → k.val = h.val * 128 + j.val →
      X0_2 m c t (ix2 R k) = m ((c.tc : Thread nD τ).loc main_arg0) (ix2 (row (t.val / 8) (t.val % 8 * 4 + a.val) r) (col 2 h j)) :=
    fun a h r j R k e e' => (x2_eq m c t R k).trans (congrArg _ (at_row 2 h j r (by omega) rfl (by omega) (by simp; omega)))
  have g : ∀ (a h : Fin 4) (r j : Fin 128) (R k : Fin 512), R.val = a.val * 128 + r.val → k.val = h.val * 128 + j.val →
      X0_3 m c t (ix2 R k) = m ((c.tc : Thread nD τ).loc main_arg0) (ix2 (row (t.val / 8) (t.val % 8 * 4 + a.val) r) (col 3 h j)) :=
    fun a h r j R k e e' => (x3_eq m c t R k).trans (congrArg _ (at_row 3 h j r (by omega) rfl (by omega) (by simp; omega)))
  have cs : ∀ (a : Fin 4) (r : Fin 128) (R : Fin 512) (j : Fin 128), R.val = a.val * 128 + r.val →
      iblk m c 4 t (ix2 R j) = m ((c.tc : Thread nD τ).loc main_arg1) (ix2 (row (t.val / 8) (t.val % 8 * 4 + a.val) r) j) :=
    fun a r R j e => (x4_eq m c t R j).trans (congrArg _ (congrArg (ix2 · j) (Fin.ext (by
      show t.val * 512 + R.val = (t.val / 8 * 4096 + (t.val % 8 * 4 + a.val) * 128 + r.val) % 16384
      rw [Nat.mod_eq_of_lt (by omega)]; omega))))
  have sn : ∀ (a : Fin 4) (r : Fin 128) (R : Fin 512) (j : Fin 128), R.val = a.val * 128 + r.val →
      iblk m c 5 t (ix2 R j) = m ((c.tc : Thread nD τ).loc main_arg2) (ix2 (row (t.val / 8) (t.val % 8 * 4 + a.val) r) j) :=
    fun a r R j e => (x5_eq m c t R j).trans (congrArg _ (congrArg (ix2 · j) (Fin.ext (by
      show t.val * 512 + R.val = (t.val / 8 * 4096 + (t.val % 8 * 4 + a.val) * 128 + r.val) % 16384
      rw [Nat.mod_eq_of_lt (by omega)]; omega))))
  exact {
    q := q, k := k, v := v, g := g, cs := cs, sn := sn
    dm := fun h H r s e => by obtain rfl := Fin.ext e; exact x6_eq m c t H r s
    ze := fun h H r j e => by obtain rfl := Fin.ext e; exact x7_ze m c t H r j
    xi := fun h H r j e => by obtain rfl := Fin.ext e; exact x7_xi m c t H r j
    cd := fun h H r j e => by obtain rfl := Fin.ext e; exact x7_cd m c t H r j
    w := fun h j k e => by obtain rfl : k = hcol h j := Fin.ext e; exact x8_eq m c t _ }

/-- The state of a head of a sequence, over the argument arrays. -/
abbrev ST (c : Dev nD) : ℕ → Fin 4 → ℕ → Fin 128 → Fin 128 → EReal :=
  state (m ((c.tc : Thread nD τ).loc main_arg0)) (m ((c.tc : Thread nD τ).loc main_arg1)) (m ((c.tc : Thread nD τ).loc main_arg2))
    (fun h r => ZE (ix2 h r)) (fun h => CD (ix1 h))

/-- The states of all heads of a sequence, as one array. -/
def STS (c : Dev nD) (b n : ℕ) : S4x128x128.Idx → EReal := fun y => ST m c b (y 0) n (y 1) (y 2)

/-- The array of states at an index given by its coordinates. -/
theorem STS_at (c : Dev nD) (b n : ℕ) (h : Fin 4) (r j : Fin 128) (y : S4x128x128.Idx) (e0 : (y 0).val = h.val) (e1 : (y 1).val = r.val)
    (e2 : (y 2).val = j.val) : STS m c b n y = ST m c b h n r j := by
  obtain rfl := Fin.ext e0
  obtain rfl := Fin.ext e1
  obtain rfl := Fin.ext e2
  exact STS.eq_1 m c b n y

/-- The scratch starts at the zero state. -/
theorem zero_at (c : Dev nD) (b : ℕ) (n : ℕ) (hn : n = 0) (h H : Fin 4) (r j : Fin 128) (e : H.val = h.val) :
    k0_pay2 (F := Ideal) (ix3 H r j) = ST m c b h n r j := by
  subst hn
  pointwise [k0_pay2]
  simp [state]

attribute [local irreducible] Cert.Ret.state

/-- What the scratch holds after the first point of a sequence: the states that enter its next chunk. -/
theorem scr_A (c : Dev nD) (t : Fin cfg0.N) (h0 : t.val % 8 = 0) (h : Fin 4) (r j : Fin 128) :
    (outsAt0 m c t.val t.isLt).2 (ix3 h r j) = ST m c (t.val / 8) h (t.val % 8 * 4 + 4) r j := by
  rw [outsAt0_A m c t h0]
  dsimp only
  refine (st_A c t h0 (rows m c t) (zero_at m c _ _ (by omega)) (STS m c (t.val / 8) (t.val % 8 * 4 + 4))
    (STS_at m c (t.val / 8) (t.val % 8 * 4 + 4)) (ix3 h r j)).trans ?_
  exact STS_at m c _ _ h r j _ rfl rfl rfl

/-- What the scratch holds after a later point of a sequence, from what the point before left. -/
theorem scr_B (c : Dev nD) (t : Fin cfg0.N) (h0 : ¬t.val % 8 = 0)
    (E : ∀ (h H : Fin 4) (r j : Fin 128), H.val = h.val →
      (outsAt0 m c (t.val - 1) (Nat.lt_of_le_of_lt (Nat.sub_le _ _) t.isLt)).2 (ix3 H r j) = ST m c (t.val / 8) h (t.val % 8 * 4) r j)
    (h : Fin 4) (r j : Fin 128) : (outsAt0 m c t.val t.isLt).2 (ix3 h r j) = ST m c (t.val / 8) h (t.val % 8 * 4 + 4) r j := by
  rw [outsAt0_B m c t h0]
  dsimp only
  refine (st_B c t h0 _ (rows m c t) E (STS m c (t.val / 8) (t.val % 8 * 4 + 4))
    (STS_at m c (t.val / 8) (t.val % 8 * 4 + 4)) (ix3 h r j)).trans ?_
  exact STS_at m c _ _ h r j _ rfl rfl rfl

/-- What the scratch holds after a grid point: the states that enter the sequence's next chunk. -/
theorem scr (c : Dev nD) : ∀ (n : ℕ) (hn : n < cfg0.N) (h : Fin 4) (r j : Fin 128),
    (outsAt0 m c n hn).2 (ix3 h r j) = ST m c (n / 8) h (n % 8 * 4 + 4) r j := by
  intro n
  induction n with
  | zero => exact fun hn => scr_A m c ⟨0, hn⟩ rfl
  | succ n ih =>
    intro hn
    by_cases h0 : (n + 1) % 8 = 0
    · exact scr_A m c ⟨n + 1, hn⟩ h0
    · refine scr_B m c ⟨n + 1, hn⟩ h0 fun h H r j e => ?_
      obtain rfl := Fin.ext e
      refine (ih (Nat.lt_of_succ_lt hn) H r j).trans ?_
      have e1 : n / 8 = (n + 1) / 8 := by omega
      have e2 : n % 8 * 4 + 4 = (n + 1) % 8 * 4 := by omega
      dsimp only
      rw [e1, e2]

/-- What the scratch holds on entering a later point of a sequence. -/
theorem entering (c : Dev nD) (t : Fin cfg0.N) (h0 : ¬t.val % 8 = 0) (h H : Fin 4) (r j : Fin 128) (e : H.val = h.val) :
    (outsAt0 m c (t.val - 1) (Nat.lt_of_le_of_lt (Nat.sub_le _ _) t.isLt)).2 (ix3 H r j) = ST m c (t.val / 8) h (t.val % 8 * 4) r j := by
  obtain rfl := Fin.ext e
  refine (scr m c _ _ H r j).trans ?_
  have e1 : (t.val - 1) / 8 = t.val / 8 := by omega
  have e2 : (t.val - 1) % 8 * 4 + 4 = t.val % 8 * 4 := by omega
  rw [e1, e2]

/-- The retention's result at an index given by its sequence, chunk, row, head and column. -/
theorem out_coord (P : Proj) (C S : Tab) (W : FVec Ideal Cert.ReferenceIdeal.S512 .f32) (Y : Cert.ReferenceIdeal.S16384x512.Idx) (b i a : ℕ)
    (h : Fin 4) (r j : Fin 128) (hi : i < 8) (ha : a < 4) (e0 : (Y 0).val = (b * 8 + i) * 512 + (a * 128 + r.val))
    (e1 : (Y 1).val = h.val * 128 + j.val) :
    out P C S W Y = result P C S (fun h j => W (ix1 (hcol h j))) (fun h r s => DM (ix3 h r s)) (fun h r => ZE (ix2 h r))
      (fun h r => XI (ix2 h r)) (fun h => CD (ix1 h)) b h (i * 4 + a) r j := by
  unfold out
  have q0 : (Y 0).val / 4096 = b := by omega
  have q1 : (Y 0).val % 4096 / 128 = i * 4 + a := by omega
  have q2 : (Y 0).val % 128 = r.val := by omega
  have q3 : (Y 1).val / 128 = h.val := by omega
  have q4 : (Y 1).val % 128 = j.val := by omega
  simp only [q0, q1, q2, q3, q4, Fin.eta]

/-- The output block's index inside the whole array. -/
theorem emb9 (t : Fin cfg0.N) (y : S512x512.Idx) : ((win0_9.blk t).view.emb y 0).val = t.val * 512 + (y 0).val
    ∧ ((win0_9.blk t).view.emb y 1).val = (y 1).val := by
  constructor
  · blk_simp [idx t]
  · blk_simp [idx t]

/-- After the run the result array is the retention of the arguments. -/
theorem final (c : Dev nD) : (dats m 0 c).arrAt 9 (cfgs 0).N
    = out (m ((c : Thread nD τ).loc main_arg0)) (m ((c : Thread nD τ).loc main_arg1)) (m ((c : Thread nD τ).loc main_arg2))
        (m ((c : Thread nD τ).loc main_arg3)) := by
  refine (dats m 0 c).arrAt_eq_of_covers 9 _ (by decide +kernel) fun t hf y => ?_
  blk_simp
  rw [after0_9]
  have hD : ∀ (a h : Fin 4) (r j : Fin 128) (y : S512x512.Idx), (y 0).val = a.val * 128 + r.val → (y 1).val = h.val * 128 + j.val →
      out (m ((c : Thread nD τ).loc main_arg0)) (m ((c : Thread nD τ).loc main_arg1)) (m ((c : Thread nD τ).loc main_arg2))
        (m ((c : Thread nD τ).loc main_arg3)) ((win0_9.blk t).view.emb y) = _ := fun a h r j y e0 e1 =>
    out_coord _ _ _ _ _ (t.val / 8) (t.val % 8) a.val h r j (by omega) a.isLt
      ((emb9 t y).1.trans (by rw [e0]; omega)) ((emb9 t y).2.trans e1)
  by_cases h0 : t.val % 8 = 0
  · rw [outsAt0_A m c t h0]
    exact out_A c t h0 (rows m c t) (zero_at m c _ _ (by omega)) (fun y => out _ _ _ _ ((win0_9.blk t).view.emb y)) hD y
  · rw [outsAt0_B m c t h0]
    exact out_B c t h0 _ (rows m c t) (entering m c t h0) (fun y => out _ _ _ _ ((win0_9.blk t).view.emb y)) hD y

end Cert.KernelIdeal.RetValue

end
-- ==== Proof.RetRef.lean ====
/-
  The retention's reference, array by array: what its host operations before and after the loop over the chunks compute.
-/
module

public import proofs.«01_k».proof.Proof.RetConst
public import proofs.«01_k».proof.Proof.RetRun

@[expose] public section

set_option maxRecDepth 16384

noncomputable section

namespace Cert.ReferenceIdeal.RetRef

open Cert.ReferenceIdeal Cert.ReferenceIdeal.Gen Cert.ReferenceIdeal.Value Cert.ReferenceIdeal.RetRun
open Idealize.ShloMosaic Idealize.ShloMosaic.TcCoe Idealize.ShloMosaic.Tactic
open Idealize.SL.Sem Idealize.ShloMosaic.StableHlo
open Cert.Ret (Proj Tab LG POS DM DECAY ZE XI CD)

/-- The half of a table's columns that starts at `o`, spread over the heads. -/
def half (o : Fin 3 → ℕ) (h : S4x4096x128.Slices o S4x4096x64) (C : Tab) : FVec Ideal S4x4096x4x64 .f32 :=
  broadcastInDim S4x4096x4x64 ![0, 1, 2, 3] bcast_S4x4096x1x64_S4x4096x4x64_0_1_2_3
    (broadcastInDim S4x4096x1x64 ![0, 1, 3] bcast_S4x4096x64_S4x4096x1x64_0_1_3
      (extractStridedSlice S4x4096x64 o (shapeCast S4x4096x128 C shapeCasts_S16384x128_S4x4096x128) h))

/-- Rows of all heads, rotated: each half of the columns with its own columns of the tables. -/
def ROT (X : FVec Ideal S16384x512 .f32) (C S : Tab) : FVec Ideal S4x4096x4x128 .f32 :=
  concatenate S4x4096x4x128 3
    [⟨S4x4096x4x64, addf
      (mulf (extractStridedSlice S4x4096x4x64 ![0, 0, 0, 0] (shapeCast S4x4096x4x128 X shapeCasts_S16384x512_S4x4096x4x128) slices_S4x4096x4x128_S4x4096x4x64_0_0_0_0)
        (half ![0, 0, 0] slices_S4x4096x128_S4x4096x64_0_0_0 C))
      (mulf (extractStridedSlice S4x4096x4x64 ![0, 0, 0, 64] (shapeCast S4x4096x4x128 X shapeCasts_S16384x512_S4x4096x4x128) slices_S4x4096x4x128_S4x4096x4x64_0_0_0_64)
        (half ![0, 0, 0] slices_S4x4096x128_S4x4096x64_0_0_0 S))⟩,
     ⟨S4x4096x4x64, addf
      (mulf (extractStridedSlice S4x4096x4x64 ![0, 0, 0, 64] (shapeCast S4x4096x4x128 X shapeCasts_S16384x512_S4x4096x4x128) slices_S4x4096x4x128_S4x4096x4x64_0_0_0_64)
        (half ![0, 0, 64] slices_S4x4096x128_S4x4096x64_0_0_64 C))
      (mulf (extractStridedSlice S4x4096x4x64 ![0, 0, 0, 0] (shapeCast S4x4096x4x128 X shapeCasts_S16384x512_S4x4096x4x128) slices_S4x4096x4x128_S4x4096x4x64_0_0_0_0)
        (half ![0, 0, 64] slices_S4x4096x128_S4x4096x64_0_0_64 S))⟩]
    concatenates_S4x4096x4x64_S4x4096x4x64_S4x4096x4x128_d3

/-- Rows of all heads, by sequence, head and chunk. -/
def CHUNKS (X : FVec Ideal S4x4096x4x128 .f32) : FVec Ideal S4x4x32x128x128 .f32 :=
  transpose S4x4x32x128x128 [0, 3, 1, 2, 4] (shapeCast S4x32x128x4x128 X shapeCasts_S4x4096x4x128_S4x32x128x4x128)
    transposes_S4x32x128x4x128_S4x4x32x128x128_0_3_1_2_4

/-- The queries' chunks: rotated and scaled. -/
def QC (P : Proj) (C S : Tab) : FVec Ideal S4x4x32x128x128 .f32 :=
  CHUNKS (mulf (ROT (extractStridedSlice S16384x512 ![0, 0] P slices_S16384x5760_S16384x512_0_0) C S)
    (broadcastInDim S4x4096x4x128 ![] bcast_S_S4x4096x4x128 (constant S_ .f32 0x3DB504F3#32)))

/-- The keys' chunks: rotated. -/
def KC (P : Proj) (C S : Tab) : FVec Ideal S4x4x32x128x128 .f32 :=
  CHUNKS (ROT (extractStridedSlice S16384x512 ![0, 512] P slices_S16384x5760_S16384x512_0_512) C S)

/-- The values' chunks. -/
def VC (P : Proj) : FVec Ideal S4x4x32x128x128 .f32 :=
  CHUNKS (shapeCast S4x4096x4x128 (extractStridedSlice S16384x512 ![0, 1024] P slices_S16384x5760_S16384x512_0_1024) shapeCasts_S16384x512_S4x4096x4x128)

/-- The products inside the chunks. -/
def INTRA (Q K V : FVec Ideal S4x4x32x128x128 .f32) : FVec Ideal S4x4x32x128x128 .f32 :=
  Host.dotGeneral dot_S4x4x32x128x128_S4x4x32x128x128_S4x4x32x128x128_4_3_3_4_012_012 none
    (mulf (Host.dotGeneral dot_S4x4x32x128x128_S4x4x32x128x128_S4x4x32x128x128_4_4_3_3_012_012 none Q K)
      (broadcastInDim S4x4x32x128x128 ![0, 1, 2, 3, 4] bcast_S1x4x1x128x128_S4x4x32x128x128_0_1_2_3_4
        (broadcastInDim S1x4x1x128x128 ![1, 3, 4] bcast_S4x128x128_S1x4x1x128x128_1_3_4 DM))) V

/-- A row's decay, spread over the chunks and the columns. -/
def SPREAD (D : FVec Ideal S4x128 .f32) : FVec Ideal S4x4x32x128x128 .f32 :=
  broadcastInDim S4x4x32x128x128 ![0, 1, 2, 3, 4] bcast_S1x4x1x128x1_S4x4x32x128x128_0_1_2_3_4
    (broadcastInDim S1x4x1x128x1 ![1, 3] bcast_S4x128_S1x4x1x128x1_1_3 D)

/-- What each chunk adds to the state. -/
def KV (K V : FVec Ideal S4x4x32x128x128 .f32) : FVec Ideal S32x4x4x128x128 .f32 :=
  Host.dotGeneral dot_S4x4x32x128x128_S4x4x32x128x128_S32x4x4x128x128_3_3_4_4_201_201 none (mulf K (SPREAD ZE)) V

/-- The products before the norm, row by row, of the entering states' stack and the products inside the chunks. -/
def YS (Q : FVec Ideal S4x4x32x128x128 .f32) (ST : FVec Ideal S32x4x4x128x128 .f32) (Y : FVec Ideal S4x4x32x128x128 .f32) :
    FVec Ideal S4x4096x4x128 .f32 :=
  shapeCast S4x4096x4x128 (transpose S4x32x128x4x128 [0, 2, 3, 1, 4]
    (addf Y (mulf (Host.dotGeneral dot_S4x4x32x128x128_S32x4x4x128x128_S4x4x32x128x128_4_3_3_4_012_120 none Q ST) (SPREAD XI)))
    transposes_S4x4x32x128x128_S4x32x128x4x128_0_2_3_1_4) shapeCasts_S4x32x128x4x128_S4x4096x4x128

/-- The rows normalized and weighted. -/
def NORM (Y : FVec Ideal S4x4096x4x128 .f32) (W : FVec Ideal S512 .f32) : FVec Ideal S4x4096x4x128 .f32 :=
  mulf (mulf Y (broadcastInDim S4x4096x4x128 ![0, 1, 2, 3] bcast_S4x4096x4x1_S4x4096x4x128_0_1_2_3 (Host.rsqrt (addf (Host.divf
    (broadcastInDim S4x4096x4x1 ![0, 1, 2] bcast_S4x4096x4_S4x4096x4x1_0_1_2 (Host.reduceAdd (mulf Y Y) (constant S_ .f32 0x00000000#32)
      reducesTo_S4x4096x4x128_S4x4096x4_d3 h_S_)) (broadcastInDim S4x4096x4x1 ![] bcast_S_S4x4096x4x1 (constant S_ .f32 0x43000000#32)))
    (broadcastInDim S4x4096x4x1 ![] bcast_S_S4x4096x4x1 (constant S_ .f32 0x358637BD#32))))))
    (broadcastInDim S4x4096x4x128 ![0, 1, 2, 3] bcast_S1x1x4x128_S4x4096x4x128_0_1_2_3
      (broadcastInDim S1x1x4x128 ![2, 3] bcast_S4x128_S1x1x4x128_2_3 (shapeCast S4x128 W shapeCasts_S512_S4x128)))

/-- The gate's activation. -/
def SILU (G : FVec Ideal S4x4096x512 .f32) : FVec Ideal S4x4096x512 .f32 :=
  mulf G (Host.divf (broadcastInDim S4x4096x512 ![] bcast_S_S4x4096x512 (constant S_ .f32 0x3F800000#32))
    (addf (broadcastInDim S4x4096x512 ![] bcast_S_S4x4096x512 (constant S_ .f32 0x3F800000#32)) (Host.exp (Host.negf G))))

/-- The result from the products before the norm, the gates and the weights. -/
def GATED (Y : FVec Ideal S4x4096x4x128 .f32) (G : FVec Ideal S16384x512 .f32) (W : FVec Ideal S512 .f32) : FVec Ideal S16384x512 .f32 :=
  shapeCast S16384x512 (mulf (shapeCast S4x4096x512 (NORM Y W) shapeCasts_S4x4096x4x128_S4x4096x512)
    (SILU (shapeCast S4x4096x512 G shapeCasts_S16384x512_S4x4096x512))) shapeCasts_S4x4096x512_S16384x512

set_option maxHeartbeats 4000000 in
/-- The result after the operations that follow the loop, from any contents with the decays' logarithm and the positions in place. -/
theorem post_eq (X : Valuation τ sig (Elt Ideal)) (h66 : X (Proc.devRef .tc main_v66) = LG) (h67 : X (Proc.devRef .tc main_v67) = POS) :
    after hostOps0_7 (after hostOps0_6 (after hostOps0_5 X)) (Proc.devRef .tc main_v142)
      = GATED (YS (X (Proc.devRef .tc main_v54)) (X (Proc.devRef .tc main_v108_4)) (X (Proc.devRef .tc main_v87)))
          (X (Proc.devRef .tc main_v3)) (X (Proc.devRef .tc main_arg3)) := by
  after_reads_simp
  simp only [h66, h67]
  rfl

variable (m : (ℓ : Loc nD τ sig) → Buf (Elt Ideal) ℓ)

set_option maxHeartbeats 4000000 in
/-- The logarithm of the decays, at the loop's entry. -/
theorem entry_v66 (c : Dev nD) : entryContents preI m c (Proc.devRef .tc main_v66)
    = LG := by
  simp only [entryContents, afterL_cons, afterL_nil]
  after_reads_simp
  rfl

set_option maxHeartbeats 4000000 in
/-- The positions, at the loop's entry. -/
theorem entry_v67 (c : Dev nD) : entryContents preI m c (Proc.devRef .tc main_v67)
    = POS := by
  simp only [entryContents, afterL_cons, afterL_nil]
  after_reads_simp
  rfl

set_option maxHeartbeats 4000000 in
/-- The gates, at the loop's entry. -/
theorem entry_v3 (c : Dev nD) : entryContents preI m c (Proc.devRef .tc main_v3)
    = extractStridedSlice S16384x512 ![0, 1536] (m ((c.tc : Thread nD τ).loc main_arg0)) slices_S16384x5760_S16384x512_0_1536 := by
  simp only [entryContents, afterL_cons, afterL_nil]
  after_reads_simp

set_option maxHeartbeats 4000000 in
/-- The queries' chunks, at the loop's entry. -/
theorem entry_v54 (c : Dev nD) : entryContents preI m c (Proc.devRef .tc main_v54)
    = QC (m ((c.tc : Thread nD τ).loc main_arg0)) (m ((c.tc : Thread nD τ).loc main_arg1)) (m ((c.tc : Thread nD τ).loc main_arg2)) := by
  simp only [entryContents, afterL_cons, afterL_nil]
  after_reads_simp
  rfl

set_option maxHeartbeats 4000000 in
/-- The products inside the chunks, at the loop's entry. -/
theorem entry_v87 (c : Dev nD) : entryContents preI m c (Proc.devRef .tc main_v87)
    = INTRA (QC (m ((c.tc : Thread nD τ).loc main_arg0)) (m ((c.tc : Thread nD τ).loc main_arg1)) (m ((c.tc : Thread nD τ).loc main_arg2))) (KC (m ((c.tc : Thread nD τ).loc main_arg0)) (m ((c.tc : Thread nD τ).loc main_arg1)) (m ((c.tc : Thread nD τ).loc main_arg2))) (VC (m ((c.tc : Thread nD τ).loc main_arg0))) := by
  simp only [entryContents, afterL_cons, afterL_nil]
  after_reads_simp
  rfl

set_option maxHeartbeats 4000000 in
/-- What each chunk adds to the state, at the loop's entry. -/
theorem entry_v108_0 (c : Dev nD) : entryContents preI m c (Proc.devRef .tc main_v108_0)
    = KV (KC (m ((c.tc : Thread nD τ).loc main_arg0)) (m ((c.tc : Thread nD τ).loc main_arg1)) (m ((c.tc : Thread nD τ).loc main_arg2))) (VC (m ((c.tc : Thread nD τ).loc main_arg0))) := by
  simp only [entryContents, afterL_cons, afterL_nil]
  after_reads_simp
  rfl

set_option maxHeartbeats 4000000 in
/-- The decay over a chunk, at the loop's entry. -/
theorem entry_v108_1 (c : Dev nD) : entryContents preI m c (Proc.devRef .tc main_v108_1)
    = broadcastInDim S1x4x1x1 ![1] bcast_S4_S1x4x1x1_1 CD := by
  simp only [entryContents, afterL_cons, afterL_nil]
  after_reads_simp
  rfl

set_option maxHeartbeats 4000000 in
/-- The first state, at the loop's entry. -/
theorem entry_v108_3 (c : Dev nD) : entryContents preI m c (Proc.devRef .tc main_v108_3)
    = (broadcastInDim S4x4x128x128 ![] bcast_S_S4x4x128x128 (constant S_ .f32 0x00000000#32) : FVec Ideal S4x4x128x128 .f32) := by
  simp only [entryContents, afterL_cons, afterL_nil]
  after_reads_simp
  rfl

/-- The norm's weights, at the loop's entry. -/
theorem entry_arg3 (c : Dev nD) : entryContents preI m c (Proc.devRef .tc main_arg3) = m ((c.tc : Thread nD τ).loc main_arg3) := by
  simp only [entryContents, afterL_cons, afterL_nil]
  after_reads_simp

/-- The result array after the whole run, by the stack of entering states the loop leaves. -/
theorem final_eq (c : Dev nD) : finalContents condOps preI bodyI postI 32 m c (Proc.devRef .tc main_v142)
    = GATED (YS (QC (m ((c.tc : Thread nD τ).loc main_arg0)) (m ((c.tc : Thread nD τ).loc main_arg1)) (m ((c.tc : Thread nD τ).loc main_arg2)))
        (atK m 32 c (Proc.devRef .tc main_v108_4))
        (INTRA (QC (m ((c.tc : Thread nD τ).loc main_arg0)) (m ((c.tc : Thread nD τ).loc main_arg1)) (m ((c.tc : Thread nD τ).loc main_arg2)))
          (KC (m ((c.tc : Thread nD τ).loc main_arg0)) (m ((c.tc : Thread nD τ).loc main_arg1)) (m ((c.tc : Thread nD τ).loc main_arg2)))
          (VC (m ((c.tc : Thread nD τ).loc main_arg0)))))
        (extractStridedSlice S16384x512 ![0, 1536] (m ((c.tc : Thread nD τ).loc main_arg0)) slices_S16384x5760_S16384x512_0_1536)
        (m ((c.tc : Thread nD τ).loc main_arg3)) := by
  have hk : ∀ r : Ref sig .tc, r ∉ tripW → after condOps (atK m 32 c) (Proc.devRef .tc r) = entryContents preI m c (Proc.devRef .tc r) :=
    fun r h => (after_of_writes_sub condOps _ condOps_writes (fun h' => h (by
      simp only [tripW, List.mem_append]; exact Or.inl (Or.inl (Or.inl (Or.inl h')))))).trans (atK_keep m c r h 32)
  refine (post_eq (after condOps (atK m 32 c)) ((hk main_v66 (by decide +kernel)).trans (entry_v66 m c))
    ((hk main_v67 (by decide +kernel)).trans (entry_v67 m c))).trans ?_
  rw [hk main_v54 (by decide +kernel), hk main_v87 (by decide +kernel), hk main_v3 (by decide +kernel), hk main_arg3 (by decide +kernel),
    entry_v54, entry_v87, entry_v3, cond_keeps (atK m 32 c) main_v108_4 (by decide), entry_arg3]

end Cert.ReferenceIdeal.RetRef

end
-- ==== Proof.RetArr.lean ====
/-
  The arrays of the retention's reference, entry by entry: chunks, products and increments in terms of the rotated rows.
-/
module

public import proofs.«01_k».proof.Proof.RetRef
public import Idealize.ShloMosaic.Lib.Pipeline.ValueKit
public import Idealize.ShloMosaic.Lib.Pointwise

@[expose] public section

set_option maxRecDepth 16384

noncomputable section

namespace Cert.ReferenceIdeal.RetArr

open Cert.ReferenceIdeal Cert.ReferenceIdeal.Gen Cert.ReferenceIdeal.RetRef
open Idealize.ShloMosaic
open Cert.Ret

variable (P : Proj) (C S : Tab)

/-- The queries' rows, rotated, at an index. -/
theorem rot0_at (b : Fin 4) (s : Fin 4096) (h : Fin 4) (j : Fin 128) :
    ROT (extractStridedSlice S16384x512 ![0, 0] P slices_S16384x5760_S16384x512_0_0) C S (ix4 b s h j)
      = rot P C S 0 h ⟨b.val * 4096 + s.val, by omega⟩ j := by
  pointwise [ROT, half, rot]
  by_cases hj : j.val < 64
  · rw [dif_pos hj]
    refine congrArg₂ (· + ·) (congrArg (P · * _) (congrArg (ix2 _) (Fin.ext ?_))) (congrArg (P · * _) (congrArg (ix2 _) (Fin.ext ?_))) <;>
      simp <;> omega
  · rw [dif_neg hj]
    refine congrArg₂ (· + ·)
      (congrArg₂ (· * ·) (congrArg P (congrArg (ix2 _) (Fin.ext ?_))) (congrArg C (congrArg (ix2 _) (Fin.ext ?_))))
      (congrArg₂ (· * ·) (congrArg P (congrArg (ix2 _) (Fin.ext ?_))) (congrArg S (congrArg (ix2 _) (Fin.ext ?_)))) <;>
      simp <;> omega

/-- The keys' rows, rotated, at an index. -/
theorem rot1_at (b : Fin 4) (s : Fin 4096) (h : Fin 4) (j : Fin 128) :
    ROT (extractStridedSlice S16384x512 ![0, 512] P slices_S16384x5760_S16384x512_0_512) C S (ix4 b s h j)
      = rot P C S 1 h ⟨b.val * 4096 + s.val, by omega⟩ j := by
  pointwise [ROT, half, rot]
  by_cases hj : j.val < 64
  · rw [dif_pos hj]
    refine congrArg₂ (· + ·) (congrArg (P · * _) (congrArg (ix2 _) (Fin.ext ?_))) (congrArg (P · * _) (congrArg (ix2 _) (Fin.ext ?_))) <;>
      simp <;> omega
  · rw [dif_neg hj]
    refine congrArg₂ (· + ·)
      (congrArg₂ (· * ·) (congrArg P (congrArg (ix2 _) (Fin.ext ?_))) (congrArg C (congrArg (ix2 _) (Fin.ext ?_))))
      (congrArg₂ (· * ·) (congrArg P (congrArg (ix2 _) (Fin.ext ?_))) (congrArg S (congrArg (ix2 _) (Fin.ext ?_)))) <;>
      simp <;> omega

/-- The increments at an index. -/
theorem kv_at (K V : FVec Ideal S4x4x32x128x128 .f32) (n : Fin 32) (b h : Fin 4) (i j : Fin 128) :
    KV K V (ix5 n b h i j) = ∑ r : Fin 128, K (ix5 b h n r i) * ZE (ix2 h r) * V (ix5 b h n r j) := by
  pointwise [KV, SPREAD]

/-- The rows by chunks at an index: row `i` of chunk `n` is row `n * 128 + i` of its sequence. -/
theorem chunks_at (X : FVec Ideal S4x4096x4x128 .f32) (n : Fin 32) (b h : Fin 4) (i j : Fin 128) :
    CHUNKS X (ix5 b h n i j) = X (ix4 b (⟨n.val * 128 + i.val, by omega⟩ : Fin 4096) h j) := by
  pointwise [CHUNKS]

/-- The products inside a chunk at an index. -/
theorem intra_at (Q K V : FVec Ideal S4x4x32x128x128 .f32) (n : Fin 32) (b h : Fin 4) (i j : Fin 128) :
    INTRA Q K V (ix5 b h n i j) = ∑ s : Fin 128, (∑ d : Fin 128, Q (ix5 b h n i d) * K (ix5 b h n s d)) * DM (ix3 h i s) * V (ix5 b h n s j) := by
  pointwise [INTRA]

/-- The products before the norm at a row: those inside the row's chunk, and those with the state that entered it. -/
theorem ys_at (Q Y : FVec Ideal S4x4x32x128x128 .f32) (T : FVec Ideal S32x4x4x128x128 .f32) (n : Fin 32) (b h : Fin 4) (i j : Fin 128) :
    YS Q T Y (ix4 b (⟨n.val * 128 + i.val, by omega⟩ : Fin 4096) h j) = Y (ix5 b h n i j) + (∑ d : Fin 128, Q (ix5 b h n i d) * T (ix5 n b h d j)) * XI (ix2 h i) := by
  pointwise [YS, SPREAD]

/-- The result at an index: the product's row normalized, weighted and gated. -/
theorem gated_at (Y : FVec Ideal S4x4096x4x128 .f32) (G : FVec Ideal S16384x512 .f32) (W : FVec Ideal S512 .f32) (b : Fin 4) (s : Fin 4096) (h : Fin 4) (j : Fin 128) :
    GATED Y G W (ix2 (⟨b.val * 4096 + s.val, by omega⟩ : Fin 16384) (hcol h j))
      = Y (ix4 b s h j) * Ideal.rsqrt (Ideal.div (∑ e : Fin 128, Y (ix4 b s h e) * Y (ix4 b s h e)) (Ideal.ofBits .f32 0x43000000#32)
          + Ideal.ofBits .f32 0x358637BD#32) * W (ix1 (hcol h j))
        * (G (ix2 (⟨b.val * 4096 + s.val, by omega⟩ : Fin 16384) (hcol h j)) * Ideal.logistic (G (ix2 (⟨b.val * 4096 + s.val, by omega⟩ : Fin 16384) (hcol h j)))) := by
  pointwise [GATED, NORM, SILU]
  have e1 : (h.val * 128 + j.val) / 128 = h.val := by omega
  have e2 : (h.val * 128 + j.val) % 128 = j.val := by omega
  simp only [e1, e2, Fin.eta]
  rfl

end Cert.ReferenceIdeal.RetArr

end
-- ==== Proof.RetLoop.lean ====
/-
  The loop of the retention's reference: before every trip it carries the state that enters that trip's chunk, and its
  stack holds the states that entered the chunks before. With this the reference's result is the retention's result array.
-/
module

public import proofs.«01_k».proof.Proof.RetArr
public import Idealize.ShloMosaic.Lib.WordCmp
public import Idealize.ShloMosaic.Lib.Scf

@[expose] public section

set_option maxRecDepth 16384

noncomputable section

namespace Cert.ReferenceIdeal.RetLoop

open Cert.ReferenceIdeal Cert.ReferenceIdeal.Gen Cert.ReferenceIdeal.Value Cert.ReferenceIdeal.RetRun Cert.ReferenceIdeal.RetRef
open Cert.ReferenceIdeal.RetArr
open Idealize.ShloMosaic Idealize.ShloMosaic.TcCoe Idealize.ShloMosaic.Tactic
open Idealize.SL.Sem Idealize.ShloMosaic.StableHlo
open Cert.Ret

/-- The starts of a chunk's slice of a stack. -/
abbrev starts (k : ℕ) : Fin 5 → ℕ := ![k, 0, 0, 0, 0]

/-- A chunk's slice lies inside the stack. -/
theorem starts_fit (k : Fin 32) : S32x4x4x128x128.Slices (starts k.val) S1x4x4x128x128 :=
  ⟨rfl, fun a => by fin_cases a <;> simp [starts] <;> omega⟩

/-- The increment read in a trip. -/
theorem slice_at (X : FVec Ideal S32x4x4x128x128 .f32) (st : Fin 5 → Int) (k : Fin 32) (e : ∀ a, st a = (starts k.val a : Int))
    (b h : Fin 4) (i j : Fin 128) :
    shapeCast S4x4x128x128 (Host.dynamicSlice S1x4x4x128x128 X st sliceFits_S32x4x4x128x128_S1x4x4x128x128)
      shapeCasts_S1x4x4x128x128_S4x4x128x128 (ix4 b h i j) = X (ix5 k b h i j) := by
  rw [WordCmp.dynamicSlice_eq_extract _ X st _ _ (starts_fit k) e]
  pointwise [starts]

/-- The stack after a trip: the trip's chunk holds the state carried into it, the others what they held. -/
theorem stack_at (X : FVec Ideal S32x4x4x128x128 .f32) (Y : FVec Ideal S4x4x128x128 .f32) (st : Fin 5 → Int) (k : Fin 32)
    (e : ∀ a, st a = (starts k.val a : Int)) (n : Fin 32) (b h : Fin 4) (i j : Fin 128) :
    Host.dynamicUpdateSlice X (broadcastInDim S1x4x4x128x128 ![1, 2, 3, 4] bcast_S4x4x128x128_S1x4x4x128x128_1_2_3_4 Y) st
      updateFits_S32x4x4x128x128_S1x4x4x128x128 (ix5 n b h i j) = if n = k then Y (ix4 b h i j) else X (ix5 n b h i j) := by
  rw [WordCmp.dynamicUpdateSlice_eq_update X _ st _ _ (starts_fit k) e]
  pointwise [starts]
  by_cases hn : n = k
  · rw [if_pos hn, dif_pos ⟨by rw [hn], by rw [hn]; omega⟩]
  · rw [if_neg hn, dif_neg fun h' => hn (Fin.ext (by omega))]

variable (m : (ℓ : Loc nD τ sig) → Buf (Elt Ideal) ℓ)

/-- The trip's counter as starts. -/
theorem starts_eq (c : Dev nD) (k : Fin 32) (X : Valuation τ sig (Elt Ideal)) (hX : X (Proc.devRef .tc main_v108_2) = fun _ => Scf.iv 0#32 1#32 k.val) (a : Fin 5) :
    (((![X (Proc.devRef .tc main_v108_2), constantI S_ 32 0#32, constantI S_ 32 0#32, constantI S_ 32 0#32, constantI S_ 32 0#32] : Fin 5 → (⟨S_, .i32⟩ : BufTy).Contents (Elt Ideal))) a (Shape.Idx.first h_S_)).toInt
      = (starts k.val a : Int) := by
  rw [hX]
  fin_cases a
  · show (Scf.iv 0#32 1#32 k.val).toInt = _
    have : ∀ k : Fin 32, (Scf.iv 0#32 1#32 k.val).toInt = ((starts k.val 0 : ℕ) : Int) := by decide +kernel
    exact this k
  all_goals rfl

/-- The increments stay in place through the loop. -/
theorem incr_eq (c : Dev nD) : ∀ k, atK m k c (Proc.devRef .tc main_v108_0)
    = KV (KC (m ((c.tc : Thread nD τ).loc main_arg0)) (m ((c.tc : Thread nD τ).loc main_arg1)) (m ((c.tc : Thread nD τ).loc main_arg2))) (VC (m ((c.tc : Thread nD τ).loc main_arg0)))
  | 0 => entry_v108_0 m c
  | k + 1 => (trip_main_v108_0 (after condOps (atK m k c))).trans
      ((cond_keeps (atK m k c) main_v108_0 (by decide)).trans (incr_eq c k))

/-- The decay over a chunk stays in place through the loop. -/
theorem decay_eq (c : Dev nD) : ∀ k, atK m k c (Proc.devRef .tc main_v108_1) = broadcastInDim S1x4x1x1 ![1] bcast_S4_S1x4x1x1_1 CD
  | 0 => entry_v108_1 m c
  | k + 1 => (trip_main_v108_1 (after condOps (atK m k c))).trans
      ((cond_keeps (atK m k c) main_v108_1 (by decide)).trans (decay_eq c k))

/-- The entering state with the reference's decays. -/
abbrev ST (P : Proj) (C S : Tab) (b h : Fin 4) (n : ℕ) (i j : Fin 128) : EReal :=
  state P C S (fun h r => ZE (ix2 h r)) (fun h => CD (ix1 h)) b.val h n i j

/-- A key's entry in its chunk. -/
theorem keys_at (P : Proj) (C S : Tab) (n : Fin 32) (b h : Fin 4) (r j : Fin 128) :
    KC P C S (ix5 b h n r j) = rot P C S 1 h (row b.val n.val r) j := by
  unfold KC
  rw [chunks_at, rot1_at]
  exact congrArg (fun R => rot P C S 1 h R j) (Fin.ext (by simp; omega))

/-- A query's entry in its chunk. -/
theorem queries_at (P : Proj) (C S : Tab) (n : Fin 32) (b h : Fin 4) (r j : Fin 128) :
    QC P C S (ix5 b h n r j) = query P C S h (row b.val n.val r) j := by
  unfold QC query
  rw [chunks_at, mulf_apply, rot0_at]
  exact congrArg (fun R => rot P C S 0 h R j * Ideal.ofBits .f32 0x3DB504F3#32) (Fin.ext (by simp; omega))

/-- A value's entry in its chunk. -/
theorem values_at (P : Proj) (n : Fin 32) (b h : Fin 4) (r j : Fin 128) :
    VC P (ix5 b h n r j) = P (ix2 (row b.val n.val r) (col 2 h j)) := by
  unfold VC
  rw [chunks_at]
  pointwise
  refine congrArg P (congrArg₂ ix2 (Fin.ext ?_) (Fin.ext ?_)) <;> simp <;> omega

/-- Before a trip the loop carries the state that enters the trip's chunk. -/
theorem state_eq (c : Dev nD) (b h : Fin 4) (i j : Fin 128) : ∀ k, k ≤ 32 →
    (atK m k c (Proc.devRef .tc main_v108_3) : FVec Ideal S4x4x128x128 .f32) (ix4 b h i j) = ST (m ((c.tc : Thread nD τ).loc main_arg0)) (m ((c.tc : Thread nD τ).loc main_arg1)) (m ((c.tc : Thread nD τ).loc main_arg2)) b h k i j
  | 0, _ => by
      rw [show atK m 0 c = entryContents preI m c from rfl, entry_v108_3]
      pointwise [ST, state]
  | k + 1, hk => by
      have ih := state_eq c b h i j k (by omega)
      have hc := cond_keeps (atK m k c)
      rw [show atK m (k + 1) c = afterL bodyI (after condOps (atK m k c)) from rfl, trip_main_v108_3,
        hc main_v108_0 (by decide), hc main_v108_1 (by decide), hc main_v108_3 (by decide), incr_eq, decay_eq]
      refine congrArg₂ (· + ·) (congrArg₂ (· * ·) ?_ ih) ((slice_at _ _ ⟨k, by omega⟩ (starts_eq c ⟨k, by omega⟩ _ ?_) b h i j).trans ?_)
      · pointwise
      · rw [hc main_v108_2 (by decide), atK_ctr]
      · rw [kv_at]
        exact Finset.sum_congr rfl fun r _ => by rw [keys_at, values_at]

/-- The stack holds the states that entered the chunks already passed. -/
theorem stack_eq (c : Dev nD) (n : Fin 32) (b h : Fin 4) (i j : Fin 128) : ∀ k, k ≤ 32 → n.val < k →
    (atK m k c (Proc.devRef .tc main_v108_4) : FVec Ideal S32x4x4x128x128 .f32) (ix5 n b h i j) = ST (m ((c.tc : Thread nD τ).loc main_arg0)) (m ((c.tc : Thread nD τ).loc main_arg1)) (m ((c.tc : Thread nD τ).loc main_arg2)) b h n.val i j
  | k + 1, hk, hn => by
      have hc := cond_keeps (atK m k c)
      rw [show atK m (k + 1) c = afterL bodyI (after condOps (atK m k c)) from rfl, trip_main_v108_4,
        hc main_v108_3 (by decide), hc main_v108_4 (by decide)]
      refine (stack_at _ _ _ ⟨k, by omega⟩ (starts_eq c ⟨k, by omega⟩ _ ?_) n b h i j).trans ?_
      · rw [hc main_v108_2 (by decide), atK_ctr]
      by_cases e : n = ⟨k, by omega⟩
      · rw [if_pos e, state_eq m c b h i j k (by omega), e]
      · rw [if_neg e]
        exact stack_eq c n b h i j k (by omega) (by
          have : n.val ≠ k := fun h' => e (Fin.ext h')
          omega)

/-- The reference's result from any stack that holds the entering states. -/
theorem result_eq (P : Proj) (C S : Tab) (W : FVec Ideal S512 .f32) (T : FVec Ideal S32x4x4x128x128 .f32)
    (hT : ∀ (n : Fin 32) (b h : Fin 4) (i j : Fin 128), T (ix5 n b h i j) = ST P C S b h n.val i j) :
    GATED (YS (QC P C S) T (INTRA (QC P C S) (KC P C S) (VC P)))
      (extractStridedSlice S16384x512 ![0, 1536] P slices_S16384x5760_S16384x512_0_1536) W = out P C S W := by
  have hY : ∀ (b : Fin 4) (n : Fin 32) (r : Fin 128) (h : Fin 4) (j : Fin 128),
      YS (QC P C S) T (INTRA (QC P C S) (KC P C S) (VC P)) (ix4 b (⟨n.val * 128 + r.val, by omega⟩ : Fin 4096) h j)
        = prod P C S (fun h r s => DM (ix3 h r s)) (fun h r => ZE (ix2 h r)) (fun h r => XI (ix2 h r)) (fun h => CD (ix1 h)) b.val h n.val r j := by
    intro b n r h j
    rw [ys_at, intra_at]
    simp only [queries_at, keys_at, values_at, hT]
    rfl
  funext y
  have h0 : (y 0).val < 16384 := (y 0).isLt
  have h1 : (y 1).val < 512 := (y 1).isLt
  obtain ⟨b, n, r, e0⟩ : ∃ (b : Fin 4) (n : Fin 32) (r : Fin 128), (y 0).val = b.val * 4096 + (n.val * 128 + r.val) :=
    ⟨⟨(y 0).val / 4096, by omega⟩, ⟨(y 0).val % 4096 / 128, by omega⟩, ⟨(y 0).val % 128, by omega⟩, by simp only []; omega⟩
  obtain ⟨h, j, e1⟩ : ∃ (h : Fin 4) (j : Fin 128), (y 1).val = h.val * 128 + j.val :=
    ⟨⟨(y 1).val / 128, by omega⟩, ⟨(y 1).val % 128, by omega⟩, by simp only []; omega⟩
  have hy : y = ix2 (⟨b.val * 4096 + (n.val * 128 + r.val), by omega⟩ : Fin 16384) (hcol h j) := by
    funext a
    fin_cases a
    · exact Fin.ext e0
    · exact Fin.ext e1
  have q0 : (y 0).val / 4096 = b.val := by omega
  have q1 : (y 0).val % 4096 / 128 = n.val := by omega
  have q2 : (y 0).val % 128 = r.val := by omega
  have q3 : (y 1).val / 128 = h.val := by omega
  have q4 : (y 1).val % 128 = j.val := by omega
  have hR : out P C S W y = result P C S (fun h j => W (ix1 (hcol h j))) (fun h r s => DM (ix3 h r s)) (fun h r => ZE (ix2 h r))
      (fun h r => XI (ix2 h r)) (fun h => CD (ix1 h)) b.val h n.val r j := by
    unfold out
    simp only [q0, q1, q2, q3, q4, Fin.eta]
  rw [hR, hy]
  refine (gated_at _ _ W b ⟨n.val * 128 + r.val, by omega⟩ h j).trans ?_
  simp only [hY]
  have hG : extractStridedSlice S16384x512 ![0, 1536] P slices_S16384x5760_S16384x512_0_1536
      (ix2 (⟨b.val * 4096 + (n.val * 128 + r.val), by omega⟩ : Fin 16384) (hcol h j)) = P (ix2 (row b.val n.val r) (col 3 h j)) := by
    pointwise
    refine congrArg P (congrArg₂ ix2 (Fin.ext ?_) (Fin.ext ?_)) <;> simp <;> omega
  rw [hG]
  rfl

/-- The reference's result array after the whole run is the retention of its arguments. -/
theorem final_out (c : Dev nD) : finalContents condOps preI bodyI postI 32 m c (Proc.devRef .tc main_v142)
    = out (m ((c.tc : Thread nD τ).loc main_arg0)) (m ((c.tc : Thread nD τ).loc main_arg1)) (m ((c.tc : Thread nD τ).loc main_arg2)) (m ((c.tc : Thread nD τ).loc main_arg3)) :=
  (final_eq m c).trans (result_eq _ _ _ _ _ fun n b h i j => stack_eq m c n b h i j 32 (by omega) n.isLt)

/-- The reference for the retention runs to its end from any launch, leaves the retention of its arguments in its result,
    and its arguments as they were. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v142) = out (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  θ_run_mono (run_fold m ρ) fun r h c => ⟨(h c main_v142 rfl).trans (final_out m c),
    (h c main_arg0 rfl).trans (final_keep m c main_arg0 (by decide +kernel) (by decide +kernel)),
    (h c main_arg1 rfl).trans (final_keep m c main_arg1 (by decide +kernel) (by decide +kernel)),
    (h c main_arg2 rfl).trans (final_keep m c main_arg2 (by decide +kernel) (by decide +kernel)),
    (h c main_arg3 rfl).trans (final_keep m c main_arg3 (by decide +kernel) (by decide +kernel))⟩

end Cert.ReferenceIdeal.RetLoop

end
-- ==== Proof.SsdRun.lean ====
/-
  The run of the state-space layer's reference: what its loop over the chunks leaves alone, and that the whole run leaves
  the arguments as they were.
-/
module

public import proofs.«01_k».proof.Defs
public import proofs.«01_k».proof.Proof.Gen.ReferenceSsdIdeal.Run
public import Idealize.ShloMosaic.Lib.Quiescent
public import Idealize.ShloMosaic.Lib.StableHlo.RunHlo

@[expose] public section

set_option maxRecDepth 8192

noncomputable section

namespace Cert.ReferenceSsdIdeal.SsdRun

open Cert.ReferenceSsdIdeal Cert.ReferenceSsdIdeal.Gen Cert.ReferenceSsdIdeal.Value
open Idealize.ShloMosaic Idealize.ShloMosaic.TcCoe Idealize.ShloMosaic.Tactic
open Idealize.SL.Sem Idealize.ShloMosaic.StableHlo

variable {F : FTy → Type} [FloatOps F]

/-- The buffers one trip of the loop over the chunks writes. -/
abbrev tripW : List (Ref sig .tc) := condOps_W ++ (while0Ops0_W ++ (while0Ops0_1_W ++ (while0Ops0_2_W ++ (while0Ops0_3_W ++ (while0Ops0_4_W)))))

/-- A buffer the loop does not write keeps its contents through one trip. -/
theorem trip_keep (X : Valuation τ sig (Elt F)) (r : Ref sig .tc) (h : r ∉ tripW) :
    afterL bodyI (after condOps X) (Proc.devRef .tc r) = X (Proc.devRef .tc r) := by
  simp only [tripW, List.mem_append, not_or] at h
  obtain ⟨hc, h0, h1, h2, h3, h4⟩ := h
  simp only [afterL_cons, afterL_nil]
  rw [after_of_writes_sub while0Ops0_4 _ while0Ops0_4_writes h4, after_of_writes_sub while0Ops0_3 _ while0Ops0_3_writes h3, after_of_writes_sub while0Ops0_2 _ while0Ops0_2_writes h2, after_of_writes_sub while0Ops0_1 _ while0Ops0_1_writes h1, after_of_writes_sub while0Ops0 _ while0Ops0_writes h0,
    after_of_writes_sub condOps _ condOps_writes hc]

variable (m : (ℓ : Loc nD τ sig) → Buf (Elt F) ℓ)

/-- A buffer the loop does not write holds, before every trip, what it held at the loop's entry. -/
theorem atK_keep (c : Dev nD) (r : Ref sig .tc) (h : r ∉ tripW) :
    ∀ k, atK m k c (Proc.devRef .tc r) = entryContents preI m c (Proc.devRef .tc r)
  | 0 => rfl
  | k + 1 => (trip_keep (atK m k c) r h).trans (atK_keep c r h k)

/-- The buffers written after the loop. -/
abbrev postW0 : List (Ref sig .tc) := [main_v97, main_v98, main_v99, main_v100, main_v101, main_v102, main_v103, main_v104, main_v105, main_v106, main_v107, main_v108, main_v109, main_v110]
abbrev postW1 : List (Ref sig .tc) := [main_call10_v0, main_call10_v1, main_call10_cst, main_call10_v2, main_call10_v3, main_call10_cst_0, main_call10_v4, main_call10_v5, main_v111]
abbrev postW2 : List (Ref sig .tc) := [main_v112, main_v113, main_v114, main_cst_6, main_v115, main_v116, main_cst_7, main_v117, main_v118, main_cst_8, main_v119, main_v120, main_v121, main_v122, main_v123, main_v124, main_v125, main_v126, main_v127, main_v128]

theorem post0_writes : (hostOps0_15 : List (HloOp τ sig (Elt F))).Forall fun op => op.writes ⊆ (postW0.map (Proc.devRef (τ := τ) .tc)).toFinset :=
  forall_writes_sub_of_map rfl
theorem post1_writes : (hostOps0_16 : List (HloOp τ sig (Elt F))).Forall fun op => op.writes ⊆ (postW1.map (Proc.devRef (τ := τ) .tc)).toFinset :=
  forall_writes_sub_of_map rfl
theorem post2_writes : (hostOps0_17 : List (HloOp τ sig (Elt F))).Forall fun op => op.writes ⊆ (postW2.map (Proc.devRef (τ := τ) .tc)).toFinset :=
  forall_writes_sub_of_map rfl

/-- The buffers the whole program writes. -/
abbrev allW : List (Ref sig .tc) :=
  hostOps0_W ++ (hostOps0_1_W ++ (hostOps0_2_W ++ (hostOps0_3_W ++ (hostOps0_4_W ++ (hostOps0_5_W ++ (hostOps0_6_W ++ (hostOps0_7_W ++ (hostOps0_8_W ++ (hostOps0_9_W ++ (hostOps0_10_W ++ (hostOps0_11_W ++ (hostOps0_12_W ++ (hostOps0_13_W ++ (hostOps0_14_W ++ (postW0 ++ (postW1 ++ (postW2)))))))))))))))))

/-- A buffer that nothing in the program writes ends as it was at the start. -/
theorem final_keep (c : Dev nD) (r : Ref sig .tc) (h : r ∉ allW) (ht : r ∉ tripW) :
    finalContents condOps preI bodyI postI 32 m c (Proc.devRef .tc r) = m ((c : Thread nD τ).loc r) := by
  simp only [allW, List.mem_append, not_or] at h
  obtain ⟨h0, h1, h2, h3, h4, h5, h6, h7, h8, h9, h10, h11, h12, h13, h14, h15, h16, h17⟩ := h
  have hc : r ∉ condOps_W := fun h' => ht (List.mem_append.mpr (Or.inl h'))
  show after hostOps0_17 (after hostOps0_16 (after hostOps0_15 (after condOps (atK m 32 c)))) (Proc.devRef .tc r) = _
  rw [after_of_writes_sub hostOps0_17 _ post2_writes h17, after_of_writes_sub hostOps0_16 _ post1_writes h16,
    after_of_writes_sub hostOps0_15 _ post0_writes h15, after_of_writes_sub condOps _ condOps_writes hc, atK_keep m c r ht]
  simp only [entryContents, afterL_cons, afterL_nil]
  rw [after_of_writes_sub hostOps0_14 _ hostOps0_14_writes h14,
    after_of_writes_sub hostOps0_13 _ hostOps0_13_writes h13,
    after_of_writes_sub hostOps0_12 _ hostOps0_12_writes h12,
    after_of_writes_sub hostOps0_11 _ hostOps0_11_writes h11,
    after_of_writes_sub hostOps0_10 _ hostOps0_10_writes h10,
    after_of_writes_sub hostOps0_9 _ hostOps0_9_writes h9,
    after_of_writes_sub hostOps0_8 _ hostOps0_8_writes h8,
    after_of_writes_sub hostOps0_7 _ hostOps0_7_writes h7,
    after_of_writes_sub hostOps0_6 _ hostOps0_6_writes h6,
    after_of_writes_sub hostOps0_5 _ hostOps0_5_writes h5,
    after_of_writes_sub hostOps0_4 _ hostOps0_4_writes h4,
    after_of_writes_sub hostOps0_3 _ hostOps0_3_writes h3,
    after_of_writes_sub hostOps0_2 _ hostOps0_2_writes h2,
    after_of_writes_sub hostOps0_1 _ hostOps0_1_writes h1,
    after_of_writes_sub hostOps0 _ hostOps0_writes h0]

/-- The reference for the state-space layer runs to its end from any launch and leaves its arguments as they were. -/
theorem frame : Cert.quiescent_ReferenceSsdIdeal (hReferenceSsdIdeal := Cert.ReferenceSsdIdeal.Gen.facts) := fun m g _ =>
  θ_run_mono (run_fold m g) fun r h => ⟨fun c =>
    ⟨(h c main_arg0 rfl).trans (final_keep m c main_arg0 (by decide +kernel) (by decide +kernel)),
     (h c main_arg1 rfl).trans (final_keep m c main_arg1 (by decide +kernel) (by decide +kernel)),
     (h c main_arg2 rfl).trans (final_keep m c main_arg2 (by decide +kernel) (by decide +kernel)),
     (h c main_arg3 rfl).trans (final_keep m c main_arg3 (by decide +kernel) (by decide +kernel)),
     (h c main_arg4 rfl).trans (final_keep m c main_arg4 (by decide +kernel) (by decide +kernel)),
     (h c main_arg5 rfl).trans (final_keep m c main_arg5 (by decide +kernel) (by decide +kernel)),
     (h c main_arg6 rfl).trans (final_keep m c main_arg6 (by decide +kernel) (by decide +kernel))⟩,
    sem_eq_zero_of_no_sems rfl _⟩

end Cert.ReferenceSsdIdeal.SsdRun

end
-- ==== Proof.SsdSum.lean ====
/-
  The running sum of the state-space layer's reference: a window of the whole chunk that ends at a row, as a sum over the
  rows up to it.
-/
module

public import proofs.«01_k».proof.Proof.Gen.ReferenceSsdIdeal.Run
public import Idealize.ShloMosaic.Lib.Pipeline.ValueKit
public import Idealize.ShloMosaic.Lib.Pointwise

@[expose] public section

set_option maxRecDepth 16384

noncomputable section

namespace Cert.ReferenceSsdIdeal.SsdSum

open Cert.ReferenceSsdIdeal Cert.ReferenceSsdIdeal.Gen
open Idealize.ShloMosaic

/-- Adding a list's values one after another is adding their sum. -/
theorem foldl_add {α : Type} (f : α → EReal) : ∀ (l : List α) (v : EReal), l.foldl (fun r n => r + f n) v = v + (l.map f).sum
  | [], v => by simp
  | n :: l, v => by
    rw [List.foldl_cons, foldl_add f l, List.map_cons, List.sum_cons, add_assoc]

/-- A window of 128 rows that ends at row `r` holds the rows up to `r`. -/
theorem shifted (r : Fin 128) (F G : Fin 128 → EReal) (hF : ∀ m w : Fin 128, m ≤ r → w.val + r.val = m.val + 127 → F m = G w)
    (hF0 : ∀ m, ¬m ≤ r → F m = 0) (hG0 : ∀ w : Fin 128, w.val + r.val < 127 → G w = 0) : ∑ m, F m = ∑ w, G w := by
  refine Fintype.sum_equiv (Equiv.addRight (⟨127 - r.val, by omega⟩ : Fin 128)) F G fun m => ?_
  have hv : ((Equiv.addRight (⟨127 - r.val, by omega⟩ : Fin 128)) m).val = (m.val + (127 - r.val)) % 128 := Fin.val_add _ _
  have hr := r.isLt
  have hm := m.isLt
  by_cases h : m ≤ r
  · have h' : m.val ≤ r.val := h
    exact hF m _ h (by rw [hv, Nat.mod_eq_of_lt (by omega)]; omega)
  · have h' : r.val < m.val := not_le.mp h
    rw [hF0 m h, hG0 _ (by rw [hv, Nat.mod_eq_sub_mod (by omega), Nat.mod_eq_of_lt (by omega)]; omega)]

/-- The window's shape: all rows of a chunk. -/
abbrev WIN : Shape := ⟨5, ![1, 1, 128, 1, 1]⟩

/-- The window's positions are the rows. -/
def rowsOf : Fin 128 ≃ WIN.Idx := Equiv.ofBijective (fun w => (ix5 0 0 w 0 0 : WIN.Idx)) ⟨
  fun x y h => congrFun h 2,
  fun y => ⟨y 2, by
    funext a
    fin_cases a
    · exact Subsingleton.elim (α := Fin 1) _ _
    · exact Subsingleton.elim (α := Fin 1) _ _
    · rfl
    · exact Subsingleton.elim (α := Fin 1) _ _
    · exact Subsingleton.elim (α := Fin 1) _ _⟩⟩

/-- The running sum of a chunk's rows. -/
def ACS (D : FVec Ideal S4x32x128x2x4 .f32) : FVec Ideal S4x32x128x2x4 .f32 :=
  Host.reduceWindowAdd ![1, 1, 128, 1, 1] ![1, 1, 1, 1, 1] ![0, 0, 127, 0, 0] ![0, 0, 0, 0, 0] D
    (broadcastInDim S_ ![] bcast_S_S_ (constant S_ .f32 0x00000000#32))
    reduceWindows_S4x32x128x2x4_S4x32x128x2x4_w1s1p0_0_w1s1p0_0_w128s1p127_0_w1s1p0_0_w1s1p0_0 h_S_

/-- The running sum at an index: the sum of the chunk's rows up to the index's row. -/
theorem acs_at (D : FVec Ideal S4x32x128x2x4 .f32) (b : Fin 4) (n : Fin 32) (r : Fin 128) (g : Fin 2) (q : Fin 4) :
    ACS D (ix5 b n r g q) = ∑ m : Fin 128, if m ≤ r then D (ix5 b n m g q) else 0 := by
  have hv : broadcastInDim S_ ![] bcast_S_S_ (constant (F := Ideal) S_ .f32 0x00000000#32) (Shape.Idx.first h_S_) = (0 : EReal) := by
    pointwise
  unfold ACS Host.reduceWindowAdd
  rw [hv]
  show Ideal.hostReduceWindowAdd _ _ _ _ _ D 0 _ = _
  unfold Ideal.hostReduceWindowAdd Host.reduceWindow
  dsimp only
  refine (foldl_add _ _ _).trans ?_
  rw [zero_add, ← Fin.sum_univ_def]
  refine ((shifted r _ (fun w : Fin 128 => if h : 127 ≤ r.val + w.val then D (ix5 b n ⟨r.val + w.val - 127, by omega⟩ g q) else 0) ?_ ?_ ?_).trans
    (Fintype.sum_equiv (rowsOf.trans WIN.rowMajor) _ _ fun w => ?_)).symm
  · intro m w hm e
    rw [if_pos hm, dif_pos (by omega)]
    exact congrArg (fun R => D (ix5 b n R g q)) (Fin.ext (by simp only []; omega))
  · intro m hm
    exact if_neg hm
  · intro w hw
    exact dif_neg (by omega)
  · have hE : WIN.rowMajor.symm ((rowsOf.trans WIN.rowMajor) w) = ix5 0 0 w 0 0 := Equiv.symm_apply_apply _ _
    have hp : ∀ a : Fin 5, ((WIN.rowMajor.symm ((rowsOf.trans WIN.rowMajor) w)) a).val = (![0, 0, w.val, 0, 0] : Fin 5 → ℕ) a := by
      intro a
      rw [hE]
      fin_cases a <;> rfl
    have hb := b.isLt
    have hn := n.isLt
    have hr := r.isLt
    have hg := g.isLt
    have hq := q.isLt
    have hw := w.isLt
    by_cases h : 127 ≤ r.val + w.val
    · rw [dif_pos h, dif_pos]
      · refine congrArg D (funext fun a => Fin.ext ?_)
        have := hp a
        fin_cases a <;> simp only [] at this ⊢ <;> rw [this] <;> simp
      · intro a
        have := hp a
        fin_cases a <;> simp only [] at this ⊢ <;> rw [this] <;> simp <;> omega
    · rw [dif_neg h, dif_neg]
      intro hin
      have h2 := (hin 2).1
      have := hp 2
      simp only [] at this
      rw [this] at h2
      exact h (by simpa using h2)

end Cert.ReferenceSsdIdeal.SsdSum

end
-- ==== Proof.SsdSpec.lean ====
/-
  The selective state-space layer over the chunks of a row sequence, written out on the extended reals: the causal
  convolution with its activation, the step sizes and their running decay, the state that enters each chunk, a chunk's
  rows, and the gated rows normalized in their groups.
-/
module

public import proofs.«01_k».proof.Proof.RetSpec

@[expose] public section

noncomputable section

open Idealize.ShloMosaic

namespace Cert.Ssd

open Cert.Ret (Proj row)

/-- The layer's arguments: the projected rows, the convolution's weights and bias, the step sizes' bias, the logarithms of
    the decay rates, the skip weights and the norm's weights. -/
structure Par where
  P : Proj
  cw : Fin 4 → Fin 1024 → EReal
  cb : Fin 1024 → EReal
  dtb : Fin 8 → EReal
  al : Fin 8 → EReal
  ds : Fin 8 → EReal
  nw : Fin 512 → EReal

variable (a : Par) (b n : ℕ)

/-- The head of a column. -/
abbrev hd (c : Fin 512) : Fin 8 := ⟨c.val / 64, by omega⟩
/-- The group of a column. -/
abbrev gr (c : Fin 512) : Fin 2 := ⟨c.val / 256, by omega⟩
/-- Column `e` of the group of column `c`. -/
abbrev peer (c : Fin 512) (e : Fin 256) : Fin 512 := ⟨c.val / 256 * 256 + e.val, by omega⟩

/-- Convolved column `c`, `d` rows before row `s` of sequence `b`; zero before the sequence begins. -/
def back (s d : ℕ) (c : Fin 1024) : EReal :=
  if d ≤ s then a.P (ix2 ⟨(b * 4096 + (s - d)) % 16384, Nat.mod_lt _ (by decide)⟩ ⟨2560 + c.val, by omega⟩) else 0

/-- The convolution of four rows, with its bias. -/
def conv (s : ℕ) (c : Fin 1024) : EReal :=
  back a b s 0 c * a.cw 3 c + back a b s 3 c * a.cw 0 c + back a b s 2 c * a.cw 1 c + back a b s 1 c * a.cw 2 c + a.cb c

/-- The activated convolution at row `r` of chunk `n`. -/
def mixed (r : Fin 128) (c : Fin 1024) : EReal :=
  conv a b (n * 128 + r.val) c * Ideal.logistic (conv a b (n * 128 + r.val) c)

/-- The input rows. -/
def xs (r : Fin 128) (c : Fin 512) : EReal := mixed a b n r ⟨c.val, by omega⟩
/-- The rows written into the state of group `g`. -/
def bm (g : Fin 2) (r k : Fin 128) : EReal := mixed a b n r ⟨512 + g.val * 128 + k.val, by omega⟩
/-- The rows that read the state of group `g`. -/
def cm (g : Fin 2) (r k : Fin 128) : EReal := mixed a b n r ⟨768 + g.val * 128 + k.val, by omega⟩

/-- The softplus. -/
def softplus (t : EReal) : EReal := max t 0 + Ideal.log1p (Ideal.exp (0 - FloatOps.absf (F := Ideal) (φ := .f32) t))

/-- The step size of head `h` at row `r`. -/
def dt (r : Fin 128) (h : Fin 8) : EReal := softplus (a.P (ix2 (row b n r) ⟨5632 + h.val, by omega⟩) + a.dtb h)

/-- The logarithm of a row's decay. -/
def da (r : Fin 128) (h : Fin 8) : EReal := dt a b n r h * (0 - Ideal.exp (a.al h))

/-- The logarithm of the decay of a chunk's rows up to row `r`. -/
def acs (r : Fin 128) (h : Fin 8) : EReal := ∑ m : Fin 128, if m ≤ r then da a b n m h else 0

/-- The state that enters chunk `n`: zero, then decayed and increased chunk by chunk. -/
def state : ℕ → Fin 128 → Fin 512 → EReal
  | 0, _, _ => 0
  | n + 1, k, c => Ideal.exp (acs a b n 127 (hd c)) * state n k c
      + ∑ m : Fin 128, bm a b n (gr c) m k * (xs a b n m c * dt a b n m (hd c) * Ideal.exp (acs a b n 127 (hd c) - acs a b n m (hd c)))

/-- What a chunk's rows take from one another, with the decay between them. -/
def intra (r : Fin 128) (c : Fin 512) : EReal :=
  ∑ m : Fin 128, if m ≤ r then (∑ k : Fin 128, cm a b n (gr c) r k * bm a b n (gr c) m k)
    * Ideal.exp (acs a b n r (hd c) - acs a b n m (hd c)) * (xs a b n m c * dt a b n m (hd c)) else 0

/-- What a chunk's rows take from the state that entered it. -/
def inter (r : Fin 128) (c : Fin 512) : EReal :=
  (∑ k : Fin 128, cm a b n (gr c) r k * state a b n k c) * Ideal.exp (acs a b n r (hd c))

/-- A chunk's rows, with the skip and the gate. -/
def gated (r : Fin 128) (c : Fin 512) : EReal :=
  (intra a b n r c + inter a b n r c + xs a b n r c * a.ds (hd c))
    * (a.P (ix2 (row b n r) ⟨2048 + c.val, by omega⟩) * Ideal.logistic (a.P (ix2 (row b n r) ⟨2048 + c.val, by omega⟩)))

/-- The result: the gated rows divided by the root mean square of their group, and weighted. -/
def result (r : Fin 128) (c : Fin 512) : EReal :=
  gated a b n r c
    * Ideal.rsqrt (Ideal.div (∑ e : Fin 256, gated a b n r (peer c e) * gated a b n r (peer c e)) (Ideal.ofBits .f32 0x43800000#32)
      + Ideal.ofBits .f32 0x358637BD#32)
    * a.nw c

/-- The layer's arguments, read off the argument arrays. -/
abbrev args (P : Proj) (cw : FVec Ideal ⟨2, ![4, 1024]⟩ .f32) (cb : FVec Ideal ⟨1, ![1024]⟩ .f32) (dtb al ds : FVec Ideal ⟨1, ![8]⟩ .f32)
    (nw : FVec Ideal ⟨1, ![512]⟩ .f32) : Par where
  P := P
  cw j k := cw (ix2 j k)
  cb k := cb (ix1 k)
  dtb h := dtb (ix1 h)
  al h := al (ix1 h)
  ds h := ds (ix1 h)
  nw k := nw (ix1 k)

/-- The layer's result array, from the argument arrays. -/
def out (P : Proj) (cw : FVec Ideal ⟨2, ![4, 1024]⟩ .f32) (cb : FVec Ideal ⟨1, ![1024]⟩ .f32) (dtb al ds : FVec Ideal ⟨1, ![8]⟩ .f32)
    (nw : FVec Ideal ⟨1, ![512]⟩ .f32) : FVec Ideal ⟨2, ![16384, 512]⟩ .f32 := fun y =>
  result (args P cw cb dtb al ds nw) ((y 0).val / 4096) ((y 0).val % 4096 / 128) ⟨(y 0).val % 128, Nat.mod_lt _ (by decide)⟩ (y 1)

end Cert.Ssd

end
-- ==== Proof.SsdRef.lean ====
/-
  The state-space layer's reference, array by array: what its host operations before and after the loop over the chunks
  compute.
-/
module

public import proofs.«01_k».proof.Proof.SsdRun
public import proofs.«01_k».proof.Proof.SsdSum
public import proofs.«01_k».proof.Proof.SsdSpec

@[expose] public section

set_option maxRecDepth 16384

noncomputable section

namespace Cert.ReferenceSsdIdeal.SsdRef

open Cert.ReferenceSsdIdeal Cert.ReferenceSsdIdeal.Gen Cert.ReferenceSsdIdeal.Value Cert.ReferenceSsdIdeal.SsdRun
open Cert.ReferenceSsdIdeal.SsdSum
open Idealize.ShloMosaic Idealize.ShloMosaic.TcCoe Idealize.ShloMosaic.Tactic
open Idealize.SL.Sem Idealize.ShloMosaic.StableHlo
open Cert.Ret (Proj)

/-- The gates' columns. -/
def GATES (P : Proj) : FVec Ideal S4x4096x512 .f32 :=
  shapeCast S4x4096x512 (extractStridedSlice S16384x512 ![0, 2048] P slices_S16384x5760_S16384x512_0_2048) shapeCasts_S16384x512_S4x4096x512

/-- The columns that are convolved. -/
def ROWS (P : Proj) : FVec Ideal S4x4096x1024 .f32 :=
  shapeCast S4x4096x1024 (extractStridedSlice S16384x1024 ![0, 2560] P slices_S16384x5760_S16384x1024_0_2560) shapeCasts_S16384x1024_S4x4096x1024

/-- The step sizes' columns. -/
def STEPS (P : Proj) : FVec Ideal S4x4096x8 .f32 :=
  shapeCast S4x4096x8 (extractStridedSlice S16384x8 ![0, 5632] P slices_S16384x5760_S16384x8_0_5632) shapeCasts_S16384x8_S4x4096x8

/-- The rows of every sequence after three rows of zeros. -/
def PADDED (X : FVec Ideal S4x4096x1024 .f32) : FVec Ideal S4x4099x1024 .f32 :=
  pad S4x4099x1024 ![0, 3, 0] ![0, 0, 0] ![0, 0, 0] X (sitofp .f32 (constantI S_ 32 0#32)) pads_S4x4096x1024_S4x4099x1024_000_300_000 h_S_

/-- The convolution: four shifted windows of the rows, weighted and added. -/
def TAPS (Z : FVec Ideal S4x4099x1024 .f32) (w : FVec Ideal S4x1024 .f32) : FVec Ideal S4x4096x1024 .f32 :=
  addf (addf (addf (addf (broadcastInDim S4x4096x1024 ![] bcast_S_S4x4096x1024 (constant S_ .f32 0x00000000#32)) (mulf (broadcastInDim S4x4096x1024 ![0, 1, 2] bcast_S1x1x1024_S4x4096x1024_0_1_2 (broadcastInDim S1x1x1024 ![2] bcast_S1024_S1x1x1024_2 (shapeCast S1024 (extractStridedSlice S1x1024 ![0, 0] w slices_S4x1024_S1x1024_0_0) shapeCasts_S1x1024_S1024))) (extractStridedSlice S4x4096x1024 ![0, 0, 0] Z slices_S4x4099x1024_S4x4096x1024_0_0_0))) (mulf (broadcastInDim S4x4096x1024 ![0, 1, 2] bcast_S1x1x1024_S4x4096x1024_0_1_2 (broadcastInDim S1x1x1024 ![2] bcast_S1024_S1x1x1024_2 (shapeCast S1024 (extractStridedSlice S1x1024 ![1, 0] w slices_S4x1024_S1x1024_1_0) shapeCasts_S1x1024_S1024))) (extractStridedSlice S4x4096x1024 ![0, 1, 0] Z slices_S4x4099x1024_S4x4096x1024_0_1_0))) (mulf (broadcastInDim S4x4096x1024 ![0, 1, 2] bcast_S1x1x1024_S4x4096x1024_0_1_2 (broadcastInDim S1x1x1024 ![2] bcast_S1024_S1x1x1024_2 (shapeCast S1024 (extractStridedSlice S1x1024 ![2, 0] w slices_S4x1024_S1x1024_2_0) shapeCasts_S1x1024_S1024))) (extractStridedSlice S4x4096x1024 ![0, 2, 0] Z slices_S4x4099x1024_S4x4096x1024_0_2_0))) (mulf (broadcastInDim S4x4096x1024 ![0, 1, 2] bcast_S1x1x1024_S4x4096x1024_0_1_2 (broadcastInDim S1x1x1024 ![2] bcast_S1024_S1x1x1024_2 (shapeCast S1024 (extractStridedSlice S1x1024 ![3, 0] w slices_S4x1024_S1x1024_3_0) shapeCasts_S1x1024_S1024))) (extractStridedSlice S4x4096x1024 ![0, 3, 0] Z slices_S4x4099x1024_S4x4096x1024_0_3_0))

/-- The bias added to every row. -/
def BIASED (Y : FVec Ideal S4x4096x1024 .f32) (v : FVec Ideal S1024 .f32) : FVec Ideal S4x4096x1024 .f32 :=
  addf Y (broadcastInDim S4x4096x1024 ![0, 1, 2] bcast_S1x1x1024_S4x4096x1024_0_1_2 (broadcastInDim S1x1x1024 ![2] bcast_S1024_S1x1x1024_2 v))

/-- The activation of the convolved rows. -/
def SILU (X : FVec Ideal S4x4096x1024 .f32) : FVec Ideal S4x4096x1024 .f32 :=
  mulf X (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf X))))

/-- The input rows, by chunk, group, head and column. -/
def XS (Y : FVec Ideal S4x4096x1024 .f32) : FVec Ideal S4x32x128x2x4x64 .f32 :=
  shapeCast S4x32x128x2x4x64 (extractStridedSlice S4x4096x512 ![0, 0, 0] Y slices_S4x4096x1024_S4x4096x512_0_0_0) shapeCasts_S4x4096x512_S4x32x128x2x4x64

/-- The rows written into the states. -/
def BM (Y : FVec Ideal S4x4096x1024 .f32) : FVec Ideal S4x32x128x2x128 .f32 :=
  shapeCast S4x32x128x2x128 (extractStridedSlice S4x4096x256 ![0, 0, 512] Y slices_S4x4096x1024_S4x4096x256_0_0_512) shapeCasts_S4x4096x256_S4x32x128x2x128

/-- The rows that read the states. -/
def CM (Y : FVec Ideal S4x4096x1024 .f32) : FVec Ideal S4x32x128x2x128 .f32 :=
  shapeCast S4x32x128x2x128 (extractStridedSlice S4x4096x256 ![0, 0, 768] Y slices_S4x4096x1024_S4x4096x256_0_0_768) shapeCasts_S4x4096x256_S4x32x128x2x128

/-- The softplus. -/
def SOFT (X : FVec Ideal S4x4096x8 .f32) : FVec Ideal S4x4096x8 .f32 :=
  select (cmpf .une (subf X (broadcastInDim S4x4096x8 ![] bcast_S_S4x4096x8 (constant S_ .f32 0x00000000#32))) (subf X (broadcastInDim S4x4096x8 ![] bcast_S_S4x4096x8 (constant S_ .f32 0x00000000#32)))) (addf X (broadcastInDim S4x4096x8 ![] bcast_S_S4x4096x8 (constant S_ .f32 0x00000000#32))) (addf (maximumf X (broadcastInDim S4x4096x8 ![] bcast_S_S4x4096x8 (constant S_ .f32 0x00000000#32))) (Host.log1p (Host.exp (Host.negf (Host.absf (subf X (broadcastInDim S4x4096x8 ![] bcast_S_S4x4096x8 (constant S_ .f32 0x00000000#32))))))))

/-- The step sizes, by chunk, group and head. -/
def DT (X : FVec Ideal S4x4096x8 .f32) (v : FVec Ideal S8 .f32) : FVec Ideal S4x32x128x2x4 .f32 :=
  shapeCast S4x32x128x2x4 (SOFT (addf X (broadcastInDim S4x4096x8 ![0, 1, 2] bcast_S1x1x8_S4x4096x8_0_1_2 (broadcastInDim S1x1x8 ![2] bcast_S8_S1x1x8_2 v)))) shapeCasts_S4x4096x8_S4x32x128x2x4

/-- The logarithms of the rows' decays. -/
def DA (T : FVec Ideal S4x32x128x2x4 .f32) (v : FVec Ideal S8 .f32) : FVec Ideal S4x32x128x2x4 .f32 :=
  mulf T (broadcastInDim S4x32x128x2x4 ![0, 1, 2, 3, 4] bcast_S1x1x1x2x4_S4x32x128x2x4_0_1_2_3_4 (broadcastInDim S1x1x1x2x4 ![3, 4] bcast_S2x4_S1x1x1x2x4_3_4 (Host.negf (shapeCast S2x4 (Host.exp v) shapeCasts_S8_S2x4))))

/-- The pairs of a row and an earlier row or the row itself. -/
def MASK : IVec S128x128 1 :=
  select (cmpi .sge (addi ((iotaInDim S128x128 32 0)) (broadcastInDim S128x128 ![] bcast_S_S128x128 (constantI S_ 32 0#32))) ((iotaInDim S128x128 32 1))) (broadcastInDim S128x128 ![] bcast_S_S128x128 (constantI S_ 1 1#1)) (broadcastInDim S128x128 ![] bcast_S_S128x128 (constantI S_ 1 0#1))

/-- The pairs, for every chunk, group and head. -/
def MASKS : IVec S4x32x128x128x2x4 1 :=
  broadcastInDim S4x32x128x128x2x4 ![0, 1, 2, 3, 4, 5] bcast_S1x1x128x128x1x1_S4x32x128x128x2x4_0_1_2_3_4_5 (broadcastInDim S1x1x128x128x1x1 ![2, 3] bcast_S128x128_S1x1x128x128x1x1_2_3 MASK)

/-- The difference of the running sums of two rows. -/
def GAPS (A : FVec Ideal S4x32x128x2x4 .f32) : FVec Ideal S4x32x128x128x2x4 .f32 :=
  subf (broadcastInDim S4x32x128x128x2x4 ![0, 1, 2, 3, 4, 5] bcast_S4x32x128x1x2x4_S4x32x128x128x2x4_0_1_2_3_4_5 (broadcastInDim S4x32x128x1x2x4 ![0, 1, 2, 4, 5] bcast_S4x32x128x2x4_S4x32x128x1x2x4_0_1_2_4_5 A)) (broadcastInDim S4x32x128x128x2x4 ![0, 1, 2, 3, 4, 5] bcast_S4x32x1x128x2x4_S4x32x128x128x2x4_0_1_2_3_4_5 (broadcastInDim S4x32x1x128x2x4 ![0, 1, 3, 4, 5] bcast_S4x32x128x2x4_S4x32x1x128x2x4_0_1_3_4_5 A))

/-- The decay between two rows of a chunk; zero where the second is later. -/
def DECAY (A : FVec Ideal S4x32x128x2x4 .f32) : FVec Ideal S4x32x128x128x2x4 .f32 :=
  select MASKS (Host.exp (select MASKS (GAPS A) (broadcastInDim S4x32x128x128x2x4 ![] bcast_S_S4x32x128x128x2x4 (constant S_ .f32 0x00000000#32)))) (broadcastInDim S4x32x128x128x2x4 ![] bcast_S_S4x32x128x128x2x4 (constant S_ .f32 0x00000000#32))

/-- The input rows times their step sizes. -/
def XDT (X : FVec Ideal S4x32x128x2x4x64 .f32) (T : FVec Ideal S4x32x128x2x4 .f32) : FVec Ideal S4x32x128x2x4x64 .f32 :=
  mulf X (broadcastInDim S4x32x128x2x4x64 ![0, 1, 2, 3, 4, 5] bcast_S4x32x128x2x4x1_S4x32x128x2x4x64_0_1_2_3_4_5 (broadcastInDim S4x32x128x2x4x1 ![0, 1, 2, 3, 4] bcast_S4x32x128x2x4_S4x32x128x2x4x1_0_1_2_3_4 T))

/-- The products of the reading and the written rows. -/
def CB (B : FVec Ideal S4x32x128x2x128 .f32) (C : FVec Ideal S4x32x128x2x128 .f32) : FVec Ideal S4x32x128x128x2 .f32 :=
  transpose S4x32x128x128x2 [0, 1, 4, 3, 2] (Host.dotGeneral dot_S4x32x128x2x128_S4x32x128x2x128_S4x32x2x128x128_4_4_2_2_013_013 none B C) transposes_S4x32x2x128x128_S4x32x128x128x2_0_1_4_3_2

/-- What the rows of a chunk take from one another. -/
def INTRA (K : FVec Ideal S4x32x128x128x2 .f32) (L : FVec Ideal S4x32x128x128x2x4 .f32) (U : FVec Ideal S4x32x128x2x4x64 .f32) : FVec Ideal S4x32x128x2x4x64 .f32 :=
  transpose S4x32x128x2x4x64 [0, 1, 5, 2, 3, 4] (Host.dotGeneral dot_S4x32x128x2x4x64_S4x32x128x128x2x4_S4x32x2x4x64x128_2_3_5_2_0134_0145 none U (mulf (broadcastInDim S4x32x128x128x2x4 ![0, 1, 2, 3, 4, 5] bcast_S4x32x128x128x2x1_S4x32x128x128x2x4_0_1_2_3_4_5 (broadcastInDim S4x32x128x128x2x1 ![0, 1, 2, 3, 4] bcast_S4x32x128x128x2_S4x32x128x128x2x1_0_1_2_3_4 K)) L)) transposes_S4x32x2x4x64x128_S4x32x128x2x4x64_0_1_5_2_3_4

/-- The decay from a row to the end of its chunk. -/
def TOEND (A : FVec Ideal S4x32x128x2x4 .f32) : FVec Ideal S4x32x128x2x4 .f32 :=
  Host.exp (subf (broadcastInDim S4x32x128x2x4 ![0, 1, 2, 3, 4] bcast_S4x32x1x2x4_S4x32x128x2x4_0_1_2_3_4 (extractStridedSlice S4x32x1x2x4 ![0, 0, 127, 0, 0] A slices_S4x32x128x2x4_S4x32x1x2x4_0_0_127_0_0)) A)

/-- What each chunk adds to the state. -/
def KV (E : FVec Ideal S4x32x128x2x4 .f32) (U : FVec Ideal S4x32x128x2x4x64 .f32) (B : FVec Ideal S4x32x128x2x128 .f32) : FVec Ideal S32x4x2x4x64x128 .f32 :=
  Host.dotGeneral dot_S4x32x128x2x4x64_S4x32x128x2x128_S32x4x2x4x64x128_2_2_45_4_103_103 none (mulf (broadcastInDim S4x32x128x2x4x64 ![0, 1, 2, 3, 4, 5] bcast_S4x32x128x2x4x1_S4x32x128x2x4x64_0_1_2_3_4_5 (broadcastInDim S4x32x128x2x4x1 ![0, 1, 2, 3, 4] bcast_S4x32x128x2x4_S4x32x128x2x4x1_0_1_2_3_4 E)) U) B

/-- The decay over a whole chunk. -/
def CD (A : FVec Ideal S4x32x128x2x4 .f32) : FVec Ideal S32x4x2x4x1x1 .f32 :=
  broadcastInDim S32x4x2x4x1x1 ![0, 1, 2, 3] bcast_S32x4x2x4_S32x4x2x4x1x1_0_1_2_3 (transpose S32x4x2x4 [1, 0, 2, 3] (Host.exp (shapeCast S4x32x2x4 (extractStridedSlice S4x32x1x2x4 ![0, 0, 127, 0, 0] A slices_S4x32x128x2x4_S4x32x1x2x4_0_0_127_0_0) shapeCasts_S4x32x1x2x4_S4x32x2x4)) transposes_S4x32x2x4_S32x4x2x4_1_0_2_3)

/-- What the rows take from the states that entered their chunks. -/
def INTER (Q : FVec Ideal S32x4x2x4x64x128 .f32) (C : FVec Ideal S4x32x128x2x128 .f32) (A : FVec Ideal S4x32x128x2x4 .f32) : FVec Ideal S4x32x128x2x4x64 .f32 :=
  mulf (transpose S4x32x128x2x4x64 [0, 1, 5, 2, 3, 4] (Host.dotGeneral dot_S32x4x2x4x64x128_S4x32x128x2x128_S4x32x2x4x64x128_5_4_34_2_102_013 none Q C) transposes_S4x32x2x4x64x128_S4x32x128x2x4x64_0_1_5_2_3_4) (broadcastInDim S4x32x128x2x4x64 ![0, 1, 2, 3, 4, 5] bcast_S4x32x128x2x4x1_S4x32x128x2x4x64_0_1_2_3_4_5 (broadcastInDim S4x32x128x2x4x1 ![0, 1, 2, 3, 4] bcast_S4x32x128x2x4_S4x32x128x2x4x1_0_1_2_3_4 (Host.exp A)))

/-- The input rows times the skip weights. -/
def SKIP (X : FVec Ideal S4x32x128x2x4x64 .f32) (v : FVec Ideal S8 .f32) : FVec Ideal S4x32x128x2x4x64 .f32 :=
  mulf X (broadcastInDim S4x32x128x2x4x64 ![0, 1, 2, 3, 4, 5] bcast_S1x1x1x2x4x1_S4x32x128x2x4x64_0_1_2_3_4_5 (broadcastInDim S1x1x1x2x4x1 ![3, 4, 5] bcast_S2x4x1_S1x1x1x2x4x1_3_4_5 (broadcastInDim S2x4x1 ![0, 1] bcast_S2x4_S2x4x1_0_1 (shapeCast S2x4 v shapeCasts_S8_S2x4))))

/-- The activation of the gates. -/
def GSILU (X : FVec Ideal S4x4096x512 .f32) : FVec Ideal S4x4096x512 .f32 :=
  mulf X (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf X))))

/-- The rows times the activated gates, group by group. -/
def GATED (Y : FVec Ideal S4x32x128x2x4x64 .f32) (G : FVec Ideal S4x4096x512 .f32) : FVec Ideal S4x4096x2x256 .f32 :=
  mulf (shapeCast S4x4096x2x256 Y shapeCasts_S4x32x128x2x4x64_S4x4096x2x256) (shapeCast S4x4096x2x256 G shapeCasts_S4x4096x512_S4x4096x2x256)

/-- The rows divided by the root mean square of their group. -/
def NORM (Y : FVec Ideal S4x4096x2x256 .f32) : FVec Ideal S4x4096x2x256 .f32 :=
  mulf Y (broadcastInDim S4x4096x2x256 ![0, 1, 2, 3] bcast_S4x4096x2x1_S4x4096x2x256_0_1_2_3 (Host.rsqrt (addf (Host.divf (broadcastInDim S4x4096x2x1 ![0, 1, 2] bcast_S4x4096x2_S4x4096x2x1_0_1_2 (Host.reduceAdd (mulf Y Y) (constant S_ .f32 0x00000000#32) reducesTo_S4x4096x2x256_S4x4096x2_d3 h_S_)) (broadcastInDim S4x4096x2x1 ![] bcast_S_S4x4096x2x1 (constant S_ .f32 0x43800000#32))) (broadcastInDim S4x4096x2x1 ![] bcast_S_S4x4096x2x1 (constant S_ .f32 0x358637BD#32)))))

/-- The normalized rows, weighted. -/
def WEIGHTED (Y : FVec Ideal S4x4096x2x256 .f32) (w : FVec Ideal S512 .f32) : FVec Ideal S16384x512 .f32 :=
  shapeCast S16384x512 (mulf (shapeCast S4x4096x512 Y shapeCasts_S4x4096x2x256_S4x4096x512) (broadcastInDim S4x4096x512 ![0, 1, 2] bcast_S1x1x512_S4x4096x512_0_1_2 (broadcastInDim S1x1x512 ![2] bcast_S512_S1x1x512_2 w))) shapeCasts_S4x4096x512_S16384x512

/-- The state before the first chunk. -/
def ZERO : FVec Ideal S4x2x4x64x128 .f32 :=
  broadcastInDim S4x2x4x64x128 ![] bcast_S_S4x2x4x64x128 (constant S_ .f32 0x00000000#32)

/-- A memory of one device. -/
abbrev Mem := Valuation τ sig (Elt Ideal)

/-- The memory after the operations up to the convolution. -/
def gA (X : Mem) : Mem := after hostOps0_3 (after hostOps0_2 (after hostOps0_1 (after hostOps0 X)))

/-- A buffer these operations do not write is kept. -/
theorem gA_keep (X : Mem) (r : Ref sig .tc) (h : r ∉ hostOps0_W ++ (hostOps0_1_W ++ (hostOps0_2_W ++ (hostOps0_3_W)))) : gA X (Proc.devRef .tc r) = X (Proc.devRef .tc r) := by
  simp only [List.mem_append, not_or] at h
  obtain ⟨h0, h1, h2, h3⟩ := h
  unfold gA
  rw [after_of_writes_sub hostOps0_3 _ hostOps0_3_writes h3, after_of_writes_sub hostOps0_2 _ hostOps0_2_writes h2, after_of_writes_sub hostOps0_1 _ hostOps0_1_writes h1, after_of_writes_sub hostOps0 _ hostOps0_writes h0]

/-- The memory after the operations up to the step sizes. -/
def gB (X : Mem) : Mem := after hostOps0_6 (after hostOps0_5 (after hostOps0_4 X))

/-- A buffer these operations do not write is kept. -/
theorem gB_keep (X : Mem) (r : Ref sig .tc) (h : r ∉ hostOps0_4_W ++ (hostOps0_5_W ++ (hostOps0_6_W))) : gB X (Proc.devRef .tc r) = X (Proc.devRef .tc r) := by
  simp only [List.mem_append, not_or] at h
  obtain ⟨h4, h5, h6⟩ := h
  unfold gB
  rw [after_of_writes_sub hostOps0_6 _ hostOps0_6_writes h6, after_of_writes_sub hostOps0_5 _ hostOps0_5_writes h5, after_of_writes_sub hostOps0_4 _ hostOps0_4_writes h4]

/-- The memory after the operations up to the running sum. -/
def gC (X : Mem) : Mem := after hostOps0_7 X

/-- A buffer these operations do not write is kept. -/
theorem gC_keep (X : Mem) (r : Ref sig .tc) (h : r ∉ hostOps0_7_W) : gC X (Proc.devRef .tc r) = X (Proc.devRef .tc r) := by
  have h7 := h
  unfold gC
  rw [after_of_writes_sub hostOps0_7 _ hostOps0_7_writes h7]

/-- The memory after the operations up to the decays inside the chunks. -/
def gD (X : Mem) : Mem := after hostOps0_13 (after hostOps0_12 (after hostOps0_11 (after hostOps0_10 (after hostOps0_9 (after hostOps0_8 X)))))

/-- A buffer these operations do not write is kept. -/
theorem gD_keep (X : Mem) (r : Ref sig .tc) (h : r ∉ hostOps0_8_W ++ (hostOps0_9_W ++ (hostOps0_10_W ++ (hostOps0_11_W ++ (hostOps0_12_W ++ (hostOps0_13_W)))))) : gD X (Proc.devRef .tc r) = X (Proc.devRef .tc r) := by
  simp only [List.mem_append, not_or] at h
  obtain ⟨h8, h9, h10, h11, h12, h13⟩ := h
  unfold gD
  rw [after_of_writes_sub hostOps0_13 _ hostOps0_13_writes h13, after_of_writes_sub hostOps0_12 _ hostOps0_12_writes h12, after_of_writes_sub hostOps0_11 _ hostOps0_11_writes h11, after_of_writes_sub hostOps0_10 _ hostOps0_10_writes h10, after_of_writes_sub hostOps0_9 _ hostOps0_9_writes h9, after_of_writes_sub hostOps0_8 _ hostOps0_8_writes h8]

/-- The memory after the operations up to the chunks' increments. -/
def gE (X : Mem) : Mem := after hostOps0_14 X

/-- A buffer these operations do not write is kept. -/
theorem gE_keep (X : Mem) (r : Ref sig .tc) (h : r ∉ hostOps0_14_W) : gE X (Proc.devRef .tc r) = X (Proc.devRef .tc r) := by
  have h14 := h
  unfold gE
  rw [after_of_writes_sub hostOps0_14 _ hostOps0_14_writes h14]

set_option maxHeartbeats 4000000 in
/-- What buffer `v39` holds after the operations of `gA`. -/
theorem gA_v39 (X : Mem) : gA X (Proc.devRef .tc main_v39) = SILU (BIASED (TAPS (PADDED (ROWS (X (Proc.devRef .tc main_arg0)))) (X (Proc.devRef .tc main_arg1))) (X (Proc.devRef .tc main_arg2))) := by
  unfold gA
  after_reads_simp
  rfl

set_option maxHeartbeats 4000000 in
/-- What buffer `v1` holds after the operations of `gA`. -/
theorem gA_v1 (X : Mem) : gA X (Proc.devRef .tc main_v1) = GATES (X (Proc.devRef .tc main_arg0)) := by
  unfold gA
  after_reads_simp
  rfl

set_option maxHeartbeats 4000000 in
/-- What buffer `v5` holds after the operations of `gA`. -/
theorem gA_v5 (X : Mem) : gA X (Proc.devRef .tc main_v5) = STEPS (X (Proc.devRef .tc main_arg0)) := by
  unfold gA
  after_reads_simp
  rfl

set_option maxHeartbeats 4000000 in
/-- What buffer `v43` holds after the operations of `gB`. -/
theorem gB_v43 (X : Mem) : gB X (Proc.devRef .tc main_v43) = XS (X (Proc.devRef .tc main_v39)) := by
  unfold gB
  after_reads_simp
  rfl

set_option maxHeartbeats 4000000 in
/-- What buffer `v44` holds after the operations of `gB`. -/
theorem gB_v44 (X : Mem) : gB X (Proc.devRef .tc main_v44) = BM (X (Proc.devRef .tc main_v39)) := by
  unfold gB
  after_reads_simp
  rfl

set_option maxHeartbeats 4000000 in
/-- What buffer `v45` holds after the operations of `gB`. -/
theorem gB_v45 (X : Mem) : gB X (Proc.devRef .tc main_v45) = CM (X (Proc.devRef .tc main_v39)) := by
  unfold gB
  after_reads_simp
  rfl

set_option maxHeartbeats 4000000 in
/-- What buffer `v50` holds after the operations of `gB`. -/
theorem gB_v50 (X : Mem) : gB X (Proc.devRef .tc main_v50) = DT (X (Proc.devRef .tc main_v5)) (X (Proc.devRef .tc main_arg3)) := by
  unfold gB
  after_reads_simp
  rfl

set_option maxHeartbeats 4000000 in
/-- What buffer `v56` holds after the operations of `gB`. -/
theorem gB_v56 (X : Mem) : gB X (Proc.devRef .tc main_v56) = DA (DT (X (Proc.devRef .tc main_v5)) (X (Proc.devRef .tc main_arg3))) (X (Proc.devRef .tc main_arg4)) := by
  unfold gB
  after_reads_simp
  rfl

set_option maxHeartbeats 4000000 in
/-- What buffer `v57` holds after the operations of `gC`. -/
theorem gC_v57 (X : Mem) : gC X (Proc.devRef .tc main_v57) = ACS (X (Proc.devRef .tc main_v56)) := by
  unfold gC
  after_reads_simp
  rfl

set_option maxHeartbeats 4000000 in
/-- What buffer `v68` holds after the operations of `gD`. -/
theorem gD_v68 (X : Mem) : gD X (Proc.devRef .tc main_v68) = DECAY (X (Proc.devRef .tc main_v57)) := by
  unfold gD
  after_reads_simp
  rfl

set_option maxHeartbeats 4000000 in
/-- What buffer `v78` holds after the operations of `gE`. -/
theorem gE_v78 (X : Mem) : gE X (Proc.devRef .tc main_v78) = INTRA (CB (X (Proc.devRef .tc main_v44)) (X (Proc.devRef .tc main_v45))) (X (Proc.devRef .tc main_v68)) (XDT (X (Proc.devRef .tc main_v43)) (X (Proc.devRef .tc main_v50))) := by
  unfold gE
  after_reads_simp
  rfl

set_option maxHeartbeats 4000000 in
/-- What buffer `v96_1` holds after the operations of `gE`. -/
theorem gE_v96_1 (X : Mem) : gE X (Proc.devRef .tc main_v96_1) = KV (TOEND (X (Proc.devRef .tc main_v57))) (XDT (X (Proc.devRef .tc main_v43)) (X (Proc.devRef .tc main_v50))) (X (Proc.devRef .tc main_v44)) := by
  unfold gE
  after_reads_simp
  rfl

set_option maxHeartbeats 4000000 in
/-- What buffer `v96_0` holds after the operations of `gE`. -/
theorem gE_v96_0 (X : Mem) : gE X (Proc.devRef .tc main_v96_0) = CD (X (Proc.devRef .tc main_v57)) := by
  unfold gE
  after_reads_simp
  rfl

set_option maxHeartbeats 4000000 in
/-- What buffer `v96_3` holds after the operations of `gE`. -/
theorem gE_v96_3 (X : Mem) : gE X (Proc.devRef .tc main_v96_3) = ZERO := by
  unfold gE
  after_reads_simp
  rfl

set_option maxHeartbeats 4000000 in
/-- The result after the operations that follow the loop. -/
theorem post_eq (X : Mem) : after hostOps0_17 (after hostOps0_16 (after hostOps0_15 X)) (Proc.devRef .tc main_v128)
    = WEIGHTED (NORM (GATED (addf (addf (X (Proc.devRef .tc main_v78)) (INTER (X (Proc.devRef .tc main_v96_4)) (X (Proc.devRef .tc main_v45)) (X (Proc.devRef .tc main_v57)))) (SKIP (X (Proc.devRef .tc main_v43)) (X (Proc.devRef .tc main_arg5)))) (GSILU (X (Proc.devRef .tc main_v1))))) (X (Proc.devRef .tc main_arg6)) := by
  after_reads_simp
  rfl

/-- Buffer `arg3` keeps its contents through `gA`. -/
theorem gA_arg3 (X : Mem) : gA X (Proc.devRef .tc main_arg3) = X (Proc.devRef .tc main_arg3) := gA_keep X _ (by decide +kernel)
/-- Buffer `arg4` keeps its contents through `gA`. -/
theorem gA_arg4 (X : Mem) : gA X (Proc.devRef .tc main_arg4) = X (Proc.devRef .tc main_arg4) := gA_keep X _ (by decide +kernel)
/-- Buffer `arg5` keeps its contents through `gA`. -/
theorem gA_arg5 (X : Mem) : gA X (Proc.devRef .tc main_arg5) = X (Proc.devRef .tc main_arg5) := gA_keep X _ (by decide +kernel)
/-- Buffer `arg6` keeps its contents through `gA`. -/
theorem gA_arg6 (X : Mem) : gA X (Proc.devRef .tc main_arg6) = X (Proc.devRef .tc main_arg6) := gA_keep X _ (by decide +kernel)
/-- Buffer `v1` keeps its contents through `gB`. -/
theorem gB_v1 (X : Mem) : gB X (Proc.devRef .tc main_v1) = X (Proc.devRef .tc main_v1) := gB_keep X _ (by decide +kernel)
/-- Buffer `arg5` keeps its contents through `gB`. -/
theorem gB_arg5 (X : Mem) : gB X (Proc.devRef .tc main_arg5) = X (Proc.devRef .tc main_arg5) := gB_keep X _ (by decide +kernel)
/-- Buffer `arg6` keeps its contents through `gB`. -/
theorem gB_arg6 (X : Mem) : gB X (Proc.devRef .tc main_arg6) = X (Proc.devRef .tc main_arg6) := gB_keep X _ (by decide +kernel)
/-- Buffer `v1` keeps its contents through `gC`. -/
theorem gC_v1 (X : Mem) : gC X (Proc.devRef .tc main_v1) = X (Proc.devRef .tc main_v1) := gC_keep X _ (by decide +kernel)
/-- Buffer `v43` keeps its contents through `gC`. -/
theorem gC_v43 (X : Mem) : gC X (Proc.devRef .tc main_v43) = X (Proc.devRef .tc main_v43) := gC_keep X _ (by decide +kernel)
/-- Buffer `v44` keeps its contents through `gC`. -/
theorem gC_v44 (X : Mem) : gC X (Proc.devRef .tc main_v44) = X (Proc.devRef .tc main_v44) := gC_keep X _ (by decide +kernel)
/-- Buffer `v45` keeps its contents through `gC`. -/
theorem gC_v45 (X : Mem) : gC X (Proc.devRef .tc main_v45) = X (Proc.devRef .tc main_v45) := gC_keep X _ (by decide +kernel)
/-- Buffer `v50` keeps its contents through `gC`. -/
theorem gC_v50 (X : Mem) : gC X (Proc.devRef .tc main_v50) = X (Proc.devRef .tc main_v50) := gC_keep X _ (by decide +kernel)
/-- Buffer `arg5` keeps its contents through `gC`. -/
theorem gC_arg5 (X : Mem) : gC X (Proc.devRef .tc main_arg5) = X (Proc.devRef .tc main_arg5) := gC_keep X _ (by decide +kernel)
/-- Buffer `arg6` keeps its contents through `gC`. -/
theorem gC_arg6 (X : Mem) : gC X (Proc.devRef .tc main_arg6) = X (Proc.devRef .tc main_arg6) := gC_keep X _ (by decide +kernel)
/-- Buffer `v1` keeps its contents through `gD`. -/
theorem gD_v1 (X : Mem) : gD X (Proc.devRef .tc main_v1) = X (Proc.devRef .tc main_v1) := gD_keep X _ (by decide +kernel)
/-- Buffer `v43` keeps its contents through `gD`. -/
theorem gD_v43 (X : Mem) : gD X (Proc.devRef .tc main_v43) = X (Proc.devRef .tc main_v43) := gD_keep X _ (by decide +kernel)
/-- Buffer `v44` keeps its contents through `gD`. -/
theorem gD_v44 (X : Mem) : gD X (Proc.devRef .tc main_v44) = X (Proc.devRef .tc main_v44) := gD_keep X _ (by decide +kernel)
/-- Buffer `v45` keeps its contents through `gD`. -/
theorem gD_v45 (X : Mem) : gD X (Proc.devRef .tc main_v45) = X (Proc.devRef .tc main_v45) := gD_keep X _ (by decide +kernel)
/-- Buffer `v50` keeps its contents through `gD`. -/
theorem gD_v50 (X : Mem) : gD X (Proc.devRef .tc main_v50) = X (Proc.devRef .tc main_v50) := gD_keep X _ (by decide +kernel)
/-- Buffer `v57` keeps its contents through `gD`. -/
theorem gD_v57 (X : Mem) : gD X (Proc.devRef .tc main_v57) = X (Proc.devRef .tc main_v57) := gD_keep X _ (by decide +kernel)
/-- Buffer `arg5` keeps its contents through `gD`. -/
theorem gD_arg5 (X : Mem) : gD X (Proc.devRef .tc main_arg5) = X (Proc.devRef .tc main_arg5) := gD_keep X _ (by decide +kernel)
/-- Buffer `arg6` keeps its contents through `gD`. -/
theorem gD_arg6 (X : Mem) : gD X (Proc.devRef .tc main_arg6) = X (Proc.devRef .tc main_arg6) := gD_keep X _ (by decide +kernel)
/-- Buffer `v1` keeps its contents through `gE`. -/
theorem gE_v1 (X : Mem) : gE X (Proc.devRef .tc main_v1) = X (Proc.devRef .tc main_v1) := gE_keep X _ (by decide +kernel)
/-- Buffer `v43` keeps its contents through `gE`. -/
theorem gE_v43 (X : Mem) : gE X (Proc.devRef .tc main_v43) = X (Proc.devRef .tc main_v43) := gE_keep X _ (by decide +kernel)
/-- Buffer `v45` keeps its contents through `gE`. -/
theorem gE_v45 (X : Mem) : gE X (Proc.devRef .tc main_v45) = X (Proc.devRef .tc main_v45) := gE_keep X _ (by decide +kernel)
/-- Buffer `v57` keeps its contents through `gE`. -/
theorem gE_v57 (X : Mem) : gE X (Proc.devRef .tc main_v57) = X (Proc.devRef .tc main_v57) := gE_keep X _ (by decide +kernel)
/-- Buffer `arg5` keeps its contents through `gE`. -/
theorem gE_arg5 (X : Mem) : gE X (Proc.devRef .tc main_arg5) = X (Proc.devRef .tc main_arg5) := gE_keep X _ (by decide +kernel)
/-- Buffer `arg6` keeps its contents through `gE`. -/
theorem gE_arg6 (X : Mem) : gE X (Proc.devRef .tc main_arg6) = X (Proc.devRef .tc main_arg6) := gE_keep X _ (by decide +kernel)

variable (m : (ℓ : Loc nD τ sig) → Buf (Elt Ideal) ℓ)

/-- The memory at the loop's entry. -/
theorem entry_eq (c : Dev nD) : entryContents preI m c = gE (gD (gC (gB (gA (fun r => m (c, r)))))) := rfl

/-- The activated convolution of a device's arguments. -/
def MIX (P : Proj) (w : FVec Ideal S4x1024 .f32) (v : FVec Ideal S1024 .f32) : FVec Ideal S4x4096x1024 .f32 :=
  SILU (BIASED (TAPS (PADDED (ROWS P)) w) v)

/-- Buffer `v43` at the loop's entry. -/
theorem entry_v43 (c : Dev nD) : entryContents preI m c (Proc.devRef .tc main_v43) = XS (MIX (m ((c.tc : Thread nD τ).loc main_arg0)) (m ((c.tc : Thread nD τ).loc main_arg1)) (m ((c.tc : Thread nD τ).loc main_arg2))) := by
  rw [entry_eq, gE_v43, gD_v43, gC_v43, gB_v43, gA_v39]
  rfl

/-- Buffer `v45` at the loop's entry. -/
theorem entry_v45 (c : Dev nD) : entryContents preI m c (Proc.devRef .tc main_v45) = CM (MIX (m ((c.tc : Thread nD τ).loc main_arg0)) (m ((c.tc : Thread nD τ).loc main_arg1)) (m ((c.tc : Thread nD τ).loc main_arg2))) := by
  rw [entry_eq, gE_v45, gD_v45, gC_v45, gB_v45, gA_v39]
  rfl

/-- Buffer `v57` at the loop's entry. -/
theorem entry_v57 (c : Dev nD) : entryContents preI m c (Proc.devRef .tc main_v57) = ACS (DA (DT (STEPS (m ((c.tc : Thread nD τ).loc main_arg0))) (m ((c.tc : Thread nD τ).loc main_arg3))) (m ((c.tc : Thread nD τ).loc main_arg4))) := by
  rw [entry_eq, gE_v57, gD_v57, gC_v57, gB_v56, gA_v5, gA_arg3, gA_arg4]

/-- Buffer `v1` at the loop's entry. -/
theorem entry_v1 (c : Dev nD) : entryContents preI m c (Proc.devRef .tc main_v1) = GATES (m ((c.tc : Thread nD τ).loc main_arg0)) := by
  rw [entry_eq, gE_v1, gD_v1, gC_v1, gB_v1, gA_v1]

/-- Buffer `v78` at the loop's entry. -/
theorem entry_v78 (c : Dev nD) : entryContents preI m c (Proc.devRef .tc main_v78) = INTRA (CB (BM (MIX (m ((c.tc : Thread nD τ).loc main_arg0)) (m ((c.tc : Thread nD τ).loc main_arg1)) (m ((c.tc : Thread nD τ).loc main_arg2)))) (CM (MIX (m ((c.tc : Thread nD τ).loc main_arg0)) (m ((c.tc : Thread nD τ).loc main_arg1)) (m ((c.tc : Thread nD τ).loc main_arg2))))) (DECAY (ACS (DA (DT (STEPS (m ((c.tc : Thread nD τ).loc main_arg0))) (m ((c.tc : Thread nD τ).loc main_arg3))) (m ((c.tc : Thread nD τ).loc main_arg4))))) (XDT (XS (MIX (m ((c.tc : Thread nD τ).loc main_arg0)) (m ((c.tc : Thread nD τ).loc main_arg1)) (m ((c.tc : Thread nD τ).loc main_arg2)))) (DT (STEPS (m ((c.tc : Thread nD τ).loc main_arg0))) (m ((c.tc : Thread nD τ).loc main_arg3)))) := by
  rw [entry_eq, gE_v78, gD_v44, gD_v45, gD_v68, gD_v43, gD_v50, gC_v44, gC_v45, gC_v57, gC_v43, gC_v50, gB_v44, gB_v45, gB_v56, gB_v43, gB_v50, gA_v39, gA_v5, gA_arg3, gA_arg4]
  rfl

/-- Buffer `v96_0` at the loop's entry. -/
theorem entry_v96_0 (c : Dev nD) : entryContents preI m c (Proc.devRef .tc main_v96_0) = CD (ACS (DA (DT (STEPS (m ((c.tc : Thread nD τ).loc main_arg0))) (m ((c.tc : Thread nD τ).loc main_arg3))) (m ((c.tc : Thread nD τ).loc main_arg4)))) := by
  rw [entry_eq, gE_v96_0, gD_v57, gC_v57, gB_v56, gA_v5, gA_arg3, gA_arg4]

/-- Buffer `v96_1` at the loop's entry. -/
theorem entry_v96_1 (c : Dev nD) : entryContents preI m c (Proc.devRef .tc main_v96_1) = KV (TOEND (ACS (DA (DT (STEPS (m ((c.tc : Thread nD τ).loc main_arg0))) (m ((c.tc : Thread nD τ).loc main_arg3))) (m ((c.tc : Thread nD τ).loc main_arg4))))) (XDT (XS (MIX (m ((c.tc : Thread nD τ).loc main_arg0)) (m ((c.tc : Thread nD τ).loc main_arg1)) (m ((c.tc : Thread nD τ).loc main_arg2)))) (DT (STEPS (m ((c.tc : Thread nD τ).loc main_arg0))) (m ((c.tc : Thread nD τ).loc main_arg3)))) (BM (MIX (m ((c.tc : Thread nD τ).loc main_arg0)) (m ((c.tc : Thread nD τ).loc main_arg1)) (m ((c.tc : Thread nD τ).loc main_arg2)))) := by
  rw [entry_eq, gE_v96_1, gD_v57, gD_v43, gD_v50, gD_v44, gC_v57, gC_v43, gC_v50, gC_v44, gB_v56, gB_v43, gB_v50, gB_v44, gA_v39, gA_v5, gA_arg3, gA_arg4]
  rfl

/-- Buffer `v96_3` at the loop's entry. -/
theorem entry_v96_3 (c : Dev nD) : entryContents preI m c (Proc.devRef .tc main_v96_3) = ZERO := by
  rw [entry_eq, gE_v96_3]

/-- Buffer `arg5` at the loop's entry. -/
theorem entry_arg5 (c : Dev nD) : entryContents preI m c (Proc.devRef .tc main_arg5) = (m ((c.tc : Thread nD τ).loc main_arg5)) := by
  rw [entry_eq, gE_arg5, gD_arg5, gC_arg5, gB_arg5, gA_arg5]

/-- Buffer `arg6` at the loop's entry. -/
theorem entry_arg6 (c : Dev nD) : entryContents preI m c (Proc.devRef .tc main_arg6) = (m ((c.tc : Thread nD τ).loc main_arg6)) := by
  rw [entry_eq, gE_arg6, gD_arg6, gC_arg6, gB_arg6, gA_arg6]

/-- The reference's result after the whole run, from the stack the loop leaves. -/
theorem final_eq (c : Dev nD) : finalContents condOps preI bodyI postI 32 m c (Proc.devRef .tc main_v128)
    = WEIGHTED (NORM (GATED (addf (addf (INTRA (CB (BM (MIX (m ((c.tc : Thread nD τ).loc main_arg0)) (m ((c.tc : Thread nD τ).loc main_arg1)) (m ((c.tc : Thread nD τ).loc main_arg2)))) (CM (MIX (m ((c.tc : Thread nD τ).loc main_arg0)) (m ((c.tc : Thread nD τ).loc main_arg1)) (m ((c.tc : Thread nD τ).loc main_arg2))))) (DECAY (ACS (DA (DT (STEPS (m ((c.tc : Thread nD τ).loc main_arg0))) (m ((c.tc : Thread nD τ).loc main_arg3))) (m ((c.tc : Thread nD τ).loc main_arg4))))) (XDT (XS (MIX (m ((c.tc : Thread nD τ).loc main_arg0)) (m ((c.tc : Thread nD τ).loc main_arg1)) (m ((c.tc : Thread nD τ).loc main_arg2)))) (DT (STEPS (m ((c.tc : Thread nD τ).loc main_arg0))) (m ((c.tc : Thread nD τ).loc main_arg3))))) (INTER (atK m 32 c (Proc.devRef .tc main_v96_4)) (CM (MIX (m ((c.tc : Thread nD τ).loc main_arg0)) (m ((c.tc : Thread nD τ).loc main_arg1)) (m ((c.tc : Thread nD τ).loc main_arg2)))) (ACS (DA (DT (STEPS (m ((c.tc : Thread nD τ).loc main_arg0))) (m ((c.tc : Thread nD τ).loc main_arg3))) (m ((c.tc : Thread nD τ).loc main_arg4)))))) (SKIP (XS (MIX (m ((c.tc : Thread nD τ).loc main_arg0)) (m ((c.tc : Thread nD τ).loc main_arg1)) (m ((c.tc : Thread nD τ).loc main_arg2)))) (m ((c.tc : Thread nD τ).loc main_arg5)))) (GSILU (GATES (m ((c.tc : Thread nD τ).loc main_arg0)))))) (m ((c.tc : Thread nD τ).loc main_arg6)) := by
  have hk : ∀ r, r ∉ condOps_W → r ∉ tripW → after condOps (atK m 32 c) (Proc.devRef .tc r) = entryContents preI m c (Proc.devRef .tc r) := fun r h h' =>
    (after_of_writes_sub condOps _ condOps_writes h).trans (atK_keep m c r h' 32)
  refine (post_eq (after condOps (atK m 32 c))).trans ?_
  rw [hk main_v78 (by decide +kernel) (by decide +kernel), hk main_v45 (by decide +kernel) (by decide +kernel),
    hk main_v57 (by decide +kernel) (by decide +kernel), hk main_v43 (by decide +kernel) (by decide +kernel),
    hk main_arg5 (by decide +kernel) (by decide +kernel), hk main_v1 (by decide +kernel) (by decide +kernel),
    hk main_arg6 (by decide +kernel) (by decide +kernel), after_of_writes_sub condOps _ condOps_writes (r := main_v96_4) (by decide +kernel),
    entry_v78, entry_v45, entry_v57, entry_v43, entry_arg5, entry_v1, entry_arg6]

end Cert.ReferenceSsdIdeal.SsdRef

end
-- ==== Proof.SsdArr.lean ====
/-
  The arrays of the state-space layer's reference, index by index.
-/
module

public import proofs.«01_k».proof.Proof.SsdRef
public import Idealize.ShloMosaic.Lib.Pointwise

@[expose] public section

set_option maxRecDepth 16384

noncomputable section

namespace Cert.ReferenceSsdIdeal.SsdArr

open Cert.ReferenceSsdIdeal Cert.ReferenceSsdIdeal.Gen Cert.ReferenceSsdIdeal.SsdRef Cert.ReferenceSsdIdeal.SsdSum
open Idealize.ShloMosaic
open Cert.Ssd
open Cert.Ret (Proj row)

/-- The row of a sequence that is row `r` of chunk `n`. -/
abbrev sr (n : Fin 32) (r : Fin 128) : Fin 4096 := ⟨n.val * 128 + r.val, by omega⟩
/-- The head that is head `q` of group `g`. -/
abbrev hq (g : Fin 2) (q : Fin 4) : Fin 8 := ⟨g.val * 4 + q.val, by omega⟩
/-- The column that is column `p` of head `q` of group `g`. -/
abbrev cl (g : Fin 2) (q : Fin 4) (p : Fin 64) : Fin 512 := ⟨(g.val * 4 + q.val) * 64 + p.val, by omega⟩

/-- A row among the rows of all sequences. -/
theorem row_eq (b : Fin 4) (n : Fin 32) (r : Fin 128) (h : b.val * 4096 + (n.val * 128 + r.val) < 16384) :
    (⟨b.val * 4096 + (n.val * 128 + r.val), h⟩ : Fin 16384) = row b.val n.val r := Fin.ext (by simp only [row]; omega)

/-- A convolved column of a row. -/
theorem rows_at (P : Proj) (b : Fin 4) (s : Fin 4096) (k : Fin 1024) :
    ROWS P (ix3 b s k) = P (ix2 ⟨b.val * 4096 + s.val, by omega⟩ ⟨2560 + k.val, by omega⟩) := by
  unfold ROWS
  pointwise

/-- A row of the padded rows. -/
theorem padded_at (X : FVec Ideal S4x4096x1024 .f32) (b : Fin 4) (s : Fin 4099) (k : Fin 1024) :
    PADDED X (ix3 b s k) = if h : 3 ≤ s.val then X (ix3 b ⟨s.val - 3, by omega⟩ k) else 0 := by
  have hz : FloatOps.sitofp (F := Ideal) .f32 (0#32 : BitVec 32) = (0 : EReal) := by
    show ((((0#32 : BitVec 32).toInt : ℤ) : ℝ) : EReal) = 0
    simp
  unfold PADDED
  pointwise
  rw [hz]
  have hs := s.isLt
  by_cases h : 3 ≤ s.val
  · rw [dif_pos h, dif_pos ⟨h, by omega⟩]
  · rw [dif_neg h, dif_neg fun h' => h h'.1]

/-- The convolution at a row. -/
theorem taps_at (Z : FVec Ideal S4x4099x1024 .f32) (w : FVec Ideal S4x1024 .f32) (b : Fin 4) (s : Fin 4096) (k : Fin 1024) :
    TAPS Z w (ix3 b s k) = w (ix2 0 k) * Z (ix3 b ⟨0 + s.val, by omega⟩ k) + w (ix2 1 k) * Z (ix3 b ⟨1 + s.val, by omega⟩ k)
      + w (ix2 2 k) * Z (ix3 b ⟨2 + s.val, by omega⟩ k) + w (ix2 3 k) * Z (ix3 b ⟨3 + s.val, by omega⟩ k) := by
  unfold TAPS
  pointwise

/-- A row that the convolution reads, in the padded rows. -/
theorem back_at (a : Par) (b : Fin 4) (s : Fin 4096) (k : Fin 1024) (j d : ℕ) (hj : j + d = 3) (h : j + s.val < 4099) :
    PADDED (ROWS a.P) (ix3 b ⟨j + s.val, h⟩ k) = back a b.val s.val d k := by
  rw [padded_at]
  unfold back
  have hb := b.isLt
  have hs := s.isLt
  by_cases h' : d ≤ s.val
  · rw [if_pos h', dif_pos (show 3 ≤ j + s.val by omega), rows_at]
    refine congrArg a.P (congrArg₂ ix2 (Fin.ext ?_) rfl)
    simp only []
    rw [Nat.mod_eq_of_lt (by omega)]
    omega
  · rw [if_neg h', dif_neg (show ¬3 ≤ j + s.val by omega)]

/-- The bias. -/
theorem biased_at (Y : FVec Ideal S4x4096x1024 .f32) (v : FVec Ideal S1024 .f32) (b : Fin 4) (s : Fin 4096) (k : Fin 1024) :
    BIASED Y v (ix3 b s k) = Y (ix3 b s k) + v (ix1 k) := by
  unfold BIASED
  pointwise

/-- The activation. -/
theorem silu_at (X : FVec Ideal S4x4096x1024 .f32) (b : Fin 4) (s : Fin 4096) (k : Fin 1024) :
    SILU X (ix3 b s k) = X (ix3 b s k) * Ideal.logistic (X (ix3 b s k)) := by
  unfold SILU
  pointwise
  rfl

/-- The activated convolution of the arguments at a row. -/
theorem mix_at (P : Proj) (cw : FVec Ideal S4x1024 .f32) (cb : FVec Ideal S1024 .f32) (dtb al ds : FVec Ideal S8 .f32) (nw : FVec Ideal S512 .f32)
    (b : Fin 4) (n : Fin 32) (r : Fin 128) (k : Fin 1024) :
    MIX P cw cb (ix3 b (sr n r) k) = mixed (args P cw cb dtb al ds nw) b.val n.val r k := by
  have hc : BIASED (TAPS (PADDED (ROWS P)) cw) cb (ix3 b (sr n r) k) = conv (args P cw cb dtb al ds nw) b.val (n.val * 128 + r.val) k := by
    have e := fun j d hj => back_at (args P cw cb dtb al ds nw) b (sr n r) k j d hj
    rw [biased_at, taps_at]
    erw [e 0 3 rfl (by simp only []; omega), e 1 2 rfl (by simp only []; omega), e 2 1 rfl (by simp only []; omega), e 3 0 rfl (by simp only []; omega)]
    unfold conv
    simp only []
    rw [mul_comm (cw _), mul_comm (cw _), mul_comm (cw _), mul_comm (cw _)]
    refine congrArg (· + _) ?_
    ac_rfl
  unfold MIX
  rw [silu_at, hc]
  rfl

/-- An input row. -/
theorem xs_at (Y : FVec Ideal S4x4096x1024 .f32) (b : Fin 4) (n : Fin 32) (r : Fin 128) (g : Fin 2) (q : Fin 4) (p : Fin 64) :
    XS Y (ix6 b n r g q p) = Y (ix3 b (sr n r) ⟨(cl g q p).val, by omega⟩) := by
  unfold XS
  pointwise
  exact congrArg (fun c => Y (ix3 b (sr n r) c)) (Fin.ext (by simp only []; omega))

/-- A written row. -/
theorem bm_at (Y : FVec Ideal S4x4096x1024 .f32) (b : Fin 4) (n : Fin 32) (r : Fin 128) (g : Fin 2) (k : Fin 128) :
    BM Y (ix5 b n r g k) = Y (ix3 b (sr n r) ⟨512 + g.val * 128 + k.val, by omega⟩) := by
  unfold BM
  pointwise
  exact congrArg (fun c => Y (ix3 b (sr n r) c)) (Fin.ext (by simp only []; omega))

/-- A reading row. -/
theorem cm_at (Y : FVec Ideal S4x4096x1024 .f32) (b : Fin 4) (n : Fin 32) (r : Fin 128) (g : Fin 2) (k : Fin 128) :
    CM Y (ix5 b n r g k) = Y (ix3 b (sr n r) ⟨768 + g.val * 128 + k.val, by omega⟩) := by
  unfold CM
  pointwise
  exact congrArg (fun c => Y (ix3 b (sr n r) c)) (Fin.ext (by simp only []; omega))

/-- The softplus of an entry. -/
theorem soft_at (X : FVec Ideal S4x4096x8 .f32) (b : Fin 4) (s : Fin 4096) (h : Fin 8) : SOFT X (ix3 b s h) = softplus (X (ix3 b s h)) := by
  unfold SOFT
  pointwise
  rw [if_neg (fun h => h rfl)]
  unfold softplus
  rw [zero_sub]

/-- The step size of a head at a row. -/
theorem dt_at (P : Proj) (cw : FVec Ideal S4x1024 .f32) (cb : FVec Ideal S1024 .f32) (dtb al ds : FVec Ideal S8 .f32) (nw : FVec Ideal S512 .f32)
    (b : Fin 4) (n : Fin 32) (r : Fin 128) (g : Fin 2) (q : Fin 4) :
    DT (STEPS P) dtb (ix5 b n r g q) = dt (args P cw cb dtb al ds nw) b.val n.val r (hq g q) := by
  have e : DT (STEPS P) dtb (ix5 b n r g q) = SOFT (addf (STEPS P) (broadcastInDim S4x4096x8 ![0, 1, 2] bcast_S1x1x8_S4x4096x8_0_1_2 (broadcastInDim S1x1x8 ![2] bcast_S8_S1x1x8_2 dtb)))
      (ix3 b (sr n r) (hq g q)) := by
    unfold DT
    pointwise
  rw [e, soft_at]
  unfold dt
  refine congrArg softplus ?_
  unfold STEPS
  pointwise
  rw [row_eq]

/-- The logarithm of a row's decay. -/
theorem da_at (T : FVec Ideal S4x32x128x2x4 .f32) (v : FVec Ideal S8 .f32) (b : Fin 4) (n : Fin 32) (r : Fin 128) (g : Fin 2) (q : Fin 4) :
    DA T v (ix5 b n r g q) = T (ix5 b n r g q) * (0 - Ideal.exp (v (ix1 (hq g q)))) := by
  unfold DA
  pointwise
  rw [zero_sub]

/-- The pairs of a row and an earlier row or the row itself. -/
theorem mask_at (r m : Fin 128) : MASK (ix2 r m) = if m ≤ r then 1#1 else 0#1 := by
  unfold MASK
  pointwise
  have h : ∀ r m : Fin 128, Scalar.select (IntOp.cmpi CmpIPredicate.sge (IntOp.addi (BitVec.ofNat 32 r.val) 0#32) (BitVec.ofNat 32 m.val)) (1#1) (0#1)
      = if m ≤ r then (1#1 : BitVec 1) else 0#1 := by decide +kernel
  exact h r m

/-- The decay between two rows. -/
theorem decay_at (A : FVec Ideal S4x32x128x2x4 .f32) (b : Fin 4) (n : Fin 32) (r m : Fin 128) (g : Fin 2) (q : Fin 4) :
    DECAY A (ix6 b n r m g q) = if m ≤ r then Ideal.exp (A (ix5 b n r g q) - A (ix5 b n m g q)) else 0 := by
  unfold DECAY MASKS GAPS
  pointwise
  rw [mask_at]
  by_cases h : m ≤ r
  · simp only [if_pos h]
    rfl
  · simp only [if_neg h]
    rfl

/-- An input row times its step size. -/
theorem xdt_at (X : FVec Ideal S4x32x128x2x4x64 .f32) (T : FVec Ideal S4x32x128x2x4 .f32) (b : Fin 4) (n : Fin 32) (r : Fin 128) (g : Fin 2) (q : Fin 4) (p : Fin 64) :
    XDT X T (ix6 b n r g q p) = X (ix6 b n r g q p) * T (ix5 b n r g q) := by
  unfold XDT
  pointwise

/-- The product of a reading row and a written row. -/
theorem cb_at (B C : FVec Ideal S4x32x128x2x128 .f32) (b : Fin 4) (n : Fin 32) (r m : Fin 128) (g : Fin 2) :
    CB B C (ix5 b n r m g) = ∑ k : Fin 128, B (ix5 b n m g k) * C (ix5 b n r g k) := by
  unfold CB
  pointwise

/-- What a row takes from the rows of its chunk. -/
theorem intra_at (K : FVec Ideal S4x32x128x128x2 .f32) (L : FVec Ideal S4x32x128x128x2x4 .f32) (U : FVec Ideal S4x32x128x2x4x64 .f32)
    (b : Fin 4) (n : Fin 32) (r : Fin 128) (g : Fin 2) (q : Fin 4) (p : Fin 64) :
    INTRA K L U (ix6 b n r g q p) = ∑ m : Fin 128, U (ix6 b n m g q p) * (K (ix5 b n r m g) * L (ix6 b n r m g q)) := by
  unfold INTRA
  pointwise

/-- The decay from a row to the end of its chunk. -/
theorem toend_at (A : FVec Ideal S4x32x128x2x4 .f32) (b : Fin 4) (n : Fin 32) (r : Fin 128) (g : Fin 2) (q : Fin 4) :
    TOEND A (ix5 b n r g q) = Ideal.exp (A (ix5 b n 127 g q) - A (ix5 b n r g q)) := by
  unfold TOEND
  pointwise

/-- What a chunk adds to the state. -/
theorem kv_at (E : FVec Ideal S4x32x128x2x4 .f32) (U : FVec Ideal S4x32x128x2x4x64 .f32) (B : FVec Ideal S4x32x128x2x128 .f32)
    (n : Fin 32) (b : Fin 4) (g : Fin 2) (q : Fin 4) (p : Fin 64) (k : Fin 128) :
    KV E U B (ix6 n b g q p k) = ∑ m : Fin 128, E (ix5 b n m g q) * U (ix6 b n m g q p) * B (ix5 b n m g k) := by
  unfold KV
  pointwise

/-- The decay over a chunk. -/
theorem cd_at (A : FVec Ideal S4x32x128x2x4 .f32) (n : Fin 32) (b : Fin 4) (g : Fin 2) (q : Fin 4) :
    CD A (ix6 n b g q 0 0) = Ideal.exp (A (ix5 b n 127 g q)) := by
  unfold CD
  pointwise

/-- What a row takes from the state that entered its chunk. -/
theorem inter_at (Q : FVec Ideal S32x4x2x4x64x128 .f32) (C : FVec Ideal S4x32x128x2x128 .f32) (A : FVec Ideal S4x32x128x2x4 .f32)
    (b : Fin 4) (n : Fin 32) (r : Fin 128) (g : Fin 2) (q : Fin 4) (p : Fin 64) :
    INTER Q C A (ix6 b n r g q p) = (∑ k : Fin 128, Q (ix6 n b g q p k) * C (ix5 b n r g k)) * Ideal.exp (A (ix5 b n r g q)) := by
  unfold INTER
  pointwise

/-- An input row times the skip weight. -/
theorem skip_at (X : FVec Ideal S4x32x128x2x4x64 .f32) (v : FVec Ideal S8 .f32) (b : Fin 4) (n : Fin 32) (r : Fin 128) (g : Fin 2) (q : Fin 4) (p : Fin 64) :
    SKIP X v (ix6 b n r g q p) = X (ix6 b n r g q p) * v (ix1 (hq g q)) := by
  unfold SKIP
  pointwise

/-- The activated gate of a row and a column. -/
theorem gate_at (P : Proj) (b : Fin 4) (n : Fin 32) (r : Fin 128) (c : Fin 512) :
    GSILU (GATES P) (ix3 b (sr n r) c) = P (ix2 (row b.val n.val r) ⟨2048 + c.val, by omega⟩)
      * Ideal.logistic (P (ix2 (row b.val n.val r) ⟨2048 + c.val, by omega⟩)) := by
  unfold GSILU GATES
  pointwise
  rw [row_eq]
  rfl

/-- The gated rows, group by group. -/
theorem gated_at (Y : FVec Ideal S4x32x128x2x4x64 .f32) (G : FVec Ideal S4x4096x512 .f32) (b : Fin 4) (n : Fin 32) (r : Fin 128) (g : Fin 2) (q : Fin 4) (p : Fin 64) :
    GATED Y G (ix4 b (sr n r) g (⟨q.val * 64 + p.val, by omega⟩ : Fin 256)) = Y (ix6 b n r g q p) * G (ix3 b (sr n r) (cl g q p)) := by
  unfold GATED
  pointwise
  have e0 : (⟨(n.val * 128 + r.val) / 128, by omega⟩ : Fin 32) = n := Fin.ext (by simp only []; omega)
  have e1 : (⟨(n.val * 128 + r.val) % 128, by omega⟩ : Fin 128) = r := Fin.ext (by simp only []; omega)
  rw [e0, e1]
  exact congrArg (fun c => Y (ix6 b n r g q p) * G (ix3 b (sr n r) c)) (Fin.ext (by simp only []; omega))

/-- The normalized rows. -/
theorem norm_at (Y : FVec Ideal S4x4096x2x256 .f32) (b : Fin 4) (s : Fin 4096) (g : Fin 2) (e : Fin 256) :
    NORM Y (ix4 b s g e) = Y (ix4 b s g e) * Ideal.rsqrt (Ideal.div (∑ e' : Fin 256, Y (ix4 b s g e') * Y (ix4 b s g e')) (Ideal.ofBits .f32 0x43800000#32)
      + Ideal.ofBits .f32 0x358637BD#32) := by
  unfold NORM
  pointwise

/-- The weighted rows. -/
theorem weighted_at (Y : FVec Ideal S4x4096x2x256 .f32) (w : FVec Ideal S512 .f32) (b : Fin 4) (s : Fin 4096) (g : Fin 2) (e : Fin 256) :
    WEIGHTED Y w (ix2 (⟨b.val * 4096 + s.val, by omega⟩ : Fin 16384) (⟨g.val * 256 + e.val, by omega⟩ : Fin 512))
      = Y (ix4 b s g e) * w (ix1 ⟨g.val * 256 + e.val, by omega⟩) := by
  unfold WEIGHTED
  pointwise

end Cert.ReferenceSsdIdeal.SsdArr

end
-- ==== Proof.SsdLoop.lean ====
/-
  The loop of the state-space layer's reference: before every trip it carries the state that enters that trip's chunk, and
  its stack holds the states that entered the chunks before. With this the reference's result is the layer's result array.
-/
module

public import proofs.«01_k».proof.Proof.SsdArr
public import Idealize.ShloMosaic.Lib.WordCmp
public import Idealize.ShloMosaic.Lib.Scf

@[expose] public section

set_option maxRecDepth 16384

noncomputable section

namespace Cert.ReferenceSsdIdeal.SsdLoop

open Cert.ReferenceSsdIdeal Cert.ReferenceSsdIdeal.Gen Cert.ReferenceSsdIdeal.Value Cert.ReferenceSsdIdeal.SsdRun
open Cert.ReferenceSsdIdeal.SsdRef Cert.ReferenceSsdIdeal.SsdArr Cert.ReferenceSsdIdeal.SsdSum
open Idealize.ShloMosaic Idealize.ShloMosaic.TcCoe Idealize.ShloMosaic.Tactic
open Idealize.SL.Sem Idealize.ShloMosaic.StableHlo
open Cert.Ssd
open Cert.Ret (Proj row)

/-- The starts of a chunk's slice of a stack. -/
abbrev starts (k : ℕ) : Fin 6 → ℕ := ![k, 0, 0, 0, 0, 0]

/-- A chunk's slice lies inside the stack of states. -/
theorem starts_fit (k : Fin 32) : S32x4x2x4x64x128.Slices (starts k.val) S1x4x2x4x64x128 :=
  ⟨rfl, fun a => by fin_cases a <;> simp [starts] <;> omega⟩

/-- A chunk's slice lies inside the stack of decays. -/
theorem starts_fit_decay (k : Fin 32) : S32x4x2x4x1x1.Slices (starts k.val) S1x4x2x4x1x1 :=
  ⟨rfl, fun a => by fin_cases a <;> simp [starts] <;> omega⟩

/-- The increment read in a trip. -/
theorem slice_at (X : FVec Ideal S32x4x2x4x64x128 .f32) (st : Fin 6 → Int) (k : Fin 32) (e : ∀ a, st a = (starts k.val a : Int))
    (b : Fin 4) (g : Fin 2) (q : Fin 4) (p : Fin 64) (j : Fin 128) :
    shapeCast S4x2x4x64x128 (Host.dynamicSlice S1x4x2x4x64x128 X st sliceFits_S32x4x2x4x64x128_S1x4x2x4x64x128)
      shapeCasts_S1x4x2x4x64x128_S4x2x4x64x128 (ix5 b g q p j) = X (ix6 k b g q p j) := by
  rw [WordCmp.dynamicSlice_eq_extract _ X st _ _ (starts_fit k) e]
  pointwise [starts]

/-- The decay read in a trip, spread over the state. -/
theorem decay_slice_at (X : FVec Ideal S32x4x2x4x1x1 .f32) (st : Fin 6 → Int) (k : Fin 32) (e : ∀ a, st a = (starts k.val a : Int))
    (b : Fin 4) (g : Fin 2) (q : Fin 4) (p : Fin 64) (j : Fin 128) :
    broadcastInDim S4x2x4x64x128 ![0, 1, 2, 3, 4] bcast_S4x2x4x1x1_S4x2x4x64x128_0_1_2_3_4
      (shapeCast S4x2x4x1x1 (Host.dynamicSlice S1x4x2x4x1x1 X st sliceFits_S32x4x2x4x1x1_S1x4x2x4x1x1)
        shapeCasts_S1x4x2x4x1x1_S4x2x4x1x1) (ix5 b g q p j) = X (ix6 k b g q 0 0) := by
  rw [WordCmp.dynamicSlice_eq_extract _ X st _ _ (starts_fit_decay k) e]
  pointwise [starts]

/-- The stack after a trip: the trip's chunk holds the state carried into it, the others what they held. -/
theorem stack_at (X : FVec Ideal S32x4x2x4x64x128 .f32) (Y : FVec Ideal S4x2x4x64x128 .f32) (st : Fin 6 → Int) (k : Fin 32)
    (e : ∀ a, st a = (starts k.val a : Int)) (n : Fin 32) (b : Fin 4) (g : Fin 2) (q : Fin 4) (p : Fin 64) (j : Fin 128) :
    Host.dynamicUpdateSlice X (broadcastInDim S1x4x2x4x64x128 ![1, 2, 3, 4, 5] bcast_S4x2x4x64x128_S1x4x2x4x64x128_1_2_3_4_5 Y) st
      updateFits_S32x4x2x4x64x128_S1x4x2x4x64x128 (ix6 n b g q p j) = if n = k then Y (ix5 b g q p j) else X (ix6 n b g q p j) := by
  rw [WordCmp.dynamicUpdateSlice_eq_update X _ st _ _ (starts_fit k) e]
  pointwise [starts]
  by_cases hn : n = k
  · rw [if_pos hn, dif_pos ⟨by rw [hn], by rw [hn]; omega⟩]
  · rw [if_neg hn, dif_neg fun h' => hn (Fin.ext (by omega))]

/-- The head of a column. -/
theorem hd_cl (g : Fin 2) (q : Fin 4) (p : Fin 64) : hd (cl g q p) = hq g q := Fin.ext (by simp only [hd, cl, hq]; omega)

/-- The group of a column. -/
theorem gr_cl (g : Fin 2) (q : Fin 4) (p : Fin 64) : gr (cl g q p) = g := Fin.ext (by simp only [gr, cl]; omega)

section Arrays

variable (P : Proj) (cw : FVec Ideal S4x1024 .f32) (cb : FVec Ideal S1024 .f32) (dtb al ds : FVec Ideal S8 .f32) (nw : FVec Ideal S512 .f32)
  (b : Fin 4) (n : Fin 32) (r : Fin 128) (g : Fin 2) (q : Fin 4) (p : Fin 64) (k : Fin 128)

/-- The running sums. -/
abbrev SUMS (P : Proj) (dtb al : FVec Ideal S8 .f32) : FVec Ideal S4x32x128x2x4 .f32 := ACS (DA (DT (STEPS P) dtb) al)

/-- A running sum. -/
theorem sums_at : SUMS P dtb al (ix5 b n r g q) = acs (args P cw cb dtb al ds nw) b.val n.val r (hq g q) := by
  unfold SUMS
  rw [acs_at]
  unfold acs da
  refine Finset.sum_congr rfl fun m _ => ?_
  rw [da_at, dt_at P cw cb dtb al ds nw]

/-- An input row. -/
theorem input_at : XS (MIX P cw cb) (ix6 b n r g q p) = xs (args P cw cb dtb al ds nw) b.val n.val r (cl g q p) := by
  rw [xs_at, mix_at P cw cb dtb al ds nw]
  rfl

/-- A written row. -/
theorem write_at : BM (MIX P cw cb) (ix5 b n r g k) = bm (args P cw cb dtb al ds nw) b.val n.val g r k := by
  rw [bm_at, mix_at P cw cb dtb al ds nw]
  rfl

/-- A reading row. -/
theorem read_at : CM (MIX P cw cb) (ix5 b n r g k) = cm (args P cw cb dtb al ds nw) b.val n.val g r k := by
  rw [cm_at, mix_at P cw cb dtb al ds nw]
  rfl

/-- An input row times its step size. -/
theorem stepped_at : XDT (XS (MIX P cw cb)) (DT (STEPS P) dtb) (ix6 b n r g q p) = xs (args P cw cb dtb al ds nw) b.val n.val r (cl g q p) * dt (args P cw cb dtb al ds nw) b.val n.val r (hq g q) := by
  rw [xdt_at, input_at P cw cb dtb al ds nw, dt_at P cw cb dtb al ds nw]

/-- What a chunk adds to the state. -/
theorem incr_at : KV (TOEND (SUMS P dtb al)) (XDT (XS (MIX P cw cb)) (DT (STEPS P) dtb)) (BM (MIX P cw cb)) (ix6 n b g q p k)
    = ∑ m : Fin 128, bm (args P cw cb dtb al ds nw) b.val n.val g m k * (xs (args P cw cb dtb al ds nw) b.val n.val m (cl g q p) * dt (args P cw cb dtb al ds nw) b.val n.val m (hq g q)
      * Ideal.exp (acs (args P cw cb dtb al ds nw) b.val n.val 127 (hq g q) - acs (args P cw cb dtb al ds nw) b.val n.val m (hq g q))) := by
  rw [kv_at]
  refine Finset.sum_congr rfl fun m _ => ?_
  rw [toend_at, sums_at P cw cb dtb al ds nw, sums_at P cw cb dtb al ds nw, stepped_at P cw cb dtb al ds nw, write_at P cw cb dtb al ds nw]
  ac_rfl

/-- The decay over a chunk. -/
theorem chunk_decay_at : CD (SUMS P dtb al) (ix6 n b g q 0 0) = Ideal.exp (acs (args P cw cb dtb al ds nw) b.val n.val 127 (hq g q)) := by
  rw [cd_at, sums_at P cw cb dtb al ds nw]

/-- What a row takes from the rows of its chunk. -/
theorem inner_at : INTRA (CB (BM (MIX P cw cb)) (CM (MIX P cw cb))) (DECAY (SUMS P dtb al)) (XDT (XS (MIX P cw cb)) (DT (STEPS P) dtb)) (ix6 b n r g q p)
    = intra (args P cw cb dtb al ds nw) b.val n.val r (cl g q p) := by
  rw [intra_at]
  unfold intra
  refine Finset.sum_congr rfl fun m _ => ?_
  rw [stepped_at P cw cb dtb al ds nw, cb_at, decay_at, sums_at P cw cb dtb al ds nw, sums_at P cw cb dtb al ds nw, hd_cl, gr_cl]
  by_cases h : m ≤ r
  · rw [if_pos h, if_pos h, mul_comm]
    refine congrArg (· * _) (congrArg (· * _) (Finset.sum_congr rfl fun k _ => ?_))
    rw [write_at P cw cb dtb al ds nw, read_at P cw cb dtb al ds nw, mul_comm]
  · rw [if_neg h, if_neg h, mul_zero, mul_zero]

/-- A row before the norm, from any stack that holds the entering states. -/
theorem gated_eq (T : FVec Ideal S32x4x2x4x64x128 .f32)
    (hT : ∀ (n : Fin 32) (b : Fin 4) (g : Fin 2) (q : Fin 4) (p : Fin 64) (k : Fin 128), T (ix6 n b g q p k) = state (args P cw cb dtb al ds nw) b.val n.val k (cl g q p))
    (e : Fin 256) : GATED (addf (addf (INTRA (CB (BM (MIX P cw cb)) (CM (MIX P cw cb))) (DECAY (SUMS P dtb al)) (XDT (XS (MIX P cw cb)) (DT (STEPS P) dtb)))
      (INTER T (CM (MIX P cw cb)) (SUMS P dtb al))) (SKIP (XS (MIX P cw cb)) ds)) (GSILU (GATES P)) (ix4 b (sr n r) g e)
    = gated (args P cw cb dtb al ds nw) b.val n.val r ⟨g.val * 256 + e.val, by omega⟩ := by
  obtain ⟨q, p, rfl⟩ : ∃ (q : Fin 4) (p : Fin 64), e = ⟨q.val * 64 + p.val, by omega⟩ :=
    ⟨⟨e.val / 64, by omega⟩, ⟨e.val % 64, by omega⟩, Fin.ext (by simp only []; omega)⟩
  have hc : (⟨g.val * 256 + (q.val * 64 + p.val), by omega⟩ : Fin 512) = cl g q p := Fin.ext (by simp only [cl]; omega)
  simp only [hc]
  rw [gated_at, gate_at, addf_apply, addf_apply, inner_at P cw cb dtb al ds nw, inter_at, skip_at, input_at P cw cb dtb al ds nw, sums_at P cw cb dtb al ds nw]
  unfold gated inter
  rw [hd_cl, gr_cl]
  have hs : ∑ k : Fin 128, T (ix6 n b g q p k) * CM (MIX P cw cb) (ix5 b n r g k)
      = ∑ k : Fin 128, cm (args P cw cb dtb al ds nw) b.val n.val g r k * state (args P cw cb dtb al ds nw) b.val n.val k (cl g q p) :=
    Finset.sum_congr rfl fun k _ => by rw [hT, read_at P cw cb dtb al ds nw, mul_comm]
  rw [hs]
  rfl

/-- The reference's result from any stack that holds the entering states. -/
theorem result_eq (T : FVec Ideal S32x4x2x4x64x128 .f32)
    (hT : ∀ (n : Fin 32) (b : Fin 4) (g : Fin 2) (q : Fin 4) (p : Fin 64) (k : Fin 128), T (ix6 n b g q p k) = state (args P cw cb dtb al ds nw) b.val n.val k (cl g q p)) :
    WEIGHTED (NORM (GATED (addf (addf (INTRA (CB (BM (MIX P cw cb)) (CM (MIX P cw cb))) (DECAY (SUMS P dtb al)) (XDT (XS (MIX P cw cb)) (DT (STEPS P) dtb)))
      (INTER T (CM (MIX P cw cb)) (SUMS P dtb al))) (SKIP (XS (MIX P cw cb)) ds)) (GSILU (GATES P)))) nw = out P cw cb dtb al ds nw := by
  funext y
  have h0 : (y 0).val < 16384 := (y 0).isLt
  have h1 : (y 1).val < 512 := (y 1).isLt
  obtain ⟨b, n, r, e0⟩ : ∃ (b : Fin 4) (n : Fin 32) (r : Fin 128), (y 0).val = b.val * 4096 + (n.val * 128 + r.val) :=
    ⟨⟨(y 0).val / 4096, by omega⟩, ⟨(y 0).val % 4096 / 128, by omega⟩, ⟨(y 0).val % 128, by omega⟩, by simp only []; omega⟩
  obtain ⟨g, e, e1⟩ : ∃ (g : Fin 2) (e : Fin 256), (y 1).val = g.val * 256 + e.val :=
    ⟨⟨(y 1).val / 256, by omega⟩, ⟨(y 1).val % 256, by omega⟩, by simp only []; omega⟩
  have hy : y = ix2 (⟨b.val * 4096 + (sr n r).val, by omega⟩ : Fin 16384) (⟨g.val * 256 + e.val, by omega⟩ : Fin 512) := by
    funext a
    fin_cases a
    · exact Fin.ext e0
    · exact Fin.ext e1
  have q0 : (y 0).val / 4096 = b.val := by omega
  have q1 : (y 0).val % 4096 / 128 = n.val := by omega
  have q2 : (y 0).val % 128 = r.val := by omega
  have q3 : y 1 = (⟨g.val * 256 + e.val, by omega⟩ : Fin 512) := Fin.ext e1
  have hR : out P cw cb dtb al ds nw y = result (args P cw cb dtb al ds nw) b.val n.val r ⟨g.val * 256 + e.val, by omega⟩ := by
    unfold out
    simp only [q0, q1, q2, Fin.eta]
    exact congrArg _ q3
  have hp : ∀ e' : Fin 256, peer (⟨g.val * 256 + e.val, by omega⟩ : Fin 512) e' = ⟨g.val * 256 + e'.val, by omega⟩ := fun e' =>
    Fin.ext (by simp only [peer]; omega)
  refine (congrArg _ hy).trans (Eq.trans ?_ hR.symm)
  rw [weighted_at, norm_at]
  simp only [gated_eq P cw cb dtb al ds nw b n r g T hT]
  unfold result
  simp only [hp]

end Arrays

variable (m : (ℓ : Loc nD τ sig) → Buf (Elt Ideal) ℓ)

/-- The trip's counter as starts. -/
theorem starts_eq (k : Fin 32) (X : Valuation τ sig (Elt Ideal)) (hX : X (Proc.devRef .tc main_v96_2) = fun _ => Scf.iv 0#32 1#32 k.val) (a : Fin 6) :
    (((![X (Proc.devRef .tc main_v96_2), constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt
      = (starts k.val a : Int) := by
  rw [hX]
  fin_cases a
  · show (Scf.iv 0#32 1#32 k.val).toInt = _
    have : ∀ k : Fin 32, (Scf.iv 0#32 1#32 k.val).toInt = ((starts k.val 0 : ℕ) : Int) := by decide +kernel
    exact this k
  all_goals rfl

/-- The layer's arguments in a device's memory. -/
abbrev par (c : Dev nD) : Par := args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- The decays over the chunks stay in place through the loop. -/
theorem decay_eq (c : Dev nD) : ∀ k, atK m k c (Proc.devRef .tc main_v96_0) = CD (SUMS (m ((c.tc : Thread nD τ).loc main_arg0)) (m ((c.tc : Thread nD τ).loc main_arg3)) (m ((c.tc : Thread nD τ).loc main_arg4)))
  | 0 => entry_v96_0 m c
  | k + 1 => (trip_main_v96_0 (after condOps (atK m k c))).trans
      ((cond_keeps (atK m k c) main_v96_0 (by decide)).trans (decay_eq c k))

/-- The increments stay in place through the loop. -/
theorem incr_eq (c : Dev nD) : ∀ k, atK m k c (Proc.devRef .tc main_v96_1)
    = KV (TOEND (SUMS (m ((c.tc : Thread nD τ).loc main_arg0)) (m ((c.tc : Thread nD τ).loc main_arg3)) (m ((c.tc : Thread nD τ).loc main_arg4)))) (XDT (XS (MIX (m ((c.tc : Thread nD τ).loc main_arg0)) (m ((c.tc : Thread nD τ).loc main_arg1)) (m ((c.tc : Thread nD τ).loc main_arg2)))) (DT (STEPS (m ((c.tc : Thread nD τ).loc main_arg0))) (m ((c.tc : Thread nD τ).loc main_arg3)))) (BM (MIX (m ((c.tc : Thread nD τ).loc main_arg0)) (m ((c.tc : Thread nD τ).loc main_arg1)) (m ((c.tc : Thread nD τ).loc main_arg2))))
  | 0 => entry_v96_1 m c
  | k + 1 => (trip_main_v96_1 (after condOps (atK m k c))).trans
      ((cond_keeps (atK m k c) main_v96_1 (by decide)).trans (incr_eq c k))

/-- Before a trip the loop carries the state that enters the trip's chunk. -/
theorem state_eq (c : Dev nD) (b : Fin 4) (g : Fin 2) (q : Fin 4) (p : Fin 64) (j : Fin 128) : ∀ k, k ≤ 32 →
    (atK m k c (Proc.devRef .tc main_v96_3) : FVec Ideal S4x2x4x64x128 .f32) (ix5 b g q p j) = state (par m c) b.val k j (cl g q p)
  | 0, _ => by
      rw [show atK m 0 c = entryContents preI m c from rfl, entry_v96_3]
      unfold ZERO
      pointwise [state]
  | k + 1, hk => by
      have ih := state_eq c b g q p j k (by omega)
      have hc := cond_keeps (atK m k c)
      rw [show atK m (k + 1) c = afterL bodyI (after condOps (atK m k c)) from rfl, trip_main_v96_3,
        hc main_v96_0 (by decide), hc main_v96_1 (by decide), hc main_v96_3 (by decide), incr_eq, decay_eq]
      have hs := starts_eq ⟨k, by omega⟩ (after condOps (atK m k c)) (by rw [hc main_v96_2 (by decide), atK_ctr])
      unfold state
      rw [hd_cl, gr_cl]
      exact congrArg₂ (· + ·) (congrArg₂ (· * ·)
        ((decay_slice_at _ _ ⟨k, by omega⟩ hs b g q p j).trans (chunk_decay_at _ (m ((c.tc : Thread nD τ).loc main_arg1)) (m ((c.tc : Thread nD τ).loc main_arg2)) _ _ (m ((c.tc : Thread nD τ).loc main_arg5)) (m ((c.tc : Thread nD τ).loc main_arg6)) b ⟨k, by omega⟩ g q)) ih)
        ((slice_at _ _ ⟨k, by omega⟩ hs b g q p j).trans (incr_at _ _ _ _ _ (m ((c.tc : Thread nD τ).loc main_arg5)) (m ((c.tc : Thread nD τ).loc main_arg6)) b ⟨k, by omega⟩ g q p j))

/-- The stack holds the states that entered the chunks already passed. -/
theorem stack_eq (c : Dev nD) (n : Fin 32) (b : Fin 4) (g : Fin 2) (q : Fin 4) (p : Fin 64) (j : Fin 128) : ∀ k, k ≤ 32 → n.val < k →
    (atK m k c (Proc.devRef .tc main_v96_4) : FVec Ideal S32x4x2x4x64x128 .f32) (ix6 n b g q p j) = state (par m c) b.val n.val j (cl g q p)
  | k + 1, hk, hn => by
      have hc := cond_keeps (atK m k c)
      rw [show atK m (k + 1) c = afterL bodyI (after condOps (atK m k c)) from rfl, trip_main_v96_4,
        hc main_v96_3 (by decide), hc main_v96_4 (by decide)]
      have hs := starts_eq ⟨k, by omega⟩ (after condOps (atK m k c)) (by rw [hc main_v96_2 (by decide), atK_ctr])
      refine (stack_at _ _ _ ⟨k, by omega⟩ hs n b g q p j).trans ?_
      by_cases e : n = ⟨k, by omega⟩
      · rw [if_pos e, state_eq m c b g q p j k (by omega), e]
      · rw [if_neg e]
        exact stack_eq c n b g q p j k (by omega) (by
          have : n.val ≠ k := fun h' => e (Fin.ext h')
          omega)

/-- The reference's result array after the whole run is the state-space layer of its arguments. -/
theorem final_out (c : Dev nD) : finalContents condOps preI bodyI postI 32 m c (Proc.devRef .tc main_v128)
    = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (final_eq m c).trans (result_eq _ _ _ _ _ _ _ _ fun n b g q p k => stack_eq m c n b g q p k 32 (by omega) n.isLt)

/-- The reference for the state-space layer runs to its end from any launch, leaves the layer of its arguments in its
    result, and its arguments as they were. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v128) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  θ_run_mono (run_fold m ρ) fun r h c => ⟨(h c main_v128 rfl).trans (final_out m c),
    (h c main_arg0 rfl).trans (final_keep m c main_arg0 (by decide +kernel) (by decide +kernel)),
    (h c main_arg1 rfl).trans (final_keep m c main_arg1 (by decide +kernel) (by decide +kernel)),
    (h c main_arg2 rfl).trans (final_keep m c main_arg2 (by decide +kernel) (by decide +kernel)),
    (h c main_arg3 rfl).trans (final_keep m c main_arg3 (by decide +kernel) (by decide +kernel)),
    (h c main_arg4 rfl).trans (final_keep m c main_arg4 (by decide +kernel) (by decide +kernel)),
    (h c main_arg5 rfl).trans (final_keep m c main_arg5 (by decide +kernel) (by decide +kernel)),
    (h c main_arg6 rfl).trans (final_keep m c main_arg6 (by decide +kernel) (by decide +kernel))⟩

end Cert.ReferenceSsdIdeal.SsdLoop

end
-- ==== Proof.RopeValue.lean ====
/-
  The rotary tables: the kernel multiplies each position by a row of 128 frequencies, the 64 frequencies twice over, and
  takes the cosine, and the sine with the first half negated. The result arrays hold the cosines twice over and the
  negated sines followed by the sines.
-/
module

public import proofs.«01_k».proof.Proof.Gen.KernelRopeIdeal.Frame
public import proofs.«01_k».proof.Proof.Gen.ReferenceRopeIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelRopeIdeal.RopeValue

open Cert.KernelRopeIdeal Cert.KernelRopeIdeal.Gen

variable (m : (ℓ : Loc nD τ sig) → Buf (Elt Ideal) ℓ)

open Cert.ReferenceRopeIdeal in
open Cert.ReferenceRopeIdeal.Gen in
/-- The reference's angles: each position times each of the 64 frequencies. -/
abbrev ANG (P : Vec Ideal Cert.ReferenceRopeIdeal.S4x4096 .i32) : FVec Ideal Cert.ReferenceRopeIdeal.S4x4096x64 .f32 :=
  mulf (broadcastInDim S4x4096x64 ![0, 1, 2] bcast_S4x4096x1_S4x4096x64_0_1_2 (broadcastInDim S4x4096x1 ![0, 1]
    bcast_S4x4096_S4x4096x1_0_1 (sitofp .f32 P))) (broadcastInDim S4x4096x64 ![0, 1, 2] bcast_S1x1x64_S4x4096x64_0_1_2
    (broadcastInDim S1x1x64 ![2] bcast_S64_S1x1x64_2 (Host.powf (broadcastInDim S64 ![] Cert.ReferenceRopeIdeal.Gen.bcast_S_S64 (constant S_ .f32 0x461C4000#32))
    (Host.divf (Host.negf (sitofp .f32 (iotaInDim S64 32 0))) (broadcastInDim S64 ![] Cert.ReferenceRopeIdeal.Gen.bcast_S_S64 (constant S_ .f32 0x42800000#32))))))

open Cert.ReferenceRopeIdeal in
open Cert.ReferenceRopeIdeal.Gen in
/-- The reference's first table: the cosines, twice over. -/
abbrev COS (P : Vec Ideal Cert.ReferenceRopeIdeal.S4x4096 .i32) : FVec Ideal Cert.ReferenceRopeIdeal.S16384x128 .f32 :=
  concatenate S16384x128 1 [⟨S16384x64, (shapeCast _ (Host.cos (ANG P)) shapeCasts_S4x4096x64_S16384x64)⟩,
    ⟨S16384x64, (shapeCast _ (Host.cos (ANG P)) shapeCasts_S4x4096x64_S16384x64)⟩] concatenates_S16384x64_S16384x64_S16384x128_d1

open Cert.ReferenceRopeIdeal in
open Cert.ReferenceRopeIdeal.Gen in
/-- The reference's second table: the negated sines, then the sines. -/
abbrev SIN (P : Vec Ideal Cert.ReferenceRopeIdeal.S4x4096 .i32) : FVec Ideal Cert.ReferenceRopeIdeal.S16384x128 .f32 :=
  concatenate S16384x128 1 [⟨S16384x64, (Host.negf (shapeCast _ (Host.sin (ANG P)) shapeCasts_S4x4096x64_S16384x64))⟩,
    ⟨S16384x64, (shapeCast _ (Host.sin (ANG P)) shapeCasts_S4x4096x64_S16384x64)⟩] concatenates_S16384x64_S16384x64_S16384x128_d1

/-- The block indices of the windows at a grid point. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The positions as the call gets them: one column. -/
theorem pos_eq (c : Dev nD) : V m c main_v8 = shapeCast S16384x1 (m ((c : Thread nD τ).loc main_arg0)) shapeCasts_S4x4096_S16384x1 := by
  entry_read
  rfl

/-- The 64 frequencies. -/
abbrev FREQ (F : FTy → Type) [FloatOps F] : FVec F S64 .f32 :=
  Host.powf (broadcastInDim S64 ![] bcast_S_S64 (constant S_ .f32 0x461C4000#32))
    (Host.divf (Host.negf (sitofp .f32 (iotaInDim S64 32 0))) (broadcastInDim S64 ![] bcast_S_S64 (constant S_ .f32 0x42800000#32)))

/-- The frequencies as the call gets them: one row, twice over. -/
theorem freq_eq {F : FTy → Type} [FloatOps F] (m : (ℓ : Loc nD τ sig) → Buf (Elt F) ℓ) (c : Dev nD) :
    V m c main_v7 = broadcastInDim S1x128 ![1] bcast_S128_S1x128_1
      (concatenate S128 0 [⟨S64, FREQ F⟩, ⟨S64, FREQ F⟩] concatenates_S64_S64_S128_d0) := by
  entry_read
  rfl

/-- A column of 16384 entries made of a 4 × 4096 array reads it in row-major order. -/
theorem col_at (P : Vec Ideal S4x4096 .i32) (i : S16384x1.Idx) : shapeCast S16384x1 P shapeCasts_S4x4096_S16384x1 i
    = P (ix2 ⟨(i 0).val / 4096, by have := (i 0).isLt; change _ < 16384 at this; omega⟩ ⟨(i 0).val % 4096, by omega⟩) := by
  pointwise []

/-- Row `i` of the position column is one entry of the positions, read in row-major order. -/
theorem pos_at (c : Dev nD) (i : S16384x1.Idx) : V m c main_v8 i = m ((c : Thread nD τ).loc main_arg0)
    (ix2 ⟨(i 0).val / 4096, by have := (i 0).isLt; change _ < 16384 at this; omega⟩ ⟨(i 0).val % 4096, by omega⟩) := by
  rw [pos_eq]
  exact col_at _ i

/-- Lane `i` of the frequency row. -/
theorem freq_at (c : Dev nD) (i : S1x128.Idx) : V m c main_v7 i
    = Ideal.pow (Ideal.ofBits FTy.f32 1176256512#32) (Ideal.div
        (-FloatOps.sitofp (F := Ideal) FTy.f32 (BitVec.ofNat 32 (if (i 1).val < 64 then (i 1).val else (i 1).val - 64)))
        (Ideal.ofBits FTy.f32 1115684864#32)) := by
  rw [freq_eq]
  pointwise []
  split <;> rfl

/-- The kernel's angle is the reference's, at the lane modulo 64. -/
theorem ang_eq (c : Dev nD) (t : Fin cfg0.N) (y : S1024x128.Idx) (r : Fin 4) (s : Fin 4096) (l : Fin 64)
    (hr : r.val = (t.val * 1024 + (y 0).val) / 4096) (hs : s.val = (t.val * 1024 + (y 0).val) % 4096)
    (hl : l.val = if (y 1).val < 64 then (y 1).val else (y 1).val - 64) :
    k0_pay1 (iblk m c 0 t) (iblk m c 1 t) y = ANG (m ((c : Thread nD τ).loc main_arg0)) (ix3 r s l) := by
  pointwise [k0_pay1, ANG]
  simp only [iblk]
  blk_simp [idx t]
  rw [pos_at, freq_at]
  refine Ideal.mul_congr (congrArg (FloatOps.sitofp (F := Ideal) FTy.f32) (congrArg _ ?_)) ?_
  · blk_ext [idx t, hr, hs]
  · rw [hl]
    blk_simp [idx t]

/-- After the run the first result array is the reference's first table. -/
theorem final_cos (c : Dev nD) : (dats m 0 c).arrAt 2 (cfgs 0).N = COS (m ((c : Thread nD τ).loc main_arg0)) := by
  refine (dats m 0 c).arrAt_eq_of_covers 2 _ (by decide +kernel) fun t _ y => ?_
  blk_simp
  rw [after0_2]
  frame_out
  have hA := fun r s l => ang_eq m c t y r s l
  unfold k0_pay2 COS
  generalize k0_pay1 (iblk m c 0 t) (iblk m c 1 t) = K at hA
  generalize ANG (m ((c : Thread nD τ).loc main_arg0)) = A at hA
  pointwise []
  blk_simp [idx t]
  by_cases h : (y 1).val < 64
  · refine Eq.trans ?_ (dif_pos h).symm
    exact congrArg Ideal.cos (hA _ _ _ rfl rfl (if_pos h).symm)
  · refine Eq.trans ?_ (dif_neg h).symm
    exact congrArg Ideal.cos (hA _ _ _ rfl rfl (if_neg h).symm)

/-- Choosing by a lane number's comparison with 64. -/
theorem sel_lane (n : ℕ) (hn : n < 128) (a b : EReal) :
    Scalar.select (IntOp.cmpi CmpIPredicate.slt (BitVec.ofNat 32 n) 64#32) a b = if n < 64 then a else b := by
  simp (disch := omega) only [hlo_ix]

/-- After the run the second result array is the reference's second table. -/
theorem final_sin (c : Dev nD) : (dats m 0 c).arrAt 3 (cfgs 0).N = SIN (m ((c : Thread nD τ).loc main_arg0)) := by
  refine (dats m 0 c).arrAt_eq_of_covers 3 _ (by decide +kernel) fun t _ y => ?_
  blk_simp
  rw [after0_3]
  frame_out
  have hA := fun r s l => ang_eq m c t y r s l
  unfold k0_pay3 SIN
  generalize k0_pay1 (iblk m c 0 t) (iblk m c 1 t) = K at hA
  generalize ANG (m ((c : Thread nD τ).loc main_arg0)) = A at hA
  pointwise []
  refine (sel_lane (y 1).val (y 1).isLt _ _).trans ?_
  blk_simp [idx t]
  by_cases h : (y 1).val < 64
  · refine (if_pos h).trans (Eq.trans ?_ (dif_pos h).symm)
    exact (zero_sub _).trans (congrArg (- Ideal.sin ·) (hA _ _ _ rfl rfl (if_pos h).symm))
  · refine (if_neg h).trans (Eq.trans ?_ (dif_neg h).symm)
    exact congrArg Ideal.sin (hA _ _ _ rfl rfl (if_neg h).symm)

end Cert.KernelRopeIdeal.RopeValue

end
-- ==== Proof.SsdTile.lean ====
/-
  One chunk as the state-space kernel computes it on tiles of 128 rows: the state it leaves in each group and the rows it
  stores, read at an index.
-/
module

public import proofs.«01_k».proof.Proof.Gen.KernelSsdIdeal.Skeleton
public import proofs.«01_k».proof.Proof.SsdSpec

@[expose] public section

set_option maxRecDepth 16384

noncomputable section

open Idealize.ShloMosaic Idealize.ShloMosaic.TcCoe

namespace Cert.KernelSsdIdeal.SsdTile

open Cert.KernelSsdIdeal Cert.KernelSsdIdeal.Gen Cert.Ssd
open Cert.Ret (row)

/-- The lanes' numbers. -/
abbrev LN : IVec S128x128 32 := iota .tc S128x128 32 [1] iota_S128x128_d1_w32

/-- Whether a lane comes at most at a row, as the kernel compares them. -/
theorem sge_eq : ∀ r m : Fin 128, IntOp.cmpi CmpIPredicate.sge (BitVec.ofNat 32 r.val) (BitVec.ofNat 32 m.val) = if m ≤ r then 1#1 else 0#1 := by
  decide +kernel
/-- Whether a lane is in the lower half. -/
theorem slt_64 : ∀ j : Fin 128, IntOp.cmpi CmpIPredicate.slt (BitVec.ofNat 32 j.val) 64#32 = if j.val < 64 then 1#1 else 0#1 := by
  decide +kernel
/-- Whether a lane is in the upper half. -/
theorem sge_64 : ∀ j : Fin 128, IntOp.cmpi CmpIPredicate.sge (BitVec.ofNat 32 j.val) 64#32 = if j.val < 64 then 0#1 else 1#1 := by
  decide +kernel

/-- A selection by a decided bit. -/
theorem select_ite {α : Type} (p : Prop) [Decidable p] (x y : α) : Scalar.select (if p then 1#1 else 0#1) x y = if p then x else y := by
  split <;> rfl
/-- A selection by a decided bit, the other way. -/
theorem select_ite' {α : Type} (p : Prop) [Decidable p] (x y : α) : Scalar.select (if p then 0#1 else 1#1) x y = if p then y else x := by
  split <;> rfl
/-- A decided bit as a number. -/
theorem sitofp_ite (p : Prop) [Decidable p] :
    FloatOps.sitofp (F := Ideal) FTy.f32 (BitVec.setWidth 32 (if p then 1#1 else 0#1)) = if p then (1 : EReal) else 0 := by
  split <;> simp [FloatOps.sitofp]

/-- A sum over the heads' lanes against the matrix that spreads them picks the column's head. -/
theorem pick {E : Vec Ideal S128x512 .f32} (hE : ∀ k c, E (ix2 k c) = if k.val = c.val / 64 then 1 else 0) (f : Fin 128 → EReal) (c : Fin 512) :
    ∑ k : Fin 128, f k * E (ix2 k c) = f ⟨c.val / 64, by omega⟩ := by
  rw [Finset.sum_eq_single (⟨c.val / 64, by omega⟩ : Fin 128)]
  · rw [hE, if_pos rfl, mul_one]
  · intro k _ hk
    rw [hE, if_neg (fun h => hk (Fin.ext h)), mul_zero]
  · exact fun h => absurd (Finset.mem_univ _) h

/-- The state a chunk leaves in the first group. -/
def stV0 (bi al : Vec Ideal S1x128 .f32) (E X C : Vec Ideal S128x512 .f32) (sm : Vec Ideal S128x128 .f32) (p : Vec Ideal S1x128x256 .f32) :
    FVec Ideal S1x128x256 .f32 :=
  k0_pay41 (k0_pay16 al) (k0_pay17 E) k0_pay20 X C (k0_pay25 bi sm) (k0_pay26 bi sm) p

/-- The state a chunk leaves in the second group. -/
def stV1 (bi al : Vec Ideal S1x128 .f32) (E X C : Vec Ideal S128x512 .f32) (sm : Vec Ideal S128x128 .f32) (p : Vec Ideal S1x128x256 .f32) :
    FVec Ideal S1x128x256 .f32 :=
  k0_pay53 (k0_pay46 C) (k0_pay51 (k0_pay34 (k0_pay16 al) (k0_pay17 E) k0_pay20 (k0_pay25 bi sm) (k0_pay26 bi sm)) p)
    (k0_pay52 (k0_pay33 (k0_pay16 al) (k0_pay17 E) k0_pay20 (k0_pay25 bi sm) (k0_pay26 bi sm)) (k0_pay35 (k0_pay17 E) X (k0_pay25 bi sm) (k0_pay26 bi sm)))

/-- The decays up to each row, by rows. -/
def acV (bi al : Vec Ideal S1x128 .f32) (sm : Vec Ideal S128x128 .f32) : FVec Ideal S128x128 .f32 :=
  k0_pay29 (k0_pay16 al) k0_pay20 (k0_pay25 bi sm) (k0_pay26 bi sm)
/-- The decays up to each row, by lanes. -/
def arV (bi al : Vec Ideal S1x128 .f32) (sm : Vec Ideal S128x128 .f32) : FVec Ideal S128x128 .f32 :=
  k0_pay30 (k0_pay16 al) k0_pay21 (k0_pay25 bi sm) (k0_pay26 bi sm)
/-- The input rows times their step sizes. -/
def xdV (bi : Vec Ideal S1x128 .f32) (E X : Vec Ideal S128x512 .f32) (sm : Vec Ideal S128x128 .f32) : FVec Ideal S128x512 .f32 :=
  k0_pay35 (k0_pay17 E) X (k0_pay25 bi sm) (k0_pay26 bi sm)
/-- What the rows take from the first group's state. -/
def yiV0 (bi al : Vec Ideal S1x128 .f32) (E C : Vec Ideal S128x512 .f32) (sm : Vec Ideal S128x128 .f32) (p : Vec Ideal S1x128x256 .f32) :
    FVec Ideal S128x256 .f32 :=
  k0_pay40 (k0_pay16 al) (k0_pay17 E) k0_pay20 C (k0_pay25 bi sm) (k0_pay26 bi sm) p
/-- What the rows take from the second group's state. -/
def yiV1 (bi al : Vec Ideal S1x128 .f32) (E C : Vec Ideal S128x512 .f32) (sm : Vec Ideal S128x128 .f32) (p : Vec Ideal S1x128x256 .f32) :
    FVec Ideal S128x256 .f32 :=
  k0_pay50 C (k0_pay32 (k0_pay16 al) (k0_pay17 E) k0_pay20 (k0_pay25 bi sm) (k0_pay26 bi sm)) p

/-- A chunk's gated rows. -/
def gaV (bi al ds : Vec Ideal S1x128 .f32) (E X C : Vec Ideal S128x512 .f32) (sm : Vec Ideal S128x128 .f32) (z : Vec Ideal S128x512 .f32)
    (p0 p1 : Vec Ideal S1x128x256 .f32) : FVec Ideal S128x512 .f32 :=
  k0_pay55 (k0_pay18 ds E) k0_pay19 LN X (acV bi al sm) (arV bi al sm) (xdV bi E X sm)
    (k0_pay42 k0_pay19 LN (acV bi al sm) (arV bi al sm) (xdV bi E X sm) (k0_pay38 C) (yiV0 bi al E C sm p0))
    (k0_pay45 k0_pay19 LN (acV bi al sm) (arV bi al sm) (xdV bi E X sm) (k0_pay38 C) (yiV0 bi al E C sm p0)
      (k0_pay43 k0_pay19 (acV bi al sm) (arV bi al sm)) k0_pay44)
    (k0_pay48 C) (yiV1 bi al E C sm p1)
    (k0_pay54 k0_pay19 LN (acV bi al sm) (arV bi al sm) (xdV bi E X sm) (k0_pay48 C) (yiV1 bi al E C sm p1)) z

/-- The rows a chunk stores. -/
def outV (bi al ds : Vec Ideal S1x128 .f32) (E X C : Vec Ideal S128x512 .f32) (sm : Vec Ideal S128x128 .f32) (z : Vec Ideal S128x512 .f32)
    (p0 p1 : Vec Ideal S1x128x256 .f32) (nw : Vec Ideal S1x512 .f32) : FVec Ideal S128x512 .f32 :=
  k0_pay57 (gaV bi al ds E X C sm z p0 p1) (extractStridedSlice S128x256 ![0, 0] (gaV bi al ds E X C sm z p0 p1) slices_S128x512_o0_0_S128x256) nw

/-- The tiles are a chunk's rows, and the constants' arrays. -/
structure Tiles (a : Par) (b n : ℕ) (bi al : Vec Ideal S1x128 .f32) (E X C : Vec Ideal S128x512 .f32) (sm : Vec Ideal S128x128 .f32) : Prop where
  bi : ∀ (h : Fin 128) (H : Fin 8), h.val = H.val → bi (ix2 0 h) = a.dtb H
  al : ∀ (h : Fin 128) (H : Fin 8), h.val = H.val → al (ix2 0 h) = a.al H
  E : ∀ k c, E (ix2 k c) = if k.val = c.val / 64 then 1 else 0
  X : ∀ r c, X (ix2 r c) = xs a b n r c
  C : ∀ (r : Fin 128) (c : Fin 512) (k : Fin 1024), k.val = 512 + c.val → C (ix2 r c) = mixed a b n r k
  sm : ∀ (r h : Fin 128) (H : Fin 8), h.val = H.val → sm (ix2 r h) = a.P (ix2 (row b n r) ⟨5632 + H.val, by omega⟩)

variable {a : Par} {b n : ℕ} {bi al ds : Vec Ideal S1x128 .f32} {E X C z : Vec Ideal S128x512 .f32} {sm : Vec Ideal S128x128 .f32}
  {p p0 p1 : Vec Ideal S1x128x256 .f32} {nw : Vec Ideal S1x512 .f32}

/-- The step sizes. -/
theorem dt_at (T : Tiles a b n bi al E X C sm) (r h : Fin 128) (H : Fin 8) (e : h.val = H.val) :
    k0_pay27 (k0_pay25 bi sm) (k0_pay26 bi sm) (ix2 r h) = dt a b n r H := by
  unfold dt softplus
  pointwise [k0_pay27, k0_pay25, k0_pay26, k0_pay24, k0_pay15]
  rw [T.sm r h H e, T.bi h H e]

/-- The logarithms of the rows' decays. -/
theorem da_at (T : Tiles a b n bi al E X C sm) (r h : Fin 128) (H : Fin 8) (e : h.val = H.val) :
    k0_pay28 (k0_pay16 al) (k0_pay25 bi sm) (k0_pay26 bi sm) (ix2 r h) = da a b n r H := by
  unfold da
  rw [← dt_at T r h H e]
  pointwise [k0_pay28, k0_pay16]
  rw [T.al h H e]

/-- The decays up to each row, by rows. -/
theorem ac_at (T : Tiles a b n bi al E X C sm) (r h : Fin 128) (H : Fin 8) (e : h.val = H.val) :
    acV bi al sm (ix2 r h) = acs a b n r H := by
  unfold acs
  simp only [← da_at T _ h H e]
  pointwise [acV, k0_pay29, k0_pay20, k0_pay19]
  simp only [sge_eq, sitofp_ite, ite_mul, one_mul, zero_mul]

/-- The decays up to each row, by lanes. -/
theorem ar_at (T : Tiles a b n bi al E X C sm) (r h : Fin 128) (H : Fin 8) (e : h.val = H.val) :
    arV bi al sm (ix2 h r) = acs a b n r H := by
  unfold acs
  simp only [← da_at T _ h H e]
  pointwise [arV, k0_pay30, k0_pay21]
  simp only [sge_eq, sitofp_ite, mul_ite, mul_one, mul_zero]

/-- The input rows times their step sizes. -/
theorem xd_at (T : Tiles a b n bi al E X C sm) (r : Fin 128) (c : Fin 512) :
    xdV bi E X sm (ix2 r c) = xs a b n r c * dt a b n r (hd c) := by
  rw [← dt_at T r ⟨c.val / 64, by omega⟩ (hd c) rfl, ← T.X]
  pointwise [xdV, k0_pay35, k0_pay17]
  rw [pick T.E]

/-- The decays from each row to the chunk's end, spread over the columns. -/
theorem te_at (T : Tiles a b n bi al E X C sm) (r : Fin 128) (c : Fin 512) :
    k0_pay33 (k0_pay16 al) (k0_pay17 E) k0_pay20 (k0_pay25 bi sm) (k0_pay26 bi sm) (ix2 r c)
      = Ideal.exp (acs a b n 127 (hd c) - acs a b n r (hd c)) := by
  rw [← ac_at T r ⟨c.val / 64, by omega⟩ (hd c) rfl, ← ac_at T 127 ⟨c.val / 64, by omega⟩ (hd c) rfl]
  pointwise [k0_pay33, k0_pay31, k0_pay17]
  rw [pick T.E]
  rfl

/-- The decays of the whole chunk, spread over the columns. -/
theorem cd_at (T : Tiles a b n bi al E X C sm) (c : Fin 512) :
    k0_pay34 (k0_pay16 al) (k0_pay17 E) k0_pay20 (k0_pay25 bi sm) (k0_pay26 bi sm) (ix2 0 c)
      = Ideal.exp (acs a b n 127 (hd c)) := by
  rw [← ac_at T 127 ⟨c.val / 64, by omega⟩ (hd c) rfl]
  pointwise [k0_pay34, k0_pay31, k0_pay17]
  rw [pick T.E]
  rfl

/-- The decays up to each row, spread over the columns. -/
theorem ea_at (T : Tiles a b n bi al E X C sm) (r : Fin 128) (c : Fin 512) :
    k0_pay32 (k0_pay16 al) (k0_pay17 E) k0_pay20 (k0_pay25 bi sm) (k0_pay26 bi sm) (ix2 r c)
      = Ideal.exp (acs a b n r (hd c)) := by
  rw [← ac_at T r ⟨c.val / 64, by omega⟩ (hd c) rfl]
  pointwise [k0_pay32, k0_pay17]
  rw [pick T.E]
  rfl

/-- On tiles that are a chunk's rows, the state a chunk leaves in the first group is the one that enters the next. -/
theorem step0_at (T : Tiles a b n bi al E X C sm)
    (hp : ∀ (k : Fin 128) (j : Fin 256) (c : Fin 512), c.val = j.val → p (ix3 0 k j) = state a b n k c)
    (k : Fin 128) (j : Fin 256) (c : Fin 512) (hc : c.val = j.val) :
    stV0 bi al E X C sm p (ix3 0 k j) = state a b (n + 1) k c := by
  have e : (⟨j.val, by omega⟩ : Fin 512) = c := Fin.ext hc.symm
  have eg : (gr c).val = 0 := by show c.val / 256 = 0; omega
  show _ = Ideal.exp _ * _ + _
  unfold bm
  pointwise [stV0, k0_pay41, k0_pay39, k0_pay36]
  refine congrArg₂ (· + ·) (congrArg₂ (· * ·) ?_ (hp k j c hc)) (Finset.sum_congr rfl fun m _ => congrArg₂ (· * ·) (T.C m _ _ (by simp [eg]; try omega)) (congrArg₂ (· * ·) ?_ ?_))
  · rw [← cd_at T c, ← e]; try rfl
  · rw [← xd_at T m c, ← e]; try rfl
  · rw [← te_at T m c, ← e]; try rfl

/-- On tiles that are a chunk's rows, the state a chunk leaves in the second group is the one that enters the next. -/
theorem step1_at (T : Tiles a b n bi al E X C sm)
    (hp : ∀ (k : Fin 128) (j : Fin 256) (c : Fin 512), c.val = 256 + j.val → p (ix3 0 k j) = state a b n k c)
    (k : Fin 128) (j : Fin 256) (c : Fin 512) (hc : c.val = 256 + j.val) :
    stV1 bi al E X C sm p (ix3 0 k j) = state a b (n + 1) k c := by
  have e : (⟨256 + j.val, by omega⟩ : Fin 512) = c := Fin.ext hc.symm
  have eg : (gr c).val = 1 := by show c.val / 256 = 1; omega
  show _ = Ideal.exp _ * _ + _
  unfold bm
  pointwise [stV1, k0_pay53, k0_pay46, k0_pay51, k0_pay52, k0_pay49]
  refine congrArg₂ (· + ·) (congrArg₂ (· * ·) ?_ (hp k j c hc)) (Finset.sum_congr rfl fun m _ => congrArg₂ (· * ·) (T.C m _ _ (by simp [eg]; try omega)) (congrArg₂ (· * ·) ?_ ?_))
  · rw [← cd_at T c, ← e]; try rfl
  · rw [← xd_at T m c, ← e]; try rfl
  · rw [← te_at T m c, ← e]; try rfl

/-- Products of the reading and writing rows of the first group. -/
theorem cb0_at (T : Tiles a b n bi al E X C sm) (r m : Fin 128) :
    k0_pay38 (F := Ideal) C (ix2 r m) = ∑ k : Fin 128, cm a b n 0 r k * bm a b n 0 m k := by
  unfold cm bm
  pointwise [k0_pay38, k0_pay36, k0_pay37]
  exact Finset.sum_congr rfl fun k _ => congrArg₂ (· * ·) (T.C _ _ _ (by simp <;> omega)) (T.C _ _ _ (by simp))

/-- Products of the reading and writing rows of the second group. -/
theorem cb1_at (T : Tiles a b n bi al E X C sm) (r m : Fin 128) :
    k0_pay48 (F := Ideal) C (ix2 r m) = ∑ k : Fin 128, cm a b n 1 r k * bm a b n 1 m k := by
  unfold cm bm
  pointwise [k0_pay48, k0_pay46, k0_pay47]
  exact Finset.sum_congr rfl fun k _ => congrArg₂ (· * ·) (T.C _ _ _ (by simp <;> omega)) (T.C _ _ _ (by simp <;> omega))

/-- What the rows take from the first group's state. -/
theorem yi0_at (T : Tiles a b n bi al E X C sm)
    (hp : ∀ (k : Fin 128) (j : Fin 256) (c : Fin 512), c.val = j.val → p (ix3 0 k j) = state a b n k c)
    (r : Fin 128) (j : Fin 256) (c : Fin 512) (hc : c.val = j.val) : yiV0 bi al E C sm p (ix2 r j) = inter a b n r c := by
  have e : (⟨j.val, by omega⟩ : Fin 512) = c := Fin.ext hc.symm
  have eg : (gr c).val = 0 := by show c.val / 256 = 0; omega
  unfold inter cm
  rw [← ea_at T r c, ← e]
  pointwise [yiV0, k0_pay40, k0_pay37]
  refine congrArg₂ (· * ·) (Finset.sum_congr rfl fun k _ => congrArg₂ (· * ·) (T.C _ _ _ (by simp [e, eg]; try omega)) ?_) rfl
  rw [e, ← hp k j c hc]
  pointwise [k0_pay39]

/-- What the rows take from the second group's state. -/
theorem yi1_at (T : Tiles a b n bi al E X C sm)
    (hp : ∀ (k : Fin 128) (j : Fin 256) (c : Fin 512), c.val = 256 + j.val → p (ix3 0 k j) = state a b n k c)
    (r : Fin 128) (j : Fin 256) (c : Fin 512) (hc : c.val = 256 + j.val) : yiV1 bi al E C sm p (ix2 r j) = inter a b n r c := by
  have e : (⟨256 + j.val, by omega⟩ : Fin 512) = c := Fin.ext hc.symm
  have eg : (gr c).val = 1 := by show c.val / 256 = 1; omega
  unfold inter cm
  rw [← ea_at T r c, ← e]
  pointwise [yiV1, k0_pay50, k0_pay47]
  refine congrArg₂ (· * ·) (Finset.sum_congr rfl fun k _ => congrArg₂ (· * ·) (T.C _ _ _ (by simp [e, eg]; try omega)) ?_) rfl
  rw [e, ← hp k j c hc]
  pointwise [k0_pay49]

/-- A sum kept on either half of the lanes is the sum. -/
theorem halves (j : Fin 128) (f g : EReal) :
    (if j.val < 64 then f else 0) + (if j.val < 64 then 0 else g) = if j.val < 64 then f else g := by
  split <;> simp

/-- A row's part against the lower and the upper head's decays, on a tile of two heads. -/
theorem pair_at (T : Tiles a b n bi al E X C sm) (r j : Fin 128) (c : Fin 512) (g : Fin 2) (h0 h1 : Fin 128) (cb : Vec Ideal S128x128 .f32)
    (hcb : ∀ r m, cb (ix2 r m) = ∑ k : Fin 128, cm a b n g r k * bm a b n g m k) (hg : g.val = c.val / 256)
    (e0 : j.val < 64 → h0.val = c.val / 64) (e1 : ¬ j.val < 64 → h1.val = c.val / 64) :
    (∑ x : Fin 128, Scalar.select (IntOp.cmpi CmpIPredicate.slt (BitVec.ofNat 32 j.val) 64#32)
        (Scalar.select (IntOp.cmpi CmpIPredicate.sge (BitVec.ofNat 32 r.val) (BitVec.ofNat 32 x.val))
          (cb (ix2 r x) * Ideal.exp (Scalar.select (IntOp.cmpi CmpIPredicate.sge (BitVec.ofNat 32 r.val) (BitVec.ofNat 32 x.val))
            (acV bi al sm (ix2 r h0) - arV bi al sm (ix2 h0 x)) 0) * xdV bi E X sm (ix2 x c)) 0) 0)
      + (∑ x : Fin 128, Scalar.select (IntOp.cmpi CmpIPredicate.sge (BitVec.ofNat 32 j.val) 64#32)
        (Scalar.select (IntOp.cmpi CmpIPredicate.sge (BitVec.ofNat 32 r.val) (BitVec.ofNat 32 x.val))
          (cb (ix2 r x) * Ideal.exp (Scalar.select (IntOp.cmpi CmpIPredicate.sge (BitVec.ofNat 32 r.val) (BitVec.ofNat 32 x.val))
            (acV bi al sm (ix2 r h1) - arV bi al sm (ix2 h1 x)) 0) * xdV bi E X sm (ix2 x c)) 0) 0)
      = intra a b n r c := by
  have eg : g = gr c := Fin.ext hg
  subst eg
  rw [← Finset.sum_add_distrib]
  unfold intra
  refine Finset.sum_congr rfl fun m _ => ?_
  simp only [slt_64, sge_64, sge_eq, select_ite, select_ite']
  rw [halves, ← xd_at T m c, ← hcb]
  by_cases hj : j.val < 64
  · rw [if_pos hj, ac_at T r h0 (hd c) (e0 hj), ar_at T m h0 (hd c) (e0 hj)]
    split <;> rfl
  · rw [if_neg hj, ac_at T r h1 (hd c) (e1 hj), ar_at T m h1 (hd c) (e1 hj)]
    split <;> rfl

/-- The first tile of two heads. -/
theorem y0_at (T : Tiles a b n bi al E X C sm)
    (hp : ∀ (k : Fin 128) (j : Fin 256) (c : Fin 512), c.val = j.val → p (ix3 0 k j) = state a b n k c)
    (r j : Fin 128) (c : Fin 512) (hc : c.val = j.val) :
    k0_pay42 k0_pay19 LN (acV bi al sm) (arV bi al sm) (xdV bi E X sm) (k0_pay38 C) (yiV0 bi al E C sm p) (ix2 r j)
      = intra a b n r c + inter a b n r c := by
  have e : (⟨j.val, by omega⟩ : Fin 512) = c := Fin.ext hc.symm
  pointwise [k0_pay42, k0_pay19]
  have e2 := pair_at T r j ⟨j.val, by omega⟩ 0 0 1 (k0_pay38 (F := Ideal) C) (cb0_at T) (by simp; omega) (by simp; omega) (by simp; omega)
  refine congrArg₂ (· + ·) (e2.trans (by rw [e]))
    (yi0_at T hp r ⟨j.val, by omega⟩ c hc)

/-- The second tile of two heads. -/
theorem y1_at (T : Tiles a b n bi al E X C sm)
    (hp : ∀ (k : Fin 128) (j : Fin 256) (c : Fin 512), c.val = j.val → p (ix3 0 k j) = state a b n k c)
    (r j : Fin 128) (c : Fin 512) (hc : c.val = 128 + j.val) :
    k0_pay45 k0_pay19 LN (acV bi al sm) (arV bi al sm) (xdV bi E X sm) (k0_pay38 C) (yiV0 bi al E C sm p)
      (k0_pay43 k0_pay19 (acV bi al sm) (arV bi al sm)) k0_pay44 (ix2 r j)
      = intra a b n r c + inter a b n r c := by
  have e : (⟨128 + j.val, by omega⟩ : Fin 512) = c := Fin.ext hc.symm
  pointwise [k0_pay45, k0_pay43, k0_pay44, k0_pay19]
  have e2 := pair_at T r j ⟨128 + j.val, by omega⟩ 0 2 3 (k0_pay38 (F := Ideal) C) (cb0_at T) (by simp; omega) (by simp; omega) (by simp; omega)
  refine congrArg₂ (· + ·) (e2.trans (by rw [e]))
    (yi0_at T hp r ⟨128 + j.val, by omega⟩ c hc)

/-- The third tile of two heads. -/
theorem y2_at (T : Tiles a b n bi al E X C sm)
    (hp : ∀ (k : Fin 128) (j : Fin 256) (c : Fin 512), c.val = 256 + j.val → p (ix3 0 k j) = state a b n k c)
    (r j : Fin 128) (c : Fin 512) (hc : c.val = 256 + j.val) :
    k0_pay54 k0_pay19 LN (acV bi al sm) (arV bi al sm) (xdV bi E X sm) (k0_pay48 C) (yiV1 bi al E C sm p) (ix2 r j)
      = intra a b n r c + inter a b n r c := by
  have e : (⟨256 + j.val, by omega⟩ : Fin 512) = c := Fin.ext hc.symm
  pointwise [k0_pay54, k0_pay19]
  have e2 := pair_at T r j ⟨256 + j.val, by omega⟩ 1 4 5 (k0_pay48 (F := Ideal) C) (cb1_at T) (by simp; omega) (by simp; omega) (by simp; omega)
  refine congrArg₂ (· + ·) (e2.trans (by rw [e]))
    (yi1_at T hp r ⟨j.val, by omega⟩ c hc)

/-- On tiles that are a chunk's rows, the gated rows. -/
theorem gated_at (T : Tiles a b n bi al E X C sm)
    (hds : ∀ (h : Fin 128) (H : Fin 8), h.val = H.val → ds (ix2 0 h) = a.ds H)
    (hz : ∀ r c, z (ix2 r c) = a.P (ix2 (row b n r) ⟨2048 + c.val, by omega⟩))
    (hp0 : ∀ (k : Fin 128) (j : Fin 256) (c : Fin 512), c.val = j.val → p0 (ix3 0 k j) = state a b n k c)
    (hp1 : ∀ (k : Fin 128) (j : Fin 256) (c : Fin 512), c.val = 256 + j.val → p1 (ix3 0 k j) = state a b n k c)
    (r : Fin 128) (c : Fin 512) : gaV bi al ds E X C sm z p0 p1 (ix2 r c) = gated a b n r c := by
  have hd' : k0_pay18 ds E (ix2 0 c) = a.ds (hd c) := by
    rw [← hds ⟨c.val / 64, by omega⟩ (hd c) rfl]
    pointwise [k0_pay18, k0_pay17]
    rw [pick T.E]
  unfold gaV gated
  pointwise [k0_pay55, k0_pay19]
  refine congrArg₂ (· * ·) (congrArg₂ (· + ·) ?_ (congrArg₂ (· * ·) (T.X r c) hd')) (by rw [hz])
  split
  · exact y0_at T hp0 r _ c rfl
  split
  · exact y1_at T hp0 r _ c (by show c.val = 128 + (c.val - 128); omega)
  split
  · exact y2_at T hp1 r _ c (by show c.val = 256 + (c.val - 128 - 128); omega)
  have e1 : (⟨384 + (c.val - 128 - 128 - 128), by omega⟩ : Fin 512) = c := Fin.ext (by show 384 + (c.val - 128 - 128 - 128) = c.val; omega)
  have e2 := pair_at T r ⟨c.val - 128 - 128 - 128, by omega⟩ ⟨384 + (c.val - 128 - 128 - 128), by omega⟩ 1 6 7 (k0_pay48 (F := Ideal) C) (cb1_at T)
    (by simp; omega) (by simp; omega) (by simp; omega)
  refine congrArg₂ (· + ·) (e2.trans (by rw [e1])) (yi1_at T hp1 r _ c (by show c.val = 256 + (128 + (c.val - 128 - 128 - 128)); omega))

/-- On tiles that are a chunk's rows, the rows a chunk stores are the result's. -/
theorem out_at (T : Tiles a b n bi al E X C sm)
    (hds : ∀ (h : Fin 128) (H : Fin 8), h.val = H.val → ds (ix2 0 h) = a.ds H)
    (hz : ∀ r c, z (ix2 r c) = a.P (ix2 (row b n r) ⟨2048 + c.val, by omega⟩))
    (hp0 : ∀ (k : Fin 128) (j : Fin 256) (c : Fin 512), c.val = j.val → p0 (ix3 0 k j) = state a b n k c)
    (hp1 : ∀ (k : Fin 128) (j : Fin 256) (c : Fin 512), c.val = 256 + j.val → p1 (ix3 0 k j) = state a b n k c)
    (hnw : ∀ c, nw (ix2 0 c) = a.nw c)
    (r : Fin 128) (c : Fin 512) : outV bi al ds E X C sm z p0 p1 nw (ix2 r c) = result a b n r c := by
  have hg := gated_at T hds hz hp0 hp1
  unfold outV result
  generalize gaV bi al ds E X C sm z p0 p1 = G at hg
  pointwise [k0_pay57]
  rw [hnw]
  refine congrArg (· * a.nw c) ?_
  split
  next h =>
    refine congrArg₂ (· * ·) (hg _ _) (congrArg Ideal.rsqrt (congrArg (· + _) (congrArg (Ideal.div · _) (Finset.sum_congr rfl fun e _ => ?_))))
    rw [hg]
    have : peer c e = ⟨e.val, by omega⟩ := Fin.ext (by show c.val / 256 * 256 + e.val = e.val; omega)
    rw [this]
  next h =>
    have ec : (⟨256 + (c.val - 256), by omega⟩ : Fin 512) = c := Fin.ext (by show 256 + (c.val - 256) = c.val; omega)
    refine congrArg₂ (· * ·) ((hg _ _).trans (congrArg _ ec)) (congrArg Ideal.rsqrt (congrArg (· + _) (congrArg (Ideal.div · _) (Finset.sum_congr rfl fun e _ => ?_))))
    rw [hg]
    have : peer c e = ⟨256 + e.val, by omega⟩ := Fin.ext (by show c.val / 256 * 256 + e.val = 256 + e.val; omega)
    rw [this]

end Cert.KernelSsdIdeal.SsdTile

end
-- ==== Proof.SsdFold.lean ====
/-
  The chunks of a grid point compute the same tiles: what each of the four chunks stores, as the tile functions of the
  first.
-/
module

public import proofs.«01_k».proof.Proof.SsdTile

@[expose] public section

set_option maxRecDepth 16384

noncomputable section

open Idealize.ShloMosaic Idealize.ShloMosaic.TcCoe

namespace Cert.KernelSsdIdeal.SsdFold

open Cert.KernelSsdIdeal Cert.KernelSsdIdeal.Gen Cert.KernelSsdIdeal.SsdTile

/-- The state the first chunk leaves in the first group. -/
theorem st0_0 (bi : Vec Ideal S1x128 .f32) (al : Vec Ideal S1x128 .f32) (E : Vec Ideal S128x512 .f32) (X : Vec Ideal S128x512 .f32) (C : Vec Ideal S128x512 .f32) (sm : Vec Ideal S128x128 .f32) (p0 : Vec Ideal S1x128x256 .f32) :
    k0_pay41 (k0_pay16 al) (k0_pay17 E) (k0_pay20 (F := Ideal)) X C (k0_pay25 bi sm) (k0_pay26 bi sm) p0
      = stV0 bi al E X C sm p0 := rfl

/-- The state the first chunk leaves in the second group. -/
theorem st1_0 (bi : Vec Ideal S1x128 .f32) (al : Vec Ideal S1x128 .f32) (E : Vec Ideal S128x512 .f32) (X : Vec Ideal S128x512 .f32) (C : Vec Ideal S128x512 .f32) (sm : Vec Ideal S128x128 .f32) (p1 : Vec Ideal S1x128x256 .f32) :
    k0_pay53 (k0_pay46 C) (k0_pay51 (k0_pay34 (k0_pay16 al) (k0_pay17 E) (k0_pay20 (F := Ideal)) (k0_pay25 bi sm) (k0_pay26 bi sm)) p1) (k0_pay52 (k0_pay33 (k0_pay16 al) (k0_pay17 E) (k0_pay20 (F := Ideal)) (k0_pay25 bi sm) (k0_pay26 bi sm)) (k0_pay35 (k0_pay17 E) X (k0_pay25 bi sm) (k0_pay26 bi sm)))
      = stV1 bi al E X C sm p1 := rfl

/-- The rows the first chunk stores. -/
theorem out_0 (bi : Vec Ideal S1x128 .f32) (al : Vec Ideal S1x128 .f32) (ds : Vec Ideal S1x128 .f32) (E : Vec Ideal S128x512 .f32) (X : Vec Ideal S128x512 .f32) (C : Vec Ideal S128x512 .f32) (sm : Vec Ideal S128x128 .f32) (z : Vec Ideal S128x512 .f32) (p0 : Vec Ideal S1x128x256 .f32) (p1 : Vec Ideal S1x128x256 .f32) (nw : Vec Ideal S1x512 .f32) :
    k0_pay57 (k0_pay55 (k0_pay18 ds E) (k0_pay19) (iota .tc S128x128 32 [1] iota_S128x128_d1_w32) X (k0_pay29 (k0_pay16 al) (k0_pay20 (F := Ideal)) (k0_pay25 bi sm) (k0_pay26 bi sm)) (k0_pay30 (k0_pay16 al) (k0_pay21 (F := Ideal)) (k0_pay25 bi sm) (k0_pay26 bi sm)) (k0_pay35 (k0_pay17 E) X (k0_pay25 bi sm) (k0_pay26 bi sm)) (k0_pay42 (k0_pay19) (iota .tc S128x128 32 [1] iota_S128x128_d1_w32) (k0_pay29 (k0_pay16 al) (k0_pay20 (F := Ideal)) (k0_pay25 bi sm) (k0_pay26 bi sm)) (k0_pay30 (k0_pay16 al) (k0_pay21 (F := Ideal)) (k0_pay25 bi sm) (k0_pay26 bi sm)) (k0_pay35 (k0_pay17 E) X (k0_pay25 bi sm) (k0_pay26 bi sm)) (k0_pay38 C) (k0_pay40 (k0_pay16 al) (k0_pay17 E) (k0_pay20 (F := Ideal)) C (k0_pay25 bi sm) (k0_pay26 bi sm) p0)) (k0_pay45 (k0_pay19) (iota .tc S128x128 32 [1] iota_S128x128_d1_w32) (k0_pay29 (k0_pay16 al) (k0_pay20 (F := Ideal)) (k0_pay25 bi sm) (k0_pay26 bi sm)) (k0_pay30 (k0_pay16 al) (k0_pay21 (F := Ideal)) (k0_pay25 bi sm) (k0_pay26 bi sm)) (k0_pay35 (k0_pay17 E) X (k0_pay25 bi sm) (k0_pay26 bi sm)) (k0_pay38 C) (k0_pay40 (k0_pay16 al) (k0_pay17 E) (k0_pay20 (F := Ideal)) C (k0_pay25 bi sm) (k0_pay26 bi sm) p0) (k0_pay43 (k0_pay19) (k0_pay29 (k0_pay16 al) (k0_pay20 (F := Ideal)) (k0_pay25 bi sm) (k0_pay26 bi sm)) (k0_pay30 (k0_pay16 al) (k0_pay21 (F := Ideal)) (k0_pay25 bi sm) (k0_pay26 bi sm))) (k0_pay44 (F := Ideal))) (k0_pay48 C) (k0_pay50 C (k0_pay32 (k0_pay16 al) (k0_pay17 E) (k0_pay20 (F := Ideal)) (k0_pay25 bi sm) (k0_pay26 bi sm)) p1) (k0_pay54 (k0_pay19) (iota .tc S128x128 32 [1] iota_S128x128_d1_w32) (k0_pay29 (k0_pay16 al) (k0_pay20 (F := Ideal)) (k0_pay25 bi sm) (k0_pay26 bi sm)) (k0_pay30 (k0_pay16 al) (k0_pay21 (F := Ideal)) (k0_pay25 bi sm) (k0_pay26 bi sm)) (k0_pay35 (k0_pay17 E) X (k0_pay25 bi sm) (k0_pay26 bi sm)) (k0_pay48 C) (k0_pay50 C (k0_pay32 (k0_pay16 al) (k0_pay17 E) (k0_pay20 (F := Ideal)) (k0_pay25 bi sm) (k0_pay26 bi sm)) p1)) z) (k0_pay56 (k0_pay18 ds E) (k0_pay19) (iota .tc S128x128 32 [1] iota_S128x128_d1_w32) X (k0_pay29 (k0_pay16 al) (k0_pay20 (F := Ideal)) (k0_pay25 bi sm) (k0_pay26 bi sm)) (k0_pay30 (k0_pay16 al) (k0_pay21 (F := Ideal)) (k0_pay25 bi sm) (k0_pay26 bi sm)) (k0_pay35 (k0_pay17 E) X (k0_pay25 bi sm) (k0_pay26 bi sm)) (k0_pay42 (k0_pay19) (iota .tc S128x128 32 [1] iota_S128x128_d1_w32) (k0_pay29 (k0_pay16 al) (k0_pay20 (F := Ideal)) (k0_pay25 bi sm) (k0_pay26 bi sm)) (k0_pay30 (k0_pay16 al) (k0_pay21 (F := Ideal)) (k0_pay25 bi sm) (k0_pay26 bi sm)) (k0_pay35 (k0_pay17 E) X (k0_pay25 bi sm) (k0_pay26 bi sm)) (k0_pay38 C) (k0_pay40 (k0_pay16 al) (k0_pay17 E) (k0_pay20 (F := Ideal)) C (k0_pay25 bi sm) (k0_pay26 bi sm) p0)) (k0_pay45 (k0_pay19) (iota .tc S128x128 32 [1] iota_S128x128_d1_w32) (k0_pay29 (k0_pay16 al) (k0_pay20 (F := Ideal)) (k0_pay25 bi sm) (k0_pay26 bi sm)) (k0_pay30 (k0_pay16 al) (k0_pay21 (F := Ideal)) (k0_pay25 bi sm) (k0_pay26 bi sm)) (k0_pay35 (k0_pay17 E) X (k0_pay25 bi sm) (k0_pay26 bi sm)) (k0_pay38 C) (k0_pay40 (k0_pay16 al) (k0_pay17 E) (k0_pay20 (F := Ideal)) C (k0_pay25 bi sm) (k0_pay26 bi sm) p0) (k0_pay43 (k0_pay19) (k0_pay29 (k0_pay16 al) (k0_pay20 (F := Ideal)) (k0_pay25 bi sm) (k0_pay26 bi sm)) (k0_pay30 (k0_pay16 al) (k0_pay21 (F := Ideal)) (k0_pay25 bi sm) (k0_pay26 bi sm))) (k0_pay44 (F := Ideal))) (k0_pay48 C) (k0_pay50 C (k0_pay32 (k0_pay16 al) (k0_pay17 E) (k0_pay20 (F := Ideal)) (k0_pay25 bi sm) (k0_pay26 bi sm)) p1) (k0_pay54 (k0_pay19) (iota .tc S128x128 32 [1] iota_S128x128_d1_w32) (k0_pay29 (k0_pay16 al) (k0_pay20 (F := Ideal)) (k0_pay25 bi sm) (k0_pay26 bi sm)) (k0_pay30 (k0_pay16 al) (k0_pay21 (F := Ideal)) (k0_pay25 bi sm) (k0_pay26 bi sm)) (k0_pay35 (k0_pay17 E) X (k0_pay25 bi sm) (k0_pay26 bi sm)) (k0_pay48 C) (k0_pay50 C (k0_pay32 (k0_pay16 al) (k0_pay17 E) (k0_pay20 (F := Ideal)) (k0_pay25 bi sm) (k0_pay26 bi sm)) p1)) z) nw
      = outV bi al ds E X C sm z p0 p1 nw := rfl

/-- The state the second chunk leaves in the first group. -/
theorem st0_1 (bi : Vec Ideal S1x128 .f32) (al : Vec Ideal S1x128 .f32) (E : Vec Ideal S128x512 .f32) (XS : Vec Ideal S512x512 .f32) (CS : Vec Ideal S512x512 .f32) (sm : Vec Ideal S128x128 .f32) (p0 : Vec Ideal S1x128x256 .f32) :
    k0_pay74 (k0_pay17 E) (k0_pay58 XS) (k0_pay59 CS) (k0_pay60 (k0_pay15 bi) sm) (k0_pay62 (k0_pay15 bi) (k0_pay16 al) (k0_pay20 (F := Ideal)) sm) p0
      = stV0 bi al E (k0_pay58 (F := Ideal) XS) (k0_pay59 (F := Ideal) CS) sm p0 := rfl

/-- The state the second chunk leaves in the second group. -/
theorem st1_1 (bi : Vec Ideal S1x128 .f32) (al : Vec Ideal S1x128 .f32) (E : Vec Ideal S128x512 .f32) (XS : Vec Ideal S512x512 .f32) (CS : Vec Ideal S512x512 .f32) (sm : Vec Ideal S128x128 .f32) (p1 : Vec Ideal S1x128x256 .f32) :
    k0_pay86 (k0_pay59 CS) (k0_pay66 (k0_pay17 E) (k0_pay62 (k0_pay15 bi) (k0_pay16 al) (k0_pay20 (F := Ideal)) sm)) (k0_pay67 (k0_pay17 E) (k0_pay62 (k0_pay15 bi) (k0_pay16 al) (k0_pay20 (F := Ideal)) sm)) (k0_pay68 (k0_pay17 E) (k0_pay58 XS) (k0_pay60 (k0_pay15 bi) sm)) p1
      = stV1 bi al E (k0_pay58 (F := Ideal) XS) (k0_pay59 (F := Ideal) CS) sm p1 := rfl

/-- The rows the second chunk stores. -/
theorem out_1 (bi : Vec Ideal S1x128 .f32) (al : Vec Ideal S1x128 .f32) (ds : Vec Ideal S1x128 .f32) (E : Vec Ideal S128x512 .f32) (XS : Vec Ideal S512x512 .f32) (CS : Vec Ideal S512x512 .f32) (sm : Vec Ideal S128x128 .f32) (z : Vec Ideal S128x512 .f32) (p0 : Vec Ideal S1x128x256 .f32) (p1 : Vec Ideal S1x128x256 .f32) (nw : Vec Ideal S1x512 .f32) :
    k0_pay93 (k0_pay90 (k0_pay18 ds E) (k0_pay19) (iota .tc S128x128 32 [1] iota_S128x128_d1_w32) (k0_pay58 XS) (k0_pay62 (k0_pay15 bi) (k0_pay16 al) (k0_pay20 (F := Ideal)) sm) (k0_pay63 (k0_pay21 (F := Ideal)) (k0_pay61 (k0_pay15 bi) (k0_pay16 al) sm) (constant (F := Ideal) S128x128 .f32 0x00000000#32)) (k0_pay68 (k0_pay17 E) (k0_pay58 XS) (k0_pay60 (k0_pay15 bi) sm)) (k0_pay77 (k0_pay19) (iota .tc S128x128 32 [1] iota_S128x128_d1_w32) (k0_pay62 (k0_pay15 bi) (k0_pay16 al) (k0_pay20 (F := Ideal)) sm) (k0_pay63 (k0_pay21 (F := Ideal)) (k0_pay61 (k0_pay15 bi) (k0_pay16 al) sm) (constant (F := Ideal) S128x128 .f32 0x00000000#32)) (k0_pay68 (k0_pay17 E) (k0_pay58 XS) (k0_pay60 (k0_pay15 bi) sm)) (k0_pay71 (k0_pay59 CS)) (k0_pay73 (k0_pay17 E) (k0_pay59 CS) (k0_pay62 (k0_pay15 bi) (k0_pay16 al) (k0_pay20 (F := Ideal)) sm) p0) (k0_pay75 (k0_pay19) (k0_pay21 (F := Ideal)) (k0_pay61 (k0_pay15 bi) (k0_pay16 al) sm) (k0_pay62 (k0_pay15 bi) (k0_pay16 al) (k0_pay20 (F := Ideal)) sm) (constant (F := Ideal) S128x128 .f32 0x00000000#32)) (k0_pay76 (F := Ideal))) (k0_pay80 (k0_pay19) (iota .tc S128x128 32 [1] iota_S128x128_d1_w32) (k0_pay68 (k0_pay17 E) (k0_pay58 XS) (k0_pay60 (k0_pay15 bi) sm)) (k0_pay71 (k0_pay59 CS)) (k0_pay73 (k0_pay17 E) (k0_pay59 CS) (k0_pay62 (k0_pay15 bi) (k0_pay16 al) (k0_pay20 (F := Ideal)) sm) p0) (k0_pay78 (k0_pay19) (k0_pay62 (k0_pay15 bi) (k0_pay16 al) (k0_pay20 (F := Ideal)) sm) (k0_pay63 (k0_pay21 (F := Ideal)) (k0_pay61 (k0_pay15 bi) (k0_pay16 al) sm) (constant (F := Ideal) S128x128 .f32 0x00000000#32)) (k0_pay71 (k0_pay59 CS))) (k0_pay79 (k0_pay19) (k0_pay62 (k0_pay15 bi) (k0_pay16 al) (k0_pay20 (F := Ideal)) sm) (k0_pay63 (k0_pay21 (F := Ideal)) (k0_pay61 (k0_pay15 bi) (k0_pay16 al) sm) (constant (F := Ideal) S128x128 .f32 0x00000000#32)))) (k0_pay83 (k0_pay59 CS)) (k0_pay85 (k0_pay59 CS) (k0_pay65 (k0_pay17 E) (k0_pay62 (k0_pay15 bi) (k0_pay16 al) (k0_pay20 (F := Ideal)) sm)) p1) (k0_pay87 (k0_pay19) (iota .tc S128x128 32 [1] iota_S128x128_d1_w32) (k0_pay62 (k0_pay15 bi) (k0_pay16 al) (k0_pay20 (F := Ideal)) sm) (k0_pay63 (k0_pay21 (F := Ideal)) (k0_pay61 (k0_pay15 bi) (k0_pay16 al) sm) (constant (F := Ideal) S128x128 .f32 0x00000000#32)) (k0_pay68 (k0_pay17 E) (k0_pay58 XS) (k0_pay60 (k0_pay15 bi) sm)) (k0_pay83 (k0_pay59 CS)) (k0_pay85 (k0_pay59 CS) (k0_pay65 (k0_pay17 E) (k0_pay62 (k0_pay15 bi) (k0_pay16 al) (k0_pay20 (F := Ideal)) sm)) p1)) (k0_pay88 (k0_pay19) (k0_pay62 (k0_pay15 bi) (k0_pay16 al) (k0_pay20 (F := Ideal)) sm) (k0_pay63 (k0_pay21 (F := Ideal)) (k0_pay61 (k0_pay15 bi) (k0_pay16 al) sm) (constant (F := Ideal) S128x128 .f32 0x00000000#32))) (k0_pay89 (F := Ideal)) z) (k0_pay91 (k0_pay18 ds E) (k0_pay19) (iota .tc S128x128 32 [1] iota_S128x128_d1_w32) (k0_pay58 XS) (k0_pay62 (k0_pay15 bi) (k0_pay16 al) (k0_pay20 (F := Ideal)) sm) (k0_pay63 (k0_pay21 (F := Ideal)) (k0_pay61 (k0_pay15 bi) (k0_pay16 al) sm) (constant (F := Ideal) S128x128 .f32 0x00000000#32)) (k0_pay68 (k0_pay17 E) (k0_pay58 XS) (k0_pay60 (k0_pay15 bi) sm)) (k0_pay77 (k0_pay19) (iota .tc S128x128 32 [1] iota_S128x128_d1_w32) (k0_pay62 (k0_pay15 bi) (k0_pay16 al) (k0_pay20 (F := Ideal)) sm) (k0_pay63 (k0_pay21 (F := Ideal)) (k0_pay61 (k0_pay15 bi) (k0_pay16 al) sm) (constant (F := Ideal) S128x128 .f32 0x00000000#32)) (k0_pay68 (k0_pay17 E) (k0_pay58 XS) (k0_pay60 (k0_pay15 bi) sm)) (k0_pay71 (k0_pay59 CS)) (k0_pay73 (k0_pay17 E) (k0_pay59 CS) (k0_pay62 (k0_pay15 bi) (k0_pay16 al) (k0_pay20 (F := Ideal)) sm) p0) (k0_pay75 (k0_pay19) (k0_pay21 (F := Ideal)) (k0_pay61 (k0_pay15 bi) (k0_pay16 al) sm) (k0_pay62 (k0_pay15 bi) (k0_pay16 al) (k0_pay20 (F := Ideal)) sm) (constant (F := Ideal) S128x128 .f32 0x00000000#32)) (k0_pay76 (F := Ideal))) (k0_pay80 (k0_pay19) (iota .tc S128x128 32 [1] iota_S128x128_d1_w32) (k0_pay68 (k0_pay17 E) (k0_pay58 XS) (k0_pay60 (k0_pay15 bi) sm)) (k0_pay71 (k0_pay59 CS)) (k0_pay73 (k0_pay17 E) (k0_pay59 CS) (k0_pay62 (k0_pay15 bi) (k0_pay16 al) (k0_pay20 (F := Ideal)) sm) p0) (k0_pay78 (k0_pay19) (k0_pay62 (k0_pay15 bi) (k0_pay16 al) (k0_pay20 (F := Ideal)) sm) (k0_pay63 (k0_pay21 (F := Ideal)) (k0_pay61 (k0_pay15 bi) (k0_pay16 al) sm) (constant (F := Ideal) S128x128 .f32 0x00000000#32)) (k0_pay71 (k0_pay59 CS))) (k0_pay79 (k0_pay19) (k0_pay62 (k0_pay15 bi) (k0_pay16 al) (k0_pay20 (F := Ideal)) sm) (k0_pay63 (k0_pay21 (F := Ideal)) (k0_pay61 (k0_pay15 bi) (k0_pay16 al) sm) (constant (F := Ideal) S128x128 .f32 0x00000000#32)))) (k0_pay83 (k0_pay59 CS)) (k0_pay85 (k0_pay59 CS) (k0_pay65 (k0_pay17 E) (k0_pay62 (k0_pay15 bi) (k0_pay16 al) (k0_pay20 (F := Ideal)) sm)) p1) (k0_pay87 (k0_pay19) (iota .tc S128x128 32 [1] iota_S128x128_d1_w32) (k0_pay62 (k0_pay15 bi) (k0_pay16 al) (k0_pay20 (F := Ideal)) sm) (k0_pay63 (k0_pay21 (F := Ideal)) (k0_pay61 (k0_pay15 bi) (k0_pay16 al) sm) (constant (F := Ideal) S128x128 .f32 0x00000000#32)) (k0_pay68 (k0_pay17 E) (k0_pay58 XS) (k0_pay60 (k0_pay15 bi) sm)) (k0_pay83 (k0_pay59 CS)) (k0_pay85 (k0_pay59 CS) (k0_pay65 (k0_pay17 E) (k0_pay62 (k0_pay15 bi) (k0_pay16 al) (k0_pay20 (F := Ideal)) sm)) p1)) (k0_pay88 (k0_pay19) (k0_pay62 (k0_pay15 bi) (k0_pay16 al) (k0_pay20 (F := Ideal)) sm) (k0_pay63 (k0_pay21 (F := Ideal)) (k0_pay61 (k0_pay15 bi) (k0_pay16 al) sm) (constant (F := Ideal) S128x128 .f32 0x00000000#32))) (k0_pay89 (F := Ideal)) z) (k0_pay92 (k0_pay18 ds E) (k0_pay19) (iota .tc S128x128 32 [1] iota_S128x128_d1_w32) (k0_pay58 XS) (k0_pay62 (k0_pay15 bi) (k0_pay16 al) (k0_pay20 (F := Ideal)) sm) (k0_pay63 (k0_pay21 (F := Ideal)) (k0_pay61 (k0_pay15 bi) (k0_pay16 al) sm) (constant (F := Ideal) S128x128 .f32 0x00000000#32)) (k0_pay68 (k0_pay17 E) (k0_pay58 XS) (k0_pay60 (k0_pay15 bi) sm)) (k0_pay77 (k0_pay19) (iota .tc S128x128 32 [1] iota_S128x128_d1_w32) (k0_pay62 (k0_pay15 bi) (k0_pay16 al) (k0_pay20 (F := Ideal)) sm) (k0_pay63 (k0_pay21 (F := Ideal)) (k0_pay61 (k0_pay15 bi) (k0_pay16 al) sm) (constant (F := Ideal) S128x128 .f32 0x00000000#32)) (k0_pay68 (k0_pay17 E) (k0_pay58 XS) (k0_pay60 (k0_pay15 bi) sm)) (k0_pay71 (k0_pay59 CS)) (k0_pay73 (k0_pay17 E) (k0_pay59 CS) (k0_pay62 (k0_pay15 bi) (k0_pay16 al) (k0_pay20 (F := Ideal)) sm) p0) (k0_pay75 (k0_pay19) (k0_pay21 (F := Ideal)) (k0_pay61 (k0_pay15 bi) (k0_pay16 al) sm) (k0_pay62 (k0_pay15 bi) (k0_pay16 al) (k0_pay20 (F := Ideal)) sm) (constant (F := Ideal) S128x128 .f32 0x00000000#32)) (k0_pay76 (F := Ideal))) (k0_pay80 (k0_pay19) (iota .tc S128x128 32 [1] iota_S128x128_d1_w32) (k0_pay68 (k0_pay17 E) (k0_pay58 XS) (k0_pay60 (k0_pay15 bi) sm)) (k0_pay71 (k0_pay59 CS)) (k0_pay73 (k0_pay17 E) (k0_pay59 CS) (k0_pay62 (k0_pay15 bi) (k0_pay16 al) (k0_pay20 (F := Ideal)) sm) p0) (k0_pay78 (k0_pay19) (k0_pay62 (k0_pay15 bi) (k0_pay16 al) (k0_pay20 (F := Ideal)) sm) (k0_pay63 (k0_pay21 (F := Ideal)) (k0_pay61 (k0_pay15 bi) (k0_pay16 al) sm) (constant (F := Ideal) S128x128 .f32 0x00000000#32)) (k0_pay71 (k0_pay59 CS))) (k0_pay79 (k0_pay19) (k0_pay62 (k0_pay15 bi) (k0_pay16 al) (k0_pay20 (F := Ideal)) sm) (k0_pay63 (k0_pay21 (F := Ideal)) (k0_pay61 (k0_pay15 bi) (k0_pay16 al) sm) (constant (F := Ideal) S128x128 .f32 0x00000000#32)))) (k0_pay83 (k0_pay59 CS)) (k0_pay85 (k0_pay59 CS) (k0_pay65 (k0_pay17 E) (k0_pay62 (k0_pay15 bi) (k0_pay16 al) (k0_pay20 (F := Ideal)) sm)) p1) (k0_pay87 (k0_pay19) (iota .tc S128x128 32 [1] iota_S128x128_d1_w32) (k0_pay62 (k0_pay15 bi) (k0_pay16 al) (k0_pay20 (F := Ideal)) sm) (k0_pay63 (k0_pay21 (F := Ideal)) (k0_pay61 (k0_pay15 bi) (k0_pay16 al) sm) (constant (F := Ideal) S128x128 .f32 0x00000000#32)) (k0_pay68 (k0_pay17 E) (k0_pay58 XS) (k0_pay60 (k0_pay15 bi) sm)) (k0_pay83 (k0_pay59 CS)) (k0_pay85 (k0_pay59 CS) (k0_pay65 (k0_pay17 E) (k0_pay62 (k0_pay15 bi) (k0_pay16 al) (k0_pay20 (F := Ideal)) sm)) p1)) (k0_pay88 (k0_pay19) (k0_pay62 (k0_pay15 bi) (k0_pay16 al) (k0_pay20 (F := Ideal)) sm) (k0_pay63 (k0_pay21 (F := Ideal)) (k0_pay61 (k0_pay15 bi) (k0_pay16 al) sm) (constant (F := Ideal) S128x128 .f32 0x00000000#32))) (k0_pay89 (F := Ideal)) z) nw
      = outV bi al ds E (k0_pay58 (F := Ideal) XS) (k0_pay59 (F := Ideal) CS) sm z p0 p1 nw := rfl

/-- The state the third chunk leaves in the first group. -/
theorem st0_2 (bi : Vec Ideal S1x128 .f32) (al : Vec Ideal S1x128 .f32) (E : Vec Ideal S128x512 .f32) (XS : Vec Ideal S512x512 .f32) (CS : Vec Ideal S512x512 .f32) (sm : Vec Ideal S128x128 .f32) (p0 : Vec Ideal S1x128x256 .f32) :
    k0_pay112 (k0_pay17 E) (k0_pay94 XS) (k0_pay95 CS) (k0_pay100 (k0_pay15 bi) (k0_pay16 al) (k0_pay20 (F := Ideal)) sm) (k0_pay101 (k0_pay15 bi) (k0_pay17 E) sm) (k0_pay103 (k0_pay15 bi) (k0_pay16 al) (k0_pay20 (F := Ideal)) sm) (constant (F := Ideal) S128x512 .f32 0x00000000#32) p0
      = stV0 bi al E (k0_pay94 (F := Ideal) XS) (k0_pay95 (F := Ideal) CS) sm p0 := rfl

/-- The state the third chunk leaves in the second group. -/
theorem st1_2 (bi : Vec Ideal S1x128 .f32) (al : Vec Ideal S1x128 .f32) (E : Vec Ideal S128x512 .f32) (XS : Vec Ideal S512x512 .f32) (CS : Vec Ideal S512x512 .f32) (sm : Vec Ideal S128x128 .f32) (p1 : Vec Ideal S1x128x256 .f32) :
    k0_pay126 (k0_pay95 CS) (k0_pay104 (k0_pay17 E) (k0_pay103 (k0_pay15 bi) (k0_pay16 al) (k0_pay20 (F := Ideal)) sm) (constant (F := Ideal) S128x512 .f32 0x00000000#32)) (k0_pay105 (k0_pay17 E) (k0_pay100 (k0_pay15 bi) (k0_pay16 al) (k0_pay20 (F := Ideal)) sm)) (k0_pay106 (k0_pay94 XS) (k0_pay101 (k0_pay15 bi) (k0_pay17 E) sm)) p1
      = stV1 bi al E (k0_pay94 (F := Ideal) XS) (k0_pay95 (F := Ideal) CS) sm p1 := rfl

/-- The rows the third chunk stores. -/
theorem out_2 (bi : Vec Ideal S1x128 .f32) (al : Vec Ideal S1x128 .f32) (ds : Vec Ideal S1x128 .f32) (E : Vec Ideal S128x512 .f32) (XS : Vec Ideal S512x512 .f32) (CS : Vec Ideal S512x512 .f32) (sm : Vec Ideal S128x128 .f32) (z : Vec Ideal S128x512 .f32) (p0 : Vec Ideal S1x128x256 .f32) (p1 : Vec Ideal S1x128x256 .f32) (nw : Vec Ideal S1x512 .f32) :
    k0_pay136 (k0_pay133 (k0_pay18 ds E) (k0_pay19) (iota .tc S128x128 32 [1] iota_S128x128_d1_w32) (k0_pay94 XS) (k0_pay106 (k0_pay94 XS) (k0_pay101 (k0_pay15 bi) (k0_pay17 E) sm)) (k0_pay115 (k0_pay19) (iota .tc S128x128 32 [1] iota_S128x128_d1_w32) (k0_pay106 (k0_pay94 XS) (k0_pay101 (k0_pay15 bi) (k0_pay17 E) sm)) (k0_pay109 (k0_pay95 CS)) (k0_pay111 (k0_pay95 CS) (k0_pay102 (k0_pay15 bi) (k0_pay16 al) (k0_pay17 E) (k0_pay20 (F := Ideal)) sm) p0) (k0_pay113 (k0_pay19) (k0_pay95 CS) (k0_pay98 (k0_pay15 bi) (k0_pay16 al) (k0_pay20 (F := Ideal)) sm) (k0_pay99 (k0_pay15 bi) (k0_pay16 al) (k0_pay21 (F := Ideal)) sm)) (k0_pay114 (k0_pay19) (k0_pay98 (k0_pay15 bi) (k0_pay16 al) (k0_pay20 (F := Ideal)) sm) (k0_pay99 (k0_pay15 bi) (k0_pay16 al) (k0_pay21 (F := Ideal)) sm))) (k0_pay120 (iota .tc S128x128 32 [1] iota_S128x128_d1_w32) (k0_pay111 (k0_pay95 CS) (k0_pay102 (k0_pay15 bi) (k0_pay16 al) (k0_pay17 E) (k0_pay20 (F := Ideal)) sm) p0) (k0_pay116 (k0_pay19) (k0_pay98 (k0_pay15 bi) (k0_pay16 al) (k0_pay20 (F := Ideal)) sm) (k0_pay99 (k0_pay15 bi) (k0_pay16 al) (k0_pay21 (F := Ideal)) sm) (k0_pay109 (k0_pay95 CS))) (k0_pay117 (k0_pay19) (k0_pay98 (k0_pay15 bi) (k0_pay16 al) (k0_pay20 (F := Ideal)) sm) (k0_pay99 (k0_pay15 bi) (k0_pay16 al) (k0_pay21 (F := Ideal)) sm) (k0_pay109 (k0_pay95 CS))) (k0_pay118 (k0_pay106 (k0_pay94 XS) (k0_pay101 (k0_pay15 bi) (k0_pay17 E) sm))) (k0_pay119 (iota .tc S128x128 32 [1] iota_S128x128_d1_w32)) (FloatOps.ofBits (F := Ideal) .f32 0#32)) (k0_pay123 (k0_pay95 CS)) (k0_pay125 (k0_pay95 CS) (k0_pay102 (k0_pay15 bi) (k0_pay16 al) (k0_pay17 E) (k0_pay20 (F := Ideal)) sm) p1) (k0_pay129 (k0_pay19) (iota .tc S128x128 32 [1] iota_S128x128_d1_w32) (k0_pay98 (k0_pay15 bi) (k0_pay16 al) (k0_pay20 (F := Ideal)) sm) (k0_pay99 (k0_pay15 bi) (k0_pay16 al) (k0_pay21 (F := Ideal)) sm) (k0_pay106 (k0_pay94 XS) (k0_pay101 (k0_pay15 bi) (k0_pay17 E) sm)) (k0_pay123 (k0_pay95 CS)) (k0_pay125 (k0_pay95 CS) (k0_pay102 (k0_pay15 bi) (k0_pay16 al) (k0_pay17 E) (k0_pay20 (F := Ideal)) sm) p1) (k0_pay127 (k0_pay19) (k0_pay98 (k0_pay15 bi) (k0_pay16 al) (k0_pay20 (F := Ideal)) sm) (k0_pay99 (k0_pay15 bi) (k0_pay16 al) (k0_pay21 (F := Ideal)) sm)) (k0_pay128 (F := Ideal))) (k0_pay130 (k0_pay19) (k0_pay98 (k0_pay15 bi) (k0_pay16 al) (k0_pay20 (F := Ideal)) sm) (k0_pay99 (k0_pay15 bi) (k0_pay16 al) (k0_pay21 (F := Ideal)) sm) (k0_pay123 (k0_pay95 CS))) (k0_pay131 (k0_pay19) (k0_pay98 (k0_pay15 bi) (k0_pay16 al) (k0_pay20 (F := Ideal)) sm) (k0_pay99 (k0_pay15 bi) (k0_pay16 al) (k0_pay21 (F := Ideal)) sm)) z) (k0_pay134 (k0_pay18 ds E) (k0_pay19) (iota .tc S128x128 32 [1] iota_S128x128_d1_w32) (k0_pay94 XS) (k0_pay106 (k0_pay94 XS) (k0_pay101 (k0_pay15 bi) (k0_pay17 E) sm)) (k0_pay115 (k0_pay19) (iota .tc S128x128 32 [1] iota_S128x128_d1_w32) (k0_pay106 (k0_pay94 XS) (k0_pay101 (k0_pay15 bi) (k0_pay17 E) sm)) (k0_pay109 (k0_pay95 CS)) (k0_pay111 (k0_pay95 CS) (k0_pay102 (k0_pay15 bi) (k0_pay16 al) (k0_pay17 E) (k0_pay20 (F := Ideal)) sm) p0) (k0_pay113 (k0_pay19) (k0_pay95 CS) (k0_pay98 (k0_pay15 bi) (k0_pay16 al) (k0_pay20 (F := Ideal)) sm) (k0_pay99 (k0_pay15 bi) (k0_pay16 al) (k0_pay21 (F := Ideal)) sm)) (k0_pay114 (k0_pay19) (k0_pay98 (k0_pay15 bi) (k0_pay16 al) (k0_pay20 (F := Ideal)) sm) (k0_pay99 (k0_pay15 bi) (k0_pay16 al) (k0_pay21 (F := Ideal)) sm))) (k0_pay120 (iota .tc S128x128 32 [1] iota_S128x128_d1_w32) (k0_pay111 (k0_pay95 CS) (k0_pay102 (k0_pay15 bi) (k0_pay16 al) (k0_pay17 E) (k0_pay20 (F := Ideal)) sm) p0) (k0_pay116 (k0_pay19) (k0_pay98 (k0_pay15 bi) (k0_pay16 al) (k0_pay20 (F := Ideal)) sm) (k0_pay99 (k0_pay15 bi) (k0_pay16 al) (k0_pay21 (F := Ideal)) sm) (k0_pay109 (k0_pay95 CS))) (k0_pay117 (k0_pay19) (k0_pay98 (k0_pay15 bi) (k0_pay16 al) (k0_pay20 (F := Ideal)) sm) (k0_pay99 (k0_pay15 bi) (k0_pay16 al) (k0_pay21 (F := Ideal)) sm) (k0_pay109 (k0_pay95 CS))) (k0_pay118 (k0_pay106 (k0_pay94 XS) (k0_pay101 (k0_pay15 bi) (k0_pay17 E) sm))) (k0_pay119 (iota .tc S128x128 32 [1] iota_S128x128_d1_w32)) (FloatOps.ofBits (F := Ideal) .f32 0#32)) (k0_pay123 (k0_pay95 CS)) (k0_pay125 (k0_pay95 CS) (k0_pay102 (k0_pay15 bi) (k0_pay16 al) (k0_pay17 E) (k0_pay20 (F := Ideal)) sm) p1) (k0_pay129 (k0_pay19) (iota .tc S128x128 32 [1] iota_S128x128_d1_w32) (k0_pay98 (k0_pay15 bi) (k0_pay16 al) (k0_pay20 (F := Ideal)) sm) (k0_pay99 (k0_pay15 bi) (k0_pay16 al) (k0_pay21 (F := Ideal)) sm) (k0_pay106 (k0_pay94 XS) (k0_pay101 (k0_pay15 bi) (k0_pay17 E) sm)) (k0_pay123 (k0_pay95 CS)) (k0_pay125 (k0_pay95 CS) (k0_pay102 (k0_pay15 bi) (k0_pay16 al) (k0_pay17 E) (k0_pay20 (F := Ideal)) sm) p1) (k0_pay127 (k0_pay19) (k0_pay98 (k0_pay15 bi) (k0_pay16 al) (k0_pay20 (F := Ideal)) sm) (k0_pay99 (k0_pay15 bi) (k0_pay16 al) (k0_pay21 (F := Ideal)) sm)) (k0_pay128 (F := Ideal))) (k0_pay130 (k0_pay19) (k0_pay98 (k0_pay15 bi) (k0_pay16 al) (k0_pay20 (F := Ideal)) sm) (k0_pay99 (k0_pay15 bi) (k0_pay16 al) (k0_pay21 (F := Ideal)) sm) (k0_pay123 (k0_pay95 CS))) (k0_pay131 (k0_pay19) (k0_pay98 (k0_pay15 bi) (k0_pay16 al) (k0_pay20 (F := Ideal)) sm) (k0_pay99 (k0_pay15 bi) (k0_pay16 al) (k0_pay21 (F := Ideal)) sm)) z) (k0_pay135 (k0_pay18 ds E) (k0_pay19) (iota .tc S128x128 32 [1] iota_S128x128_d1_w32) (k0_pay94 XS) (k0_pay106 (k0_pay94 XS) (k0_pay101 (k0_pay15 bi) (k0_pay17 E) sm)) (k0_pay115 (k0_pay19) (iota .tc S128x128 32 [1] iota_S128x128_d1_w32) (k0_pay106 (k0_pay94 XS) (k0_pay101 (k0_pay15 bi) (k0_pay17 E) sm)) (k0_pay109 (k0_pay95 CS)) (k0_pay111 (k0_pay95 CS) (k0_pay102 (k0_pay15 bi) (k0_pay16 al) (k0_pay17 E) (k0_pay20 (F := Ideal)) sm) p0) (k0_pay113 (k0_pay19) (k0_pay95 CS) (k0_pay98 (k0_pay15 bi) (k0_pay16 al) (k0_pay20 (F := Ideal)) sm) (k0_pay99 (k0_pay15 bi) (k0_pay16 al) (k0_pay21 (F := Ideal)) sm)) (k0_pay114 (k0_pay19) (k0_pay98 (k0_pay15 bi) (k0_pay16 al) (k0_pay20 (F := Ideal)) sm) (k0_pay99 (k0_pay15 bi) (k0_pay16 al) (k0_pay21 (F := Ideal)) sm))) (k0_pay120 (iota .tc S128x128 32 [1] iota_S128x128_d1_w32) (k0_pay111 (k0_pay95 CS) (k0_pay102 (k0_pay15 bi) (k0_pay16 al) (k0_pay17 E) (k0_pay20 (F := Ideal)) sm) p0) (k0_pay116 (k0_pay19) (k0_pay98 (k0_pay15 bi) (k0_pay16 al) (k0_pay20 (F := Ideal)) sm) (k0_pay99 (k0_pay15 bi) (k0_pay16 al) (k0_pay21 (F := Ideal)) sm) (k0_pay109 (k0_pay95 CS))) (k0_pay117 (k0_pay19) (k0_pay98 (k0_pay15 bi) (k0_pay16 al) (k0_pay20 (F := Ideal)) sm) (k0_pay99 (k0_pay15 bi) (k0_pay16 al) (k0_pay21 (F := Ideal)) sm) (k0_pay109 (k0_pay95 CS))) (k0_pay118 (k0_pay106 (k0_pay94 XS) (k0_pay101 (k0_pay15 bi) (k0_pay17 E) sm))) (k0_pay119 (iota .tc S128x128 32 [1] iota_S128x128_d1_w32)) (FloatOps.ofBits (F := Ideal) .f32 0#32)) (k0_pay123 (k0_pay95 CS)) (k0_pay125 (k0_pay95 CS) (k0_pay102 (k0_pay15 bi) (k0_pay16 al) (k0_pay17 E) (k0_pay20 (F := Ideal)) sm) p1) (k0_pay129 (k0_pay19) (iota .tc S128x128 32 [1] iota_S128x128_d1_w32) (k0_pay98 (k0_pay15 bi) (k0_pay16 al) (k0_pay20 (F := Ideal)) sm) (k0_pay99 (k0_pay15 bi) (k0_pay16 al) (k0_pay21 (F := Ideal)) sm) (k0_pay106 (k0_pay94 XS) (k0_pay101 (k0_pay15 bi) (k0_pay17 E) sm)) (k0_pay123 (k0_pay95 CS)) (k0_pay125 (k0_pay95 CS) (k0_pay102 (k0_pay15 bi) (k0_pay16 al) (k0_pay17 E) (k0_pay20 (F := Ideal)) sm) p1) (k0_pay127 (k0_pay19) (k0_pay98 (k0_pay15 bi) (k0_pay16 al) (k0_pay20 (F := Ideal)) sm) (k0_pay99 (k0_pay15 bi) (k0_pay16 al) (k0_pay21 (F := Ideal)) sm)) (k0_pay128 (F := Ideal))) (k0_pay130 (k0_pay19) (k0_pay98 (k0_pay15 bi) (k0_pay16 al) (k0_pay20 (F := Ideal)) sm) (k0_pay99 (k0_pay15 bi) (k0_pay16 al) (k0_pay21 (F := Ideal)) sm) (k0_pay123 (k0_pay95 CS))) (k0_pay131 (k0_pay19) (k0_pay98 (k0_pay15 bi) (k0_pay16 al) (k0_pay20 (F := Ideal)) sm) (k0_pay99 (k0_pay15 bi) (k0_pay16 al) (k0_pay21 (F := Ideal)) sm)) z) (FloatOps.ofBits (F := Ideal) .f32 897988541#32) nw
      = outV bi al ds E (k0_pay94 (F := Ideal) XS) (k0_pay95 (F := Ideal) CS) sm z p0 p1 nw := rfl

/-- The state the last chunk leaves in the first group. -/
theorem st0_3 (bi : Vec Ideal S1x128 .f32) (al : Vec Ideal S1x128 .f32) (E : Vec Ideal S128x512 .f32) (XS : Vec Ideal S512x512 .f32) (CS : Vec Ideal S512x512 .f32) (sm : Vec Ideal S128x128 .f32) (p0 : Vec Ideal S1x128x256 .f32) :
    k0_pay153 (k0_pay145 (k0_pay15 bi) (k0_pay16 al) (k0_pay17 E) (k0_pay20 (F := Ideal)) sm) (k0_pay146 (k0_pay15 bi) (k0_pay16 al) (k0_pay17 E) (k0_pay20 (F := Ideal)) sm) (k0_pay147 XS (k0_pay15 bi) (k0_pay17 E) sm) (k0_pay148 CS) p0
      = stV0 bi al E (k0_pay137 (F := Ideal) XS) (k0_pay138 (F := Ideal) CS) sm p0 := rfl

/-- The state the last chunk leaves in the second group. -/
theorem st1_3 (bi : Vec Ideal S1x128 .f32) (al : Vec Ideal S1x128 .f32) (E : Vec Ideal S128x512 .f32) (XS : Vec Ideal S512x512 .f32) (CS : Vec Ideal S512x512 .f32) (sm : Vec Ideal S128x128 .f32) (p1 : Vec Ideal S1x128x256 .f32) :
    k0_pay169 (k0_pay138 CS) (k0_pay145 (k0_pay15 bi) (k0_pay16 al) (k0_pay17 E) (k0_pay20 (F := Ideal)) sm) (k0_pay146 (k0_pay15 bi) (k0_pay16 al) (k0_pay17 E) (k0_pay20 (F := Ideal)) sm) (k0_pay147 XS (k0_pay15 bi) (k0_pay17 E) sm) p1
      = stV1 bi al E (k0_pay137 (F := Ideal) XS) (k0_pay138 (F := Ideal) CS) sm p1 := rfl

/-- The rows the last chunk stores. -/
theorem out_3 (bi : Vec Ideal S1x128 .f32) (al : Vec Ideal S1x128 .f32) (ds : Vec Ideal S1x128 .f32) (E : Vec Ideal S128x512 .f32) (XS : Vec Ideal S512x512 .f32) (CS : Vec Ideal S512x512 .f32) (sm : Vec Ideal S128x128 .f32) (z : Vec Ideal S128x512 .f32) (p0 : Vec Ideal S1x128x256 .f32) (p1 : Vec Ideal S1x128x256 .f32) (nw : Vec Ideal S1x512 .f32) :
    k0_pay1 (k0_pay177 (k0_pay18 ds E) (iota .tc S128x128 32 [1] iota_S128x128_d1_w32) (k0_pay137 XS) (k0_pay158 (iota .tc S128x128 32 [1] iota_S128x128_d1_w32) (k0_pay152 (k0_pay144 (k0_pay15 bi) (k0_pay16 al) (k0_pay17 E) (k0_pay20 (F := Ideal)) sm) (k0_pay149 CS) p0) (k0_pay154 (k0_pay19) (k0_pay141 (k0_pay15 bi) (k0_pay16 al) (k0_pay20 (F := Ideal)) sm) (k0_pay142 (k0_pay15 bi) (k0_pay16 al) (k0_pay21 (F := Ideal)) sm) (k0_pay150 CS)) (k0_pay155 (k0_pay19) (k0_pay141 (k0_pay15 bi) (k0_pay16 al) (k0_pay20 (F := Ideal)) sm) (k0_pay142 (k0_pay15 bi) (k0_pay16 al) (k0_pay21 (F := Ideal)) sm) (k0_pay150 CS)) (k0_pay156 (k0_pay147 XS (k0_pay15 bi) (k0_pay17 E) sm)) (k0_pay157 (iota .tc S128x128 32 [1] iota_S128x128_d1_w32)) (FloatOps.ofBits (F := Ideal) .f32 0#32)) (k0_pay163 (k0_pay152 (k0_pay144 (k0_pay15 bi) (k0_pay16 al) (k0_pay17 E) (k0_pay20 (F := Ideal)) sm) (k0_pay149 CS) p0) (k0_pay160 (iota .tc S128x128 32 [1] iota_S128x128_d1_w32) (k0_pay147 XS (k0_pay15 bi) (k0_pay17 E) sm)) (k0_pay161 (iota .tc S128x128 32 [1] iota_S128x128_d1_w32) (k0_pay147 XS (k0_pay15 bi) (k0_pay17 E) sm)) (k0_pay162 (k0_pay19) (k0_pay141 (k0_pay15 bi) (k0_pay16 al) (k0_pay20 (F := Ideal)) sm) (k0_pay142 (k0_pay15 bi) (k0_pay16 al) (k0_pay21 (F := Ideal)) sm) (k0_pay150 CS))) (k0_pay168 (k0_pay138 CS) (k0_pay144 (k0_pay15 bi) (k0_pay16 al) (k0_pay17 E) (k0_pay20 (F := Ideal)) sm) p1) (k0_pay172 (k0_pay19) (iota .tc S128x128 32 [1] iota_S128x128_d1_w32) (k0_pay147 XS (k0_pay15 bi) (k0_pay17 E) sm) (k0_pay166 (k0_pay138 CS)) (k0_pay168 (k0_pay138 CS) (k0_pay144 (k0_pay15 bi) (k0_pay16 al) (k0_pay17 E) (k0_pay20 (F := Ideal)) sm) p1) (k0_pay170 (k0_pay19) (k0_pay138 CS) (k0_pay141 (k0_pay15 bi) (k0_pay16 al) (k0_pay20 (F := Ideal)) sm) (k0_pay142 (k0_pay15 bi) (k0_pay16 al) (k0_pay21 (F := Ideal)) sm)) (k0_pay171 (k0_pay19) (k0_pay141 (k0_pay15 bi) (k0_pay16 al) (k0_pay20 (F := Ideal)) sm) (k0_pay142 (k0_pay15 bi) (k0_pay16 al) (k0_pay21 (F := Ideal)) sm))) (k0_pay173 (k0_pay19) (k0_pay141 (k0_pay15 bi) (k0_pay16 al) (k0_pay20 (F := Ideal)) sm) (k0_pay142 (k0_pay15 bi) (k0_pay16 al) (k0_pay21 (F := Ideal)) sm) (k0_pay166 (k0_pay138 CS))) (k0_pay174 (k0_pay19) (k0_pay141 (k0_pay15 bi) (k0_pay16 al) (k0_pay20 (F := Ideal)) sm) (k0_pay142 (k0_pay15 bi) (k0_pay16 al) (k0_pay21 (F := Ideal)) sm) (k0_pay166 (k0_pay138 CS))) (k0_pay175 (k0_pay147 XS (k0_pay15 bi) (k0_pay17 E) sm)) (k0_pay176 (iota .tc S128x128 32 [1] iota_S128x128_d1_w32)) (FloatOps.ofBits (F := Ideal) .f32 0#32) z) (k0_pay178 nw)
      = outV bi al ds E (k0_pay137 (F := Ideal) XS) (k0_pay138 (F := Ideal) CS) sm z p0 p1 nw := rfl

end Cert.KernelSsdIdeal.SsdFold

end
-- ==== Proof.SsdBlock.lean ====
/-
  One grid point's convolved rows: the rows kept from the point before, the block's own rows below them, and the four
  shifted products; on blocks that are 512 rows of a sequence these are the layer's activated convolution, and the point's
  four chunks are tiles of it.
-/
module

public import proofs.«01_k».proof.Proof.Gen.KernelSsdIdeal.Frame
public import proofs.«01_k».proof.Proof.SsdFold
public import Idealize.ShloMosaic.Lib.WritesUnit
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelSsdIdeal.SsdBlock

open Cert.KernelSsdIdeal Cert.KernelSsdIdeal.Gen Cert.KernelSsdIdeal.SsdTile Cert.Ssd
open Cert.Ret (row)

/-- A block of 512 rows below eight rows kept from before. -/
def ext (e : Vec Ideal S520x512 .f32) (x : Vec Ideal S512x512 .f32) : Vec Ideal S520x512 .f32 :=
  fun y => if h : 8 ≤ (y 0).val then x (ix2 ⟨(y 0).val - 8, by have : (y 0).val < 520 := (y 0).isLt; omega⟩ (y 1)) else e y

/-- Eight rows of zeros and a block below them. -/
theorem canon_ext (x : Vec Ideal S512x512 .f32) (w : Vec Ideal S512x512 .f32) (hw : w = x) (f : Vec Ideal S8x512 .f32) (hf : ∀ i, f i = 0)
    (y : S520x512.Idx) :
    View.canon (Val := Elt Ideal) (e := .f32) [⟨Rect.unit ![8, 0] ![512, 512] inb_S520x512_S512x512_8_0, w⟩,
      ⟨Rect.unit ![0, 0] ![8, 512] inb_S520x512_S8x512_0_0, f⟩] y = ext (fun _ => (0 : EReal)) x y := by
  subst hw
  unfold ext
  rw [← View.read_writes_junk_eq_canon (View.whole (sig := sig) cc0_scratch0)]
  have l0 : (y 0).val < 520 := (y 0).isLt
  by_cases h : 8 ≤ (y 0).val
  · rw [dif_pos h]
    refine View.read_writes_cons_unit_of_mem _ _ _ _ _ y (ix2 ⟨(y 0).val - 8, by omega⟩ (y 1)) rfl fun a => ?_
    match a with
    | 0 => show (y 0).val = 8 + ((y 0).val - 8); omega
    | 1 => show (y 1).val = 0 + (y 1).val; omega
  · rw [dif_neg h, View.read_writes_cons_unit_of_not_mem _ _ _ _ _ y rfl 0 (Or.inl (by show (y 0).val < 8; omega))]
    refine (View.read_writes_cons_unit_of_mem _ _ _ _ _ y (ix2 ⟨(y 0).val, by omega⟩ (y 1)) rfl fun a => ?_).trans (hf _)
    match a with
    | 0 => show (y 0).val = 0 + (y 0).val; omega
    | 1 => show (y 1).val = 0 + (y 1).val; omega

/-- The block's shifted rows at a sequence's first point. -/
theorem shift_A0 {off : Fin 2 → ℕ} (inb : ∀ a, off a + ![512, 512] a ≤ S520x512.size a) (x : Vec Ideal S512x512 .f32) :
    (View.whole (sig := sig) cc0_scratch0).readCov (Val := Elt Ideal) [⟨Rect.unit ![8, 0] ![512, 512] inb_S520x512_S512x512_8_0, k0_pay4 x⟩,
        ⟨Rect.unit ![0, 0] ![8, 512] inb_S520x512_S8x512_0_0, k0_pay3 (F := Ideal)⟩] (Rect.unit off ![512, 512] inb).toLoadRect
      = View.ld (ext (fun _ => (0 : EReal)) x) (Rect.unit off ![512, 512] inb) := by
  rw [View.readCov_eq_canon']
  funext j
  exact canon_ext x _ (by funext j; pointwise [k0_pay4]) _ (fun j => by pointwise [k0_pay3]) _

/-- The same of the second array. -/
theorem shift_A1 {off : Fin 2 → ℕ} (inb : ∀ a, off a + ![512, 512] a ≤ S520x512.size a) (x : Vec Ideal S512x512 .f32) :
    (View.whole (sig := sig) cc0_scratch1).readCov (Val := Elt Ideal) [⟨Rect.unit ![8, 0] ![512, 512] inb_S520x512_S512x512_8_0, k0_pay10 x⟩,
        ⟨Rect.unit ![0, 0] ![8, 512] inb_S520x512_S8x512_0_0, k0_pay9 (F := Ideal)⟩] (Rect.unit off ![512, 512] inb).toLoadRect
      = View.ld (ext (fun _ => (0 : EReal)) x) (Rect.unit off ![512, 512] inb) := by
  rw [View.readCov_eq_canon']
  funext j
  exact canon_ext x _ (by funext j; pointwise [k0_pay10]) _ (fun j => by pointwise [k0_pay9]) _

/-- An array overwritten from its ninth row on. -/
theorem read_ext {sig : RefSig} {κ : Kind} {sp : Space} (v : View sig κ sp S520x512 .f32) (f : v.ty.Contents (Elt Ideal)) (e : Vec Ideal S520x512 .f32)
    (he : v.read (Elt Ideal) f = e) (x w : Vec Ideal S512x512 .f32) (hw : w = x) :
    v.read (Elt Ideal) (v.writes (Elt Ideal) f [⟨Rect.unit ![8, 0] ![512, 512] inb_S520x512_S512x512_8_0, w⟩]) = ext e x := by
  subst hw
  funext y
  unfold ext
  by_cases h : 8 ≤ (y 0).val
  · rw [dif_pos h]
    have l0 : (y 0).val < 520 := (y 0).isLt
    refine View.read_writes_cons_unit_of_mem v f _ _ _ y (ix2 ⟨(y 0).val - 8, by omega⟩ (y 1)) rfl fun a => ?_
    match a with
    | 0 => show (y 0).val = 8 + ((y 0).val - 8); omega
    | 1 => show (y 1).val = 0 + (y 1).val; omega
  · rw [dif_neg h, View.read_writes_cons_unit_of_not_mem v f _ _ _ y rfl 0 (Or.inl (by show (y 0).val < 8; omega)), ← he]
    rfl

/-- The four shifted products of a block with its convolution's weights, and the activation, for the input rows. -/
def xsV (e : Vec Ideal S520x512 .f32) (x : Vec Ideal S512x512 .f32) (w : Vec Ideal S4x512 .f32) (bb : Vec Ideal S1x512 .f32) : FVec Ideal S512x512 .f32 :=
  k0_pay8 (k0_pay5 x (View.ld w (Rect.unit ![3, 0] ![1, 512] inb_S4x512_S1x512_3_0))
    (View.ld e (Rect.unit ![5, 0] ![512, 512] inb_S520x512_S512x512_5_0)) (View.ld w (Rect.unit ![0, 0] ![1, 512] inb_S4x512_S1x512_0_0))
    (View.ld e (Rect.unit ![6, 0] ![512, 512] inb_S520x512_S512x512_6_0)) (View.ld w (Rect.unit ![1, 0] ![1, 512] inb_S4x512_S1x512_1_0))
    (View.ld e (Rect.unit ![7, 0] ![512, 512] inb_S520x512_S512x512_7_0)) (View.ld w (Rect.unit ![2, 0] ![1, 512] inb_S4x512_S1x512_2_0))) bb

/-- The same for the rows that write and read the state. -/
def csV (e : Vec Ideal S520x512 .f32) (x : Vec Ideal S512x512 .f32) (w : Vec Ideal S4x512 .f32) (bb : Vec Ideal S1x512 .f32) : FVec Ideal S512x512 .f32 :=
  k0_pay14 (k0_pay11 x (View.ld w (Rect.unit ![3, 0] ![1, 512] inb_S4x512_S1x512_3_0))
    (View.ld e (Rect.unit ![5, 0] ![512, 512] inb_S520x512_S512x512_5_0)) (View.ld w (Rect.unit ![0, 0] ![1, 512] inb_S4x512_S1x512_0_0))
    (View.ld e (Rect.unit ![6, 0] ![512, 512] inb_S520x512_S512x512_6_0)) (View.ld w (Rect.unit ![1, 0] ![1, 512] inb_S4x512_S1x512_1_0)))
    (k0_pay12 (View.ld e (Rect.unit ![7, 0] ![512, 512] inb_S520x512_S512x512_7_0)) (View.ld w (Rect.unit ![2, 0] ![1, 512] inb_S4x512_S1x512_2_0))) bb

/-- The rows kept and a block's own rows: the rows up to eight before each. -/
theorem ext_at {a : Par} {b i : ℕ} {e : Vec Ideal S520x512 .f32} {x : Vec Ideal S512x512 .f32} {K : Fin 512 → Fin 1024}
    (hx : ∀ (R c : Fin 512), x (ix2 R c) = back a b (i * 512 + R.val) 0 (K c))
    (he : ∀ (r : Fin 520) (c : Fin 512), r.val < 8 → e (ix2 r c) = back a b (i * 512) (8 - r.val) (K c))
    (d : ℕ) (hd : d ≤ 8) (q : Fin 520) (R c : Fin 512) (hq : q.val + d = 8 + R.val) :
    ext e x (ix2 q c) = back a b (i * 512 + R.val) d (K c) := by
  unfold ext
  split
  next h =>
    refine (hx _ _).trans ?_
    unfold back
    have h : 8 ≤ q.val := h
    rw [if_pos (Nat.zero_le _), if_pos (by omega)]
    have : i * 512 + (q.val - 8) - 0 = i * 512 + R.val - d := by omega
    show a.P (ix2 ⟨(b * 4096 + (i * 512 + (q.val - 8) - 0)) % 16384, _⟩ _) = _
    simp only [this]
    rfl
  next h =>
    have h : ¬ 8 ≤ q.val := h
    refine (he q c (by omega)).trans ?_
    unfold back
    have : i * 512 - (8 - q.val) = i * 512 + R.val - d := by omega
    simp only [this]
    by_cases hh : d ≤ i * 512 + R.val
    · rw [if_pos (by omega), if_pos hh]
    · rw [if_neg (by omega), if_neg hh]

variable {a : Par} {b i : ℕ} {e e0 e1 : Vec Ideal S520x512 .f32} {x : Vec Ideal S512x512 .f32} {w : Vec Ideal S4x512 .f32} {bb : Vec Ideal S1x512 .f32}
  {K : Fin 512 → Fin 1024}

/-- The input rows' activated convolution. -/
theorem xsV_at (hx : ∀ (R c : Fin 512), x (ix2 R c) = back a b (i * 512 + R.val) 0 (K c))
    (he : ∀ (r : Fin 520) (c : Fin 512), r.val < 8 → e (ix2 r c) = back a b (i * 512) (8 - r.val) (K c))
    (hw : ∀ (j : Fin 4) (c : Fin 512), w (ix2 j c) = a.cw j (K c)) (hb : ∀ c : Fin 512, bb (ix2 0 c) = a.cb (K c)) (R c : Fin 512) :
    xsV (ext e x) x w bb (ix2 R c) = conv a b (i * 512 + R.val) (K c) * Ideal.logistic (conv a b (i * 512 + R.val) (K c)) := by
  unfold conv
  rw [← ext_at hx he 3 (by decide) ⟨5 + R.val, by omega⟩ R c (by show 5 + R.val + 3 = _; omega),
    ← ext_at hx he 2 (by decide) ⟨6 + R.val, by omega⟩ R c (by show 6 + R.val + 2 = _; omega),
    ← ext_at hx he 1 (by decide) ⟨7 + R.val, by omega⟩ R c (by show 7 + R.val + 1 = _; omega), ← hx, ← hw, ← hw, ← hw, ← hw, ← hb]
  generalize ext e x = EX
  pointwise [xsV, k0_pay8, k0_pay5]

/-- The same for the rows that write and read the state. -/
theorem csV_at (hx : ∀ (R c : Fin 512), x (ix2 R c) = back a b (i * 512 + R.val) 0 (K c))
    (he : ∀ (r : Fin 520) (c : Fin 512), r.val < 8 → e (ix2 r c) = back a b (i * 512) (8 - r.val) (K c))
    (hw : ∀ (j : Fin 4) (c : Fin 512), w (ix2 j c) = a.cw j (K c)) (hb : ∀ c : Fin 512, bb (ix2 0 c) = a.cb (K c)) (R c : Fin 512) :
    csV (ext e x) x w bb (ix2 R c) = conv a b (i * 512 + R.val) (K c) * Ideal.logistic (conv a b (i * 512 + R.val) (K c)) := by
  unfold conv
  rw [← ext_at hx he 3 (by decide) ⟨5 + R.val, by omega⟩ R c (by show 5 + R.val + 3 = _; omega),
    ← ext_at hx he 2 (by decide) ⟨6 + R.val, by omega⟩ R c (by show 6 + R.val + 2 = _; omega),
    ← ext_at hx he 1 (by decide) ⟨7 + R.val, by omega⟩ R c (by show 7 + R.val + 1 = _; omega), ← hx, ← hw, ← hw, ← hw, ← hw, ← hb]
  generalize ext e x = EX
  pointwise [csV, k0_pay14, k0_pay11, k0_pay12]

/-- The column of an input column among the convolved ones. -/
abbrev KX (c : Fin 512) : Fin 1024 := ⟨c.val, by omega⟩
/-- The column of a writing or reading column among the convolved ones. -/
abbrev KC (c : Fin 512) : Fin 1024 := ⟨512 + c.val, by omega⟩

/-- The blocks are rows `512 i …` of sequence `b`, the rows kept are the eight before them, and the constants' arrays. -/
structure Blk (a : Par) (b i : ℕ) (x0 x1 x2 : Vec Ideal S512x512 .f32) (x3 : Vec Ideal S512x128 .f32) (x4 x5 : Vec Ideal S4x512 .f32)
    (x6 x7 : Vec Ideal S1x512 .f32) (x8 : Vec Ideal S8x128 .f32) (x9 : Vec Ideal S128x512 .f32) (x10 : Vec Ideal S1x512 .f32)
    (e0 e1 : Vec Ideal S520x512 .f32) : Prop where
  z : ∀ (k : Fin 4) (r : Fin 128) (R c : Fin 512), R.val = k.val * 128 + r.val →
    x0 (ix2 R c) = a.P (ix2 (row b (i * 4 + k.val) r) ⟨2048 + c.val, by omega⟩)
  xs : ∀ (R c : Fin 512), x1 (ix2 R c) = back a b (i * 512 + R.val) 0 (KX c)
  cs : ∀ (R c : Fin 512), x2 (ix2 R c) = back a b (i * 512 + R.val) 0 (KC c)
  sm : ∀ (k : Fin 4) (r h : Fin 128) (H : Fin 8) (R : Fin 512), R.val = k.val * 128 + r.val → h.val = H.val →
    x3 (ix2 R h) = a.P (ix2 (row b (i * 4 + k.val) r) ⟨5632 + H.val, by omega⟩)
  wx : ∀ (j : Fin 4) (c : Fin 512), x4 (ix2 j c) = a.cw j (KX c)
  wc : ∀ (j : Fin 4) (c : Fin 512), x5 (ix2 j c) = a.cw j (KC c)
  bx : ∀ c : Fin 512, x6 (ix2 0 c) = a.cb (KX c)
  bc : ∀ c : Fin 512, x7 (ix2 0 c) = a.cb (KC c)
  bi : ∀ (h : Fin 128) (H : Fin 8), h.val = H.val → x8 (ix2 0 h) = a.dtb H
  al : ∀ (h : Fin 128) (H : Fin 8), h.val = H.val → x8 (ix2 1 h) = a.al H
  ds : ∀ (h : Fin 128) (H : Fin 8), h.val = H.val → x8 (ix2 2 h) = a.ds H
  E : ∀ k c, x9 (ix2 k c) = if k.val = c.val / 64 then 1 else 0
  nw : ∀ c, x10 (ix2 0 c) = a.nw c
  e0 : ∀ (r : Fin 520) (c : Fin 512), r.val < 8 → e0 (ix2 r c) = back a b (i * 512) (8 - r.val) (KX c)
  e1 : ∀ (r : Fin 520) (c : Fin 512), r.val < 8 → e1 (ix2 r c) = back a b (i * 512) (8 - r.val) (KC c)

variable {x0 x1 x2 : Vec Ideal S512x512 .f32} {x3 : Vec Ideal S512x128 .f32} {x4 x5 : Vec Ideal S4x512 .f32} {x6 x7 : Vec Ideal S1x512 .f32}
  {x8 : Vec Ideal S8x128 .f32} {x9 : Vec Ideal S128x512 .f32} {x10 : Vec Ideal S1x512 .f32}

/-- A chunk's tiles, from blocks that are rows of a sequence. -/
theorem tiles (B : Blk a b i x0 x1 x2 x3 x4 x5 x6 x7 x8 x9 x10 e0 e1) (k : Fin 4) (n : ℕ) (hn : n = i * 4 + k.val)
    (X C : Vec Ideal S128x512 .f32) (sm : Vec Ideal S128x128 .f32)
    (hX : ∀ (r : Fin 128) (c : Fin 512), X (ix2 r c) = xsV (ext e0 x1) x1 x4 x6 (ix2 ⟨k.val * 128 + r.val, by omega⟩ c))
    (hC : ∀ (r : Fin 128) (c : Fin 512), C (ix2 r c) = csV (ext e1 x2) x2 x5 x7 (ix2 ⟨k.val * 128 + r.val, by omega⟩ c))
    (hs : ∀ (r : Fin 128) (h : Fin 128), sm (ix2 r h) = x3 (ix2 ⟨k.val * 128 + r.val, by omega⟩ h)) :
    Tiles a b n (View.ld x8 (Rect.unit ![0, 0] ![1, 128] inb_S8x128_S1x128_0_0))
      (View.ld x8 (Rect.unit ![1, 0] ![1, 128] inb_S8x128_S1x128_1_0)) x9 X C sm where
  bi h H e := by pointwise []; exact B.bi h H e
  al h H e := by pointwise []; exact B.al h H e
  E := B.E
  X r c := by
    subst hn
    rw [hX, xsV_at (K := KX) B.xs B.e0 B.wx B.bx]
    unfold xs mixed
    have e : i * 512 + (k.val * 128 + r.val) = (i * 4 + k.val) * 128 + r.val := by omega
    simp only [e]
  C r c K hK := by
    subst hn
    rw [hC, csV_at (K := KC) B.cs B.e1 B.wc B.bc]
    unfold mixed
    have e : i * 512 + (k.val * 128 + r.val) = (i * 4 + k.val) * 128 + r.val := by omega
    have e' : KC c = K := Fin.ext hK.symm
    simp only [e, e']
  sm r h H e := by subst hn; rw [hs]; exact B.sm k r h H _ rfl e

/-- The array kept from before, overwritten from its ninth row on with a block. -/
theorem shift_B0 (h : (Memref.whole (sig := sig) cc0_scratch0).IsWhole) (e : Vec Ideal S520x512 .f32) (x : Vec Ideal S512x512 .f32) :
    View.read (Elt Ideal) (View.whole (sig := sig) cc0_scratch0) ((View.whole (sig := sig) cc0_scratch0).writes (Elt Ideal) (h.unread e)
      [⟨Rect.unit ![8, 0] ![512, 512] inb_S520x512_S512x512_8_0, k0_pay4 x⟩]) = ext e x :=
  read_ext _ _ e (h.read_unread e) x _ (by funext j; pointwise [k0_pay4])

/-- The same of the second array. -/
theorem shift_B1 (h : (Memref.whole (sig := sig) cc0_scratch1).IsWhole) (e : Vec Ideal S520x512 .f32) (x : Vec Ideal S512x512 .f32) :
    View.read (Elt Ideal) (View.whole (sig := sig) cc0_scratch1) ((View.whole (sig := sig) cc0_scratch1).writes (Elt Ideal) (h.unread e)
      [⟨Rect.unit ![8, 0] ![512, 512] inb_S520x512_S512x512_8_0, k0_pay10 x⟩]) = ext e x :=
  read_ext _ _ e (h.read_unread e) x _ (by funext j; pointwise [k0_pay10])

/-- The first 128 rows that write and read the state. -/
def c0V (e : Vec Ideal S520x512 .f32) (x : Vec Ideal S512x512 .f32) (w : Vec Ideal S4x512 .f32) (bb : Vec Ideal S1x512 .f32) : FVec Ideal S128x512 .f32 :=
  k0_pay23 (k0_pay11 x (View.ld w (Rect.unit ![3, 0] ![1, 512] inb_S4x512_S1x512_3_0))
    (View.ld e (Rect.unit ![5, 0] ![512, 512] inb_S520x512_S512x512_5_0)) (View.ld w (Rect.unit ![0, 0] ![1, 512] inb_S4x512_S1x512_0_0))
    (View.ld e (Rect.unit ![6, 0] ![512, 512] inb_S520x512_S512x512_6_0)) (View.ld w (Rect.unit ![1, 0] ![1, 512] inb_S4x512_S1x512_1_0)))
    (k0_pay12 (View.ld e (Rect.unit ![7, 0] ![512, 512] inb_S520x512_S512x512_7_0)) (View.ld w (Rect.unit ![2, 0] ![1, 512] inb_S4x512_S1x512_2_0))) bb

/-- The input rows' activated convolution, folded. -/
theorem fold_xs (e : Vec Ideal S520x512 .f32) (x : Vec Ideal S512x512 .f32) (w : Vec Ideal S4x512 .f32) (bb : Vec Ideal S1x512 .f32) :
    k0_pay8 (k0_pay5 x (View.ld w (Rect.unit ![3, 0] ![1, 512] inb_S4x512_S1x512_3_0))
      (View.ld e (Rect.unit ![5, 0] ![512, 512] inb_S520x512_S512x512_5_0)) (View.ld w (Rect.unit ![0, 0] ![1, 512] inb_S4x512_S1x512_0_0))
      (View.ld e (Rect.unit ![6, 0] ![512, 512] inb_S520x512_S512x512_6_0)) (View.ld w (Rect.unit ![1, 0] ![1, 512] inb_S4x512_S1x512_1_0))
      (View.ld e (Rect.unit ![7, 0] ![512, 512] inb_S520x512_S512x512_7_0)) (View.ld w (Rect.unit ![2, 0] ![1, 512] inb_S4x512_S1x512_2_0))) bb
      = xsV e x w bb := rfl
/-- The writing and reading rows' activated convolution, folded. -/
theorem fold_cs (e : Vec Ideal S520x512 .f32) (x : Vec Ideal S512x512 .f32) (w : Vec Ideal S4x512 .f32) (bb : Vec Ideal S1x512 .f32) :
    k0_pay14 (k0_pay11 x (View.ld w (Rect.unit ![3, 0] ![1, 512] inb_S4x512_S1x512_3_0))
      (View.ld e (Rect.unit ![5, 0] ![512, 512] inb_S520x512_S512x512_5_0)) (View.ld w (Rect.unit ![0, 0] ![1, 512] inb_S4x512_S1x512_0_0))
      (View.ld e (Rect.unit ![6, 0] ![512, 512] inb_S520x512_S512x512_6_0)) (View.ld w (Rect.unit ![1, 0] ![1, 512] inb_S4x512_S1x512_1_0)))
      (k0_pay12 (View.ld e (Rect.unit ![7, 0] ![512, 512] inb_S520x512_S512x512_7_0)) (View.ld w (Rect.unit ![2, 0] ![1, 512] inb_S4x512_S1x512_2_0))) bb
      = csV e x w bb := rfl
/-- Their first 128 rows, folded. -/
theorem fold_c0 (e : Vec Ideal S520x512 .f32) (x : Vec Ideal S512x512 .f32) (w : Vec Ideal S4x512 .f32) (bb : Vec Ideal S1x512 .f32) :
    k0_pay23 (k0_pay11 x (View.ld w (Rect.unit ![3, 0] ![1, 512] inb_S4x512_S1x512_3_0))
      (View.ld e (Rect.unit ![5, 0] ![512, 512] inb_S520x512_S512x512_5_0)) (View.ld w (Rect.unit ![0, 0] ![1, 512] inb_S4x512_S1x512_0_0))
      (View.ld e (Rect.unit ![6, 0] ![512, 512] inb_S520x512_S512x512_6_0)) (View.ld w (Rect.unit ![1, 0] ![1, 512] inb_S4x512_S1x512_1_0)))
      (k0_pay12 (View.ld e (Rect.unit ![7, 0] ![512, 512] inb_S520x512_S512x512_7_0)) (View.ld w (Rect.unit ![2, 0] ![1, 512] inb_S4x512_S1x512_2_0))) bb
      = c0V e x w bb := rfl

/-- The first chunk's input rows. -/
theorem sx_0 (X : Vec Ideal S512x512 .f32) (r : Fin 128) (c : Fin 512) :
    k0_pay22 (F := Ideal) X (ix2 r c) = X (ix2 ⟨(0 : Fin 4).val * 128 + r.val, by simp; omega⟩ c) := by
  pointwise [k0_pay22]
/-- The first chunk's step sizes' rows. -/
theorem ss_0 (X : Vec Ideal S512x128 .f32) (r h : Fin 128) :
    View.ld X (Rect.unit ![0, 0] ![128, 128] inb_S512x128_S128x128_0_0) (ix2 r h) = X (ix2 ⟨(0 : Fin 4).val * 128 + r.val, by simp; omega⟩ h) := by
  pointwise []
/-- The first chunk's writing and reading rows. -/
theorem sc_0 (e : Vec Ideal S520x512 .f32) (x : Vec Ideal S512x512 .f32) (w : Vec Ideal S4x512 .f32) (bb : Vec Ideal S1x512 .f32) (r : Fin 128)
    (c : Fin 512) : c0V e x w bb (ix2 r c) = csV e x w bb (ix2 ⟨(0 : Fin 4).val * 128 + r.val, by simp; omega⟩ c) := by
  show extractStridedSlice S128x512 ![0, 0] (csV e x w bb) slices_S512x512_o0_0_S128x512 (ix2 r c) = _
  generalize csV e x w bb = X
  pointwise []

/-- The second chunk's input rows. -/
theorem sx_1 (X : Vec Ideal S512x512 .f32) (r : Fin 128) (c : Fin 512) :
    k0_pay58 (F := Ideal) X (ix2 r c) = X (ix2 ⟨(1 : Fin 4).val * 128 + r.val, by simp; omega⟩ c) := by
  pointwise [k0_pay58]
/-- The second chunk's step sizes' rows. -/
theorem ss_1 (X : Vec Ideal S512x128 .f32) (r h : Fin 128) :
    View.ld X (Rect.unit ![128, 0] ![128, 128] inb_S512x128_S128x128_128_0) (ix2 r h) = X (ix2 ⟨(1 : Fin 4).val * 128 + r.val, by simp; omega⟩ h) := by
  pointwise []
/-- The second chunk's writing and reading rows. -/
theorem sc_1 (X : Vec Ideal S512x512 .f32) (r : Fin 128) (c : Fin 512) :
    k0_pay59 (F := Ideal) X (ix2 r c) = X (ix2 ⟨(1 : Fin 4).val * 128 + r.val, by simp; omega⟩ c) := by
  pointwise [k0_pay59]

/-- The third chunk's input rows. -/
theorem sx_2 (X : Vec Ideal S512x512 .f32) (r : Fin 128) (c : Fin 512) :
    k0_pay94 (F := Ideal) X (ix2 r c) = X (ix2 ⟨(2 : Fin 4).val * 128 + r.val, by simp; omega⟩ c) := by
  pointwise [k0_pay94]
/-- The third chunk's step sizes' rows. -/
theorem ss_2 (X : Vec Ideal S512x128 .f32) (r h : Fin 128) :
    View.ld X (Rect.unit ![256, 0] ![128, 128] inb_S512x128_S128x128_256_0) (ix2 r h) = X (ix2 ⟨(2 : Fin 4).val * 128 + r.val, by simp; omega⟩ h) := by
  pointwise []
/-- The third chunk's writing and reading rows. -/
theorem sc_2 (X : Vec Ideal S512x512 .f32) (r : Fin 128) (c : Fin 512) :
    k0_pay95 (F := Ideal) X (ix2 r c) = X (ix2 ⟨(2 : Fin 4).val * 128 + r.val, by simp; omega⟩ c) := by
  pointwise [k0_pay95]

/-- The last chunk's input rows. -/
theorem sx_3 (X : Vec Ideal S512x512 .f32) (r : Fin 128) (c : Fin 512) :
    k0_pay137 (F := Ideal) X (ix2 r c) = X (ix2 ⟨(3 : Fin 4).val * 128 + r.val, by simp; omega⟩ c) := by
  pointwise [k0_pay137]
/-- The last chunk's step sizes' rows. -/
theorem ss_3 (X : Vec Ideal S512x128 .f32) (r h : Fin 128) :
    View.ld X (Rect.unit ![384, 0] ![128, 128] inb_S512x128_S128x128_384_0) (ix2 r h) = X (ix2 ⟨(3 : Fin 4).val * 128 + r.val, by simp; omega⟩ h) := by
  pointwise []
/-- The last chunk's writing and reading rows. -/
theorem sc_3 (X : Vec Ideal S512x512 .f32) (r : Fin 128) (c : Fin 512) :
    k0_pay138 (F := Ideal) X (ix2 r c) = X (ix2 ⟨(3 : Fin 4).val * 128 + r.val, by simp; omega⟩ c) := by
  pointwise [k0_pay138]

end Cert.KernelSsdIdeal.SsdBlock

end
-- ==== Proof.SsdPoint.lean ====
/-
  The state-space layer's grid point: on blocks that are 512 rows of a sequence, the rows a point stores and the state it
  leaves are the result and the state of the recurrence over the chunks, and the rows it keeps are its block's last eight.
-/
module

public import proofs.«01_k».proof.Proof.SsdBlock

@[expose] public section

set_option maxRecDepth 16384

noncomputable section

open Idealize.ShloMosaic Idealize.ShloMosaic.TcCoe Idealize.SL.Sem
open Idealize.ShloMosaic.Pipeline (Dat)

namespace Cert.KernelSsdIdeal.SsdPoint

open Cert.KernelSsdIdeal Cert.KernelSsdIdeal.Gen Cert.KernelSsdIdeal.SsdTile Cert.KernelSsdIdeal.SsdBlock Cert.Ssd
open Cert.Ret (row)

attribute [local irreducible] xsV csV c0V ext stV0 stV1 outV state result

variable {a : Par} {b i : ℕ} {x0 x1 x2 : Vec Ideal S512x512 .f32} {x3 : Vec Ideal S512x128 .f32} {x4 x5 : Vec Ideal S4x512 .f32} {x6 x7 : Vec Ideal S1x512 .f32}
  {x8 : Vec Ideal S8x128 .f32} {x9 : Vec Ideal S128x512 .f32} {x10 : Vec Ideal S1x512 .f32}

/-- The state's rectangle of a group places its index's second coordinate. -/
theorem emb_1 {o : ℕ} {inb} (x : S1x128x256.Idx) : ((Rect.unit (s := S2x128x256) ![o, 0, 0] ![1, 128, 256] inb).emb x 1).val = (x 1).val := by
  simp
/-- The same rectangle places its index's third coordinate. -/
theorem emb_2 {o : ℕ} {inb} (x : S1x128x256.Idx) : ((Rect.unit (s := S2x128x256) ![o, 0, 0] ![1, 128, 256] inb).emb x 2).val = (x 2).val := by
  simp
/-- Every index of the rectangle of group `h` has first coordinate `h`. -/
theorem emb_0 {o h : ℕ} {inb} (e : o = h) (x : S1x128x256.Idx) : ((Rect.unit (s := S2x128x256) ![o, 0, 0] ![1, 128, 256] inb).emb x 0).val = h := by
  simpa using e

/-- The rows kept of the input rows at the first point of a sequence are the block's last eight. -/
theorem keep0_A (c : Dev nD) (t : Fin cfg0.N) (h0 : t.val % 8 = 0) (r : Fin 520) (h8 : r.val < 8) (k : Fin 512) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h0) ((hcond0_2 t).mpr h0) x0 x1 x2 x3 x4 x5 x6 x7 x8 x9 x10 (ix2 r k)
      = x1 (ix2 ⟨504 + r.val, by omega⟩ k) := by
  frame_open
  simp (disch := decide) only [↓ View.readCov_skip, ↓ View.readCov_cons_toLoadRect, ↓ View.readCov_fill]
  frame_out
  rw [← View.read_writes_junk_eq_canon (View.whole (sig := sig) cc0_scratch0)]
  refine (View.read_writes_cons_unit_of_mem _ _ _ _ _ _ (ix2 ⟨r.val, h8⟩ k) rfl fun a => ?_).trans ?_
  · match a with
    | 0 => show r.val = 0 + r.val; omega
    | 1 => show k.val = 0 + k.val; omega
  · pointwise [k0_pay7, k0_pay6]

/-- The rows kept of the writing and reading rows at the first point of a sequence are the block's last eight. -/
theorem keep1_A (c : Dev nD) (t : Fin cfg0.N) (h0 : t.val % 8 = 0) (r : Fin 520) (h8 : r.val < 8) (k : Fin 512) :
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h0) ((hcond0_2 t).mpr h0) x0 x1 x2 x3 x4 x5 x6 x7 x8 x9 x10 (ix2 r k)
      = x2 (ix2 ⟨504 + r.val, by omega⟩ k) := by
  frame_open
  simp (disch := decide) only [↓ View.readCov_skip, ↓ View.readCov_cons_toLoadRect, ↓ View.readCov_fill]
  frame_out
  rw [← View.read_writes_junk_eq_canon (View.whole (sig := sig) cc0_scratch1)]
  refine (View.read_writes_cons_unit_of_mem _ _ _ _ _ _ (ix2 ⟨r.val, h8⟩ k) rfl fun a => ?_).trans ?_
  · match a with
    | 0 => show r.val = 0 + r.val; omega
    | 1 => show k.val = 0 + k.val; omega
  · pointwise [k0_pay13]

/-- The rows kept of the input rows at a later point of a sequence are the block's last eight. -/
theorem keep0_B (c : Dev nD) (t : Fin cfg0.N) (h0 : ¬t.val % 8 = 0) (e0 e1 : Vec Ideal S520x512 .f32) (S : Vec Ideal S2x128x256 .f32) (r : Fin 520) (h8 : r.val < 8) (k : Fin 512) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h0 ((hcond0_1 t).mp h)) (fun h => h0 ((hcond0_2 t).mp h)) x0 x1 x2 x3 x4 x5 x6 x7 x8 x9 x10 e0 e1 S (ix2 r k)
      = x1 (ix2 ⟨504 + r.val, by omega⟩ k) := by
  frame_open
  simp (disch := decide) only [↓ View.readCov_skip, ↓ View.readCov_cons_toLoadRect, ↓ View.readCov_fill]
  frame_out
  rw [← View.read_writes_junk_eq_canon (View.whole (sig := sig) cc0_scratch0)]
  refine (View.read_writes_cons_unit_of_mem _ _ _ _ _ _ (ix2 ⟨r.val, h8⟩ k) rfl fun a => ?_).trans ?_
  · match a with
    | 0 => show r.val = 0 + r.val; omega
    | 1 => show k.val = 0 + k.val; omega
  · pointwise [k0_pay7, k0_pay6]

/-- The rows kept of the writing and reading rows at a later point of a sequence are the block's last eight. -/
theorem keep1_B (c : Dev nD) (t : Fin cfg0.N) (h0 : ¬t.val % 8 = 0) (e0 e1 : Vec Ideal S520x512 .f32) (S : Vec Ideal S2x128x256 .f32) (r : Fin 520) (h8 : r.val < 8) (k : Fin 512) :
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h0 ((hcond0_1 t).mp h)) (fun h => h0 ((hcond0_2 t).mp h)) x0 x1 x2 x3 x4 x5 x6 x7 x8 x9 x10 e0 e1 S (ix2 r k)
      = x2 (ix2 ⟨504 + r.val, by omega⟩ k) := by
  frame_open
  simp (disch := decide) only [↓ View.readCov_skip, ↓ View.readCov_cons_toLoadRect, ↓ View.readCov_fill]
  frame_out
  rw [← View.read_writes_junk_eq_canon (View.whole (sig := sig) cc0_scratch1)]
  refine (View.read_writes_cons_unit_of_mem _ _ _ _ _ _ (ix2 ⟨r.val, h8⟩ k) rfl fun a => ?_).trans ?_
  · match a with
    | 0 => show r.val = 0 + r.val; omega
    | 1 => show k.val = 0 + k.val; omega
  · pointwise [k0_pay13]

set_option maxHeartbeats 3200000 in
/-- The state left at the first point of a sequence is the recurrence after the block's four chunks. -/
theorem st_A (c : Dev nD) (t : Fin cfg0.N) (h0 : t.val % 8 = 0)
    (B : Blk a b i x0 x1 x2 x3 x4 x5 x6 x7 x8 x9 x10 (fun _ => (0 : EReal)) (fun _ => (0 : EReal)))
    (E : ∀ (g : Fin 2) (k : Fin 128) (j : Fin 256) (c : Fin 512), c.val = g.val * 256 + j.val → k0_pay2 (F := Ideal) (ix3 g k j) = state a b (i * 4) k c)
    (G : S2x128x256.Idx → EReal)
    (D : ∀ (g : Fin 2) (k : Fin 128) (j : Fin 256) (c : Fin 512) (y : S2x128x256.Idx), (y 0).val = g.val → (y 1).val = k.val → (y 2).val = j.val →
      c.val = g.val * 256 + j.val → G y = state a b (i * 4 + 4) k c) (y : S2x128x256.Idx) :
    sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h0) ((hcond0_2 t).mpr h0) x0 x1 x2 x3 x4 x5 x6 x7 x8 x9 x10 y = G y := by
  frame_open
  simp (disch := decide) only [↓ View.readCov_skip, ↓ View.readCov_cons_toLoadRect, ↓ View.readCov_fill]
  frame_out
  simp only [shift_A0 inb_S520x512_S512x512_5_0 x1, shift_A0 inb_S520x512_S512x512_6_0 x1, shift_A0 inb_S520x512_S512x512_7_0 x1,
    shift_A1 inb_S520x512_S512x512_5_0 x2, shift_A1 inb_S520x512_S512x512_6_0 x2, shift_A1 inb_S520x512_S512x512_7_0 x2]
  generalize k0_pay2 (F := Ideal) = S at E ⊢
  simp only [fold_xs, fold_cs, fold_c0]
  simp only [SsdFold.st0_0, SsdFold.st0_1, SsdFold.st0_2, SsdFold.st0_3, SsdFold.st1_0, SsdFold.st1_1, SsdFold.st1_2, SsdFold.st1_3]
  refine View.canon_append_of_piecesOf (Val := Elt Ideal) (e := .f32) G _ [_, _] ⟨?_, ?_, trivial⟩ y ?_
  · intro (x : S1x128x256.Idx)
    refine Eq.trans ?_ (D 1 (x 1) (x 2) ⟨1 * 256 + (x 2).val, by have : (x 2).val < 256 := (x 2).isLt; omega⟩ _ ?_ ?_ ?_ (by simp)).symm
    rotate_left
    · exact emb_0 (inb := inb_S2x128x256_S1x128x256_1_0_0) rfl x
    · exact emb_1 (inb := inb_S2x128x256_S1x128x256_1_0_0) x
    · exact emb_2 (inb := inb_S2x128x256_S1x128x256_1_0_0) x
    obtain ⟨r, j, rfl⟩ : ∃ r j, x = ix3 0 r j := ⟨x 1, x 2, (eq_ix3 x).trans (congrArg (ix3 · _ _) (Subsingleton.elim _ _))⟩
    exact step1_at (tiles B 3 (i * 4 + 3) (by simp) _ _ _ (fun r c => sx_3 _ r c) (fun r c => sc_3 _ r c) (fun r h => ss_3 _ r h))
        (step1_at (tiles B 2 (i * 4 + 2) (by simp) _ _ _ (fun r c => sx_2 _ r c) (fun r c => sc_2 _ r c) (fun r h => ss_2 _ r h))
          (step1_at (tiles B 1 (i * 4 + 1) (by simp) _ _ _ (fun r c => sx_1 _ r c) (fun r c => sc_1 _ r c) (fun r h => ss_1 _ r h))
            (step1_at (tiles B 0 (i * 4) (by simp) _ _ _ (fun r c => sx_0 _ r c) (fun r c => sc_0 _ _ _ _ r c) (fun r h => ss_0 _ r h))
              (fun k j c hc => by pointwise []; exact E 1 k j c (by simp; omega))))) r j _ (by simp)
  · intro (x : S1x128x256.Idx)
    refine Eq.trans ?_ (D 0 (x 1) (x 2) ⟨0 * 256 + (x 2).val, by have : (x 2).val < 256 := (x 2).isLt; omega⟩ _ ?_ ?_ ?_ (by simp)).symm
    rotate_left
    · exact emb_0 (inb := inb_S2x128x256_S1x128x256_0_0_0) rfl x
    · exact emb_1 (inb := inb_S2x128x256_S1x128x256_0_0_0) x
    · exact emb_2 (inb := inb_S2x128x256_S1x128x256_0_0_0) x
    obtain ⟨r, j, rfl⟩ : ∃ r j, x = ix3 0 r j := ⟨x 1, x 2, (eq_ix3 x).trans (congrArg (ix3 · _ _) (Subsingleton.elim _ _))⟩
    exact step0_at (tiles B 3 (i * 4 + 3) (by simp) _ _ _ (fun r c => sx_3 _ r c) (fun r c => sc_3 _ r c) (fun r h => ss_3 _ r h))
        (step0_at (tiles B 2 (i * 4 + 2) (by simp) _ _ _ (fun r c => sx_2 _ r c) (fun r c => sc_2 _ r c) (fun r h => ss_2 _ r h))
          (step0_at (tiles B 1 (i * 4 + 1) (by simp) _ _ _ (fun r c => sx_1 _ r c) (fun r c => sc_1 _ r c) (fun r h => ss_1 _ r h))
            (step0_at (tiles B 0 (i * 4) (by simp) _ _ _ (fun r c => sx_0 _ r c) (fun r c => sc_0 _ _ _ _ r c) (fun r h => ss_0 _ r h))
              (fun k j c hc => by pointwise []; exact E 0 k j c (by simp; omega))))) r j _ (by simp)
  · exact View.cover_of_tiledL (s := S2x128x256) _ S1x128x256.size (by sl_kernel_rfl) y

set_option maxHeartbeats 3200000 in
/-- The state left at a later point of a sequence is the recurrence after the block's four chunks. -/
theorem st_B (c : Dev nD) (t : Fin cfg0.N) (h0 : ¬t.val % 8 = 0) (e0 e1 : Vec Ideal S520x512 .f32) (S : Vec Ideal S2x128x256 .f32)
    (B : Blk a b i x0 x1 x2 x3 x4 x5 x6 x7 x8 x9 x10 e0 e1)
    (E : ∀ (g : Fin 2) (k : Fin 128) (j : Fin 256) (c : Fin 512), c.val = g.val * 256 + j.val → S (ix3 g k j) = state a b (i * 4) k c)
    (G : S2x128x256.Idx → EReal)
    (D : ∀ (g : Fin 2) (k : Fin 128) (j : Fin 256) (c : Fin 512) (y : S2x128x256.Idx), (y 0).val = g.val → (y 1).val = k.val → (y 2).val = j.val →
      c.val = g.val * 256 + j.val → G y = state a b (i * 4 + 4) k c) (y : S2x128x256.Idx) :
    sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h0 ((hcond0_1 t).mp h)) (fun h => h0 ((hcond0_2 t).mp h)) x0 x1 x2 x3 x4 x5 x6 x7 x8 x9 x10 e0 e1 S y = G y := by
  frame_open
  simp (disch := decide) only [↓ View.readCov_skip, ↓ View.readCov_cons_toLoadRect, ↓ View.readCov_fill]
  frame_out
  simp only [read_unread_whole, shift_B0 (Memref.isWhole_whole _) e0 x1, shift_B1 (Memref.isWhole_whole _) e1 x2]
  simp only [fold_xs, fold_cs, fold_c0]
  simp only [SsdFold.st0_0, SsdFold.st0_1, SsdFold.st0_2, SsdFold.st0_3, SsdFold.st1_0, SsdFold.st1_1, SsdFold.st1_2, SsdFold.st1_3]
  refine View.canon_append_of_piecesOf (Val := Elt Ideal) (e := .f32) G _ [_, _] ⟨?_, ?_, trivial⟩ y ?_
  · intro (x : S1x128x256.Idx)
    refine Eq.trans ?_ (D 1 (x 1) (x 2) ⟨1 * 256 + (x 2).val, by have : (x 2).val < 256 := (x 2).isLt; omega⟩ _ ?_ ?_ ?_ (by simp)).symm
    rotate_left
    · exact emb_0 (inb := inb_S2x128x256_S1x128x256_1_0_0) rfl x
    · exact emb_1 (inb := inb_S2x128x256_S1x128x256_1_0_0) x
    · exact emb_2 (inb := inb_S2x128x256_S1x128x256_1_0_0) x
    obtain ⟨r, j, rfl⟩ : ∃ r j, x = ix3 0 r j := ⟨x 1, x 2, (eq_ix3 x).trans (congrArg (ix3 · _ _) (Subsingleton.elim _ _))⟩
    exact step1_at (tiles B 3 (i * 4 + 3) (by simp) _ _ _ (fun r c => sx_3 _ r c) (fun r c => sc_3 _ r c) (fun r h => ss_3 _ r h))
        (step1_at (tiles B 2 (i * 4 + 2) (by simp) _ _ _ (fun r c => sx_2 _ r c) (fun r c => sc_2 _ r c) (fun r h => ss_2 _ r h))
          (step1_at (tiles B 1 (i * 4 + 1) (by simp) _ _ _ (fun r c => sx_1 _ r c) (fun r c => sc_1 _ r c) (fun r h => ss_1 _ r h))
            (step1_at (tiles B 0 (i * 4) (by simp) _ _ _ (fun r c => sx_0 _ r c) (fun r c => sc_0 _ _ _ _ r c) (fun r h => ss_0 _ r h))
              (fun k j c hc => by pointwise []; exact E 1 k j c (by simp; omega))))) r j _ (by simp)
  · intro (x : S1x128x256.Idx)
    refine Eq.trans ?_ (D 0 (x 1) (x 2) ⟨0 * 256 + (x 2).val, by have : (x 2).val < 256 := (x 2).isLt; omega⟩ _ ?_ ?_ ?_ (by simp)).symm
    rotate_left
    · exact emb_0 (inb := inb_S2x128x256_S1x128x256_0_0_0) rfl x
    · exact emb_1 (inb := inb_S2x128x256_S1x128x256_0_0_0) x
    · exact emb_2 (inb := inb_S2x128x256_S1x128x256_0_0_0) x
    obtain ⟨r, j, rfl⟩ : ∃ r j, x = ix3 0 r j := ⟨x 1, x 2, (eq_ix3 x).trans (congrArg (ix3 · _ _) (Subsingleton.elim _ _))⟩
    exact step0_at (tiles B 3 (i * 4 + 3) (by simp) _ _ _ (fun r c => sx_3 _ r c) (fun r c => sc_3 _ r c) (fun r h => ss_3 _ r h))
        (step0_at (tiles B 2 (i * 4 + 2) (by simp) _ _ _ (fun r c => sx_2 _ r c) (fun r c => sc_2 _ r c) (fun r h => ss_2 _ r h))
          (step0_at (tiles B 1 (i * 4 + 1) (by simp) _ _ _ (fun r c => sx_1 _ r c) (fun r c => sc_1 _ r c) (fun r h => ss_1 _ r h))
            (step0_at (tiles B 0 (i * 4) (by simp) _ _ _ (fun r c => sx_0 _ r c) (fun r c => sc_0 _ _ _ _ r c) (fun r h => ss_0 _ r h))
              (fun k j c hc => by pointwise []; exact E 0 k j c (by simp; omega))))) r j _ (by simp)
  · exact View.cover_of_tiledL (s := S2x128x256) _ S1x128x256.size (by sl_kernel_rfl) y

set_option maxHeartbeats 3200000 in
/-- The rows stored at the first point of a sequence are the result, at any array of it the rows are. -/
theorem out_A (c : Dev nD) (t : Fin cfg0.N) (h0 : t.val % 8 = 0)
    (B : Blk a b i x0 x1 x2 x3 x4 x5 x6 x7 x8 x9 x10 (fun _ => (0 : EReal)) (fun _ => (0 : EReal)))
    (E : ∀ (g : Fin 2) (k : Fin 128) (j : Fin 256) (c : Fin 512), c.val = g.val * 256 + j.val → k0_pay2 (F := Ideal) (ix3 g k j) = state a b (i * 4) k c)
    (G : S512x512.Idx → EReal)
    (D : ∀ (k : Fin 4) (r : Fin 128) (c : Fin 512) (y : S512x512.Idx), (y 0).val = k.val * 128 + r.val → (y 1).val = c.val →
      G y = result a b (i * 4 + k.val) r c) (y : S512x512.Idx) :
    out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h0) ((hcond0_2 t).mpr h0) x0 x1 x2 x3 x4 x5 x6 x7 x8 x9 x10 y = G y := by
  frame_open
  simp (disch := decide) only [↓ View.readCov_skip, ↓ View.readCov_cons_toLoadRect, ↓ View.readCov_fill]
  frame_out
  simp only [shift_A0 inb_S520x512_S512x512_5_0 x1, shift_A0 inb_S520x512_S512x512_6_0 x1, shift_A0 inb_S520x512_S512x512_7_0 x1,
    shift_A1 inb_S520x512_S512x512_5_0 x2, shift_A1 inb_S520x512_S512x512_6_0 x2, shift_A1 inb_S520x512_S512x512_7_0 x2]
  generalize k0_pay2 (F := Ideal) = S at E ⊢
  simp only [fold_xs, fold_cs, fold_c0]
  simp only [SsdFold.st0_0, SsdFold.st0_1, SsdFold.st0_2, SsdFold.st0_3, SsdFold.st1_0, SsdFold.st1_1, SsdFold.st1_2, SsdFold.st1_3]
  canon_tiles x h
  · refine Eq.trans ?_ (D 3 (x 0) (x 1) y (by first | exact h0 | simp; omega) (by first | exact h1 | simp; omega)).symm
    obtain ⟨r, c, rfl⟩ : ∃ r c, x = ix2 r c := ⟨_, _, eq_ix2 x⟩
    refine (congrFun (SsdFold.out_3 _ _ _ _ _ _ _ _ _ _ _) (ix2 r c)).trans ?_
    exact out_at (tiles B 3 (i * 4 + 3) (by simp) _ _ _ (fun r c => sx_3 _ r c) (fun r c => sc_3 _ r c) (fun r h => ss_3 _ r h))
      (fun h H e => by pointwise []; exact B.ds h H e) (fun r c => by pointwise []; exact B.z 3 r _ c (by simp))
      (step0_at (tiles B 2 (i * 4 + 2) (by simp) _ _ _ (fun r c => sx_2 _ r c) (fun r c => sc_2 _ r c) (fun r h => ss_2 _ r h))
        (step0_at (tiles B 1 (i * 4 + 1) (by simp) _ _ _ (fun r c => sx_1 _ r c) (fun r c => sc_1 _ r c) (fun r h => ss_1 _ r h))
          (step0_at (tiles B 0 (i * 4) (by simp) _ _ _ (fun r c => sx_0 _ r c) (fun r c => sc_0 _ _ _ _ r c) (fun r h => ss_0 _ r h))
            (fun k j c hc => by pointwise []; exact E 0 k j c (by simp; omega)))))
      (step1_at (tiles B 2 (i * 4 + 2) (by simp) _ _ _ (fun r c => sx_2 _ r c) (fun r c => sc_2 _ r c) (fun r h => ss_2 _ r h))
        (step1_at (tiles B 1 (i * 4 + 1) (by simp) _ _ _ (fun r c => sx_1 _ r c) (fun r c => sc_1 _ r c) (fun r h => ss_1 _ r h))
          (step1_at (tiles B 0 (i * 4) (by simp) _ _ _ (fun r c => sx_0 _ r c) (fun r c => sc_0 _ _ _ _ r c) (fun r h => ss_0 _ r h))
            (fun k j c hc => by pointwise []; exact E 1 k j c (by simp; omega)))))
      B.nw r c
  · refine Eq.trans ?_ (D 2 (x 0) (x 1) y (by first | exact h0 | simp; omega) (by first | exact h1 | simp; omega)).symm
    obtain ⟨r, c, rfl⟩ : ∃ r c, x = ix2 r c := ⟨_, _, eq_ix2 x⟩
    refine (congrFun (SsdFold.out_2 _ _ _ _ _ _ _ _ _ _ _) (ix2 r c)).trans ?_
    exact out_at (tiles B 2 (i * 4 + 2) (by simp) _ _ _ (fun r c => sx_2 _ r c) (fun r c => sc_2 _ r c) (fun r h => ss_2 _ r h))
      (fun h H e => by pointwise []; exact B.ds h H e) (fun r c => by pointwise []; exact B.z 2 r _ c (by simp))
      (step0_at (tiles B 1 (i * 4 + 1) (by simp) _ _ _ (fun r c => sx_1 _ r c) (fun r c => sc_1 _ r c) (fun r h => ss_1 _ r h))
        (step0_at (tiles B 0 (i * 4) (by simp) _ _ _ (fun r c => sx_0 _ r c) (fun r c => sc_0 _ _ _ _ r c) (fun r h => ss_0 _ r h))
          (fun k j c hc => by pointwise []; exact E 0 k j c (by simp; omega))))
      (step1_at (tiles B 1 (i * 4 + 1) (by simp) _ _ _ (fun r c => sx_1 _ r c) (fun r c => sc_1 _ r c) (fun r h => ss_1 _ r h))
        (step1_at (tiles B 0 (i * 4) (by simp) _ _ _ (fun r c => sx_0 _ r c) (fun r c => sc_0 _ _ _ _ r c) (fun r h => ss_0 _ r h))
          (fun k j c hc => by pointwise []; exact E 1 k j c (by simp; omega))))
      B.nw r c
  · refine Eq.trans ?_ (D 1 (x 0) (x 1) y (by first | exact h0 | simp; omega) (by first | exact h1 | simp; omega)).symm
    obtain ⟨r, c, rfl⟩ : ∃ r c, x = ix2 r c := ⟨_, _, eq_ix2 x⟩
    refine (congrFun (SsdFold.out_1 _ _ _ _ _ _ _ _ _ _ _) (ix2 r c)).trans ?_
    exact out_at (tiles B 1 (i * 4 + 1) (by simp) _ _ _ (fun r c => sx_1 _ r c) (fun r c => sc_1 _ r c) (fun r h => ss_1 _ r h))
      (fun h H e => by pointwise []; exact B.ds h H e) (fun r c => by pointwise []; exact B.z 1 r _ c (by simp))
      (step0_at (tiles B 0 (i * 4) (by simp) _ _ _ (fun r c => sx_0 _ r c) (fun r c => sc_0 _ _ _ _ r c) (fun r h => ss_0 _ r h))
        (fun k j c hc => by pointwise []; exact E 0 k j c (by simp; omega)))
      (step1_at (tiles B 0 (i * 4) (by simp) _ _ _ (fun r c => sx_0 _ r c) (fun r c => sc_0 _ _ _ _ r c) (fun r h => ss_0 _ r h))
        (fun k j c hc => by pointwise []; exact E 1 k j c (by simp; omega)))
      B.nw r c
  · refine Eq.trans ?_ (D 0 (x 0) (x 1) y (by first | exact h0 | simp; omega) (by first | exact h1 | simp; omega)).symm
    obtain ⟨r, c, rfl⟩ : ∃ r c, x = ix2 r c := ⟨_, _, eq_ix2 x⟩
    refine (congrFun (SsdFold.out_0 _ _ _ _ _ _ _ _ _ _ _) (ix2 r c)).trans ?_
    exact out_at (tiles B 0 (i * 4) (by simp) _ _ _ (fun r c => sx_0 _ r c) (fun r c => sc_0 _ _ _ _ r c) (fun r h => ss_0 _ r h))
      (fun h H e => by pointwise []; exact B.ds h H e) (fun r c => by pointwise []; exact B.z 0 r _ c (by simp))
      (fun k j c hc => by pointwise []; exact E 0 k j c (by simp; omega))
      (fun k j c hc => by pointwise []; exact E 1 k j c (by simp; omega))
      B.nw r c

set_option maxHeartbeats 3200000 in
/-- The rows stored at a later point of a sequence are the result, at any array of it the rows are. -/
theorem out_B (c : Dev nD) (t : Fin cfg0.N) (h0 : ¬t.val % 8 = 0) (e0 e1 : Vec Ideal S520x512 .f32) (S : Vec Ideal S2x128x256 .f32)
    (B : Blk a b i x0 x1 x2 x3 x4 x5 x6 x7 x8 x9 x10 e0 e1)
    (E : ∀ (g : Fin 2) (k : Fin 128) (j : Fin 256) (c : Fin 512), c.val = g.val * 256 + j.val → S (ix3 g k j) = state a b (i * 4) k c)
    (G : S512x512.Idx → EReal)
    (D : ∀ (k : Fin 4) (r : Fin 128) (c : Fin 512) (y : S512x512.Idx), (y 0).val = k.val * 128 + r.val → (y 1).val = c.val →
      G y = result a b (i * 4 + k.val) r c) (y : S512x512.Idx) :
    out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h0 ((hcond0_1 t).mp h)) (fun h => h0 ((hcond0_2 t).mp h)) x0 x1 x2 x3 x4 x5 x6 x7 x8 x9 x10 e0 e1 S y = G y := by
  frame_open
  simp (disch := decide) only [↓ View.readCov_skip, ↓ View.readCov_cons_toLoadRect, ↓ View.readCov_fill]
  frame_out
  simp only [read_unread_whole, shift_B0 (Memref.isWhole_whole _) e0 x1, shift_B1 (Memref.isWhole_whole _) e1 x2]
  simp only [fold_xs, fold_cs, fold_c0]
  simp only [SsdFold.st0_0, SsdFold.st0_1, SsdFold.st0_2, SsdFold.st0_3, SsdFold.st1_0, SsdFold.st1_1, SsdFold.st1_2, SsdFold.st1_3]
  canon_tiles x h
  · refine Eq.trans ?_ (D 3 (x 0) (x 1) y (by first | exact h0 | simp; omega) (by first | exact h1 | simp; omega)).symm
    obtain ⟨r, c, rfl⟩ : ∃ r c, x = ix2 r c := ⟨_, _, eq_ix2 x⟩
    refine (congrFun (SsdFold.out_3 _ _ _ _ _ _ _ _ _ _ _) (ix2 r c)).trans ?_
    exact out_at (tiles B 3 (i * 4 + 3) (by simp) _ _ _ (fun r c => sx_3 _ r c) (fun r c => sc_3 _ r c) (fun r h => ss_3 _ r h))
      (fun h H e => by pointwise []; exact B.ds h H e) (fun r c => by pointwise []; exact B.z 3 r _ c (by simp))
      (step0_at (tiles B 2 (i * 4 + 2) (by simp) _ _ _ (fun r c => sx_2 _ r c) (fun r c => sc_2 _ r c) (fun r h => ss_2 _ r h))
        (step0_at (tiles B 1 (i * 4 + 1) (by simp) _ _ _ (fun r c => sx_1 _ r c) (fun r c => sc_1 _ r c) (fun r h => ss_1 _ r h))
          (step0_at (tiles B 0 (i * 4) (by simp) _ _ _ (fun r c => sx_0 _ r c) (fun r c => sc_0 _ _ _ _ r c) (fun r h => ss_0 _ r h))
            (fun k j c hc => by pointwise []; exact E 0 k j c (by simp; omega)))))
      (step1_at (tiles B 2 (i * 4 + 2) (by simp) _ _ _ (fun r c => sx_2 _ r c) (fun r c => sc_2 _ r c) (fun r h => ss_2 _ r h))
        (step1_at (tiles B 1 (i * 4 + 1) (by simp) _ _ _ (fun r c => sx_1 _ r c) (fun r c => sc_1 _ r c) (fun r h => ss_1 _ r h))
          (step1_at (tiles B 0 (i * 4) (by simp) _ _ _ (fun r c => sx_0 _ r c) (fun r c => sc_0 _ _ _ _ r c) (fun r h => ss_0 _ r h))
            (fun k j c hc => by pointwise []; exact E 1 k j c (by simp; omega)))))
      B.nw r c
  · refine Eq.trans ?_ (D 2 (x 0) (x 1) y (by first | exact h0 | simp; omega) (by first | exact h1 | simp; omega)).symm
    obtain ⟨r, c, rfl⟩ : ∃ r c, x = ix2 r c := ⟨_, _, eq_ix2 x⟩
    refine (congrFun (SsdFold.out_2 _ _ _ _ _ _ _ _ _ _ _) (ix2 r c)).trans ?_
    exact out_at (tiles B 2 (i * 4 + 2) (by simp) _ _ _ (fun r c => sx_2 _ r c) (fun r c => sc_2 _ r c) (fun r h => ss_2 _ r h))
      (fun h H e => by pointwise []; exact B.ds h H e) (fun r c => by pointwise []; exact B.z 2 r _ c (by simp))
      (step0_at (tiles B 1 (i * 4 + 1) (by simp) _ _ _ (fun r c => sx_1 _ r c) (fun r c => sc_1 _ r c) (fun r h => ss_1 _ r h))
        (step0_at (tiles B 0 (i * 4) (by simp) _ _ _ (fun r c => sx_0 _ r c) (fun r c => sc_0 _ _ _ _ r c) (fun r h => ss_0 _ r h))
          (fun k j c hc => by pointwise []; exact E 0 k j c (by simp; omega))))
      (step1_at (tiles B 1 (i * 4 + 1) (by simp) _ _ _ (fun r c => sx_1 _ r c) (fun r c => sc_1 _ r c) (fun r h => ss_1 _ r h))
        (step1_at (tiles B 0 (i * 4) (by simp) _ _ _ (fun r c => sx_0 _ r c) (fun r c => sc_0 _ _ _ _ r c) (fun r h => ss_0 _ r h))
          (fun k j c hc => by pointwise []; exact E 1 k j c (by simp; omega))))
      B.nw r c
  · refine Eq.trans ?_ (D 1 (x 0) (x 1) y (by first | exact h0 | simp; omega) (by first | exact h1 | simp; omega)).symm
    obtain ⟨r, c, rfl⟩ : ∃ r c, x = ix2 r c := ⟨_, _, eq_ix2 x⟩
    refine (congrFun (SsdFold.out_1 _ _ _ _ _ _ _ _ _ _ _) (ix2 r c)).trans ?_
    exact out_at (tiles B 1 (i * 4 + 1) (by simp) _ _ _ (fun r c => sx_1 _ r c) (fun r c => sc_1 _ r c) (fun r h => ss_1 _ r h))
      (fun h H e => by pointwise []; exact B.ds h H e) (fun r c => by pointwise []; exact B.z 1 r _ c (by simp))
      (step0_at (tiles B 0 (i * 4) (by simp) _ _ _ (fun r c => sx_0 _ r c) (fun r c => sc_0 _ _ _ _ r c) (fun r h => ss_0 _ r h))
        (fun k j c hc => by pointwise []; exact E 0 k j c (by simp; omega)))
      (step1_at (tiles B 0 (i * 4) (by simp) _ _ _ (fun r c => sx_0 _ r c) (fun r c => sc_0 _ _ _ _ r c) (fun r h => ss_0 _ r h))
        (fun k j c hc => by pointwise []; exact E 1 k j c (by simp; omega)))
      B.nw r c
  · refine Eq.trans ?_ (D 0 (x 0) (x 1) y (by first | exact h0 | simp; omega) (by first | exact h1 | simp; omega)).symm
    obtain ⟨r, c, rfl⟩ : ∃ r c, x = ix2 r c := ⟨_, _, eq_ix2 x⟩
    refine (congrFun (SsdFold.out_0 _ _ _ _ _ _ _ _ _ _ _) (ix2 r c)).trans ?_
    exact out_at (tiles B 0 (i * 4) (by simp) _ _ _ (fun r c => sx_0 _ r c) (fun r c => sc_0 _ _ _ _ r c) (fun r h => ss_0 _ r h))
      (fun h H e => by pointwise []; exact B.ds h H e) (fun r c => by pointwise []; exact B.z 0 r _ c (by simp))
      (fun k j c hc => by pointwise []; exact E 0 k j c (by simp; omega))
      (fun k j c hc => by pointwise []; exact E 1 k j c (by simp; omega))
      B.nw r c

end Cert.KernelSsdIdeal.SsdPoint

end
-- ==== Proof.SsdWin.lean ====
/-
  The state-space layer's blocks: at every point of the grid the kernel's blocks are rows of the projected array and the
  layer's weights, as the recurrence over the chunks reads them.
-/
module

public import proofs.«01_k».proof.Proof.Gen.KernelSsdIdeal.Frame
public import proofs.«01_k».proof.Proof.SsdBlock
public import Idealize.ShloMosaic.Lib.Pipeline.ValueKit
public import Idealize.ShloMosaic.Lib.Pointwise
public import Idealize.ShloMosaic.Lib.Routing.OpsSet

@[expose] public section

set_option maxRecDepth 16384

noncomputable section

open Idealize.ShloMosaic Idealize.ShloMosaic.TcCoe Idealize.SL.Sem
open Idealize.ShloMosaic.Pipeline (Dat)

namespace Cert.KernelSsdIdeal.SsdWin

open Cert.KernelSsdIdeal Cert.KernelSsdIdeal.Gen Cert.KernelSsdIdeal.SsdBlock Cert.Ssd
open Cert.Ret (row)

variable (m : (ℓ : Loc nD τ sig) → Buf (Elt Ideal) ℓ)

/-- The block indices of the windows at a grid point. -/
theorem idx : ∀ t : Fin cfg0.N, win0_0.index t = ![t.val, 4] ∧ win0_1.index t = ![t.val, 5] ∧ win0_2.index t = ![t.val, 6]
    ∧ win0_3.index t = ![t.val, 44] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![t.val, 0] :=
  (by decide +kernel : ∀ t : Fin grid0.N, _)

/-- The layer's arguments, as the memory holds them. -/
abbrev par (c : Dev nD) : Par :=
  args (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

set_option maxHeartbeats 3200000 in
/-- The three rows of per-head numbers in an array of eight rows, as the kernel's program makes it. -/
theorem hp_eq (c : Dev nD) : V m c main_v9 = Host.scatter scatter_S8x128_S2_S3x8_01_n_01_0 (fun _ b => b)
    (broadcastInDim S8x128 ![] bcast_S_S8x128 (constant (F := Ideal) S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    (concatenate S3x8 0 [⟨S1x8, broadcastInDim S1x8 ![1] bcast_S8_S1x8_1 (m ((c.tc : Thread nD τ).loc main_arg3))⟩,
      ⟨S1x8, broadcastInDim S1x8 ![1] bcast_S8_S1x8_1 (m ((c.tc : Thread nD τ).loc main_arg4))⟩,
      ⟨S1x8, broadcastInDim S1x8 ![1] bcast_S8_S1x8_1 (m ((c.tc : Thread nD τ).loc main_arg5))⟩] concatenates_S1x8_S1x8_S1x8_S3x8_d0) := by
  rfl

/-- The table that repeats a head's number over its columns, as the kernel's program makes it. -/
theorem ex_eq (c : Dev nD) : V m c main_v17 = shapeCast S128x512 (broadcastInDim S128x8x64 ![0, 1] bcast_S128x8_S128x8x64_0_1
    (uitofp (F := Ideal) .f32 (cmpi .eq (addi (iotaInDim S128x8 32 0) (broadcastInDim S128x8 ![] bcast_S_S128x8 (constantI S_ 32 0#32)))
      (iotaInDim S128x8 32 1)))) shapeCasts_S128x8x64_S128x512 := by
  entry_read
  rfl

/-- The input columns' weights of the convolution, as the kernel's program makes them. -/
theorem wx_eq (c : Dev nD) : V m c main_v18 = extractStridedSlice S4x512 ![0, 0] (m ((c.tc : Thread nD τ).loc main_arg1)) slices_S4x1024_S4x512_0_0 := by
  entry_read
  rfl
/-- The other columns' weights of the convolution, as the kernel's program makes them. -/
theorem wc_eq (c : Dev nD) : V m c main_v19 = extractStridedSlice S4x512 ![0, 512] (m ((c.tc : Thread nD τ).loc main_arg1)) slices_S4x1024_S4x512_0_512 := by
  entry_read
  rfl
/-- The input columns' bias of the convolution, as the kernel's program makes it. -/
theorem bx_eq (c : Dev nD) : V m c main_v21 = broadcastInDim S1x512 ![1] bcast_S512_S1x512_1
    (extractStridedSlice S512 ![0] (m ((c.tc : Thread nD τ).loc main_arg2)) slices_S1024_S512_0) := by
  entry_read
  rfl
/-- The other columns' bias of the convolution, as the kernel's program makes it. -/
theorem bc_eq (c : Dev nD) : V m c main_v23 = broadcastInDim S1x512 ![1] bcast_S512_S1x512_1
    (extractStridedSlice S512 ![512] (m ((c.tc : Thread nD τ).loc main_arg2)) slices_S1024_S512_512) := by
  entry_read
  rfl
/-- The norm's weights, as the kernel's program makes them. -/
theorem nw_eq (c : Dev nD) : V m c main_v0 = broadcastInDim S1x512 ![1] bcast_S512_S1x512_1 (m ((c.tc : Thread nD τ).loc main_arg6)) := by
  entry_read
  rfl

/-- The rows of the gate columns at a grid point are the array's. -/
theorem x0_eq (c : Dev nD) (t : Fin cfg0.N) (R k : Fin 512) : X0_0 m c t (ix2 R k) = m ((c.tc : Thread nD τ).loc main_arg0)
    (ix2 (⟨t.val * 512 + R.val, by have := lt_of_lt_of_eq t.isLt N_0; omega⟩ : Fin 16384) (⟨4 * 512 + k.val, by omega⟩ : Fin 5760)) := by
  unfold X0_0 Pipeline.Window.fill
  rw [dif_pos (moved0_0 t (ix2 R k))]
  blk_point [iblk, V, idx t]

/-- The rows of the input columns at a grid point are the array's. -/
theorem x1_eq (c : Dev nD) (t : Fin cfg0.N) (R k : Fin 512) : X0_1 m c t (ix2 R k) = m ((c.tc : Thread nD τ).loc main_arg0)
    (ix2 (⟨t.val * 512 + R.val, by have := lt_of_lt_of_eq t.isLt N_0; omega⟩ : Fin 16384) (⟨5 * 512 + k.val, by omega⟩ : Fin 5760)) := by
  unfold X0_1 Pipeline.Window.fill
  rw [dif_pos (moved0_1 t (ix2 R k))]
  blk_point [iblk, V, idx t]

/-- The rows of the writing and reading columns at a grid point are the array's. -/
theorem x2_eq (c : Dev nD) (t : Fin cfg0.N) (R k : Fin 512) : X0_2 m c t (ix2 R k) = m ((c.tc : Thread nD τ).loc main_arg0)
    (ix2 (⟨t.val * 512 + R.val, by have := lt_of_lt_of_eq t.isLt N_0; omega⟩ : Fin 16384) (⟨6 * 512 + k.val, by omega⟩ : Fin 5760)) := by
  unfold X0_2 Pipeline.Window.fill
  rw [dif_pos (moved0_2 t (ix2 R k))]
  blk_point [iblk, V, idx t]

/-- The rows of the last 128 columns at a grid point are the array's. -/
theorem x3_eq (c : Dev nD) (t : Fin cfg0.N) (R : Fin 512) (k : Fin 128) : iblk m c 3 t (ix2 R k) = m ((c.tc : Thread nD τ).loc main_arg0)
    (ix2 (⟨t.val * 512 + R.val, by have := lt_of_lt_of_eq t.isLt N_0; omega⟩ : Fin 16384) (⟨44 * 128 + k.val, by omega⟩ : Fin 5760)) := by
  blk_point [iblk, V, idx t]

/-- The input columns' weights at a grid point. -/
theorem x4_eq (c : Dev nD) (t : Fin cfg0.N) (j : Fin 4) (k : Fin 512) : iblk m c 4 t (ix2 j k) = (par m c).cw j (KX k) := by
  refine Eq.trans (b := V m c main_v18 (ix2 j k)) ?_ ?_
  · blk_point [iblk, idx t]
  · rw [wx_eq]
    pointwise [par, args]

/-- The other columns' weights at a grid point. -/
theorem x5_eq (c : Dev nD) (t : Fin cfg0.N) (j : Fin 4) (k : Fin 512) : iblk m c 5 t (ix2 j k) = (par m c).cw j (KC k) := by
  refine Eq.trans (b := V m c main_v19 (ix2 j k)) ?_ ?_
  · blk_point [iblk, idx t]
  · rw [wc_eq]
    pointwise [par, args]

/-- The input columns' bias at a grid point. -/
theorem x6_eq (c : Dev nD) (t : Fin cfg0.N) (k : Fin 512) : iblk m c 6 t (ix2 0 k) = (par m c).cb (KX k) := by
  refine Eq.trans (b := V m c main_v21 (ix2 0 k)) ?_ ?_
  · blk_point [iblk, idx t]
  · rw [bx_eq]
    pointwise [par, args]

/-- The other columns' bias at a grid point. -/
theorem x7_eq (c : Dev nD) (t : Fin cfg0.N) (k : Fin 512) : iblk m c 7 t (ix2 0 k) = (par m c).cb (KC k) := by
  refine Eq.trans (b := V m c main_v23 (ix2 0 k)) ?_ ?_
  · blk_point [iblk, idx t]
  · rw [bc_eq]
    pointwise [par, args]

/-- The norm's weights at a grid point. -/
theorem x10_eq (c : Dev nD) (t : Fin cfg0.N) (k : Fin 512) : iblk m c 10 t (ix2 0 k) = (par m c).nw k := by
  refine Eq.trans (b := V m c main_v0 (ix2 0 k)) ?_ ?_
  · blk_point [iblk, idx t]
  · rw [nw_eq]
    pointwise [par, args]

/-- A true bit as a number. -/
theorem bit_one : FloatOps.uitofp (F := Ideal) FTy.f32 1#1 = (1 : EReal) := by
  show (((1#1 : BitVec 1).toNat : ℝ) : EReal) = 1
  norm_num
/-- A false bit as a number. -/
theorem bit_zero : FloatOps.uitofp (F := Ideal) FTy.f32 0#1 = (0 : EReal) := by
  show (((0#1 : BitVec 1).toNat : ℝ) : EReal) = 0
  norm_num

/-- The table that repeats a head's number over its columns is one at the head's columns and zero elsewhere. -/
theorem x9_eq (c : Dev nD) (t : Fin cfg0.N) (k : Fin 128) (j : Fin 512) : iblk m c 9 t (ix2 k j) = if k.val = j.val / 64 then (1 : EReal) else 0 := by
  refine Eq.trans (b := V m c main_v17 (ix2 k j)) ?_ ?_
  · blk_point [iblk, idx t]
  · rw [ex_eq]
    pointwise []
    have hj := j.isLt
    have hk := k.isLt
    by_cases e : k.val = j.val / 64
    · rw [if_pos e, show IntOp.cmpi CmpIPredicate.eq (IntOp.addi (BitVec.ofNat 32 k.val) 0#32) (BitVec.ofNat 32 (j.val / 64)) = 1#1 by
        simp [e, IntOp.cmpi, IntOp.addi]]
      exact bit_one
    · rw [if_neg e]
      have e' : BitVec.ofNat 32 k.val ≠ BitVec.ofNat 32 (j.val / 64) := fun q => e (by
        have := congrArg BitVec.toNat q
        simp only [BitVec.toNat_ofNat] at this
        omega)
      rw [show IntOp.cmpi CmpIPredicate.eq (IntOp.addi (BitVec.ofNat 32 k.val) 0#32) (BitVec.ofNat 32 (j.val / 64)) = 0#1 by
        simp only [IntOp.cmpi, IntOp.addi, BitVec.add_zero]
        rw [beq_eq_false_iff_ne.mpr e']
        rfl]
      exact bit_zero

/-- Where an update of the scatter lands. -/
theorem lands (q : Fin 3) (h : Fin 8) : scatter_S8x128_S2_S3x8_01_n_01_0.resultIdx? (ix2 q h : S3x8.Idx) (fun _ => (0 : BitVec 32))
    = some (ix2 (⟨q.val, by omega⟩ : Fin 8) (⟨h.val, by omega⟩ : Fin 128)) := by
  revert q h
  decide +kernel

/-- The scatter's result at an entry an update lands on is that update. -/
theorem scattered (x : FVec Ideal S8x128 .f32) (ix : IVec S2 32) (hi : ix = fun _ => 0) (u : FVec Ideal S3x8 .f32) (q : Fin 3) (h : Fin 8) (Q : Fin 8) (H : Fin 128)
    (eQ : Q.val = q.val) (eH : H.val = h.val) :
    Host.scatter scatter_S8x128_S2_S3x8_01_n_01_0 (fun _ b => b) x ix u (ix2 Q H) = u (ix2 q h) := by
  subst hi
  have E : (ix2 (⟨q.val, by omega⟩ : Fin 8) (⟨h.val, by omega⟩ : Fin 128)) = ix2 Q H := congrArg₂ ix2 (Fin.ext eQ.symm) (Fin.ext eH.symm)
  rw [← E]
  refine Routing.scatter_set_hit _ x _ u _ _ (fun k hk => ?_) (ix2 q h) (lands q h)
  obtain ⟨q', h', rfl⟩ : ∃ (q' : Fin 3) (h' : Fin 8), k = ix2 q' h' := ⟨k 0, k 1, by funext a; match a with | 0 => rfl | 1 => rfl⟩
  rw [lands] at hk
  have e0 := congrArg Fin.val (congrFun (Option.some.inj hk) 0)
  have e1 := congrArg Fin.val (congrFun (Option.some.inj hk) 1)
  rw [show q' = q from Fin.ext e0, show h' = h from Fin.ext e1]

/-- The step sizes' bias at a grid point. -/
theorem x8_bi (c : Dev nD) (t : Fin cfg0.N) (h : Fin 128) (H : Fin 8) (e : h.val = H.val) : iblk m c 8 t (ix2 0 h) = (par m c).dtb H := by
  refine Eq.trans (b := V m c main_v9 (ix2 0 h)) ?_ ?_
  · blk_point [iblk, idx t]
  · rw [hp_eq]
    refine (scattered _ _ ?_ _ 0 H 0 h rfl e).trans ?_
    · funext a
      pointwise []
      simp
    · pointwise [par, args]

/-- The logarithms of the decay rates at a grid point. -/
theorem x8_al (c : Dev nD) (t : Fin cfg0.N) (h : Fin 128) (H : Fin 8) (e : h.val = H.val) : iblk m c 8 t (ix2 1 h) = (par m c).al H := by
  refine Eq.trans (b := V m c main_v9 (ix2 1 h)) ?_ ?_
  · blk_point [iblk, idx t]
  · rw [hp_eq]
    refine (scattered _ _ ?_ _ 1 H 1 h rfl e).trans ?_
    · funext a
      pointwise []
      simp
    · pointwise [par, args]

/-- The skip weights at a grid point. -/
theorem x8_ds (c : Dev nD) (t : Fin cfg0.N) (h : Fin 128) (H : Fin 8) (e : h.val = H.val) : iblk m c 8 t (ix2 2 h) = (par m c).ds H := by
  refine Eq.trans (b := V m c main_v9 (ix2 2 h)) ?_ ?_
  · blk_point [iblk, idx t]
  · rw [hp_eq]
    refine (scattered _ _ ?_ _ 2 H 2 h rfl e).trans ?_
    · funext a
      pointwise []
      simp
    · pointwise [par, args]

/-- An index of the projected array from equal coordinates. -/
theorem at_row {n n' k k' : ℕ} {hn hn' hk hk'} (e : n = n') (e' : k = k') :
    (ix2 (⟨n, hn⟩ : Fin 16384) (⟨k, hk⟩ : Fin 5760)) = ix2 (⟨n', hn'⟩ : Fin 16384) (⟨k', hk'⟩ : Fin 5760) := by
  subst e; subst e'; rfl

/-- At every grid point the kernel's blocks are the rows and weights of four chunks of one sequence, given that the rows kept
    from the point before are the ones before the block's first. -/
theorem rows (c : Dev nD) (t : Fin cfg0.N) (e0 e1 : Vec Ideal S520x512 .f32)
    (h0 : ∀ (r : Fin 520) (k : Fin 512), r.val < 8 → e0 (ix2 r k) = back (par m c) (t.val / 8) (t.val % 8 * 512) (8 - r.val) (KX k))
    (h1 : ∀ (r : Fin 520) (k : Fin 512), r.val < 8 → e1 (ix2 r k) = back (par m c) (t.val / 8) (t.val % 8 * 512) (8 - r.val) (KC k)) :
    Blk (par m c) (t.val / 8) (t.val % 8) (X0_0 m c t) (X0_1 m c t) (X0_2 m c t) (iblk m c 3 t) (iblk m c 4 t) (iblk m c 5 t) (iblk m c 6 t)
      (iblk m c 7 t) (iblk m c 8 t) (iblk m c 9 t) (iblk m c 10 t) e0 e1 := by
  have hN : t.val < 32 := lt_of_lt_of_eq t.isLt N_0
  exact {
    z := fun k r R j e => (x0_eq m c t R j).trans (congrArg _ (at_row (by
      show t.val * 512 + R.val = (t.val / 8 * 4096 + (t.val % 8 * 4 + k.val) * 128 + r.val) % 16384
      rw [Nat.mod_eq_of_lt (by omega)]; omega) (by omega)))
    xs := fun R j => by
      rw [back, if_pos (Nat.zero_le _)]
      exact (x1_eq m c t R j).trans (congrArg _ (at_row (by rw [Nat.mod_eq_of_lt (by omega)]; omega) (by show 5 * 512 + j.val = 2560 + j.val; omega)))
    cs := fun R j => by
      rw [back, if_pos (Nat.zero_le _)]
      exact (x2_eq m c t R j).trans (congrArg _ (at_row (by rw [Nat.mod_eq_of_lt (by omega)]; omega) (by show 6 * 512 + j.val = 2560 + (512 + j.val); omega)))
    sm := fun k r h H R e e' => (x3_eq m c t R h).trans (congrArg _ (at_row (by
      show t.val * 512 + R.val = (t.val / 8 * 4096 + (t.val % 8 * 4 + k.val) * 128 + r.val) % 16384
      rw [Nat.mod_eq_of_lt (by omega)]; omega) (by omega)))
    wx := x4_eq m c t
    wc := x5_eq m c t
    bx := x6_eq m c t
    bc := x7_eq m c t
    bi := x8_bi m c t
    al := x8_al m c t
    ds := x8_ds m c t
    E := x9_eq m c t
    nw := x10_eq m c t
    e0 := h0
    e1 := h1 }

/-- The block's last eight input rows are the ones before the next block. -/
theorem last0 (c : Dev nD) (t : Fin cfg0.N) (r : Fin 520) (h8 : r.val < 8) (k : Fin 512) :
    X0_1 m c t (ix2 ⟨504 + r.val, by omega⟩ k) = back (par m c) (t.val / 8) (t.val % 8 * 512 + 512) (8 - r.val) (KX k) := by
  have hN : t.val < 32 := lt_of_lt_of_eq t.isLt N_0
  rw [back, if_pos (by omega)]
  exact (x1_eq m c t _ k).trans (congrArg _ (at_row (by
    show t.val * 512 + (504 + r.val) = _
    rw [Nat.mod_eq_of_lt (by omega)]; omega) (by show 5 * 512 + k.val = 2560 + k.val; omega)))

/-- The block's last eight writing and reading rows are the ones before the next block. -/
theorem last1 (c : Dev nD) (t : Fin cfg0.N) (r : Fin 520) (h8 : r.val < 8) (k : Fin 512) :
    X0_2 m c t (ix2 ⟨504 + r.val, by omega⟩ k) = back (par m c) (t.val / 8) (t.val % 8 * 512 + 512) (8 - r.val) (KC k) := by
  have hN : t.val < 32 := lt_of_lt_of_eq t.isLt N_0
  rw [back, if_pos (by omega)]
  exact (x2_eq m c t _ k).trans (congrArg _ (at_row (by
    show t.val * 512 + (504 + r.val) = _
    rw [Nat.mod_eq_of_lt (by omega)]; omega) (by show 6 * 512 + k.val = 2560 + (512 + k.val); omega)))

end Cert.KernelSsdIdeal.SsdWin

end
-- ==== Proof.SsdValue.lean ====
/-
  The state-space layer's result array: along the grid the kept rows are the ones before the next block and the states
  follow the recurrence over the chunks, so the stored rows are its results.
-/
module

public import proofs.«01_k».proof.Proof.SsdPoint
public import proofs.«01_k».proof.Proof.SsdWin

@[expose] public section

set_option maxRecDepth 16384

noncomputable section

open Idealize.ShloMosaic Idealize.ShloMosaic.TcCoe Idealize.SL.Sem
open Idealize.ShloMosaic.Pipeline (Dat)

namespace Cert.KernelSsdIdeal.SsdValue

open Cert.KernelSsdIdeal Cert.KernelSsdIdeal.Gen Cert.KernelSsdIdeal.SsdPoint Cert.KernelSsdIdeal.SsdBlock Cert.KernelSsdIdeal.SsdWin Cert.Ssd

variable (m : (ℓ : Loc nD τ sig) → Buf (Elt Ideal) ℓ)

/-- The states of all groups of a sequence, as one array. -/
def STS (c : Dev nD) (b n : ℕ) : S2x128x256.Idx → EReal := fun y => state (par m c) b n (y 1)
  ⟨(y 0).val * 256 + (y 2).val, by have := (y 0).isLt; have := (y 2).isLt; simp at *; omega⟩

/-- The array of states at an index given by its coordinates. -/
theorem STS_at (c : Dev nD) (b n : ℕ) (g : Fin 2) (k : Fin 128) (j : Fin 256) (e : Fin 512) (y : S2x128x256.Idx) (e0 : (y 0).val = g.val)
    (e1 : (y 1).val = k.val) (e2 : (y 2).val = j.val) (h : e.val = g.val * 256 + j.val) : STS m c b n y = state (par m c) b n k e := by
  unfold STS
  exact congrArg₂ (state (par m c) b n) (Fin.ext e1) (Fin.ext (by rw [h, ← e0, ← e2]))

/-- The scratch starts at the zero state. -/
theorem zero_at (c : Dev nD) (b n : ℕ) (hn : n = 0) (g : Fin 2) (k : Fin 128) (j : Fin 256) (e : Fin 512) (h : e.val = g.val * 256 + j.val) :
    k0_pay2 (F := Ideal) (ix3 g k j) = state (par m c) b n k e := by
  subst hn
  pointwise [k0_pay2]
  simp [state]

/-- Before a sequence begins there is nothing. -/
theorem none_before (a : Par) (b s : ℕ) (hs : s = 0) (r : Fin 520) (h8 : r.val < 8) (k : Fin 1024) : (0 : EReal) = back a b s (8 - r.val) k := by
  rw [back, if_neg (by omega)]

/-- At the first grid point of a sequence the kernel's blocks are its first four chunks. -/
theorem rowsA (c : Dev nD) (t : Fin cfg0.N) (h0 : t.val % 8 = 0) :
    Blk (par m c) (t.val / 8) (t.val % 8) (X0_0 m c t) (X0_1 m c t) (X0_2 m c t) (iblk m c 3 t) (iblk m c 4 t) (iblk m c 5 t) (iblk m c 6 t)
      (iblk m c 7 t) (iblk m c 8 t) (iblk m c 9 t) (iblk m c 10 t) (fun _ => (0 : EReal)) (fun _ => (0 : EReal)) :=
  rows m c t _ _ (fun r k h => none_before _ _ _ (by omega) r h _) (fun r k h => none_before _ _ _ (by omega) r h _)

attribute [local irreducible] state result back

/-- What the buffers hold after a grid point: the rows before the next block, and the states that enter its next chunk. -/
structure After (c : Dev nD) (n : ℕ) (hn : n < cfg0.N) : Prop where
  k0 : ∀ (r : Fin 520) (k : Fin 512), r.val < 8 → (outsAt0 m c n hn).2.1 (ix2 r k) = back (par m c) (n / 8) (n % 8 * 512 + 512) (8 - r.val) (KX k)
  k1 : ∀ (r : Fin 520) (k : Fin 512), r.val < 8 → (outsAt0 m c n hn).2.2.1 (ix2 r k) = back (par m c) (n / 8) (n % 8 * 512 + 512) (8 - r.val) (KC k)
  st : ∀ (g : Fin 2) (k : Fin 128) (j : Fin 256) (e : Fin 512), e.val = g.val * 256 + j.val →
    (outsAt0 m c n hn).2.2.2 (ix3 g k j) = state (par m c) (n / 8) (n % 8 * 4 + 4) k e

/-- The buffers after the first point of a sequence. -/
theorem after_A (c : Dev nD) (t : Fin cfg0.N) (h0 : t.val % 8 = 0) : After m c t.val t.isLt where
  k0 r k h := by
    rw [outsAt0_A m c t h0 h0 h0]
    dsimp only
    exact (keep0_A c t h0 r h k).trans (last0 m c t r h k)
  k1 r k h := by
    rw [outsAt0_A m c t h0 h0 h0]
    dsimp only
    exact (keep1_A c t h0 r h k).trans (last1 m c t r h k)
  st g k j e h := by
    rw [outsAt0_A m c t h0 h0 h0]
    dsimp only
    refine (st_A c t h0 (rowsA m c t h0) (zero_at m c _ _ (by omega)) (STS m c (t.val / 8) (t.val % 8 * 4 + 4))
      (STS_at m c (t.val / 8) (t.val % 8 * 4 + 4)) (ix3 g k j)).trans ?_
    exact STS_at m c _ _ g k j e _ rfl rfl rfl h

/-- What the buffers hold on entering a later point of a sequence. -/
structure Before (c : Dev nD) (t : Fin cfg0.N) (e0 e1 : Vec Ideal S520x512 .f32) (S : Vec Ideal S2x128x256 .f32) : Prop where
  k0 : ∀ (r : Fin 520) (k : Fin 512), r.val < 8 → e0 (ix2 r k) = back (par m c) (t.val / 8) (t.val % 8 * 512) (8 - r.val) (KX k)
  k1 : ∀ (r : Fin 520) (k : Fin 512), r.val < 8 → e1 (ix2 r k) = back (par m c) (t.val / 8) (t.val % 8 * 512) (8 - r.val) (KC k)
  st : ∀ (g : Fin 2) (k : Fin 128) (j : Fin 256) (e : Fin 512), e.val = g.val * 256 + j.val →
    S (ix3 g k j) = state (par m c) (t.val / 8) (t.val % 8 * 4) k e

/-- The buffers after a later point of a sequence, from what they held on entering it. -/
theorem after_B (c : Dev nD) (t : Fin cfg0.N) (h0 : ¬t.val % 8 = 0)
    (B : Before m c t (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2) : After m c t.val t.isLt where
  k0 r k h := by
    rw [outsAt0_B m c t h0 h0 h0]
    dsimp only
    exact (keep0_B c t h0 _ _ _ r h k).trans (last0 m c t r h k)
  k1 r k h := by
    rw [outsAt0_B m c t h0 h0 h0]
    dsimp only
    exact (keep1_B c t h0 _ _ _ r h k).trans (last1 m c t r h k)
  st g k j e h := by
    rw [outsAt0_B m c t h0 h0 h0]
    dsimp only
    refine (st_B c t h0 _ _ _ (rows m c t _ _ B.k0 B.k1) B.st (STS m c (t.val / 8) (t.val % 8 * 4 + 4))
      (STS_at m c (t.val / 8) (t.val % 8 * 4 + 4)) (ix3 g k j)).trans ?_
    exact STS_at m c _ _ g k j e _ rfl rfl rfl h

/-- What a point leaves is what the next point of the same sequence finds. -/
theorem carry (c : Dev nD) (t : Fin cfg0.N) (h0 : ¬t.val % 8 = 0) (n : ℕ) (hn : n < cfg0.N) (e : t.val - 1 = n) (A : After m c n hn) :
    Before m c t (outsAt0 m c n hn).2.1 (outsAt0 m c n hn).2.2.1 (outsAt0 m c n hn).2.2.2 := by
  have e1 : n / 8 = t.val / 8 := by omega
  have e2 : n % 8 * 4 + 4 = t.val % 8 * 4 := by omega
  have e3 : n % 8 * 512 + 512 = t.val % 8 * 512 := by omega
  exact {
    k0 := fun r k h => by rw [← e1, ← e3]; exact A.k0 r k h
    k1 := fun r k h => by rw [← e1, ← e3]; exact A.k1 r k h
    st := fun g k j e h => by rw [← e1, ← e2]; exact A.st g k j e h }

/-- What the buffers hold after every grid point. -/
theorem after (c : Dev nD) : ∀ (n : ℕ) (hn : n < cfg0.N), After m c n hn := by
  intro n
  induction n with
  | zero => exact fun hn => after_A m c ⟨0, hn⟩ rfl
  | succ n ih =>
    intro hn
    by_cases h0 : (n + 1) % 8 = 0
    · exact after_A m c ⟨n + 1, hn⟩ h0
    · exact after_B m c ⟨n + 1, hn⟩ h0 (carry m c ⟨n + 1, hn⟩ h0 n _ rfl (ih (Nat.lt_of_succ_lt hn)))

/-- The layer's result at an index given by its sequence, chunk, row and column. -/
theorem out_coord (P : Cert.Ret.Proj) (cw : FVec Ideal S4x1024 .f32) (cb : FVec Ideal S1024 .f32) (dtb al ds : FVec Ideal S8 .f32) (nw : FVec Ideal S512 .f32)
    (Y : S16384x512.Idx) (b i k : ℕ) (r : Fin 128) (e : Fin 512) (hi : i < 8) (hk : k < 4) (e0 : (Y 0).val = (b * 8 + i) * 512 + (k * 128 + r.val))
    (e1 : (Y 1).val = e.val) : out P cw cb dtb al ds nw Y = result (args P cw cb dtb al ds nw) b (i * 4 + k) r e := by
  unfold out
  have q0 : (Y 0).val / 4096 = b := by omega
  have q1 : (Y 0).val % 4096 / 128 = i * 4 + k := by omega
  have q2 : (Y 0).val % 128 = r.val := by omega
  simp only [q0, q1, q2, Fin.eta]
  exact congrArg _ (Fin.ext e1)

/-- The output block's index inside the whole array. -/
theorem emb11 (t : Fin cfg0.N) (y : S512x512.Idx) : ((win0_11.blk t).view.emb y 0).val = t.val * 512 + (y 0).val
    ∧ ((win0_11.blk t).view.emb y 1).val = (y 1).val := by
  constructor
  · blk_simp [idx t]
  · blk_simp [idx t]

/-- The layer's result array, from the arguments in the memory. -/
def OUT (c : Dev nD) : S16384x512.Idx → EReal :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The result array at an index of a grid point's block. -/
theorem OUT_at (c : Dev nD) (t : Fin cfg0.N) (k : Fin 4) (r : Fin 128) (e : Fin 512) (y : S512x512.Idx) (h0 : (y 0).val = k.val * 128 + r.val)
    (h1 : (y 1).val = e.val) : OUT m c ((win0_11.blk t).view.emb y) = result (par m c) (t.val / 8) (t.val % 8 * 4 + k.val) r e :=
  out_coord _ _ _ _ _ _ _ _ (t.val / 8) (t.val % 8) k.val r e (by omega) k.isLt ((emb11 t y).1.trans (by rw [h0]; omega)) ((emb11 t y).2.trans h1)

attribute [local irreducible] OUT

/-- After the run the result array is the state-space layer of the arguments. -/
theorem final (c : Dev nD) : (dats m 0 c).arrAt 11 (cfgs 0).N = OUT m c := by
  refine (dats m 0 c).arrAt_eq_of_covers 11 _ (by decide +kernel) fun t hf y => ?_
  blk_simp
  rw [after0_11]
  by_cases h0 : t.val % 8 = 0
  · rw [outsAt0_A m c t h0 h0 h0]
    dsimp only
    exact out_A c t h0 (rowsA m c t h0) (zero_at m c _ _ (by omega)) (fun y => OUT m c ((win0_11.blk t).view.emb y)) (OUT_at m c t) y
  · rw [outsAt0_B m c t h0 h0 h0]
    dsimp only
    have B := carry m c t h0 _ (Nat.lt_of_le_of_lt (Nat.sub_le _ _) t.isLt) rfl (after m c (t.val - 1) (Nat.lt_of_le_of_lt (Nat.sub_le _ _) t.isLt))
    exact out_B c t h0 _ _ _ (rows m c t _ _ B.k0 B.k1) B.st (fun y => OUT m c ((win0_11.blk t).view.emb y)) (OUT_at m c t) y

end Cert.KernelSsdIdeal.SsdValue

end
-- ==== Proof.InValue.lean ====
/-
  The input projection: the kernel normalizes each block of 1024 rows once, keeps it in a scratch buffer, and multiplies it
  by five column blocks of the weights; the result array holds the normalized rows times the weights.
-/
module

public import proofs.«01_k».proof.Proof.Gen.KernelInIdeal.Value
public import proofs.«01_k».proof.Proof.Gen.ReferenceInIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelInIdeal.InValue

open Cert.KernelInIdeal Cert.KernelInIdeal.Gen

variable (m : (ℓ : Loc nD τ sig) → Buf (Elt Ideal) ℓ)

open Cert.ReferenceInIdeal in
open Cert.ReferenceInIdeal.Gen in
/-- The reference's rows, normalized: the first factor of its product. -/
abbrev RMS (X : FVec Ideal Cert.ReferenceInIdeal.S16384x1024 .f32) (G : FVec Ideal Cert.ReferenceInIdeal.S1024 .f32) :
    FVec Ideal Cert.ReferenceInIdeal.S16384x1024 .f32 :=
  mulf (mulf X (broadcastInDim S16384x1024 ![0, 1] bcast_S16384x1_S16384x1024_0_1 (Host.rsqrt (addf (Host.divf
    (broadcastInDim S16384x1 ![0] bcast_S16384_S16384x1_0 (Host.reduceAdd (mulf X X) (constant S_ .f32 0x00000000#32)
      reducesTo_S16384x1024_S16384_d1 h_S_)) (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] Cert.ReferenceInIdeal.Gen.bcast_S1024_S1x1024_1 G))

/-- The reference's composed term over the argument arrays. -/
abbrev REF (X : FVec Ideal Cert.ReferenceInIdeal.S16384x1024 .f32) (G : FVec Ideal Cert.ReferenceInIdeal.S1024 .f32)
    (W : FVec Ideal Cert.ReferenceInIdeal.S1024x5760 .f32) : FVec Ideal Cert.ReferenceInIdeal.S16384x5760 .f32 :=
  Host.dotGeneral Cert.ReferenceInIdeal.dot_S16384x1024_S1024x5760_S16384x5760_1_0_0_1_n_n none (RMS X G) W

/-- The block indices of the windows at a grid point. -/
theorem idx : ∀ t : Fin cfg0.N, win0_0.index t = ![t.val / 5, 0] ∧ win0_1.index t = ![0, 0] ∧ win0_2.index t = ![0, t.val % 5]
    ∧ win0_3.index t = ![t.val / 5, t.val % 5] :=
  (by decide +kernel : ∀ t : Fin grid0.N, _)

/-- Row `y 0` of row block `q`, at lane `y 1`, in the whole array. -/
abbrev rowOf (q : ℕ) (hq : q < 16) (y : S1024x1024.Idx) : Cert.ReferenceInIdeal.S16384x1024.Idx :=
  ix2 ⟨q * 1024 + (y 0).val, by have := (y 0).isLt; change _ < 1024 at this; omega⟩ (y 1)

/-- The normalized block at an index is the reference's row, normalized. -/
theorem pay_eq (c : Dev nD) (t : Fin cfg0.N) (y : S1024x1024.Idx) (hq : t.val / 5 < 16) :
    k0_pay1 (iblk m c 0 t) (iblk m c 1 t) y
      = RMS (m ((c.tc : Thread nD τ).loc main_arg0)) (m ((c.tc : Thread nD τ).loc main_arg1)) (rowOf (t.val / 5) hq y) := by
  pointwise [k0_pay1, RMS]
  blk_point [iblk, V, idx t] <;> rfl

/-- What the scratch holds after a grid point: the normalized rows of the point's row block. -/
theorem scr (c : Dev nD) (q : ℕ) (hq : q < 16) (y : S1024x1024.Idx) : ∀ (n : ℕ) (h : n < cfg0.N), n / 5 = q →
    (outsAt0 m c n h).2 y
      = RMS (m ((c.tc : Thread nD τ).loc main_arg0)) (m ((c.tc : Thread nD τ).loc main_arg1)) (rowOf q hq y) := by
  intro n
  induction n with
  | zero =>
    rintro h rfl
    rw [outsAt0_A m c ⟨0, h⟩ rfl]
    frame_out
    exact pay_eq m c ⟨0, h⟩ y hq
  | succ n ih =>
    intro h e
    by_cases h0 : (n + 1) % 5 = 0
    · rw [outsAt0_A m c ⟨n + 1, h⟩ h0]
      frame_out
      subst e
      exact pay_eq m c ⟨n + 1, h⟩ y hq
    · rw [outsAt0_B m c ⟨n + 1, h⟩ h0]
      exact ih (Nat.lt_of_succ_lt h) (by omega)

/-- What a grid point leaves in the output block: the scratch's rows times the point's block of the weights. -/
theorem out_eq (c : Dev nD) (t : Fin cfg0.N) :
    (outsAt0 m c t.val t.isLt).1 = k0_pay2 (outsAt0 m c t.val t.isLt).2 (iblk m c 2 t) := by
  by_cases h0 : t.val % 5 = 0
  · rw [outsAt0_A m c t h0]
    frame_out
  · rw [outsAt0_B m c t h0]
    frame_out
    exact congrArg (k0_pay2 · _) (Memref.IsWhole.read_unread _ _)

/-- After the run the result array is the reference's term of the arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have hN : t.val < 80 := lt_of_lt_of_eq t.isLt N_0
  have hq : t.val / 5 < 16 := by omega
  refine (congrFun (out_eq m c t) y).trans ?_
  pointwise [k0_pay2]
  simp only [scr m c (t.val / 5) hq _ t.val t.isLt rfl]
  pointwise [RMS]
  blk_point [iblk, V, idx t] <;> rfl

end Cert.KernelInIdeal.InValue
-- ==== Proof.OutValue.lean ====
/-
  The output projection: what the kernel's result array holds after the run is the residual plus the product of the
  three concatenated mixer outputs with the weights.
-/
module

public import proofs.«01_k».proof.Proof.Gen.KernelOutIdeal.Value
public import proofs.«01_k».proof.Proof.Gen.ReferenceOutIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelOutIdeal.OutValue

open Cert.KernelOutIdeal Cert.KernelOutIdeal.Gen

variable (m : (ℓ : Loc nD τ sig) → Buf (Elt Ideal) ℓ)

/-- The reference's composed term over the argument arrays. -/
abbrev REF (X : FVec Ideal Cert.ReferenceOutIdeal.S16384x1024 .f32) (Y0 Y1 Y2 : FVec Ideal Cert.ReferenceOutIdeal.S16384x512 .f32)
    (W : FVec Ideal Cert.ReferenceOutIdeal.S1536x1024 .f32) : FVec Ideal Cert.ReferenceOutIdeal.S16384x1024 .f32 :=
  addf X (Host.dotGeneral Cert.ReferenceOutIdeal.dot_S16384x1536_S1536x1024_S16384x1024_1_0_0_1_n_n none
    ((concatenate Cert.ReferenceOutIdeal.S16384x1536 1 [⟨Cert.ReferenceOutIdeal.S16384x512, Y0⟩,
      ⟨Cert.ReferenceOutIdeal.S16384x512, Y1⟩, ⟨Cert.ReferenceOutIdeal.S16384x512, Y2⟩]
      Cert.ReferenceOutIdeal.Gen.concatenates_S16384x512_S16384x512_S16384x512_S16384x1536_d1)) W)

/-- A sum over 1536 lanes is the sum of the sums over its three runs of 512. -/
theorem sum_three (f : Fin 1536 → EReal) : ∑ k, f k = ∑ k : Fin 512, f ⟨k.val, by omega⟩
    + ∑ k : Fin 512, f ⟨512 + k.val, by omega⟩ + ∑ k : Fin 512, f ⟨1024 + k.val, by omega⟩ := by
  rw [Fin.sum_univ_tiles 3 512 rfl f, Fin.sum_univ_three]
  refine congrArg₂ (· + ·) (congrArg₂ (· + ·) ?_ ?_) ?_ <;>
    refine Finset.sum_congr rfl fun k _ => congrArg f (Fin.ext ?_) <;> simp

/-- The reference at an index: the residual plus three products of 512 lanes. -/
theorem href (X : FVec Ideal Cert.ReferenceOutIdeal.S16384x1024 .f32) (Y0 Y1 Y2 : FVec Ideal Cert.ReferenceOutIdeal.S16384x512 .f32)
    (W : FVec Ideal Cert.ReferenceOutIdeal.S1536x1024 .f32) (j) : REF X Y0 Y1 Y2 W j
    = X j + (∑ k : Fin 512, Y0 (ix2 (j 0) k) * W (ix2 ⟨k.val, by omega⟩ (j 1))
      + ∑ k : Fin 512, Y1 (ix2 (j 0) k) * W (ix2 ⟨512 + k.val, by omega⟩ (j 1))
      + ∑ k : Fin 512, Y2 (ix2 (j 0) k) * W (ix2 ⟨1024 + k.val, by omega⟩ (j 1))) := by
  pointwise [REF]
  refine congrArg (X j + ·) ?_
  refine (sum_three _).trans ?_
  refine congrArg₂ (· + ·) (congrArg₂ (· + ·) ?_ ?_) ?_ <;> refine Finset.sum_congr rfl fun k _ => ?_
  · rw [dif_pos k.isLt]
  · rw [dif_neg (by simp), dif_pos (by simp)]
    simp only [Nat.add_sub_cancel_left]
  · rw [dif_neg (by simp; omega), dif_neg (by simp; omega)]
    refine Ideal.mul_congr (congrArg Y2 ?_) rfl
    idx_ext <;> simp <;> omega

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] :=
  (by decide +kernel : ∀ t : Fin grid0.N, _)

/-- After the run the result array is the reference's term of the arguments. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  frame_out
  rw [href]
  pointwise [k0_pay1]
  rw [add_assoc, add_assoc, ← add_assoc (∑ _, _)]
  blk_point [iblk, V, idx t]

end Cert.KernelOutIdeal.OutValue

end
-- ==== Proof.MlpValue.lean ====
/-
  The channel mixer: the kernel normalizes each block of 1024 rows once, and at each of four points of the hidden axis adds
  `relu(rows · up)² · down` of that block of hidden channels to an accumulator; the last point adds the residual. The
  result array holds the residual plus the whole product.
-/
module

public import proofs.«01_k».proof.Proof.Gen.KernelMlpIdeal.Value
public import proofs.«01_k».proof.Proof.Gen.ReferenceMlpIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelMlpIdeal.MlpValue

open Cert.KernelMlpIdeal Cert.KernelMlpIdeal.Gen

variable (m : (ℓ : Loc nD τ sig) → Buf (Elt Ideal) ℓ)

open Cert.ReferenceMlpIdeal in
open Cert.ReferenceMlpIdeal.Gen in
/-- The reference's rows, normalized. -/
abbrev RMS (X : FVec Ideal Cert.ReferenceMlpIdeal.S16384x1024 .f32) (G : FVec Ideal Cert.ReferenceMlpIdeal.S1024 .f32) :
    FVec Ideal Cert.ReferenceMlpIdeal.S16384x1024 .f32 :=
  mulf (mulf X (broadcastInDim S16384x1024 ![0, 1] bcast_S16384x1_S16384x1024_0_1 (Host.rsqrt (addf (Host.divf
    (broadcastInDim S16384x1 ![0] bcast_S16384_S16384x1_0 (Host.reduceAdd (mulf X X) (constant S_ .f32 0x00000000#32)
      reducesTo_S16384x1024_S16384_d1 h_S_)) (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1
      (broadcastInDim S1x1024 ![1] Cert.ReferenceMlpIdeal.Gen.bcast_S1024_S1x1024_1 G))

/-- The reference's hidden activations of normalized rows: the product with the up weights, cut off below at zero. -/
abbrev HID (N : FVec Ideal Cert.ReferenceMlpIdeal.S16384x1024 .f32) (U : FVec Ideal Cert.ReferenceMlpIdeal.S1024x4096 .f32) :
    FVec Ideal Cert.ReferenceMlpIdeal.S16384x4096 .f32 :=
  maximumf (Host.dotGeneral Cert.ReferenceMlpIdeal.dot_S16384x1024_S1024x4096_S16384x4096_1_0_0_1_n_n none N U)
    (broadcastInDim Cert.ReferenceMlpIdeal.S16384x4096 ![] Cert.ReferenceMlpIdeal.Gen.bcast_S_S16384x4096
      (constant Cert.ReferenceMlpIdeal.S_ .f32 0x00000000#32))

/-- The reference's composed term over the argument arrays. -/
abbrev REF (X : FVec Ideal Cert.ReferenceMlpIdeal.S16384x1024 .f32) (G : FVec Ideal Cert.ReferenceMlpIdeal.S1024 .f32)
    (U : FVec Ideal Cert.ReferenceMlpIdeal.S1024x4096 .f32) (D : FVec Ideal Cert.ReferenceMlpIdeal.S4096x1024 .f32) :
    FVec Ideal Cert.ReferenceMlpIdeal.S16384x1024 .f32 :=
  addf X (Host.dotGeneral Cert.ReferenceMlpIdeal.dot_S16384x4096_S4096x1024_S16384x1024_1_0_0_1_n_n none
    (mulf (HID (RMS X G) U) (HID (RMS X G) U)) D)

/-- The block indices of the windows at a grid point. -/
theorem idx : ∀ t : Fin cfg0.N, win0_0.index t = ![t.val / 4, 0] ∧ win0_1.index t = ![0, 0] ∧ win0_2.index t = ![0, t.val % 4]
    ∧ win0_3.index t = ![t.val % 4, 0] ∧ win0_4.index t = ![0, 0] ∧ win0_5.index t = ![t.val / 4, 0] :=
  (by decide +kernel : ∀ t : Fin grid0.N, _)

/-- Row `a` of row block `q` in the whole array. -/
abbrev rowOf (q : ℕ) (hq : q < 16) (a : Fin 1024) : Fin 16384 := ⟨q * 1024 + a.val, by omega⟩

/-- The normalized block at an index is the reference's row, normalized. -/
theorem pay_eq (c : Dev nD) (t : Fin cfg0.N) (y : S1024x1024.Idx) (hq : t.val / 4 < 16) :
    k0_pay1 (iblk m c 0 t) (iblk m c 1 t) y
      = RMS (m ((c.tc : Thread nD τ).loc main_arg0)) (m ((c.tc : Thread nD τ).loc main_arg1))
          (ix2 (rowOf (t.val / 4) hq (y 0)) (y 1)) := by
  pointwise [k0_pay1, RMS]
  blk_point [iblk, V, idx t]

/-- What the row scratch holds after a grid point: the normalized rows of the point's row block. -/
theorem scr (c : Dev nD) (q : ℕ) (hq : q < 16) (y : S1024x1024.Idx) : ∀ (n : ℕ) (h : n < cfg0.N), n / 4 = q →
    (outsAt0 m c n h).2.1 y
      = RMS (m ((c.tc : Thread nD τ).loc main_arg0)) (m ((c.tc : Thread nD τ).loc main_arg1))
          (ix2 (rowOf q hq (y 0)) (y 1)) := by
  intro n
  induction n with
  | zero =>
    rintro h rfl
    rw [outsAt0_A m c ⟨0, h⟩ rfl (by simp)]
    frame_out
    exact pay_eq m c ⟨0, h⟩ y hq
  | succ n ih =>
    intro h e
    by_cases h0 : (n + 1) % 4 = 0
    · rw [outsAt0_A m c ⟨n + 1, h⟩ h0 (by dsimp only; omega)]
      frame_out
      subst e
      exact pay_eq m c ⟨n + 1, h⟩ y hq
    · by_cases h1 : (n + 1) % 4 = 3
      · rw [outsAt0_C m c ⟨n + 1, h⟩ h0 h1]
        exact ih (Nat.lt_of_succ_lt h) (by omega)
      · rw [outsAt0_B m c ⟨n + 1, h⟩ h0 h1]
        exact ih (Nat.lt_of_succ_lt h) (by omega)

/-- At the first hidden block the accumulator starts from zero. -/
theorem acc_reset (c : Dev nD) (t : Fin cfg0.N) (h0 : t.val % 4 = 0) : (outsAt0 m c t.val t.isLt).2.2
    = k0_pay3 (outsAt0 m c t.val t.isLt).2.1 (iblk m c 2 t) (k0_pay2 (F := Ideal)) (iblk m c 3 t) := by
  rw [outsAt0_A m c t h0 (by omega)]
  frame_out

/-- At a later hidden block the accumulator gains the block's part. -/
theorem acc_step (c : Dev nD) (t : Fin cfg0.N) (h0 : ¬t.val % 4 = 0) : (outsAt0 m c t.val t.isLt).2.2
    = k0_pay3 (outsAt0 m c t.val t.isLt).2.1 (iblk m c 2 t)
        (outsAt0 m c (t.val - 1) (Nat.lt_of_le_of_lt (Nat.sub_le _ _) t.isLt)).2.2 (iblk m c 3 t) := by
  by_cases h1 : t.val % 4 = 3
  · rw [outsAt0_C m c t h0 h1]
    frame_out
    exact congrArg₂ (k0_pay3 · _ · _) (Memref.IsWhole.read_unread _ _) (Memref.IsWhole.read_unread _ _)
  · rw [outsAt0_B m c t h0 h1]
    frame_out
    exact congrArg₂ (k0_pay3 · _ · _) (Memref.IsWhole.read_unread _ _) (Memref.IsWhole.read_unread _ _)

/-- At the last hidden block the result block is the rows plus the accumulator. -/
theorem out_eq (c : Dev nD) (t : Fin cfg0.N) (h1 : t.val % 4 = 3) : (outsAt0 m c t.val t.isLt).1
    = k0_pay4 (iblk m c 0 t) (outsAt0 m c t.val t.isLt).2.2 := by
  rw [outsAt0_C m c t (by omega) h1]
  frame_out

/-- The part of the down product that hidden block `s` contributes, over the argument arrays. -/
def part (X : FVec Ideal Cert.ReferenceMlpIdeal.S16384x1024 .f32) (G : FVec Ideal Cert.ReferenceMlpIdeal.S1024 .f32)
    (U : FVec Ideal Cert.ReferenceMlpIdeal.S1024x4096 .f32) (D : FVec Ideal Cert.ReferenceMlpIdeal.S4096x1024 .f32)
    (r : Fin 16384) (o : Fin 1024) (s : Fin 4) : EReal :=
  ∑ k : Fin 1024, mulf (HID (RMS X G) U) (HID (RMS X G) U) (ix2 r ⟨s.val * 1024 + k.val, by omega⟩)
    * D (ix2 ⟨s.val * 1024 + k.val, by omega⟩ o)

/-- What a point adds to the accumulator it finds is its hidden block's part. -/
theorem step_eq (c : Dev nD) (t : Fin cfg0.N) (q : ℕ) (hq : q < 16) (s : Fin 4) (e : t.val / 4 = q) (e' : t.val % 4 = s.val)
    (acc : Vec Ideal S1024x1024 .f32) (y : S1024x1024.Idx) :
    k0_pay3 (outsAt0 m c t.val t.isLt).2.1 (iblk m c 2 t) acc (iblk m c 3 t) y = acc y
      + part (m ((c.tc : Thread nD τ).loc main_arg0)) (m ((c.tc : Thread nD τ).loc main_arg1))
          (m ((c.tc : Thread nD τ).loc main_arg2)) (m ((c.tc : Thread nD τ).loc main_arg3)) (rowOf q hq (y 0)) (y 1) s := by
  have hs := fun y => scr m c q hq y t.val t.isLt e
  generalize (outsAt0 m c t.val t.isLt).2.1 = N at hs
  unfold part
  generalize hR : RMS (m ((c.tc : Thread nD τ).loc main_arg0)) (m ((c.tc : Thread nD τ).loc main_arg1)) = R at hs
  pointwise [k0_pay3, HID]
  simp only [hs]
  blk_point [iblk, V, idx t] <;> rfl

/-- What the accumulator holds after the last hidden block: the whole down product. -/
theorem acc_last (c : Dev nD) (t : Fin cfg0.N) (q : ℕ) (hq : q < 16) (e : t.val / 4 = q) (h3 : t.val % 4 = 3)
    (y : S1024x1024.Idx) : (outsAt0 m c t.val t.isLt).2.2 y
      = ∑ s : Fin 4, part (m ((c.tc : Thread nD τ).loc main_arg0)) (m ((c.tc : Thread nD τ).loc main_arg1))
          (m ((c.tc : Thread nD τ).loc main_arg2)) (m ((c.tc : Thread nD τ).loc main_arg3)) (rowOf q hq (y 0)) (y 1) s := by
  have hlt := t.isLt
  have h2 : t.val - 1 < cfg0.N := by omega
  have h1 : t.val - 1 - 1 < cfg0.N := by omega
  have h0 : t.val - 1 - 1 - 1 < cfg0.N := by omega
  rw [acc_step m c t (by omega), step_eq m c t q hq 3 e h3,
    acc_step m c ⟨t.val - 1, h2⟩ (by dsimp only; omega),
    step_eq m c ⟨t.val - 1, h2⟩ q hq 2 (by dsimp only; omega) (by show (t.val - 1) % 4 = 2; omega),
    acc_step m c ⟨t.val - 1 - 1, h1⟩ (by dsimp only; omega),
    step_eq m c ⟨t.val - 1 - 1, h1⟩ q hq 1 (by dsimp only; omega) (by show (t.val - 1 - 1) % 4 = 1; omega),
    acc_reset m c ⟨t.val - 1 - 1 - 1, h0⟩ (by dsimp only; omega),
    step_eq m c ⟨t.val - 1 - 1 - 1, h0⟩ q hq 0 (by dsimp only; omega) (by show (t.val - 1 - 1 - 1) % 4 = 0; omega),
    Fin.sum_univ_four]
  pointwise [k0_pay2]

/-- The whole product at an index is the sum of its four hidden blocks' parts. -/
theorem sum_parts (X : FVec Ideal Cert.ReferenceMlpIdeal.S16384x1024 .f32) (G : FVec Ideal Cert.ReferenceMlpIdeal.S1024 .f32)
    (U : FVec Ideal Cert.ReferenceMlpIdeal.S1024x4096 .f32) (D : FVec Ideal Cert.ReferenceMlpIdeal.S4096x1024 .f32)
    (j : Cert.ReferenceMlpIdeal.S16384x1024.Idx) :
    REF X G U D j = X j + ∑ s : Fin 4, part X G U D (j 0) (j 1) s := by
  unfold part REF
  generalize HID (RMS X G) U = H
  pointwise []
  refine congrArg (X j + ·) ?_
  exact Fin.sum_univ_tiles 4 1024 rfl _

/-- After the run the result array is the reference's term of the arguments. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]
  have h3 : t.val % 4 = 3 := (flush0_5 t).mp hf
  have hN : t.val < 64 := lt_of_lt_of_eq t.isLt N_0
  have hq : t.val / 4 < 16 := by omega
  refine (congrFun (out_eq m c t h3) y).trans ?_
  rw [sum_parts]
  pointwise [k0_pay4]
  rw [acc_last m c t (t.val / 4) hq rfl h3]
  blk_point [iblk, V, idx t]

end Cert.KernelMlpIdeal.MlpValue
-- ==== Proof.LastValue.lean ====
/-
  The channel mixer of the last layer, with the final norm: as in the other layers the kernel accumulates
  `relu(rows · up)² · down` over four hidden blocks; at the last of them it adds the residual and normalizes the rows.
  The result array, which is the kernel's own result, holds the normalized sum.
-/
module

public import proofs.«01_k».proof.Proof.Gen.KernelLastIdeal.Value
public import proofs.«01_k».proof.Proof.Gen.ReferenceLastIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelLastIdeal.LastValue

open Cert.KernelLastIdeal Cert.KernelLastIdeal.Gen

variable (m : (ℓ : Loc nD τ sig) → Buf (Elt Ideal) ℓ)

open Cert.ReferenceLastIdeal in
open Cert.ReferenceLastIdeal.Gen in
/-- The reference's rows, normalized. -/
abbrev RMS (X : FVec Ideal Cert.ReferenceLastIdeal.S16384x1024 .f32) (G : FVec Ideal Cert.ReferenceLastIdeal.S1024 .f32) :
    FVec Ideal Cert.ReferenceLastIdeal.S16384x1024 .f32 :=
  mulf (mulf X (broadcastInDim S16384x1024 ![0, 1] bcast_S16384x1_S16384x1024_0_1 (Host.rsqrt (addf (Host.divf
    (broadcastInDim S16384x1 ![0] bcast_S16384_S16384x1_0 (Host.reduceAdd (mulf X X) (constant S_ .f32 0x00000000#32)
      reducesTo_S16384x1024_S16384_d1 h_S_)) (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1
      (broadcastInDim S1x1024 ![1] Cert.ReferenceLastIdeal.Gen.bcast_S1024_S1x1024_1 G))

/-- The reference's hidden activations of normalized rows: the product with the up weights, cut off below at zero. -/
abbrev HID (N : FVec Ideal Cert.ReferenceLastIdeal.S16384x1024 .f32) (U : FVec Ideal Cert.ReferenceLastIdeal.S1024x4096 .f32) :
    FVec Ideal Cert.ReferenceLastIdeal.S16384x4096 .f32 :=
  maximumf (Host.dotGeneral Cert.ReferenceLastIdeal.dot_S16384x1024_S1024x4096_S16384x4096_1_0_0_1_n_n none N U)
    (broadcastInDim Cert.ReferenceLastIdeal.S16384x4096 ![] Cert.ReferenceLastIdeal.Gen.bcast_S_S16384x4096
      (constant Cert.ReferenceLastIdeal.S_ .f32 0x00000000#32))

/-- The reference's residual stream after the mixer, over the argument arrays. -/
abbrev RES (X : FVec Ideal Cert.ReferenceLastIdeal.S16384x1024 .f32) (G : FVec Ideal Cert.ReferenceLastIdeal.S1024 .f32)
    (U : FVec Ideal Cert.ReferenceLastIdeal.S1024x4096 .f32) (D : FVec Ideal Cert.ReferenceLastIdeal.S4096x1024 .f32) :
    FVec Ideal Cert.ReferenceLastIdeal.S16384x1024 .f32 :=
  addf X (Host.dotGeneral Cert.ReferenceLastIdeal.dot_S16384x4096_S4096x1024_S16384x1024_1_0_0_1_n_n none
    (mulf (HID (RMS X G) U) (HID (RMS X G) U)) D)

/-- The reference's composed term over the argument arrays: the residual stream, normalized. -/
abbrev REF (X : FVec Ideal Cert.ReferenceLastIdeal.S16384x1024 .f32) (G : FVec Ideal Cert.ReferenceLastIdeal.S1024 .f32)
    (U : FVec Ideal Cert.ReferenceLastIdeal.S1024x4096 .f32) (D : FVec Ideal Cert.ReferenceLastIdeal.S4096x1024 .f32)
    (G' : FVec Ideal Cert.ReferenceLastIdeal.S1024 .f32) : FVec Ideal Cert.ReferenceLastIdeal.S16384x1024 .f32 :=
  RMS (RES X G U D) G'

/-- The block indices of the windows at a grid point. -/
theorem idx : ∀ t : Fin cfg0.N, win0_0.index t = ![t.val / 4, 0] ∧ win0_1.index t = ![0, 0] ∧ win0_2.index t = ![0, t.val % 4]
    ∧ win0_3.index t = ![t.val % 4, 0] ∧ win0_4.index t = ![0, 0] ∧ win0_5.index t = ![t.val / 4, 0] :=
  (by decide +kernel : ∀ t : Fin grid0.N, _)

/-- Row `a` of row block `q` in the whole array. -/
abbrev rowOf (q : ℕ) (hq : q < 16) (a : Fin 1024) : Fin 16384 := ⟨q * 1024 + a.val, by omega⟩

/-- The normalized block at an index is the reference's row, normalized. -/
theorem pay_eq (c : Dev nD) (t : Fin cfg0.N) (y : S1024x1024.Idx) (hq : t.val / 4 < 16) :
    k0_pay1 (iblk m c 0 t) (iblk m c 1 t) y
      = RMS (m ((c.tc : Thread nD τ).loc main_arg0)) (m ((c.tc : Thread nD τ).loc main_arg1))
          (ix2 (rowOf (t.val / 4) hq (y 0)) (y 1)) := by
  pointwise [k0_pay1, RMS]
  blk_point [iblk, V, idx t]

/-- What the row scratch holds after a grid point: the normalized rows of the point's row block. -/
theorem scr (c : Dev nD) (q : ℕ) (hq : q < 16) (y : S1024x1024.Idx) : ∀ (n : ℕ) (h : n < cfg0.N), n / 4 = q →
    (outsAt0 m c n h).2.1 y
      = RMS (m ((c.tc : Thread nD τ).loc main_arg0)) (m ((c.tc : Thread nD τ).loc main_arg1))
          (ix2 (rowOf q hq (y 0)) (y 1)) := by
  intro n
  induction n with
  | zero =>
    rintro h rfl
    rw [outsAt0_A m c ⟨0, h⟩ rfl (by simp)]
    frame_out
    exact pay_eq m c ⟨0, h⟩ y hq
  | succ n ih =>
    intro h e
    by_cases h0 : (n + 1) % 4 = 0
    · rw [outsAt0_A m c ⟨n + 1, h⟩ h0 (by dsimp only; omega)]
      frame_out
      subst e
      exact pay_eq m c ⟨n + 1, h⟩ y hq
    · by_cases h1 : (n + 1) % 4 = 3
      · rw [outsAt0_C m c ⟨n + 1, h⟩ h0 h1]
        exact ih (Nat.lt_of_succ_lt h) (by omega)
      · rw [outsAt0_B m c ⟨n + 1, h⟩ h0 h1]
        exact ih (Nat.lt_of_succ_lt h) (by omega)

/-- At the first hidden block the accumulator starts from zero. -/
theorem acc_reset (c : Dev nD) (t : Fin cfg0.N) (h0 : t.val % 4 = 0) : (outsAt0 m c t.val t.isLt).2.2
    = k0_pay3 (outsAt0 m c t.val t.isLt).2.1 (iblk m c 2 t) (k0_pay2 (F := Ideal)) (iblk m c 3 t) := by
  rw [outsAt0_A m c t h0 (by omega)]
  frame_out

/-- At a later hidden block the accumulator gains the block's part. -/
theorem acc_step (c : Dev nD) (t : Fin cfg0.N) (h0 : ¬t.val % 4 = 0) : (outsAt0 m c t.val t.isLt).2.2
    = k0_pay3 (outsAt0 m c t.val t.isLt).2.1 (iblk m c 2 t)
        (outsAt0 m c (t.val - 1) (Nat.lt_of_le_of_lt (Nat.sub_le _ _) t.isLt)).2.2 (iblk m c 3 t) := by
  by_cases h1 : t.val % 4 = 3
  · rw [outsAt0_C m c t h0 h1]
    frame_out
    exact congrArg₂ (k0_pay3 · _ · _) (Memref.IsWhole.read_unread _ _) (Memref.IsWhole.read_unread _ _)
  · rw [outsAt0_B m c t h0 h1]
    frame_out
    exact congrArg₂ (k0_pay3 · _ · _) (Memref.IsWhole.read_unread _ _) (Memref.IsWhole.read_unread _ _)

/-- At the last hidden block the result block is the rows plus the accumulator, normalized. -/
theorem out_eq (c : Dev nD) (t : Fin cfg0.N) (h1 : t.val % 4 = 3) : (outsAt0 m c t.val t.isLt).1
    = k0_pay4 (iblk m c 0 t) (outsAt0 m c t.val t.isLt).2.2 (iblk m c 4 t) := by
  rw [outsAt0_C m c t (by omega) h1]
  frame_out

/-- The part of the down product that hidden block `s` contributes, over the argument arrays. -/
def part (X : FVec Ideal Cert.ReferenceLastIdeal.S16384x1024 .f32) (G : FVec Ideal Cert.ReferenceLastIdeal.S1024 .f32)
    (U : FVec Ideal Cert.ReferenceLastIdeal.S1024x4096 .f32) (D : FVec Ideal Cert.ReferenceLastIdeal.S4096x1024 .f32)
    (r : Fin 16384) (o : Fin 1024) (s : Fin 4) : EReal :=
  ∑ k : Fin 1024, mulf (HID (RMS X G) U) (HID (RMS X G) U) (ix2 r ⟨s.val * 1024 + k.val, by omega⟩)
    * D (ix2 ⟨s.val * 1024 + k.val, by omega⟩ o)

/-- What a point adds to the accumulator it finds is its hidden block's part. -/
theorem step_eq (c : Dev nD) (t : Fin cfg0.N) (q : ℕ) (hq : q < 16) (s : Fin 4) (e : t.val / 4 = q) (e' : t.val % 4 = s.val)
    (acc : Vec Ideal S1024x1024 .f32) (y : S1024x1024.Idx) :
    k0_pay3 (outsAt0 m c t.val t.isLt).2.1 (iblk m c 2 t) acc (iblk m c 3 t) y = acc y
      + part (m ((c.tc : Thread nD τ).loc main_arg0)) (m ((c.tc : Thread nD τ).loc main_arg1))
          (m ((c.tc : Thread nD τ).loc main_arg2)) (m ((c.tc : Thread nD τ).loc main_arg3)) (rowOf q hq (y 0)) (y 1) s := by
  have hs := fun y => scr m c q hq y t.val t.isLt e
  generalize (outsAt0 m c t.val t.isLt).2.1 = N at hs
  unfold part
  generalize hR : RMS (m ((c.tc : Thread nD τ).loc main_arg0)) (m ((c.tc : Thread nD τ).loc main_arg1)) = R at hs
  pointwise [k0_pay3, HID]
  simp only [hs]
  blk_point [iblk, V, idx t] <;> rfl

/-- What the accumulator holds after the last hidden block: the whole down product. -/
theorem acc_last (c : Dev nD) (t : Fin cfg0.N) (q : ℕ) (hq : q < 16) (e : t.val / 4 = q) (h3 : t.val % 4 = 3)
    (y : S1024x1024.Idx) : (outsAt0 m c t.val t.isLt).2.2 y
      = ∑ s : Fin 4, part (m ((c.tc : Thread nD τ).loc main_arg0)) (m ((c.tc : Thread nD τ).loc main_arg1))
          (m ((c.tc : Thread nD τ).loc main_arg2)) (m ((c.tc : Thread nD τ).loc main_arg3)) (rowOf q hq (y 0)) (y 1) s := by
  have hlt := t.isLt
  have h2 : t.val - 1 < cfg0.N := by omega
  have h1 : t.val - 1 - 1 < cfg0.N := by omega
  have h0 : t.val - 1 - 1 - 1 < cfg0.N := by omega
  rw [acc_step m c t (by omega), step_eq m c t q hq 3 e h3,
    acc_step m c ⟨t.val - 1, h2⟩ (by dsimp only; omega),
    step_eq m c ⟨t.val - 1, h2⟩ q hq 2 (by dsimp only; omega) (by show (t.val - 1) % 4 = 2; omega),
    acc_step m c ⟨t.val - 1 - 1, h1⟩ (by dsimp only; omega),
    step_eq m c ⟨t.val - 1 - 1, h1⟩ q hq 1 (by dsimp only; omega) (by show (t.val - 1 - 1) % 4 = 1; omega),
    acc_reset m c ⟨t.val - 1 - 1 - 1, h0⟩ (by dsimp only; omega),
    step_eq m c ⟨t.val - 1 - 1 - 1, h0⟩ q hq 0 (by dsimp only; omega) (by show (t.val - 1 - 1 - 1) % 4 = 0; omega),
    Fin.sum_univ_four]
  pointwise [k0_pay2]

/-- The whole product at an index is the sum of its four hidden blocks' parts. -/
theorem sum_parts (X : FVec Ideal Cert.ReferenceLastIdeal.S16384x1024 .f32) (G : FVec Ideal Cert.ReferenceLastIdeal.S1024 .f32)
    (U : FVec Ideal Cert.ReferenceLastIdeal.S1024x4096 .f32) (D : FVec Ideal Cert.ReferenceLastIdeal.S4096x1024 .f32)
    (j : Cert.ReferenceLastIdeal.S16384x1024.Idx) :
    RES X G U D j = X j + ∑ s : Fin 4, part X G U D (j 0) (j 1) s := by
  unfold part RES
  generalize HID (RMS X G) U = H
  pointwise []
  refine congrArg (X j + ·) ?_
  exact Fin.sum_univ_tiles 4 1024 rfl _

/-- After the run the result array is the reference's term of the arguments. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  have h3 : t.val % 4 = 3 := (flush0_5 t).mp hf
  have hN : t.val < 64 := lt_of_lt_of_eq t.isLt N_0
  have hq : t.val / 4 < 16 := by omega
  refine (congrFun (out_eq m c t h3) y).trans ?_
  have hs := sum_parts (m ((c : Thread nD τ).loc main_arg0)) (m ((c : Thread nD τ).loc main_arg1))
    (m ((c : Thread nD τ).loc main_arg2)) (m ((c : Thread nD τ).loc main_arg3))
  unfold REF
  generalize RES (m ((c : Thread nD τ).loc main_arg0)) (m ((c : Thread nD τ).loc main_arg1))
    (m ((c : Thread nD τ).loc main_arg2)) (m ((c : Thread nD τ).loc main_arg3)) = R at hs
  pointwise [k0_pay4, RMS]
  simp only [hs, acc_last m c t (t.val / 4) hq rfl h3]
  blk_point [iblk, V, idx t] <;> rfl

end Cert.KernelLastIdeal.LastValue

end
-- ==== Proof.lean ====
/-
  The proof of `Cert.Claim` (proofs.«01_k».Defs): per program the frame run of the kernel, of its idealized print and of the
  idealized reference, that idealizing changed the kernel's float operations only, and — over the extended reals — that
  the kernel's results are the reference's. The value theorems are in the modules `Proof/*Value.lean`;
  the runs of the two references with a loop, the retention's and the state-space layer's, are in `Proof/RetLoop.lean` and
  `Proof/SsdLoop.lean`.
-/
module

public import proofs.«01_k».proof.Defs
public import proofs.«01_k».proof.Proof.RetRun
public import proofs.«01_k».proof.Proof.RetValue
public import proofs.«01_k».proof.Proof.RetLoop
public import proofs.«01_k».proof.Proof.SsdLoop
public import proofs.«01_k».proof.Proof.RopeValue
public import proofs.«01_k».proof.Proof.SsdValue
public import proofs.«01_k».proof.Proof.InValue
public import proofs.«01_k».proof.Proof.OutValue
public import proofs.«01_k».proof.Proof.MlpValue
public import proofs.«01_k».proof.Proof.LastValue
public import proofs.«01_k».proof.Proof.Gen.Kernel.Frame
public import proofs.«01_k».proof.Proof.Gen.KernelRope.Frame
public import proofs.«01_k».proof.Proof.Gen.KernelSsd.Frame
public import proofs.«01_k».proof.Proof.Gen.KernelIn.Frame
public import proofs.«01_k».proof.Proof.Gen.KernelOut.Frame
public import proofs.«01_k».proof.Proof.Gen.KernelMlp.Frame
public import proofs.«01_k».proof.Proof.Gen.KernelLast.Frame
public import Idealize.ShloMosaic.Adequacy
public import Idealize.ShloMosaic.Init

@[expose] public section

noncomputable section

namespace Cert.Proof

open Idealize.ShloMosaic Idealize.ShloMosaic.StableHlo Idealize.SL.Sem

/-- The reference for the retention runs to its end from any launch, leaving its arguments as they were. -/
theorem frame_ReferenceIdeal : Cert.quiescent_ReferenceIdeal (hReferenceIdeal := Cert.ReferenceIdeal.Gen.facts) := by
  exact Cert.ReferenceIdeal.RetRun.frame

/-- Over the extended reals the kernel's results for the retention are the reference's. -/
theorem value_Ret : Cert.algebraic_KernelIdeal_ReferenceIdeal (hKernelIdeal := Cert.KernelIdeal.Gen.facts)
    (hReferenceIdeal := Cert.ReferenceIdeal.Gen.facts) := by
  pair_intro
  · run_from Cert.KernelIdeal.Gen.run_main m g
    exact Cert.KernelIdeal.RetValue.arg3_eq m c
  · refine θ_run_mono (Cert.ReferenceIdeal.RetLoop.run m' g') fun r h c => ?_
    obtain ⟨e0, e1, e2, e3⟩ := hagree c
    exact ⟨(h c).1.trans ((congr (congr (congr (congrArg Cert.Ret.out e0) e1) e2) e3).trans (Cert.KernelIdeal.RetValue.final m c).symm), (h c).2⟩

/-- The reference for the rotary tables runs to its end from any launch, leaving its arguments as they were. -/
theorem frame_ReferenceRopeIdeal : Cert.quiescent_ReferenceRopeIdeal (hReferenceRopeIdeal := Cert.ReferenceRopeIdeal.Gen.facts) := by
  exact fun m g _ => θ_run_mono (Cert.ReferenceRopeIdeal.Value.run m g) fun r h => ⟨fun c => (h c).2.2, sem_eq_zero_of_no_sems rfl _⟩

/-- Over the extended reals the kernel's results for the rotary tables are the reference's. -/
theorem value_Rope : Cert.algebraic_KernelRopeIdeal_ReferenceRopeIdeal (hKernelRopeIdeal := Cert.KernelRopeIdeal.Gen.facts)
    (hReferenceRopeIdeal := Cert.ReferenceRopeIdeal.Gen.facts) := by
  pair_intro
  · run_from Cert.KernelRopeIdeal.Gen.run_main m g
  · refine θ_run_mono (Cert.ReferenceRopeIdeal.Value.run m' g') fun r h c => ?_
    obtain e0 := hagree c
    exact ⟨(h c).1.trans ((congrArg Cert.KernelRopeIdeal.RopeValue.COS e0).trans (Cert.KernelRopeIdeal.RopeValue.final_cos m c).symm),
      (h c).2.1.trans ((congrArg Cert.KernelRopeIdeal.RopeValue.SIN e0).trans (Cert.KernelRopeIdeal.RopeValue.final_sin m c).symm), (h c).2.2⟩

/-- The reference for the state-space layer runs to its end from any launch, leaving its arguments as they were. -/
theorem frame_ReferenceSsdIdeal : Cert.quiescent_ReferenceSsdIdeal (hReferenceSsdIdeal := Cert.ReferenceSsdIdeal.Gen.facts) := by
  exact Cert.ReferenceSsdIdeal.SsdRun.frame

/-- Over the extended reals the kernel's results for the state-space layer are the reference's. -/
theorem value_Ssd : Cert.algebraic_KernelSsdIdeal_ReferenceSsdIdeal (hKernelSsdIdeal := Cert.KernelSsdIdeal.Gen.facts)
    (hReferenceSsdIdeal := Cert.ReferenceSsdIdeal.Gen.facts) := by
  pair_intro
  · run_from Cert.KernelSsdIdeal.Gen.run_main m g
  · refine θ_run_mono (Cert.ReferenceSsdIdeal.SsdLoop.run m' g') fun r h c => ?_
    obtain ⟨e0, e1, e2, e3, e4, e5, e6⟩ := hagree c
    exact ⟨(h c).1.trans ((congr (congr (congr (congr (congr (congr (congrArg Cert.Ssd.out e0) e1) e2) e3) e4) e5) e6).trans (Cert.KernelSsdIdeal.SsdValue.final m c).symm), (h c).2⟩

/-- The reference for the input projection runs to its end from any launch, leaving its arguments as they were. -/
theorem frame_ReferenceInIdeal : Cert.quiescent_ReferenceInIdeal (hReferenceInIdeal := Cert.ReferenceInIdeal.Gen.facts) := by
  exact fun m g _ => θ_run_mono (Cert.ReferenceInIdeal.Value.run m g) fun r h => ⟨fun c => (h c).2, sem_eq_zero_of_no_sems rfl _⟩

/-- Over the extended reals the kernel's results for the input projection are the reference's. -/
theorem value_In : Cert.algebraic_KernelInIdeal_ReferenceInIdeal (hKernelInIdeal := Cert.KernelInIdeal.Gen.facts)
    (hReferenceInIdeal := Cert.ReferenceInIdeal.Gen.facts) := by
  pair_intro
  · run_from Cert.KernelInIdeal.Gen.run_main m g
  · refine θ_run_mono (Cert.ReferenceInIdeal.Value.run m' g') fun r h c => ?_
    obtain ⟨e0, e1, e2⟩ := hagree c
    exact ⟨(h c).1.trans ((congr (congr (congrArg Cert.KernelInIdeal.InValue.REF e0) e1) e2).trans (Cert.KernelInIdeal.InValue.final m c).symm), (h c).2⟩

/-- The reference for the output projection runs to its end from any launch, leaving its arguments as they were. -/
theorem frame_ReferenceOutIdeal : Cert.quiescent_ReferenceOutIdeal (hReferenceOutIdeal := Cert.ReferenceOutIdeal.Gen.facts) := by
  exact fun m g _ => θ_run_mono (Cert.ReferenceOutIdeal.Value.run m g) fun r h => ⟨fun c => (h c).2, sem_eq_zero_of_no_sems rfl _⟩

/-- Over the extended reals the kernel's results for the output projection are the reference's. -/
theorem value_Out : Cert.algebraic_KernelOutIdeal_ReferenceOutIdeal (hKernelOutIdeal := Cert.KernelOutIdeal.Gen.facts)
    (hReferenceOutIdeal := Cert.ReferenceOutIdeal.Gen.facts) := by
  pair_intro
  · run_from Cert.KernelOutIdeal.Gen.run_main m g
  · refine θ_run_mono (Cert.ReferenceOutIdeal.Value.run m' g') fun r h c => ?_
    obtain ⟨e0, e1, e2, e3, e4⟩ := hagree c
    exact ⟨(h c).1.trans ((congr (congr (congr (congr (congrArg Cert.KernelOutIdeal.OutValue.REF e0) e1) e2) e3) e4).trans (Cert.KernelOutIdeal.OutValue.final m c).symm), (h c).2⟩

/-- The reference for the channel mixer runs to its end from any launch, leaving its arguments as they were. -/
theorem frame_ReferenceMlpIdeal : Cert.quiescent_ReferenceMlpIdeal (hReferenceMlpIdeal := Cert.ReferenceMlpIdeal.Gen.facts) := by
  exact fun m g _ => θ_run_mono (Cert.ReferenceMlpIdeal.Value.run m g) fun r h => ⟨fun c => (h c).2, sem_eq_zero_of_no_sems rfl _⟩

/-- Over the extended reals the kernel's results for the channel mixer are the reference's. -/
theorem value_Mlp : Cert.algebraic_KernelMlpIdeal_ReferenceMlpIdeal (hKernelMlpIdeal := Cert.KernelMlpIdeal.Gen.facts)
    (hReferenceMlpIdeal := Cert.ReferenceMlpIdeal.Gen.facts) := by
  pair_intro
  · run_from Cert.KernelMlpIdeal.Gen.run_main m g
  · refine θ_run_mono (Cert.ReferenceMlpIdeal.Value.run m' g') fun r h c => ?_
    obtain ⟨e0, e1, e2, e3, -⟩ := hagree c
    exact ⟨(h c).1.trans ((congr (congr (congr (congrArg Cert.KernelMlpIdeal.MlpValue.REF e0) e1) e2) e3).trans (Cert.KernelMlpIdeal.MlpValue.final m c).symm), (h c).2⟩

/-- The reference for the last channel mixer with the final norm runs to its end from any launch, leaving its arguments as they were. -/
theorem frame_ReferenceLastIdeal : Cert.quiescent_ReferenceLastIdeal (hReferenceLastIdeal := Cert.ReferenceLastIdeal.Gen.facts) := by
  exact fun m g _ => θ_run_mono (Cert.ReferenceLastIdeal.Value.run m g) fun r h => ⟨fun c => (h c).2, sem_eq_zero_of_no_sems rfl _⟩

/-- Over the extended reals the kernel's results for the last channel mixer with the final norm are the reference's. -/
theorem value_Last : Cert.algebraic_KernelLastIdeal_ReferenceLastIdeal (hKernelLastIdeal := Cert.KernelLastIdeal.Gen.facts)
    (hReferenceLastIdeal := Cert.ReferenceLastIdeal.Gen.facts) := by
  pair_intro
  · run_from Cert.KernelLastIdeal.Gen.run_main m g
  · refine θ_run_mono (Cert.ReferenceLastIdeal.Value.run m' g') fun r h c => ?_
    obtain ⟨e0, e1, e2, e3, e4⟩ := hagree c
    exact ⟨(h c).1.trans ((congr (congr (congr (congr (congrArg Cert.KernelLastIdeal.LastValue.REF e0) e1) e2) e3) e4).trans (Cert.KernelLastIdeal.LastValue.final m c).symm), (h c).2⟩

/-- Everything that is claimed of the programs. -/
theorem claim : Cert.Claim := ⟨Cert.Kernel.Gen.facts,
  Cert.KernelIdeal.Gen.facts,
  Cert.ReferenceIdeal.Gen.facts,
  Cert.KernelRope.Gen.facts,
  Cert.KernelRopeIdeal.Gen.facts,
  Cert.ReferenceRopeIdeal.Gen.facts,
  Cert.KernelSsd.Gen.facts,
  Cert.KernelSsdIdeal.Gen.facts,
  Cert.ReferenceSsdIdeal.Gen.facts,
  Cert.KernelIn.Gen.facts,
  Cert.KernelInIdeal.Gen.facts,
  Cert.ReferenceInIdeal.Gen.facts,
  Cert.KernelOut.Gen.facts,
  Cert.KernelOutIdeal.Gen.facts,
  Cert.ReferenceOutIdeal.Gen.facts,
  Cert.KernelMlp.Gen.facts,
  Cert.KernelMlpIdeal.Gen.facts,
  Cert.ReferenceMlpIdeal.Gen.facts,
  Cert.KernelLast.Gen.facts,
  Cert.KernelLastIdeal.Gen.facts,
  Cert.ReferenceLastIdeal.Gen.facts,
  fun m ρ _ => Cert.Kernel.Gen.frame m ρ,
  fun m ρ _ => Cert.KernelIdeal.Gen.frame m ρ,
  frame_ReferenceIdeal,
  fun m ρ _ => Cert.KernelRope.Gen.frame m ρ,
  fun m ρ _ => Cert.KernelRopeIdeal.Gen.frame m ρ,
  frame_ReferenceRopeIdeal,
  fun m ρ _ => Cert.KernelSsd.Gen.frame m ρ,
  fun m ρ _ => Cert.KernelSsdIdeal.Gen.frame m ρ,
  frame_ReferenceSsdIdeal,
  fun m ρ _ => Cert.KernelIn.Gen.frame m ρ,
  fun m ρ _ => Cert.KernelInIdeal.Gen.frame m ρ,
  frame_ReferenceInIdeal,
  fun m ρ _ => Cert.KernelOut.Gen.frame m ρ,
  fun m ρ _ => Cert.KernelOutIdeal.Gen.frame m ρ,
  frame_ReferenceOutIdeal,
  fun m ρ _ => Cert.KernelMlp.Gen.frame m ρ,
  fun m ρ _ => Cert.KernelMlpIdeal.Gen.frame m ρ,
  frame_ReferenceMlpIdeal,
  fun m ρ _ => Cert.KernelLast.Gen.frame m ρ,
  fun m ρ _ => Cert.KernelLastIdeal.Gen.frame m ρ,
  frame_ReferenceLastIdeal,
  trivial,
  value_Ret,
  trivial,
  value_Rope,
  trivial,
  value_Ssd,
  trivial,
  value_In,
  trivial,
  value_Out,
  trivial,
  value_Mlp,
  trivial,
  value_Last⟩

end Cert.Proof

end
